-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def preserves_Kernel_KernelIdeal : Prop :=
  IdealRules.named_const.Statement Cert.KernelIdeal.κ "qk_scale_log2e" .f32 0x3E38AA3B#32 (((Real.log 2)⁻¹ * 8⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Projection_ProjectionIdeal : Prop :=
  IdealRules.named_const.Statement Cert.ProjectionIdeal.κ "qk_scale_log2e" .f32 0x3E38AA3B#32 (((Real.log 2)⁻¹ * 8⁻¹ : ℝ) : EReal)

def algebraic_ProjectionIdeal_ProjReferenceIdeal [hProjectionIdeal : Cert.ProjectionIdeal.Facts] [hProjReferenceIdeal : Cert.ProjReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjectionIdeal m →
    (∀ c : Dev Cert.ProjectionIdeal.nD,
      m' ((c.tc : Thread Cert.ProjReferenceIdeal.nD Cert.ProjReferenceIdeal.τ).loc Cert.ProjReferenceIdeal.main_arg0) = m ((c.tc : Thread Cert.ProjectionIdeal.nD Cert.ProjectionIdeal.τ).loc Cert.ProjectionIdeal.main_arg0)
      ∧ m' ((c.tc : Thread Cert.ProjReferenceIdeal.nD Cert.ProjReferenceIdeal.τ).loc Cert.ProjReferenceIdeal.main_arg1) = m ((c.tc : Thread Cert.ProjectionIdeal.nD Cert.ProjectionIdeal.τ).loc Cert.ProjectionIdeal.main_arg1)
      ∧ m' ((c.tc : Thread Cert.ProjReferenceIdeal.nD Cert.ProjReferenceIdeal.τ).loc Cert.ProjReferenceIdeal.main_arg2) = m ((c.tc : Thread Cert.ProjectionIdeal.nD Cert.ProjectionIdeal.τ).loc Cert.ProjectionIdeal.main_arg2)
      ∧ m' ((c.tc : Thread Cert.ProjReferenceIdeal.nD Cert.ProjReferenceIdeal.τ).loc Cert.ProjReferenceIdeal.main_arg3) = m ((c.tc : Thread Cert.ProjectionIdeal.nD Cert.ProjectionIdeal.τ).loc Cert.ProjectionIdeal.main_arg3)
      ∧ m' ((c.tc : Thread Cert.ProjReferenceIdeal.nD Cert.ProjReferenceIdeal.τ).loc Cert.ProjReferenceIdeal.main_arg4) = m ((c.tc : Thread Cert.ProjectionIdeal.nD Cert.ProjectionIdeal.τ).loc Cert.ProjectionIdeal.main_arg4)) →
    ∃ (v0 : (c : Dev Cert.ProjectionIdeal.nD) → Buf (Elt Ideal) ((c.tc : Thread Cert.ProjectionIdeal.nD Cert.ProjectionIdeal.τ).loc Cert.ProjectionIdeal.main_v30_0)) (v1 : (c : Dev Cert.ProjectionIdeal.nD) → Buf (Elt Ideal) ((c.tc : Thread Cert.ProjectionIdeal.nD Cert.ProjectionIdeal.τ).loc Cert.ProjectionIdeal.main_v30_1)) (v2 : (c : Dev Cert.ProjectionIdeal.nD) → Buf (Elt Ideal) ((c.tc : Thread Cert.ProjectionIdeal.nD Cert.ProjectionIdeal.τ).loc Cert.ProjectionIdeal.main_v30_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v30_0) = v0 c
          ∧ r.2.mem ((c.tc : Thread Cert.ProjectionIdeal.nD Cert.ProjectionIdeal.τ).loc Cert.ProjectionIdeal.main_v30_1) = v1 c
          ∧ r.2.mem ((c.tc : Thread Cert.ProjectionIdeal.nD Cert.ProjectionIdeal.τ).loc Cert.ProjectionIdeal.main_v30_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v72) = v0 c
          ∧ r.2.mem ((c.tc : Thread Cert.ProjReferenceIdeal.nD Cert.ProjReferenceIdeal.τ).loc Cert.ProjReferenceIdeal.main_v73) = v1 c
          ∧ r.2.mem ((c.tc : Thread Cert.ProjReferenceIdeal.nD Cert.ProjReferenceIdeal.τ).loc Cert.ProjReferenceIdeal.main_v74) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v41_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v41_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v22) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjReferenceIdeal : Cert.ProjReferenceIdeal.Facts) (hMerge : Cert.Merge.Facts) (hMergeIdeal : Cert.MergeIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Projection (hProjection := hProjection)
    ∧ quiescent_ProjectionIdeal (hProjectionIdeal := hProjectionIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Projection_ProjectionIdeal
    ∧ algebraic_ProjectionIdeal_ProjReferenceIdeal (hProjectionIdeal := hProjectionIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S8x4096x512 : Shape := ⟨3, ![8, 4096, 512]⟩
abbrev S1x64 : Shape := ⟨2, ![1, 64]⟩
abbrev S1x128 : Shape := ⟨2, ![1, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S8x4096x512 .f32) (main_arg1 : FVec F S8x4096x512 .f32) (main_arg2 : FVec F S8x4096x512 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x512 .f32 := Host.absf main_arg2
  let main_cst_2 : FVec F S_ .f32 := constant S_ .f32 0x7F800000#32
  let main_v10 : FVec F S8x4096x512 .f32 := broadcastInDim S8x4096x512 ![] bcast_S_S8x4096x512 main_cst_2
  let main_v11 : IVec S8x4096x512 1 := cmpf .olt main_v9 main_v10
  let main_c_3 : IVec S_ 1 := constantI S_ 1 1#1
  let main_v12 : IVec S_ 1 := (fun x v => Host.reduce IntOp.andi x v reducesTo_S8x4096x512_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S8x4096x512 : Shape := ⟨3, ![8, 4096, 512]⟩
abbrev S1x64 : Shape := ⟨2, ![1, 64]⟩
abbrev S1x128 : Shape := ⟨2, ![1, 128]⟩
abbrev S_ : Shape := ⟨0, ![]⟩
abbrev S32768x512 : Shape := ⟨2, ![32768, 512]⟩
abbrev S32768x2048 : Shape := ⟨2, ![32768, 2048]⟩
abbrev S32768x3072 : Shape := ⟨2, ![32768, 3072]⟩
abbrev S64x512x512 : Shape := ⟨3, ![64, 512, 512]⟩
abbrev S64x1024x512 : Shape := ⟨3, ![64, 1024, 512]⟩
abbrev S64 : Shape := ⟨1, ![64]⟩
abbrev S4x64 : Shape := ⟨2, ![4, 64]⟩
abbrev S128 : Shape := ⟨1, ![128]⟩
abbrev S128x1 : Shape := ⟨2, ![128, 1]⟩
abbrev S1x512x512 : Shape := ⟨3, ![1, 512, 512]⟩
abbrev S4096x512 : Shape := ⟨2, ![4096, 512]⟩
abbrev S8x512x512 : Shape := ⟨3, ![8, 512, 512]⟩
abbrev S512x512 : Shape := ⟨2, ![512, 512]⟩
abbrev S8x128x512 : Shape := ⟨3, ![8, 128, 512]⟩
abbrev S8x1x512 : Shape := ⟨3, ![8, 1, 512]⟩
abbrev S128x512 : Shape := ⟨2, ![128, 512]⟩
abbrev S1x128x512 : Shape := ⟨3, ![1, 128, 512]⟩
abbrev S1 : Shape := ⟨1, ![1]⟩
abbrev S1x1 : Shape := ⟨2, ![1, 1]⟩
abbrev S512x128 : Shape := ⟨2, ![512, 128]⟩
abbrev S1x1x512 : Shape := ⟨3, ![1, 1, 512]⟩
abbrev S1x512 : Shape := ⟨2, ![1, 512]⟩
abbrev S512 : Shape := ⟨1, ![512]⟩

abbrev nBuf : Space → Nat
  | .hbm => 33
  | .vmem => 15
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S32768x512, .f32⟩
  | .hbm, ⟨10, _⟩ => ⟨S32768x512, .f32⟩
  | .hbm, ⟨11, _⟩ => ⟨S_, .f32⟩
  | .hbm, ⟨12, _⟩ => ⟨S32768x2048, .f32⟩
  | .hbm, ⟨13, _⟩ => ⟨S32768x3072, .f32⟩
  | .hbm, ⟨14, _⟩ => ⟨S32768x3072, .bf16⟩
  | .hbm, ⟨15, _⟩ => ⟨S64x512x512, .f32⟩
  | .hbm, ⟨16, _⟩ => ⟨S64x512x512, .f32⟩
  | .hbm, ⟨17, _⟩ => ⟨S64x512x512, .f32⟩
  | .hbm, ⟨18, _⟩ => ⟨S64x512x512, .f32⟩
  | .hbm, ⟨19, _⟩ => ⟨S64x1024x512, .f32⟩
  | .hbm, ⟨20, _⟩ => ⟨S64x1024x512, .bf16⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S4x64, .f32⟩
  | .hbm, ⟨30, _⟩ => ⟨S128, .f32⟩
  | .hbm, ⟨31, _⟩ => ⟨S128x1, .f32⟩
  | .hbm, ⟨32, _⟩ => ⟨S32768x512, .bf16⟩
  | .local _ .vmem, ⟨0, _⟩ => ⟨S4x64, .f32⟩
  | .local _ .vmem, ⟨1, _⟩ => ⟨S128x1, .f32⟩
  | .local _ .vmem, ⟨2, _⟩ => ⟨S1x512x512, .bf16⟩
  | .local _ .vmem, ⟨3, _⟩ => ⟨S1x512x512, .bf16⟩
  | .local _ .vmem, ⟨4, _⟩ => ⟨S4096x512, .bf16⟩
  | .local _ .vmem, ⟨5, _⟩ => ⟨S4096x512, .bf16⟩
  | .local _ .vmem, ⟨6, _⟩ => ⟨S8x512x512, .bf16⟩
  | .local _ .vmem, ⟨7, _⟩ => ⟨S8x512x512, .bf16⟩
  | .local _ .vmem, ⟨8, _⟩ => ⟨S512x512, .bf16⟩
  | .local _ .vmem, ⟨9, _⟩ => ⟨S512x512, .bf16⟩
  | .local _ .vmem, ⟨10, _⟩ => ⟨S8x128x512, .f32⟩
  | .local _ .vmem, ⟨11, _⟩ => ⟨S8x1x512, .f32⟩
  | .local _ .vmem, ⟨12, _⟩ => ⟨S8x1x512, .f32⟩
  | .local _ .vmem, ⟨13, _⟩ => ⟨S8x512x512, .f32⟩
  | .local _ .vmem, ⟨14, _⟩ => ⟨S8x512x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
@[reducible] def k0_t1_loop (i : grid0.Coords) : Scf.Loop 32 :=
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_69 : BitVec 32 := 1#32
  ⟨c0_i32_66, v137, c1_i32_69⟩
def k0_mult2 (i : grid0.Coords) (k0_t1 : Fin (k0_t1_loop i).trips) : BitVec 32 :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let c1_i32_168 : BitVec 32 := 1#32
  let v303 : BitVec 32 := Scalar.addi v302 c1_i32_168
  let c512_i32 : BitVec 32 := 512#32
  let v304 : BitVec 32 := Scalar.muli v303 c512_i32
  v304
def k0_off1 (i : grid0.Coords) (k0_t1 : Fin (k0_t1_loop i).trips) (c1_i32_168 : BitVec 32) : Fin 2 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let v303 : BitVec 32 := Scalar.addi v302 c1_i32_168
  let c512_i32 : BitVec 32 := 512#32
  let v304 : BitVec 32 := Scalar.muli v303 c512_i32
  let v305 : BitVec 32 := v304
  let v306 : Index := Scalar.indexCast v305
  let c0_169 : Index := 0#32
  ![v306.toNat, 0]
def k0_off2 (i : grid0.Coords) (k0_t1 : Fin (k0_t1_loop i).trips) (c1_i32_168 : BitVec 32) : Fin 2 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let v303 : BitVec 32 := Scalar.addi v302 c1_i32_168
  let c512_i32 : BitVec 32 := 512#32
  let v304 : BitVec 32 := Scalar.muli v303 c512_i32
  let v305 : BitVec 32 := v304
  let v317 : Index := Scalar.indexCast v305
  let c128_178 : Index := 128#32
  ![v317.toNat, 128]
def k0_off3 (i : grid0.Coords) (k0_t1 : Fin (k0_t1_loop i).trips) (c1_i32_168 : BitVec 32) : Fin 2 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let v303 : BitVec 32 := Scalar.addi v302 c1_i32_168
  let c512_i32 : BitVec 32 := 512#32
  let v304 : BitVec 32 := Scalar.muli v303 c512_i32
  let v305 : BitVec 32 := v304
  let v328 : Index := Scalar.indexCast v305
  let c256_187 : Index := 256#32
  ![v328.toNat, 256]
def k0_off4 (i : grid0.Coords) (k0_t1 : Fin (k0_t1_loop i).trips) (c1_i32_168 : BitVec 32) : Fin 2 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let v303 : BitVec 32 := Scalar.addi v302 c1_i32_168
  let c512_i32 : BitVec 32 := 512#32
  let v304 : BitVec 32 := Scalar.muli v303 c512_i32
  let v305 : BitVec 32 := v304
  let v339 : Index := Scalar.indexCast v305
  let c384_196 : Index := 384#32
  ![v339.toNat, 384]
def k0_off5 (i : grid0.Coords) (k0_t1 : Fin (k0_t1_loop i).trips) : Fin 3 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let v350 : Index := Scalar.indexCast v302
  let c0_205 : Index := 0#32
  let c0_206 : Index := 0#32
  ![v350.toNat, 0, 0]
def k0_off6 (i : grid0.Coords) (k0_t1 : Fin (k0_t1_loop i).trips) : Fin 3 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let v421 : Index := Scalar.indexCast v302
  let c128_255 : Index := 128#32
  let c0_256 : Index := 0#32
  ![v421.toNat, 128, 0]
def k0_off7 (i : grid0.Coords) (k0_t1 : Fin (k0_t1_loop i).trips) : Fin 3 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let v492 : Index := Scalar.indexCast v302
  let c256_305 : Index := 256#32
  let c0_306 : Index := 0#32
  ![v492.toNat, 256, 0]
def k0_off8 (i : grid0.Coords) (k0_t1 : Fin (k0_t1_loop i).trips) : Fin 3 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let v563 : Index := Scalar.indexCast v302
  let c384_355 : Index := 384#32
  let c0_356 : Index := 0#32
  ![v563.toNat, 384, 0]
def k0_mult3 (i : grid0.Coords) (k0_t1 : Fin (k0_t1_loop i).trips) : BitVec 32 :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let c2_i32_405 : BitVec 32 := 2#32
  let v634 : BitVec 32 := Scalar.addi v302 c2_i32_405
  let c512_i32_406 : BitVec 32 := 512#32
  let v635 : BitVec 32 := Scalar.muli v634 c512_i32_406
  v635
def k0_off9 (i : grid0.Coords) (k0_t1 : Fin (k0_t1_loop i).trips) : Fin 3 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let c1_i32_443 : BitVec 32 := 1#32
  let v681 : BitVec 32 := Scalar.addi v302 c1_i32_443
  let v682 : Index := Scalar.indexCast v681
  let c0_444 : Index := 0#32
  let c0_445 : Index := 0#32
  ![v682.toNat, 0, 0]
def k0_off10 (i : grid0.Coords) (k0_t1 : Fin (k0_t1_loop i).trips) : Fin 3 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let c1_i32_443 : BitVec 32 := 1#32
  let v681 : BitVec 32 := Scalar.addi v302 c1_i32_443
  let v753 : Index := Scalar.indexCast v681
  let c128_494 : Index := 128#32
  let c0_495 : Index := 0#32
  ![v753.toNat, 128, 0]
def k0_off11 (i : grid0.Coords) (k0_t1 : Fin (k0_t1_loop i).trips) : Fin 3 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let c1_i32_443 : BitVec 32 := 1#32
  let v681 : BitVec 32 := Scalar.addi v302 c1_i32_443
  let v824 : Index := Scalar.indexCast v681
  let c256_544 : Index := 256#32
  let c0_545 : Index := 0#32
  ![v824.toNat, 256, 0]
def k0_off12 (i : grid0.Coords) (k0_t1 : Fin (k0_t1_loop i).trips) : Fin 3 → Nat :=
  let c2_i32_167 : BitVec 32 := 2#32
  let c0_i32_66 : BitVec 32 := 0#32
  let c1_i32_69 : BitVec 32 := 1#32
  let arg13 : BitVec 32 := Scf.iv c0_i32_66 c1_i32_69 k0_t1
  let v302 : BitVec 32 := Scalar.muli c2_i32_167 arg13
  let c1_i32_443 : BitVec 32 := 1#32
  let v681 : BitVec 32 := Scalar.addi v302 c1_i32_443
  let v895 : Index := Scalar.indexCast v681
  let c384_594 : Index := 384#32
  let c0_595 : Index := 0#32
  ![v895.toNat, 384, 0]
@[reducible] def k0_t2_loop (i : grid0.Coords) : Scf.Loop 32 :=
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let v134 : BitVec 32 := Scalar.addi c0_i32_66 v133
  let c1_i32_70 : BitVec 32 := 1#32
  ⟨v137, v134, c1_i32_70⟩
def k0_mult4 (i : grid0.Coords) (k0_t2 : Fin (k0_t2_loop i).trips) : BitVec 32 :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let c1_i32_168 : BitVec 32 := 1#32
  let v303 : BitVec 32 := Scalar.addi v302 c1_i32_168
  let c512_i32 : BitVec 32 := 512#32
  let v304 : BitVec 32 := Scalar.muli v303 c512_i32
  v304
def k0_off13 (i : grid0.Coords) (k0_t2 : Fin (k0_t2_loop i).trips) (c1_i32_168 : BitVec 32) : Fin 2 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let v303 : BitVec 32 := Scalar.addi v302 c1_i32_168
  let c512_i32 : BitVec 32 := 512#32
  let v304 : BitVec 32 := Scalar.muli v303 c512_i32
  let v305 : BitVec 32 := v304
  let v306 : Index := Scalar.indexCast v305
  let c0_169 : Index := 0#32
  ![v306.toNat, 0]
def k0_off14 (i : grid0.Coords) (k0_t2 : Fin (k0_t2_loop i).trips) (c1_i32_168 : BitVec 32) : Fin 2 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let v303 : BitVec 32 := Scalar.addi v302 c1_i32_168
  let c512_i32 : BitVec 32 := 512#32
  let v304 : BitVec 32 := Scalar.muli v303 c512_i32
  let v305 : BitVec 32 := v304
  let v317 : Index := Scalar.indexCast v305
  let c128_178 : Index := 128#32
  ![v317.toNat, 128]
def k0_off15 (i : grid0.Coords) (k0_t2 : Fin (k0_t2_loop i).trips) (c1_i32_168 : BitVec 32) : Fin 2 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let v303 : BitVec 32 := Scalar.addi v302 c1_i32_168
  let c512_i32 : BitVec 32 := 512#32
  let v304 : BitVec 32 := Scalar.muli v303 c512_i32
  let v305 : BitVec 32 := v304
  let v328 : Index := Scalar.indexCast v305
  let c256_187 : Index := 256#32
  ![v328.toNat, 256]
def k0_off16 (i : grid0.Coords) (k0_t2 : Fin (k0_t2_loop i).trips) (c1_i32_168 : BitVec 32) : Fin 2 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let v303 : BitVec 32 := Scalar.addi v302 c1_i32_168
  let c512_i32 : BitVec 32 := 512#32
  let v304 : BitVec 32 := Scalar.muli v303 c512_i32
  let v305 : BitVec 32 := v304
  let v339 : Index := Scalar.indexCast v305
  let c384_196 : Index := 384#32
  ![v339.toNat, 384]
def k0_off17 (i : grid0.Coords) (k0_t2 : Fin (k0_t2_loop i).trips) : Fin 3 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let v350 : Index := Scalar.indexCast v302
  let c0_205 : Index := 0#32
  let c0_206 : Index := 0#32
  ![v350.toNat, 0, 0]
def k0_off18 (i : grid0.Coords) (k0_t2 : Fin (k0_t2_loop i).trips) : Fin 3 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let v421 : Index := Scalar.indexCast v302
  let c128_255 : Index := 128#32
  let c0_256 : Index := 0#32
  ![v421.toNat, 128, 0]
def k0_off19 (i : grid0.Coords) (k0_t2 : Fin (k0_t2_loop i).trips) : Fin 3 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let v492 : Index := Scalar.indexCast v302
  let c256_305 : Index := 256#32
  let c0_306 : Index := 0#32
  ![v492.toNat, 256, 0]
def k0_off20 (i : grid0.Coords) (k0_t2 : Fin (k0_t2_loop i).trips) : Fin 3 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let v563 : Index := Scalar.indexCast v302
  let c384_355 : Index := 384#32
  let c0_356 : Index := 0#32
  ![v563.toNat, 384, 0]
def k0_mult5 (i : grid0.Coords) (k0_t2 : Fin (k0_t2_loop i).trips) : BitVec 32 :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let c2_i32_405 : BitVec 32 := 2#32
  let v634 : BitVec 32 := Scalar.addi v302 c2_i32_405
  let c512_i32_406 : BitVec 32 := 512#32
  let v635 : BitVec 32 := Scalar.muli v634 c512_i32_406
  v635
def k0_off21 (i : grid0.Coords) (k0_t2 : Fin (k0_t2_loop i).trips) : Fin 3 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let c1_i32_443 : BitVec 32 := 1#32
  let v681 : BitVec 32 := Scalar.addi v302 c1_i32_443
  let v682 : Index := Scalar.indexCast v681
  let c0_444 : Index := 0#32
  let c0_445 : Index := 0#32
  ![v682.toNat, 0, 0]
def k0_off22 (i : grid0.Coords) (k0_t2 : Fin (k0_t2_loop i).trips) : Fin 3 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let c1_i32_443 : BitVec 32 := 1#32
  let v681 : BitVec 32 := Scalar.addi v302 c1_i32_443
  let v753 : Index := Scalar.indexCast v681
  let c128_494 : Index := 128#32
  let c0_495 : Index := 0#32
  ![v753.toNat, 128, 0]
def k0_off23 (i : grid0.Coords) (k0_t2 : Fin (k0_t2_loop i).trips) : Fin 3 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let c1_i32_443 : BitVec 32 := 1#32
  let v681 : BitVec 32 := Scalar.addi v302 c1_i32_443
  let v824 : Index := Scalar.indexCast v681
  let c256_544 : Index := 256#32
  let c0_545 : Index := 0#32
  ![v824.toNat, 256, 0]
def k0_off24 (i : grid0.Coords) (k0_t2 : Fin (k0_t2_loop i).trips) : Fin 3 → Nat :=
  let c2_i32_167 : BitVec 32 := 2#32
  let c0_i32_66 : BitVec 32 := 0#32
  let arg1 : BitVec 32 := BitVec.ofNat 32 (i 1).val
  let c0_i32_61 : BitVec 32 := 0#32
  let v117 : BitVec 1 := Scalar.cmpi .sgt arg1 c0_i32_61
  let v118 : BitVec 32 := Scalar.extui v117
  let c0_i32_62 : BitVec 32 := 0#32
  let v119 : BitVec 1 := Scalar.cmpi .slt arg1 c0_i32_62
  let v120 : BitVec 32 := Scalar.extui v119
  let v121 : BitVec 32 := Scalar.subi v118 v120
  let c2_i32 : BitVec 32 := 2#32
  let c0_i32_63 : BitVec 32 := 0#32
  let v122 : BitVec 1 := Scalar.cmpi .sgt c2_i32 c0_i32_63
  let v123 : BitVec 32 := Scalar.extui v122
  let c0_i32_64 : BitVec 32 := 0#32
  let v124 : BitVec 1 := Scalar.cmpi .slt c2_i32 c0_i32_64
  let v125 : BitVec 32 := Scalar.extui v124
  let v126 : BitVec 32 := Scalar.subi v123 v125
  let v127 : BitVec 1 := Scalar.cmpi .ne v121 v126
  let v128 : BitVec 32 := Scalar.remsi arg1 c2_i32
  let c0_i32_65 : BitVec 32 := 0#32
  let v129 : BitVec 1 := Scalar.cmpi .ne v128 c0_i32_65
  let v130 : BitVec 1 := Scalar.andi v127 v129
  let v116 : BitVec 32 := Scalar.divsi arg1 c2_i32
  let c1_i32 : BitVec 32 := 1#32
  let v131 : BitVec 32 := Scalar.subi v116 c1_i32
  let v132 : BitVec 32 := Scalar.select v130 v131 v116
  let v133 : BitVec 32 := Scalar.subi v132 c0_i32_66
  let c1_i32_68 : BitVec 32 := 1#32
  let v135 : BitVec 32 := Scalar.divsi v133 c1_i32_68
  let v136 : BitVec 32 := Scalar.muli v135 c1_i32_68
  let v137 : BitVec 32 := Scalar.addi c0_i32_66 v136
  let c1_i32_70 : BitVec 32 := 1#32
  let arg13 : BitVec 32 := Scf.iv v137 c1_i32_70 k0_t2
  let v302 : BitVec 32 := Scalar.muli c2_i32_167 arg13
  let c1_i32_443 : BitVec 32 := 1#32
  let v681 : BitVec 32 := Scalar.addi v302 c1_i32_443
  let v895 : Index := Scalar.indexCast v681
  let c384_594 : Index := 384#32
  let c0_595 : Index := 0#32
  ![v895.toNat, 384, 0]
def k0_cond1 (i : grid0.Coords) : BitVec 1 :=
  let arg1 : BitVec 32 := BitVec.ofNat 32 (i 1).val
  let c2_i32_71 : BitVec 32 := 2#32
  let c0_i32_72 : BitVec 32 := 0#32
  let v140 : BitVec 1 := Scalar.cmpi .eq c2_i32_71 c0_i32_72
  let c1_i32_73 : BitVec 32 := 1#32
  let v141 : BitVec 32 := Scalar.select v140 c1_i32_73 c2_i32_71
  let v142 : BitVec 32 := Scalar.remsi arg1 v141
  let c0_i32_75 : BitVec 32 := 0#32
  let v144 : BitVec 1 := Scalar.cmpi .slt v142 c0_i32_75
  let c0_i32_76 : BitVec 32 := 0#32
  let v145 : BitVec 1 := Scalar.cmpi .slt v141 c0_i32_76
  let v146 : BitVec 1 := Scalar.xori v144 v145
  let c0_i32_74 : BitVec 32 := 0#32
  let v143 : BitVec 1 := Scalar.cmpi .ne v142 c0_i32_74
  let v147 : BitVec 1 := Scalar.andi v146 v143
  let v148 : BitVec 32 := Scalar.addi v142 v141
  let v149 : BitVec 32 := Scalar.select v147 v148 v142
  let c0_i32_77 : BitVec 32 := 0#32
  let v150 : BitVec 1 := Scalar.cmpi .eq v149 c0_i32_77
  let v151 : BitVec 32 := Scalar.extui v150
  let c0_i32_78 : BitVec 32 := 0#32
  let v152 : BitVec 1 := Scalar.cmpi .ne v151 c0_i32_78
  v152

def k0_off25 (i : grid0.Coords) : Fin 3 → Nat :=
  let arg1 : BitVec 32 := BitVec.ofNat 32 (i 1).val
  let v302 : Index := Scalar.indexCast arg1
  let c0_167 : Index := 0#32
  let c0_168 : Index := 0#32
  ![v302.toNat, 0, 0]
def k0_off26 (i : grid0.Coords) : Fin 3 → Nat :=
  let arg1 : BitVec 32 := BitVec.ofNat 32 (i 1).val
  let v377 : Index := Scalar.indexCast arg1
  let c128_219 : Index := 128#32
  let c0_220 : Index := 0#32
  ![v377.toNat, 128, 0]
def k0_off27 (i : grid0.Coords) : Fin 3 → Nat :=
  let arg1 : BitVec 32 := BitVec.ofNat 32 (i 1).val
  let v452 : Index := Scalar.indexCast arg1
  let c256_271 : Index := 256#32
  let c0_272 : Index := 0#32
  ![v452.toNat, 256, 0]
def k0_off28 (i : grid0.Coords) : Fin 3 → Nat :=
  let arg1 : BitVec 32 := BitVec.ofNat 32 (i 1).val
  let v527 : Index := Scalar.indexCast arg1
  let c384_323 : Index := 384#32
  let c0_324 : Index := 0#32
  ![v527.toNat, 384, 0]
def k0_cond2 (i : grid0.Coords) : BitVec 1 :=
  let arg1 : BitVec 32 := BitVec.ofNat 32 (i 1).val
  let c2_i32_79 : BitVec 32 := 2#32
  let c0_i32_80 : BitVec 32 := 0#32
  let v153 : BitVec 1 := Scalar.cmpi .eq c2_i32_79 c0_i32_80
  let c1_i32_81 : BitVec 32 := 1#32
  let v154 : BitVec 32 := Scalar.select v153 c1_i32_81 c2_i32_79
  let v155 : BitVec 32 := Scalar.remsi arg1 v154
  let c0_i32_83 : BitVec 32 := 0#32
  let v157 : BitVec 1 := Scalar.cmpi .slt v155 c0_i32_83
  let c0_i32_84 : BitVec 32 := 0#32
  let v158 : BitVec 1 := Scalar.cmpi .slt v154 c0_i32_84
  let v159 : BitVec 1 := Scalar.xori v157 v158
  let c0_i32_82 : BitVec 32 := 0#32
  let v156 : BitVec 1 := Scalar.cmpi .ne v155 c0_i32_82
  let v160 : BitVec 1 := Scalar.andi v159 v156
  let v161 : BitVec 32 := Scalar.addi v155 v154
  let v162 : BitVec 32 := Scalar.select v160 v161 v155
  let c1_i32_85 : BitVec 32 := 1#32
  let v163 : BitVec 1 := Scalar.cmpi .eq v162 c1_i32_85
  let v164 : BitVec 32 := Scalar.extui v163
  let c0_i32_86 : BitVec 32 := 0#32
  let v165 : BitVec 1 := Scalar.cmpi .ne v164 c0_i32_86
  v165

def k0_mult6 (i : grid0.Coords) : BitVec 32 :=
  let arg1 : BitVec 32 := BitVec.ofNat 32 (i 1).val
  let c512_i32 : BitVec 32 := 512#32
  let v302 : BitVec 32 := Scalar.muli arg1 c512_i32
  v302
def k0_off29 (i : grid0.Coords) : Fin 2 → Nat :=
  let arg1 : BitVec 32 := BitVec.ofNat 32 (i 1).val
  let c512_i32 : BitVec 32 := 512#32
  let v302 : BitVec 32 := Scalar.muli arg1 c512_i32
  let v303 : BitVec 32 := v302
  let v304 : Index := Scalar.indexCast v303
  let c0_167 : Index := 0#32
  ![v304.toNat, 0]
def k0_off30 (i : grid0.Coords) : Fin 2 → Nat :=
  let arg1 : BitVec 32 := BitVec.ofNat 32 (i 1).val
  let c512_i32 : BitVec 32 := 512#32
  let v302 : BitVec 32 := Scalar.muli arg1 c512_i32
  let v303 : BitVec 32 := v302
  let v315 : Index := Scalar.indexCast v303
  let c128_176 : Index := 128#32
  ![v315.toNat, 128]
def k0_off31 (i : grid0.Coords) : Fin 2 → Nat :=
  let arg1 : BitVec 32 := BitVec.ofNat 32 (i 1).val
  let c512_i32 : BitVec 32 := 512#32
  let v302 : BitVec 32 := Scalar.muli arg1 c512_i32
  let v303 : BitVec 32 := v302
  let v326 : Index := Scalar.indexCast v303
  let c256_185 : Index := 256#32
  ![v326.toNat, 256]
def k0_off32 (i : grid0.Coords) : Fin 2 → Nat :=
  let arg1 : BitVec 32 := BitVec.ofNat 32 (i 1).val
  let c512_i32 : BitVec 32 := 512#32
  let v302 : BitVec 32 := Scalar.muli arg1 c512_i32
  let v303 : BitVec 32 := v302
  let v337 : Index := Scalar.indexCast v303
  let c384_194 : Index := 384#32
  ![v337.toNat, 384]
def k0_off33 (i : grid0.Coords) : Fin 3 → Nat :=
  let arg1 : BitVec 32 := BitVec.ofNat 32 (i 1).val
  let c1_i32_203 : BitVec 32 := 1#32
  let v348 : BitVec 32 := Scalar.subi arg1 c1_i32_203
  let v349 : Index := Scalar.indexCast v348
  let c0_204 : Index := 0#32
  let c0_205 : Index := 0#32
  ![v349.toNat, 0, 0]
def k0_off34 (i : grid0.Coords) : Fin 3 → Nat :=
  let arg1 : BitVec 32 := BitVec.ofNat 32 (i 1).val
  let c1_i32_203 : BitVec 32 := 1#32
  let v348 : BitVec 32 := Scalar.subi arg1 c1_i32_203
  let v420 : Index := Scalar.indexCast v348
  let c128_254 : Index := 128#32
  let c0_255 : Index := 0#32
  ![v420.toNat, 128, 0]
def k0_off35 (i : grid0.Coords) : Fin 3 → Nat :=
  let arg1 : BitVec 32 := BitVec.ofNat 32 (i 1).val
  let c1_i32_203 : BitVec 32 := 1#32
  let v348 : BitVec 32 := Scalar.subi arg1 c1_i32_203
  let v491 : Index := Scalar.indexCast v348
  let c256_304 : Index := 256#32
  let c0_305 : Index := 0#32
  ![v491.toNat, 256, 0]
def k0_off36 (i : grid0.Coords) : Fin 3 → Nat :=
  let arg1 : BitVec 32 := BitVec.ofNat 32 (i 1).val
  let c1_i32_203 : BitVec 32 := 1#32
  let v348 : BitVec 32 := Scalar.subi arg1 c1_i32_203
  let v562 : Index := Scalar.indexCast v348
  let c384_354 : Index := 384#32
  let c0_355 : Index := 0#32
  ![v562.toNat, 384, 0]
def k0_off37 (i : grid0.Coords) : Fin 3 → Nat :=
  let arg1 : BitVec 32 := BitVec.ofNat 32 (i 1).val
  let v633 : Index := Scalar.indexCast arg1
  let c0_404 : Index := 0#32
  let c0_405 : Index := 0#32
  ![v633.toNat, 0, 0]
def k0_off38 (i : grid0.Coords) : Fin 3 → Nat :=
  let arg1 : BitVec 32 := BitVec.ofNat 32 (i 1).val
  let v708 : Index := Scalar.indexCast arg1
  let c128_456 : Index := 128#32
  let c0_457 : Index := 0#32
  ![v708.toNat, 128, 0]
def k0_off39 (i : grid0.Coords) : Fin 3 → Nat :=
  let arg1 : BitVec 32 := BitVec.ofNat 32 (i 1).val
  let v783 : Index := Scalar.indexCast arg1
  let c256_508 : Index := 256#32
  let c0_509 : Index := 0#32
  ![v783.toNat, 256, 0]
def k0_off40 (i : grid0.Coords) : Fin 3 → Nat :=
  let arg1 : BitVec 32 := BitVec.ofNat 32 (i 1).val
  let v858 : Index := Scalar.indexCast arg1
  let c384_560 : Index := 384#32
  let c0_561 : Index := 0#32
  ![v858.toNat, 384, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "qk_scale_log2e" => some (((Real.log 2)⁻¹ * 8⁻¹ : ℝ) : EReal)
  | _ => none
-- ==== ReferenceIdeal.lean ====
abbrev S8x4096x512 : Shape := ⟨3, ![8, 4096, 512]⟩
abbrev S1x64 : Shape := ⟨2, ![1, 64]⟩
abbrev S1x128 : Shape := ⟨2, ![1, 128]⟩
abbrev S8x4096x4x2x64 : Shape := ⟨5, ![8, 4096, 4, 2, 64]⟩
abbrev S8x4x2x4096x64 : Shape := ⟨5, ![8, 4, 2, 4096, 64]⟩
abbrev S8x4096x4x128 : Shape := ⟨4, ![8, 4096, 4, 128]⟩
abbrev S8x4x4096x128 : Shape := ⟨4, ![8, 4, 4096, 128]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x1x4096x64 : Shape := ⟨5, ![8, 4, 1, 4096, 64]⟩
abbrev S8x4x4096x64 : Shape := ⟨4, ![8, 4, 4096, 64]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S128 : Shape := ⟨1, ![128]⟩
abbrev S1x1x1x128 : Shape := ⟨4, ![1, 1, 1, 128]⟩
abbrev S32768x512 : Shape := ⟨2, ![32768, 512]⟩

abbrev nBuf : Space → Nat
  | .hbm => 117
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8x4096x4x2x64, .f32⟩
  | .hbm, ⟨9, _⟩ => ⟨S8x4x2x4096x64, .f32⟩
  | .hbm, ⟨10, _⟩ => ⟨S8x4096x4x2x64, .f32⟩
  | .hbm, ⟨11, _⟩ => ⟨S8x4x2x4096x64, .f32⟩
  | .hbm, ⟨12, _⟩ => ⟨S8x4096x4x128, .f32⟩
  | .hbm, ⟨13, _⟩ => ⟨S8x4x4096x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .i32⟩
  | .hbm, ⟨30, _⟩ => ⟨S1x4096, .i32⟩
  | .hbm, ⟨31, _⟩ => ⟨S4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S8x4x1x4096x64, .f32⟩
  | .hbm, ⟨37, _⟩ => ⟨S8x4x4096x64, .f32⟩
  | .hbm, ⟨38, _⟩ => ⟨S8x4x1x4096x64, .f32⟩
  | .hbm, ⟨39, _⟩ => ⟨S8x4x4096x64, .f32⟩
  | .hbm, ⟨40, _⟩ => ⟨S8x4x4096x4096, .f32⟩
  | .hbm, ⟨41, _⟩ => ⟨S_, .f32⟩
  | .hbm, ⟨42, _⟩ => ⟨S8x4x4096x4096, .f32⟩
  | .hbm, ⟨43, _⟩ => ⟨S8x4x4096x4096, .f32⟩
  | .hbm, ⟨44, _⟩ => ⟨S_, .f32⟩
  | .hbm, ⟨45, _⟩ => ⟨S_, .f32⟩
  | .hbm, ⟨46, _⟩ => ⟨S8x4x4096x4096, .i1⟩
  | .hbm, ⟨47, _⟩ => ⟨S8x4x4096x4096, .f32⟩
  | .hbm, ⟨48, _⟩ => ⟨S8x4x4096x4096, .f32⟩
  | .hbm, ⟨49, _⟩ => ⟨S_, .f32⟩
  | .hbm, ⟨50, _⟩ => ⟨S8x4x4096, .f32⟩
  | .hbm, ⟨51, _⟩ => ⟨S_, .f32⟩
  | .hbm, ⟨52, _⟩ => ⟨S8x4x4096, .f32⟩
  | .hbm, ⟨53, _⟩ => ⟨S8x4x4096, .f32⟩
  | .hbm, ⟨54, _⟩ => ⟨S8x4x4096x1, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S_, .f32⟩
  | .hbm, ⟨59, _⟩ => ⟨S8x4x4096, .f32⟩
  | .hbm, ⟨60, _⟩ => ⟨S8x4x4096x1, .f32⟩
  | .hbm, ⟨61, _⟩ => ⟨S8x4x4096x4096, .f32⟩
  | .hbm, ⟨62, _⟩ => ⟨S8x4x4096x4096, .f32⟩
  | .hbm, ⟨63, _⟩ => ⟨S8x4x1x4096x64, .f32⟩
  | .hbm, ⟨64, _⟩ => ⟨S8x4x4096x64, .f32⟩
  | .hbm, ⟨65, _⟩ => ⟨S8x4x1x4096x64, .f32⟩
  | .hbm, ⟨66, _⟩ => ⟨S8x4x4096x64, .f32⟩
  | .hbm, ⟨67, _⟩ => ⟨S8x4x4096x4096, .f32⟩
  | .hbm, ⟨68, _⟩ => ⟨S_, .f32⟩
  | .hbm, ⟨69, _⟩ => ⟨S8x4x4096x4096, .f32⟩
  | .hbm, ⟨70, _⟩ => ⟨S8x4x4096x4096, .f32⟩
  | .hbm, ⟨71, _⟩ => ⟨S_, .f32⟩
  | .hbm, ⟨72, _⟩ => ⟨S_, .f32⟩
  | .hbm, ⟨73, _⟩ => ⟨S8x4x4096x4096, .i1⟩
  | .hbm, ⟨74, _⟩ => ⟨S8x4x4096x4096, .f32⟩
  | .hbm, ⟨75, _⟩ => ⟨S8x4x4096x4096, .f32⟩
  | .hbm, ⟨76, _⟩ => ⟨S_, .f32⟩
  | .hbm, ⟨77, _⟩ => ⟨S8x4x4096, .f32⟩
  | .hbm, ⟨78, _⟩ => ⟨S_, .f32⟩
  | .hbm, ⟨79, _⟩ => ⟨S8x4x4096, .f32⟩
  | .hbm, ⟨80, _⟩ => ⟨S8x4x4096, .f32⟩
  | .hbm, ⟨81, _⟩ => ⟨S8x4x4096x1, .f32⟩
  | .hbm, ⟨82, _⟩ => ⟨S8x4x4096x4096, .f32⟩
  | .hbm, ⟨83, _⟩ => ⟨S8x4x4096x4096, .f32⟩
  | .hbm, ⟨84, _⟩ => ⟨S8x4x4096x4096, .f32⟩
  | .hbm, ⟨85, _⟩ => ⟨S_, .f32⟩
  | .hbm, ⟨86, _⟩ => ⟨S8x4x4096, .f32⟩
  | .hbm, ⟨87, _⟩ => ⟨S8x4x4096x1, .f32⟩
  | .hbm, ⟨88, _⟩ => ⟨S8x4x4096x4096, .f32⟩
  | .hbm, ⟨89, _⟩ => ⟨S8x4x4096x4096, .f32⟩
  | .hbm, ⟨90, _⟩ => ⟨S8x4x4096x4096, .f32⟩
  | .hbm, ⟨91, _⟩ => ⟨S8x4x4096x4096, .f32⟩
  | .hbm, ⟨92, _⟩ => ⟨S8x4x4096x4096, .f32⟩
  | .hbm, ⟨93, _⟩ => ⟨S8x4x4096x128, .f32⟩
  | .hbm, ⟨94, _⟩ => ⟨S8x4x4096x128, .f32⟩
  | .hbm, ⟨95, _⟩ => ⟨S_, .f32⟩
  | .hbm, ⟨96, _⟩ => ⟨S8x4x4096, .f32⟩
  | .hbm, ⟨97, _⟩ => ⟨S8x4x4096x1, .f32⟩
  | .hbm, ⟨98, _⟩ => ⟨S_, .f32⟩
  | .hbm, ⟨99, _⟩ => ⟨S8x4x4096x1, .f32⟩
  | .hbm, ⟨100, _⟩ => ⟨S8x4x4096x1, .f32⟩
  | .hbm, ⟨101, _⟩ => ⟨S_, .f32⟩
  | .hbm, ⟨102, _⟩ => ⟨S8x4x4096x1, .f32⟩
  | .hbm, ⟨103, _⟩ => ⟨S8x4x4096x1, .f32⟩
  | .hbm, ⟨104, _⟩ => ⟨S8x4x4096x1, .f32⟩
  | .hbm, ⟨105, _⟩ => ⟨S8x4x4096x128, .f32⟩
  | .hbm, ⟨106, _⟩ => ⟨S8x4x4096x128, .f32⟩
  | .hbm, ⟨107, _⟩ => ⟨S128, .f32⟩
  | .hbm, ⟨108, _⟩ => ⟨S1x1x1x128, .f32⟩
  | .hbm, ⟨109, _⟩ => ⟨S8x4x4096x128, .f32⟩
  | .hbm, ⟨110, _⟩ => ⟨S8x4x4096x128, .f32⟩
  | .hbm, ⟨111, _⟩ => ⟨S_, .f32⟩
  | .hbm, ⟨112, _⟩ => ⟨S8x4x4096x128, .f32⟩
  | .hbm, ⟨113, _⟩ => ⟨S8x4x4096x128, .f32⟩
  | .hbm, ⟨114, _⟩ => ⟨S8x4096x4x128, .f32⟩
  | .hbm, ⟨115, _⟩ => ⟨S32768x512, .f32⟩
  | .hbm, ⟨116, _⟩ => ⟨S32768x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Projection.lean ====
abbrev S8x4096x1024 : Shape := ⟨3, ![8, 4096, 1024]⟩
abbrev S1x1024 : Shape := ⟨2, ![1, 1024]⟩
abbrev S1x1024x5120 : Shape := ⟨3, ![1, 1024, 5120]⟩
abbrev S4096x64 : Shape := ⟨2, ![4096, 64]⟩
abbrev S4096x32 : Shape := ⟨2, ![4096, 32]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S64x4096 : Shape := ⟨2, ![64, 4096]⟩
abbrev S1024x5120 : Shape := ⟨2, ![1024, 5120]⟩
abbrev S1024x512 : Shape := ⟨2, ![1024, 512]⟩
abbrev S1024x1024 : Shape := ⟨2, ![1024, 1024]⟩
abbrev S1024x3072 : Shape := ⟨2, ![1024, 3072]⟩
abbrev S32768x1024 : Shape := ⟨2, ![32768, 1024]⟩
abbrev S1024 : Shape := ⟨1, ![1024]⟩
abbrev S32768x3072 : Shape := ⟨2, ![32768, 3072]⟩
abbrev S64x1024x512 : Shape := ⟨3, ![64, 1024, 512]⟩
abbrev S128x1024x256 : Shape := ⟨3, ![128, 1024, 256]⟩
abbrev S512x1024 : Shape := ⟨2, ![512, 1024]⟩
abbrev S512x128 : Shape := ⟨2, ![512, 128]⟩
abbrev S64x512 : Shape := ⟨2, ![64, 512]⟩
abbrev S512x3072 : Shape := ⟨2, ![512, 3072]⟩
abbrev S1x1024x512 : Shape := ⟨3, ![1, 1024, 512]⟩
abbrev S2x1024x256 : Shape := ⟨3, ![2, 1024, 256]⟩
abbrev S512 : Shape := ⟨1, ![512]⟩
abbrev S512x1 : Shape := ⟨2, ![512, 1]⟩
abbrev S256x256 : Shape := ⟨2, ![256, 256]⟩
abbrev S256x1024 : Shape := ⟨2, ![256, 1024]⟩
abbrev S512x512 : Shape := ⟨2, ![512, 512]⟩
abbrev S32x512 : Shape := ⟨2, ![32, 512]⟩
abbrev S1x512x512 : Shape := ⟨3, ![1, 512, 512]⟩
abbrev S512x256 : Shape := ⟨2, ![512, 256]⟩
abbrev S1x512x256 : Shape := ⟨3, ![1, 512, 256]⟩

abbrev nBuf : Space → Nat
  | .hbm => 38
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5120, .f32⟩
  | .hbm, ⟨3, _⟩ => ⟨S4096x64, .f32⟩
  | .hbm, ⟨4, _⟩ => ⟨S4096x64, .f32⟩
  | .hbm, ⟨5, _⟩ => ⟨S4096x32, .f32⟩
  | .hbm, ⟨6, _⟩ => ⟨S4096x32, .f32⟩
  | .hbm, ⟨7, _⟩ => ⟨S4096x32, .f32⟩
  | .hbm, ⟨8, _⟩ => ⟨S4096x64, .f32⟩
  | .hbm, ⟨9, _⟩ => ⟨S1x4096x1x64, .f32⟩
  | .hbm, ⟨10, _⟩ => ⟨S1x4096x2x64, .f32⟩
  | .hbm, ⟨11, _⟩ => ⟨S4096x128, .f32⟩
  | .hbm, ⟨12, _⟩ => ⟨S1x4096x1x64, .f32⟩
  | .hbm, ⟨13, _⟩ => ⟨S1x4096x2x64, .f32⟩
  | .hbm, ⟨14, _⟩ => ⟨S4096x128, .f32⟩
  | .hbm, ⟨15, _⟩ => ⟨S64x4096, .f32⟩
  | .hbm, ⟨16, _⟩ => ⟨S64x4096, .f32⟩
  | .hbm, ⟨17, _⟩ => ⟨S1024x5120, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x1024, .f32⟩
  | .hbm, ⟨25, _⟩ => ⟨S1024x1024, .f32⟩
  | .hbm, ⟨26, _⟩ => ⟨S1024x3072, .f32⟩
  | .hbm, ⟨27, _⟩ => ⟨S1024x1024, .f32⟩
  | .hbm, ⟨28, _⟩ => ⟨S1024x1024, .f32⟩
  | .hbm, ⟨29, _⟩ => ⟨S1024x3072, .bf16⟩
  | .hbm, ⟨30, _⟩ => ⟨S1024x1024, .bf16⟩
  | .hbm, ⟨31, _⟩ => ⟨S1024x1024, .bf16⟩
  | .hbm, ⟨32, _⟩ => ⟨S32768x1024, .f32⟩
  | .hbm, ⟨33, _⟩ => ⟨S1024, .f32⟩
  | .hbm, ⟨34, _⟩ => ⟨S1x1024, .f32⟩
  | .hbm, ⟨35, _⟩ => ⟨S32768x3072, .bf16⟩
  | .hbm, ⟨36, _⟩ => ⟨S64x1024x512, .bf16⟩
  | .hbm, ⟨37, _⟩ => ⟨S128x1024x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S512x3072, .bf16⟩
  | .local _ .vmem, ⟨15, _⟩ => ⟨S512x3072, .bf16⟩
  | .local _ .vmem, ⟨16, _⟩ => ⟨S1x1024x512, .bf16⟩
  | .local _ .vmem, ⟨17, _⟩ => ⟨S1x1024x512, .bf16⟩
  | .local _ .vmem, ⟨18, _⟩ => ⟨S2x1024x256, .bf16⟩
  | .local _ .vmem, ⟨19, _⟩ => ⟨S2x1024x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30_0 : Ref sig .tc := ⟨.hbm, 35, rfl⟩
abbrev main_v30_1 : Ref sig .tc := ⟨.hbm, 36, rfl⟩
abbrev main_v30_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjectionIdeal.lean ====
variable {F : FTy → Type} [FloatOps F] [Named F]
def κ : String → Option EReal := fun
  | "qk_scale_log2e" => some (((Real.log 2)⁻¹ * 8⁻¹ : ℝ) : EReal)
  | _ => none
-- ==== ProjReferenceIdeal.lean ====
abbrev S8x4096x1024 : Shape := ⟨3, ![8, 4096, 1024]⟩
abbrev S1x1024 : Shape := ⟨2, ![1, 1024]⟩
abbrev S1x1024x5120 : Shape := ⟨3, ![1, 1024, 5120]⟩
abbrev S4096x64 : Shape := ⟨2, ![4096, 64]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x5120 : Shape := ⟨2, ![1024, 5120]⟩
abbrev S8x4096x5120 : Shape := ⟨3, ![8, 4096, 5120]⟩
abbrev S8x4096x512 : Shape := ⟨3, ![8, 4096, 512]⟩
abbrev S8x4096x2048 : Shape := ⟨3, ![8, 4096, 2048]⟩
abbrev S128x8x32x512 : Shape := ⟨4, ![128, 8, 32, 512]⟩
abbrev S128x32x8x512 : Shape := ⟨4, ![128, 32, 8, 512]⟩
abbrev S8x4096x8x64 : Shape := ⟨4, ![8, 4096, 8, 64]⟩
abbrev S8x8x4096x64 : Shape := ⟨4, ![8, 8, 4096, 64]⟩
abbrev S8x8x4096x32 : Shape := ⟨4, ![8, 8, 4096, 32]⟩
abbrev S1x1x4096x64 : Shape := ⟨4, ![1, 1, 4096, 64]⟩
abbrev S8x4096x3072 : Shape := ⟨3, ![8, 4096, 3072]⟩
abbrev S32768x3072 : Shape := ⟨2, ![32768, 3072]⟩
abbrev S64x512x1024 : Shape := ⟨3, ![64, 512, 1024]⟩
abbrev S64x1024x512 : Shape := ⟨3, ![64, 1024, 512]⟩
abbrev S128x256x1024 : Shape := ⟨3, ![128, 256, 1024]⟩
abbrev S128x1024x256 : Shape := ⟨3, ![128, 1024, 256]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5120, .f32⟩
  | .hbm, ⟨3, _⟩ => ⟨S4096x64, .f32⟩
  | .hbm, ⟨4, _⟩ => ⟨S4096x64, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x5120, .f32⟩
  | .hbm, ⟨23, _⟩ => ⟨S8x4096x5120, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x2048, .f32⟩
  | .hbm, ⟨31, _⟩ => ⟨S128x8x32x512, .f32⟩
  | .hbm, ⟨32, _⟩ => ⟨S128x32x8x512, .f32⟩
  | .hbm, ⟨33, _⟩ => ⟨S8x4096x512, .f32⟩
  | .hbm, ⟨34, _⟩ => ⟨S8x4096x8x64, .f32⟩
  | .hbm, ⟨35, _⟩ => ⟨S8x8x4096x64, .f32⟩
  | .hbm, ⟨36, _⟩ => ⟨S8x8x4096x32, .f32⟩
  | .hbm, ⟨37, _⟩ => ⟨S8x8x4096x32, .f32⟩
  | .hbm, ⟨38, _⟩ => ⟨S8x8x4096x32, .f32⟩
  | .hbm, ⟨39, _⟩ => ⟨S8x8x4096x64, .f32⟩
  | .hbm, ⟨40, _⟩ => ⟨S1x1x4096x64, .f32⟩
  | .hbm, ⟨41, _⟩ => ⟨S8x8x4096x64, .f32⟩
  | .hbm, ⟨42, _⟩ => ⟨S8x8x4096x64, .f32⟩
  | .hbm, ⟨43, _⟩ => ⟨S1x1x4096x64, .f32⟩
  | .hbm, ⟨44, _⟩ => ⟨S8x8x4096x64, .f32⟩
  | .hbm, ⟨45, _⟩ => ⟨S8x8x4096x64, .f32⟩
  | .hbm, ⟨46, _⟩ => ⟨S8x8x4096x64, .f32⟩
  | .hbm, ⟨47, _⟩ => ⟨S8x4096x8x64, .f32⟩
  | .hbm, ⟨48, _⟩ => ⟨S8x4096x512, .f32⟩
  | .hbm, ⟨49, _⟩ => ⟨S8x4096x3072, .f32⟩
  | .hbm, ⟨50, _⟩ => ⟨S32768x3072, .f32⟩
  | .hbm, ⟨51, _⟩ => ⟨S8x4096x8x64, .f32⟩
  | .hbm, ⟨52, _⟩ => ⟨S8x8x4096x64, .f32⟩
  | .hbm, ⟨53, _⟩ => ⟨S8x8x4096x32, .f32⟩
  | .hbm, ⟨54, _⟩ => ⟨S8x8x4096x32, .f32⟩
  | .hbm, ⟨55, _⟩ => ⟨S8x8x4096x32, .f32⟩
  | .hbm, ⟨56, _⟩ => ⟨S8x8x4096x64, .f32⟩
  | .hbm, ⟨57, _⟩ => ⟨S1x1x4096x64, .f32⟩
  | .hbm, ⟨58, _⟩ => ⟨S8x8x4096x64, .f32⟩
  | .hbm, ⟨59, _⟩ => ⟨S8x8x4096x64, .f32⟩
  | .hbm, ⟨60, _⟩ => ⟨S1x1x4096x64, .f32⟩
  | .hbm, ⟨61, _⟩ => ⟨S8x8x4096x64, .f32⟩
  | .hbm, ⟨62, _⟩ => ⟨S8x8x4096x64, .f32⟩
  | .hbm, ⟨63, _⟩ => ⟨S8x8x4096x64, .f32⟩
  | .hbm, ⟨64, _⟩ => ⟨S8x4096x8x64, .f32⟩
  | .hbm, ⟨65, _⟩ => ⟨S8x4096x512, .f32⟩
  | .hbm, ⟨66, _⟩ => ⟨S8x4096x1024, .f32⟩
  | .hbm, ⟨67, _⟩ => ⟨S64x512x1024, .f32⟩
  | .hbm, ⟨68, _⟩ => ⟨S64x1024x512, .f32⟩
  | .hbm, ⟨69, _⟩ => ⟨S_, .f32⟩
  | .hbm, ⟨70, _⟩ => ⟨S8x4096x512, .f32⟩
  | .hbm, ⟨71, _⟩ => ⟨S8x4096x512, .f32⟩
  | .hbm, ⟨72, _⟩ => ⟨S_, .f32⟩
  | .hbm, ⟨73, _⟩ => ⟨S_, .f32⟩
  | .hbm, ⟨74, _⟩ => ⟨S8x4096x512, .f32⟩
  | .hbm, ⟨75, _⟩ => ⟨S8x4096x512, .f32⟩
  | .hbm, ⟨76, _⟩ => ⟨S128x8x32x512, .f32⟩
  | .hbm, ⟨77, _⟩ => ⟨S128x32x8x512, .f32⟩
  | .hbm, ⟨78, _⟩ => ⟨S8x4096x512, .f32⟩
  | .hbm, ⟨79, _⟩ => ⟨S8x4096x1024, .f32⟩
  | .hbm, ⟨80, _⟩ => ⟨S128x256x1024, .f32⟩
  | .hbm, ⟨81, _⟩ => ⟨S128x1024x256, .f32⟩
  | .hbm, ⟨82, _⟩ => ⟨S32768x3072, .bf16⟩
  | .hbm, ⟨83, _⟩ => ⟨S64x1024x512, .bf16⟩
  | .hbm, ⟨84, _⟩ => ⟨S128x1024x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_2 : Ref sig .tc := ⟨.hbm, 69, rfl⟩
abbrev main_v61 : Ref sig .tc := ⟨.hbm, 70, rfl⟩
abbrev main_v62 : Ref sig .tc := ⟨.hbm, 71, rfl⟩
abbrev main_cst_3 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩

abbrev nD : Nat := 1
abbrev τ : Topo := Topo.v7x

variable {F : FTy → Type} [FloatOps F]
-- ==== Merge.lean ====
abbrev S8x4096x512 : Shape := ⟨3, ![8, 4096, 512]⟩
abbrev S8x4096x1024 : Shape := ⟨3, ![8, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S32768x1024 : Shape := ⟨2, ![32768, 1024]⟩
abbrev S32768x3072 : Shape := ⟨2, ![32768, 3072]⟩
abbrev S1024x128 : Shape := ⟨2, ![1024, 128]⟩
abbrev S1024x4 : Shape := ⟨2, ![1024, 4]⟩
abbrev S1 : Shape := ⟨1, ![1]⟩
abbrev S1024x32 : Shape := ⟨2, ![1024, 32]⟩
abbrev S1x128 : Shape := ⟨2, ![1, 128]⟩
abbrev S4 : Shape := ⟨1, ![4]⟩
abbrev S2 : Shape := ⟨1, ![2]⟩
abbrev S32 : Shape := ⟨1, ![32]⟩
abbrev S1024x256 : Shape := ⟨2, ![1024, 256]⟩
abbrev S32768x512 : Shape := ⟨2, ![32768, 512]⟩
abbrev S512x1024 : Shape := ⟨2, ![512, 1024]⟩
abbrev S1024x1024 : Shape := ⟨2, ![1024, 1024]⟩
abbrev S1024 : Shape := ⟨1, ![1024]⟩
abbrev S262144x128 : Shape := ⟨2, ![262144, 128]⟩
abbrev S32768x128 : Shape := ⟨2, ![32768, 128]⟩
abbrev S8x128 : Shape := ⟨2, ![8, 128]⟩
abbrev S512x512 : Shape := ⟨2, ![512, 512]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S128 : Shape := ⟨1, ![128]⟩

abbrev nBuf : Space → Nat
  | .hbm => 67
  | .vmem => 24
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x1024x32, .f32⟩
  | .hbm, ⟨12, _⟩ => ⟨S1x32, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x3072, .f32⟩
  | .hbm, ⟨18, _⟩ => ⟨S32768x3072, .bf16⟩
  | .hbm, ⟨19, _⟩ => ⟨S_, .f32⟩
  | .hbm, ⟨20, _⟩ => ⟨S1024x128, .f32⟩
  | .hbm, ⟨21, _⟩ => ⟨S1024x4, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S1024x32, .f32⟩
  | .hbm, ⟨26, _⟩ => ⟨S_, .i32⟩
  | .hbm, ⟨27, _⟩ => ⟨S1, .i32⟩
  | .hbm, ⟨28, _⟩ => ⟨S1024x128, .f32⟩
  | .hbm, ⟨29, _⟩ => ⟨S_, .f32⟩
  | .hbm, ⟨30, _⟩ => ⟨S1x128, .f32⟩
  | .hbm, ⟨31, _⟩ => ⟨S4, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S32, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S1024x128, .bf16⟩
  | .hbm, ⟨46, _⟩ => ⟨S1024x128, .f32⟩
  | .hbm, ⟨47, _⟩ => ⟨S1024x128, .f32⟩
  | .hbm, ⟨48, _⟩ => ⟨S1024x128, .bf16⟩
  | .hbm, ⟨49, _⟩ => ⟨S1024x256, .bf16⟩
  | .hbm, ⟨50, _⟩ => ⟨S32768x512, .f32⟩
  | .hbm, ⟨51, _⟩ => ⟨S32768x512, .bf16⟩
  | .hbm, ⟨52, _⟩ => ⟨S32768x512, .f32⟩
  | .hbm, ⟨53, _⟩ => ⟨S32768x512, .bf16⟩
  | .hbm, ⟨54, _⟩ => ⟨S32768x1024, .f32⟩
  | .hbm, ⟨55, _⟩ => ⟨S512x1024, .f32⟩
  | .hbm, ⟨56, _⟩ => ⟨S512x1024, .bf16⟩
  | .hbm, ⟨57, _⟩ => ⟨S512x1024, .f32⟩
  | .hbm, ⟨58, _⟩ => ⟨S512x1024, .bf16⟩
  | .hbm, ⟨59, _⟩ => ⟨S1024x1024, .f32⟩
  | .hbm, ⟨60, _⟩ => ⟨S1024x1024, .bf16⟩
  | .hbm, ⟨61, _⟩ => ⟨S1024, .f32⟩
  | .hbm, ⟨62, _⟩ => ⟨S1x1024, .f32⟩
  | .hbm, ⟨63, _⟩ => ⟨S32768x1024, .f32⟩
  | .hbm, ⟨64, _⟩ => ⟨S262144x128, .f32⟩
  | .hbm, ⟨65, _⟩ => ⟨S32768x128, .f32⟩
  | .hbm, ⟨66, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x256, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S4096x128, .f32⟩
  | .local _ .vmem, ⟨19, _⟩ => ⟨S4096x128, .f32⟩
  | .local _ .vmem, ⟨20, _⟩ => ⟨S512x128, .f32⟩
  | .local _ .vmem, ⟨21, _⟩ => ⟨S512x128, .f32⟩
  | .local _ .vmem, ⟨22, _⟩ => ⟨S8x128, .f32⟩
  | .local _ .vmem, ⟨23, _⟩ => ⟨S8x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v41_2 : Ref sig .tc := ⟨.hbm, 65, rfl⟩
abbrev main_v41_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeReferenceIdeal.lean ====
abbrev S8x4096x512 : Shape := ⟨3, ![8, 4096, 512]⟩
abbrev S8x4096x1024 : Shape := ⟨3, ![8, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S512x1024 : Shape := ⟨2, ![512, 1024]⟩
abbrev S1024x1024 : Shape := ⟨2, ![1024, 1024]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x1024x32, .f32⟩
  | .hbm, ⟨12, _⟩ => ⟨S1x32, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S512x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1024, .f32⟩
  | .hbm, ⟨31, _⟩ => ⟨S8x4096x1024, .f32⟩
  | .hbm, ⟨32, _⟩ => ⟨S512x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S1024x1024, .f32⟩
  | .hbm, ⟨37, _⟩ => ⟨S8x4096x1024, .f32⟩
  | .hbm, ⟨38, _⟩ => ⟨S8x4096x1024, .f32⟩
  | .hbm, ⟨39, _⟩ => ⟨S32768x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.PlainA.lean ====
module

public import proofs.«01_k».proof.Proof.Gen.Kernel.Frame.Runs

/-! The body of the program over machine numbers, run once at a query block whose number is even: it ends with
    the input blocks as they were. What it leaves in the result's block is not named here. -/

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run at a query block with an even number. -/
theorem runA (c : Dev nD) (i : grid0.Coords) (arg2 : Memref sig .tc .vmem S4x64 .f32) (harg2 : arg2.IsWhole) (arg3 : Memref sig .tc .vmem S128x1 .f32) (harg3 : arg3.IsWhole) (arg4 : Memref sig .tc .vmem S1x512x512 .bf16) (harg4 : arg4.IsWhole) (arg5 : Memref sig .tc .vmem S4096x512 .bf16) (harg5 : arg5.IsWhole) (arg6 : Memref sig .tc .vmem S8x512x512 .bf16) (harg6 : arg6.IsWhole) (arg7 : Memref sig .tc .vmem S512x512 .bf16) (harg7 : arg7.IsWhole) (arg8 : Memref sig .tc .vmem S8x128x512 .f32) (harg8 : arg8.IsWhole) (arg9 : Memref sig .tc .vmem S8x1x512 .f32) (harg9 : arg9.IsWhole) (arg10 : Memref sig .tc .vmem S8x1x512 .f32) (harg10 : arg10.IsWhole) (arg11 : Memref sig .tc .vmem S8x512x512 .f32) (harg11 : arg11.IsWhole) (arg12 : Memref sig .tc .vmem S8x512x512 .f32) (harg12 : arg12.IsWhole) (hc0 : cond0_0 i) (hc1 : ¬cond0_1 i)
    (x0 : Vec F S4x64 .f32) (x1 : Vec F S128x1 .f32) (x2 : Vec F S1x512x512 .bf16) (x3 : Vec F S4096x512 .bf16) (x4 : Vec F S8x512x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_differential_attention i arg2 harg2 arg3 harg3 arg4 harg4 arg5 harg5 arg6 harg6 arg7 harg7 arg8 harg8 arg9 harg9 arg10 harg10 arg11 harg11 arg12 harg12) K := by
    intro E K
    simp only [cc0_differential_attention_eq_skeleton]; unfold cc0_differential_attention_skel
    simp only [k0_part69_eq_skeleton, k0_part70_eq_skeleton, k0_part71_eq_skeleton, k0_part72_eq_skeleton, k0_part73_eq_skeleton, k0_part49_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Proof

end
-- ==== Proof.PlainB.lean ====
module

public import proofs.«01_k».proof.Proof.Gen.Kernel.Frame.Runs

/-! The body of the program over machine numbers, run once at a query block whose number is odd: it ends with
    the input blocks as they were. What it leaves in the result's block is not named here. -/

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run at a query block with an odd number. -/
theorem runB (c : Dev nD) (i : grid0.Coords) (arg2 : Memref sig .tc .vmem S4x64 .f32) (harg2 : arg2.IsWhole) (arg3 : Memref sig .tc .vmem S128x1 .f32) (harg3 : arg3.IsWhole) (arg4 : Memref sig .tc .vmem S1x512x512 .bf16) (harg4 : arg4.IsWhole) (arg5 : Memref sig .tc .vmem S4096x512 .bf16) (harg5 : arg5.IsWhole) (arg6 : Memref sig .tc .vmem S8x512x512 .bf16) (harg6 : arg6.IsWhole) (arg7 : Memref sig .tc .vmem S512x512 .bf16) (harg7 : arg7.IsWhole) (arg8 : Memref sig .tc .vmem S8x128x512 .f32) (harg8 : arg8.IsWhole) (arg9 : Memref sig .tc .vmem S8x1x512 .f32) (harg9 : arg9.IsWhole) (arg10 : Memref sig .tc .vmem S8x1x512 .f32) (harg10 : arg10.IsWhole) (arg11 : Memref sig .tc .vmem S8x512x512 .f32) (harg11 : arg11.IsWhole) (arg12 : Memref sig .tc .vmem S8x512x512 .f32) (harg12 : arg12.IsWhole) (hc0 : ¬cond0_0 i) (hc1 : cond0_1 i)
    (x0 : Vec F S4x64 .f32) (x1 : Vec F S128x1 .f32) (x2 : Vec F S1x512x512 .bf16) (x3 : Vec F S4096x512 .bf16) (x4 : Vec F S8x512x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_differential_attention i arg2 harg2 arg3 harg3 arg4 harg4 arg5 harg5 arg6 harg6 arg7 harg7 arg8 harg8 arg9 harg9 arg10 harg10 arg11 harg11 arg12 harg12) K := by
    intro E K
    simp only [cc0_differential_attention_eq_skeleton]; unfold cc0_differential_attention_skel
    simp only [k0_part69_eq_skeleton, k0_part70_eq_skeleton, k0_part71_eq_skeleton, k0_part72_eq_skeleton, k0_part73_eq_skeleton, k0_part68_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Proof

end
-- ==== Proof.PlainFrame.lean ====
module

public import proofs.«01_k».proof.Proof.PlainA
public import proofs.«01_k».proof.Proof.PlainB
public import Idealize.ShloMosaic.Lib.Claim

/-! The run of the whole program over machine numbers: it ends, the argument arrays stay as they were, and every
    semaphore ends at zero. What it computes is not stated here. -/

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end as they were, from what the run says of the input windows. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The result is the one window of which nothing is stated. -/
def forgets0 : Fin 6 → Bool := fun w => w.val == 5

/-- The data of the pipeline on a core: the arrays as the region finds them, each input block left as fetched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

/-- The arrays of the data are those the region finds. -/
theorem A_eq (c : Dev nD) (w : Fin cfg0.W) : (dats m 0 c).A w = V m c (Pipeline.arrRef spec0 w) := by
  dsimp only [dats]

/-- What each input block holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input block holds its part of the array before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 1600000 in
/-- The body at any point, by the run of the point's kind. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 64 := lt_of_lt_of_eq t.isLt (show cfg0.N = 64 from N_0)
  by_cases h0 : t.val % 2 = 0
  · by_cases h1 : t.val % 2 = 1
    · exfalso; omega
    · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val % 2 = 1
    · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; omega

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- What the pipeline asks of its body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run ends with the input arrays as they were and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- Every run ends with the input arrays as they were. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every run leaves the argument arrays as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  unchanged_of m ρ (fun c => (dats m 0 c).toRForget forgets0) (A_eq m) (run_main m ρ)

/-- The frame of the program: every run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Proof

end
-- ==== Proof.Online.lean ====
module

public import Idealize.ShloMosaic.PureOps.Ideal

@[expose] public section

noncomputable section

open Idealize.ShloMosaic

namespace Cert.Proof.Online

/-- The weight a base-two score stands for: `2 ^ s`, and nothing for a masked score. -/
def wt (s : EReal) : ℝ := (Ideal.exp2 s).toReal

/-- What a chain keeps per query: the running maximum, the running sum of weights and, per feature,
    the running weighted sum of values. -/
structure Acc where
  /-- the running maximum -/
  M : EReal
  /-- the running sum of weights -/
  L : EReal
  /-- the running weighted sum, per feature -/
  A : Fin 128 → EReal

/-- Nothing seen yet. -/
def Acc.zero : Acc := ⟨⊥, 0, fun _ => 0⟩

/-- The running maximum after one block of 512 scores. -/
def newMax (s : Fin 512 → EReal) (M : EReal) : EReal := max M (Finset.univ.fold max ⊥ s)

/-- One block of 512 scores and values absorbed. -/
def Acc.step (s : Fin 512 → EReal) (v : Fin 128 → Fin 512 → EReal) (a : Acc) : Acc where
  M := newMax s a.M
  L := Ideal.exp2 (a.M - newMax s a.M) * a.L + ∑ k, Ideal.exp2 (s k - newMax s a.M)
  A d := Ideal.exp2 (a.M - newMax s a.M) * a.A d
    + ∑ k, v d k * Ideal.exp2 (s k - newMax s a.M)

/-- The accumulator stands for the weights `Z` and weighted values `N` seen so far. -/
def Acc.Stands (a : Acc) (Z : ℝ) (N : Fin 128 → ℝ) : Prop :=
  (a = Acc.zero ∧ Z = 0 ∧ N = fun _ => 0) ∨
    ∃ m : ℝ, a.M = m ∧ a.L = ((Real.rpow 2 (-m) * Z : ℝ) : EReal)
      ∧ ∀ d, a.A d = ((Real.rpow 2 (-m) * N d : ℝ) : EReal)

theorem stands_zero : Acc.zero.Stands 0 fun _ => 0 := Or.inl ⟨rfl, rfl, rfl⟩

theorem wt_bot : wt ⊥ = 0 := by simp [wt]

theorem wt_coe (r : ℝ) : wt (r : EReal) = Real.rpow 2 r := by simp [wt, Ideal.exp2_coe]

theorem wt_nonneg {s : EReal} (h : s = ⊥ ∨ ∃ r : ℝ, s = r) : 0 ≤ wt s := by
  rcases h with rfl | ⟨r, rfl⟩
  · simp [wt_bot]
  · rw [wt_coe]; exact Real.rpow_nonneg (by norm_num) r

/-- The weight of a score after the maximum `m` is taken off it. -/
theorem exp2_sub {s : EReal} (h : s = ⊥ ∨ ∃ r : ℝ, s = r) (m : ℝ) :
    Ideal.exp2 (s - (m : EReal)) = ((Real.rpow 2 (-m) * wt s : ℝ) : EReal) := by
  rcases h with rfl | ⟨r, rfl⟩
  · rw [EReal.bot_sub, Ideal.exp2_bot, wt_bot]; simp
  · rw [← EReal.coe_sub, Ideal.exp2_coe, wt_coe, sub_eq_add_neg, add_comm]
    exact congrArg _ (Real.rpow_add (by norm_num) (-m) r)

/-- The largest of scores, one of which is a number and none of which is plus infinity, is a
    number. -/
theorem fold_max_real {s : Fin 512 → EReal} (hs : ∀ k, s k = ⊥ ∨ ∃ r : ℝ, s k = r)
    (hr : ∃ k, ∃ r : ℝ, s k = r) : ∃ m : ℝ, Finset.univ.fold max ⊥ s = m := by
  obtain ⟨k, r, hk⟩ := hr
  have hle : s k ≤ Finset.univ.fold max ⊥ s := by
    rw [Finset.le_fold_max]; exact Or.inr ⟨k, Finset.mem_univ k, le_rfl⟩
  have hlt : Finset.univ.fold max ⊥ s < ⊤ := by
    rw [Finset.fold_max_lt]
    refine ⟨bot_lt_top, fun x _ => ?_⟩
    rcases hs x with h | ⟨q, h⟩
    · rw [h]; exact bot_lt_top
    · rw [h]; exact EReal.coe_lt_top q
  refine ⟨(Finset.univ.fold max ⊥ s).toReal, (EReal.coe_toReal hlt.ne ?_).symm⟩
  intro hb
  rw [hb, hk, le_bot_iff] at hle
  exact EReal.coe_ne_bot r hle

theorem coe_sum {ι : Type*} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A block with at least one unmasked score keeps the accumulator in step with the weights. -/
theorem Acc.Stands.step {a : Acc} {Z : ℝ} {N : Fin 128 → ℝ} (h : a.Stands Z N)
    {s : Fin 512 → EReal} {v : Fin 128 → Fin 512 → EReal} {vr : Fin 128 → Fin 512 → ℝ}
    (hs : ∀ k, s k = ⊥ ∨ ∃ r : ℝ, s k = r) (hr : ∃ k, ∃ r : ℝ, s k = r)
    (hv : ∀ d k, v d k = (vr d k : EReal)) :
    (a.step s v).Stands (Z + ∑ k, wt (s k)) (fun d => N d + ∑ k, vr d k * wt (s k)) := by
  obtain ⟨b, hb⟩ := fold_max_real hs hr
  have key : ∃ m : ℝ, newMax s a.M = m
      ∧ Ideal.exp2 (a.M - newMax s a.M) * a.L = ((Real.rpow 2 (-m) * Z : ℝ) : EReal)
      ∧ ∀ d, Ideal.exp2 (a.M - newMax s a.M) * a.A d
          = ((Real.rpow 2 (-m) * N d : ℝ) : EReal) := by
    rcases h with ⟨rfl, rfl, rfl⟩ | ⟨m, hM, hL, hA⟩
    · refine ⟨b, by simp [newMax, Acc.zero, hb], by simp [Acc.zero], fun d => by simp [Acc.zero]⟩
    · have hm : newMax s a.M = ((max m b : ℝ) : EReal) := by
        rw [newMax, hM, hb]; exact (EReal.coe_strictMono.monotone.map_max (a := m) (b := b)).symm
      have hp : ∀ x : ℝ, Real.rpow 2 (m - max m b) * (Real.rpow 2 (-m) * x)
          = Real.rpow 2 (-(max m b)) * x := by
        intro x
        rw [← mul_assoc]; congr 1
        have := Real.rpow_add (x := 2) (by norm_num) (m - max m b) (-m)
        rw [show m - max m b + -m = -(max m b) by ring] at this
        exact this.symm
      refine ⟨max m b, hm, ?_, fun d => ?_⟩
      · rw [hm, hM, hL, ← EReal.coe_sub, Ideal.exp2_coe, ← EReal.coe_mul, hp]
      · rw [hm, hM, hA, ← EReal.coe_sub, Ideal.exp2_coe, ← EReal.coe_mul, hp]
  obtain ⟨m, hm, hL, hA⟩ := key
  refine Or.inr ⟨m, hm, ?_, fun d => ?_⟩
  · show _ * a.L + _ = _
    rw [hL, hm]
    simp only [exp2_sub (hs _)]
    rw [coe_sum, ← EReal.coe_add, ← Finset.mul_sum, ← mul_add]
  · show _ * a.A d + _ = _
    rw [hA, hm]
    simp only [exp2_sub (hs _), hv, ← EReal.coe_mul]
    rw [coe_sum, ← EReal.coe_add, mul_add, Finset.mul_sum]
    congr 3
    funext k
    ring

/-- The quotient the kernel takes at the end is the weighted mean. -/
theorem Acc.Stands.div {a : Acc} {Z : ℝ} {N : Fin 128 → ℝ} (h : a.Stands Z N) (hZ : 0 < Z)
    (d : Fin 128) : Ideal.div (a.A d) a.L = ((N d / Z : ℝ) : EReal) := by
  rcases h with ⟨-, rfl, -⟩ | ⟨m, -, hL, hA⟩
  · exact absurd hZ (lt_irrefl 0)
  · have hp : (0 : ℝ) < Real.rpow 2 (-m) := Real.rpow_pos_of_pos (by norm_num) _
    rw [hL, hA, Ideal.div_coe (mul_pos hp hZ).ne', ← EReal.coe_mul]
    congr 1
    field_simp

end Cert.Proof.Online
-- ==== Proof.Chain.lean ====
module

public import proofs.«01_k».proof.Proof.Online
public import proofs.«01_k».proof.KernelIdeal
public import proofs.«01_k».proof.Proof.Gen.KernelIdeal
public import Idealize.ShloMosaic.Lib.Pointwise

/-! One chain (a head and one of its two components) as the kernel keeps it: the running maximum,
    the running sum of weights and the running weighted sum of values, each a block of the scratch
    buffers, and the update that one block of 512 keys makes. -/

@[expose] public section

set_option maxRecDepth 16384

noncomputable section

open Cert.KernelIdeal Cert.KernelIdeal.Gen Idealize.ShloMosaic

namespace Cert.Proof

variable {F : FTy → Type} [FloatOps F] [Named F]

/-- The three blocks of one chain. -/
structure Chain (F : FTy → Type) where
  /-- the running maximum per query -/
  M : FVec F S1x1x512 .f32
  /-- the running sum of weights per query -/
  L : FVec F S1x1x512 .f32
  /-- the running weighted sum of values, feature by query -/
  A : FVec F S1x128x512 .f32

/-- The maximum after a block of scores. -/
def upMax (s : FVec F S512x512 .f32) (M : FVec F S1x1x512 .f32) : FVec F S1x512 .f32 :=
  maximumf (shapeCast S1x512 M shapeCasts_S1x1x512_S1x512)
    (shapeCast S1x512 (multiReduction .maximumf [0] S512 s 0xFF800000#32 reduces_S512x512_S512 (.inl rfl) rfl)
      shapeCasts_S512_S1x512)

/-- What the earlier sums are scaled by when the maximum moves. -/
def upScale (s : FVec F S512x512 .f32) (M : FVec F S1x1x512 .f32) : FVec F S1x512 .f32 :=
  exp2 (subf (shapeCast S1x512 M shapeCasts_S1x1x512_S1x512) (upMax s M))

/-- The weights of a block of scores, relative to the new maximum. -/
def upWeight (s : FVec F S512x512 .f32) (M : FVec F S1x1x512 .f32) : FVec F S512x512 .f32 :=
  exp2 (subf s (broadcastTo S512x512 (upMax s M) broadcasts_S1x512_S512x512))

/-- A chain after one block of keys, with scores `s` and values `v`. -/
def Chain.up (s : FVec F S512x512 .f32) (v : FVec F S1x128x512 .bf16) (c : Chain F) : Chain F where
  M := shapeCast S1x1x512 (upMax s c.M) shapeCasts_S1x512_S1x1x512
  L := shapeCast S1x1x512
    (addf (mulf (upScale s c.M) (shapeCast S1x512 c.L shapeCasts_S1x1x512_S1x512))
      (shapeCast S1x512 (multiReduction .add [0] S512 (upWeight s c.M) 0x00000000#32 reduces_S512x512_S512 (.inl rfl) rfl)
        shapeCasts_S512_S1x512)) shapeCasts_S1x512_S1x1x512
  A := shapeCast S1x128x512
    (addf (mulf (broadcastTo S128x512 (upScale s c.M) broadcasts_S1x512_S128x512)
        (shapeCast S128x512 c.A shapeCasts_S1x128x512_S128x512))
      (matmul dot_S128x512_S512x512_S128x512_1_0_0_1_n_n none
        (shapeCast S128x512 v shapeCasts_S1x128x512_S128x512)
        (truncf .bf16 (upWeight s c.M) bitsLt_bf16_f32) (constant S128x512 .f32 0x00000000#32)))
    shapeCasts_S128x512_S1x128x512

/-- The scores of one block of keys against the queries of a chain, as they lie in a score buffer. -/
def score (k : FVec F S512x128 .bf16) (q : FVec F S128x512 .bf16) : FVec F S1x512x512 .f32 :=
  shapeCast S1x512x512
    (matmul dot_S512x128_S128x512_S512x512_1_0_0_1_n_n none
      (shapeCast S512x128 k shapeCasts_S512x128_S512x128) q (constant S512x512 .f32 0x00000000#32))
    shapeCasts_S512x512_S1x512x512

/-- A block of a score buffer as a matrix. -/
def flat (s : FVec F S1x512x512 .f32) : FVec F S512x512 .f32 :=
  shapeCast S512x512 s shapeCasts_S1x512x512_S512x512

/-! ### The update, read per query -/

/-- What a chain keeps for the query at column `x`. -/
def Chain.col (c : Chain Ideal) (x : Fin 512) : Online.Acc where
  M := c.M (ix3 0 0 x)
  L := c.L (ix3 0 0 x)
  A d := c.A (ix3 0 d x)

/-- The word the maximum starts from is minus infinity. -/
theorem ofBits_negInf : Ideal.ofBits .f32 0xFF800000#32 = ⊥ := by
  simp [Ideal.ofBits, Ideal.ieee]

theorem upMax_apply (s : FVec Ideal S512x512 .f32) (M : FVec Ideal S1x1x512 .f32) (x : Fin 512) :
    upMax s M (ix2 0 x) = Online.newMax (fun k => s (ix2 k x)) (M (ix3 0 0 x)) := by
  unfold upMax Online.newMax
  pointwise
  simp only [ofBits_negInf]

theorem upScale_apply (s : FVec Ideal S512x512 .f32) (M : FVec Ideal S1x1x512 .f32) (x : Fin 512) :
    upScale s M (ix2 0 x)
      = Ideal.exp2 (M (ix3 0 0 x) - Online.newMax (fun k => s (ix2 k x)) (M (ix3 0 0 x))) := by
  rw [← upMax_apply]
  unfold upScale
  pointwise
  rfl

theorem upWeight_apply (s : FVec Ideal S512x512 .f32) (M : FVec Ideal S1x1x512 .f32) (k x : Fin 512) :
    upWeight s M (ix2 k x)
      = Ideal.exp2 (s (ix2 k x) - Online.newMax (fun k => s (ix2 k x)) (M (ix3 0 0 x))) := by
  rw [← upMax_apply]
  unfold upWeight
  pointwise
  rfl

/-- One block of keys moves every query's sums by `Online.Acc.step`. -/
theorem Chain.col_up (s : FVec Ideal S512x512 .f32) (v : FVec Ideal S1x128x512 .bf16)
    (c : Chain Ideal) (x : Fin 512) :
    (c.up s v).col x
      = (c.col x).step (fun k => s (ix2 k x)) (fun d k => v (ix3 0 d k)) := by
  unfold Chain.col Chain.up Online.Acc.step
  congr 1
  · rw [← upMax_apply]
    pointwise
  · simp only [← upScale_apply, ← upWeight_apply]
    pointwise
  · funext d
    simp only [← upScale_apply, ← upWeight_apply]
    pointwise

end Cert.Proof
-- ==== Proof.Rows.lean ====
module

public import proofs.«01_k».proof.Proof.Chain
public import Idealize.ShloMosaic.Lib.Pipeline.ReadBack

/-! The kernel keeps the state of its eight chains in the rows of scratch buffers.  A row is read
    back from the list of the stores by these two rules: a store to the row itself is what is read,
    a store to another row is passed over.  The key and value blocks that a trip loads are named
    here too. -/

@[expose] public section

set_option maxRecDepth 16384

noncomputable section

open Cert.KernelIdeal Cert.KernelIdeal.Gen Idealize.ShloMosaic Idealize.ShloMosaic.TcCoe

namespace Cert.Proof

section Rules

variable {sig : RefSig} {κ : Kind} {sp : Space} {s : Shape} {e : EltTy} {Val : EltTy → Type}

/-- A load through the rectangle of the last store reads what was stored. -/
theorem readAt_hit (v : View sig κ sp s e) (r : Rect s) (w : r.shape.Idx → Val e)
    (f : v.ty.Contents Val) (L : List (View.Piece Val s e)) :
    v.readAt Val r.toLoadRect (v.writes Val f (⟨r, w⟩ :: L)) = w := by
  funext j
  rw [View.readAt_apply]
  exact View.read_writes_cons_emb v f r w L j

/-- A load that does not meet the last store reads what was there before it. -/
theorem readAt_miss (v : View sig κ sp s e) (r : Rect s) (w : r.shape.Idx → Val e)
    (f : v.ty.Contents Val) (L : List (View.Piece Val s e)) (B : LoadRect s)
    (h : LoadRect.disj r B = true) :
    v.readAt Val B (v.writes Val f (⟨r, w⟩ :: L)) = v.readAt Val B (v.writes Val f L) := by
  funext j
  rw [View.readAt_apply, View.readAt_apply, View.writes_cons]
  refine View.read_slice_write_of_not_mem r _ _ _ ?_
  rw [Rect.map_emb_univ]
  exact LoadRect.idx_not_mem_of_disj h j

end Rules

variable {F : FTy → Type} [FloatOps F] [Named F]

/-! ### The rows -/

theorem row_acc (n : ℕ) (h : n < 8) (a : Fin 3) : ![n, 0, 0] a + S1x128x512.size a ≤ S8x128x512.size a := by
  fin_cases a
  · show n + 1 ≤ 8; omega
  · show 0 + 128 ≤ 128; omega
  · show 0 + 512 ≤ 512; omega

theorem row_sum (n : ℕ) (h : n < 8) (a : Fin 3) : ![n, 0, 0] a + S1x1x512.size a ≤ S8x1x512.size a := by
  fin_cases a
  · show n + 1 ≤ 8; omega
  · show 0 + 1 ≤ 1; omega
  · show 0 + 512 ≤ 512; omega

theorem row_score (n : ℕ) (h : n < 8) (a : Fin 3) : ![n, 0, 0] a + S1x512x512.size a ≤ S8x512x512.size a := by
  fin_cases a
  · show n + 1 ≤ 8; omega
  · show 0 + 512 ≤ 512; omega
  · show 0 + 512 ≤ 512; omega

/-- Chain `n` as the three state buffers hold it. -/
def chainAt (arg8 : Memref sig .tc .vmem S8x128x512 .f32) (arg9 arg10 : Memref sig .tc .vmem S8x1x512 .f32)
    (f8 : BufTy.Contents (Elt F) arg8.view.ty) (f9 : BufTy.Contents (Elt F) arg9.view.ty)
    (f10 : BufTy.Contents (Elt F) arg10.view.ty) (n : ℕ) (h : n < 8) : Chain F where
  M := View.readAt (Elt F) arg9.view (Rect.unit (s := S8x1x512) ![n, 0, 0] S1x1x512.size (row_sum n h)).toLoadRect f9
  L := View.readAt (Elt F) arg10.view (Rect.unit (s := S8x1x512) ![n, 0, 0] S1x1x512.size (row_sum n h)).toLoadRect f10
  A := View.readAt (Elt F) arg8.view (Rect.unit (s := S8x128x512) ![n, 0, 0] S1x128x512.size (row_acc n h)).toLoadRect f8

/-- The scores of chain `n` as a score buffer holds them. -/
def scoreAt (arg11 : Memref sig .tc .vmem S8x512x512 .f32) (f11 : BufTy.Contents (Elt F) arg11.view.ty)
    (n : ℕ) (h : n < 8) : FVec F S1x512x512 .f32 :=
  View.readAt (Elt F) arg11.view (Rect.unit (s := S8x512x512) ![n, 0, 0] S1x512x512.size (row_score n h)).toLoadRect f11

/-! ### The blocks -/

/-- Block `J` of the keys, the features of head `h`. -/
def kblk {α : Type} (x : S4096x512.Idx → α) (h J : ℕ) : S512x128.Idx → α := fun y =>
  x (ix2 ⟨(512 * J + (y 0).val) % 4096, Nat.mod_lt _ (by norm_num)⟩ ⟨(128 * h + (y 1).val) % 512, Nat.mod_lt _ (by norm_num)⟩)

/-- Block `J` of the values, the features of head `h`. -/
def vblk {α : Type} (x : S8x512x512.Idx → α) (h J : ℕ) : S1x128x512.Idx → α := fun y =>
  x (ix3 ⟨J % 8, Nat.mod_lt _ (by norm_num)⟩ ⟨(128 * h + (y 1).val) % 512, Nat.mod_lt _ (by norm_num)⟩ (y 2))

theorem readAt_kblk {arg5 : Memref sig .tc .vmem S4096x512 .bf16} (harg5 : arg5.IsWhole)
    (x : Vec F S4096x512 .bf16) (h J : ℕ) (hh : h < 4) (hJ : J < 8) {off : Fin 2 → ℕ} (hoff : off = ![512 * J, 128 * h])
    (inb : ∀ a, off a + S512x128.size a ≤ S4096x512.size a) :
    View.readAt (Elt F) arg5.view (Rect.unit (s := S4096x512) off S512x128.size inb).toLoadRect (harg5.unread x) = kblk x h J := by
  subst hoff
  funext y
  rw [View.readAt_apply, harg5.read_unread]
  refine congrArg x ?_
  have h0 : (y 0).val < 512 := (y 0).isLt
  have h1 : (y 1).val < 128 := (y 1).isLt
  funext a
  apply Fin.ext
  fin_cases a
  · show 512 * J + 1 * (y 0).val = (512 * J + (y 0).val) % 4096
    omega
  · show 128 * h + 1 * (y 1).val = (128 * h + (y 1).val) % 512
    omega

theorem readAt_vblk {arg6 : Memref sig .tc .vmem S8x512x512 .bf16} (harg6 : arg6.IsWhole)
    (x : Vec F S8x512x512 .bf16) (h J : ℕ) (hh : h < 4) (hJ : J < 8) {off : Fin 3 → ℕ} (hoff : off = ![J, 128 * h, 0])
    (inb : ∀ a, off a + S1x128x512.size a ≤ S8x512x512.size a) :
    View.readAt (Elt F) arg6.view (Rect.unit (s := S8x512x512) off S1x128x512.size inb).toLoadRect (harg6.unread x) = vblk x h J := by
  subst hoff
  funext y
  rw [View.readAt_apply, harg6.read_unread]
  refine congrArg x ?_
  have h0 : (y 0).val < 1 := (y 0).isLt
  have h1 : (y 1).val < 128 := (y 1).isLt
  funext a
  apply Fin.ext
  fin_cases a
  · show J + 1 * (y 0).val = J % 8
    omega
  · show 128 * h + 1 * (y 1).val = (128 * h + (y 1).val) % 512
    omega
  · show 0 + 1 * (y 2).val = (y 2).val
    omega

end Cert.Proof
-- ==== Proof.TripA.lean ====
module

public import proofs.«01_k».proof.Proof.Rows
public import proofs.«01_k».proof.Proof.Gen.KernelIdeal.Loops

/-! One trip of the kernel's main loop, chain by chain: what its two blocks of keys do to chains 0 to 3. -/

@[expose] public section

set_option maxRecDepth 16384

noncomputable section

open Cert.KernelIdeal Cert.KernelIdeal.Gen Idealize.ShloMosaic Idealize.ShloMosaic.TcCoe

namespace Cert.Proof

variable {F : FTy → Type} [FloatOps F] [Named F]
variable (i : grid0.Coords) (arg5 : Memref sig .tc .vmem S4096x512 .bf16) (arg6 : Memref sig .tc .vmem S8x512x512 .bf16)
  (arg8 : Memref sig .tc .vmem S8x128x512 .f32) (arg9 arg10 : Memref sig .tc .vmem S8x1x512 .f32)
  (arg11 arg12 : Memref sig .tc .vmem S8x512x512 .f32)
  (v13 v14 v22 v23 v31 v32 v40 v41 : FVec F S128x512 .bf16)
  (X_arg5 : BufTy.Contents (Elt F) arg5.view.ty) (X_arg6 : BufTy.Contents (Elt F) arg6.view.ty)
  (k : Fin (k0_t1_loop i).trips)
  (f_arg8 : BufTy.Contents (Elt F) arg8.view.ty) (f_arg9 : BufTy.Contents (Elt F) arg9.view.ty)
  (f_arg10 : BufTy.Contents (Elt F) arg10.view.ty) (f_arg11 : BufTy.Contents (Elt F) arg11.view.ty)

/-- Chain 0, first block of the trip. -/
theorem first_0 :
    (⟨trip_k0_t1.sl.v367 arg9 arg11 f_arg9 f_arg11,
      trip_k0_t1.sl.v376 arg9 arg10 arg11 f_arg9 f_arg10 f_arg11,
      trip_k0_t1.sl.v386 i arg6 arg8 arg9 arg11 X_arg6 k f_arg8 f_arg9 f_arg11⟩ : Chain F)
      = (chainAt arg8 arg9 arg10 f_arg8 f_arg9 f_arg10 0 (by norm_num)).up (flat (scoreAt arg11 f_arg11 0 (by norm_num)))
        (View.readAt (Elt F) arg6.view (Rect.unit (s := S8x512x512) (k0_off5 i k) S1x128x512.size (k0_off5_inb i k)).toLoadRect X_arg6) := rfl

/-- Chain 0 is read back as the first block left it. -/
theorem back_0 :
    (⟨trip_k0_t1.sl.v685 arg9 arg11 f_arg9 f_arg11,
      trip_k0_t1.sl.v700 arg9 arg10 arg11 f_arg9 f_arg10 f_arg11,
      trip_k0_t1.sl.v709 i arg6 arg8 arg9 arg11 X_arg6 k f_arg8 f_arg9 f_arg11⟩ : Chain F)
      = (⟨trip_k0_t1.sl.v367 arg9 arg11 f_arg9 f_arg11,
      trip_k0_t1.sl.v376 arg9 arg10 arg11 f_arg9 f_arg10 f_arg11,
      trip_k0_t1.sl.v386 i arg6 arg8 arg9 arg11 X_arg6 k f_arg8 f_arg9 f_arg11⟩ : Chain F) := by
  congr 1
  · unfold trip_k0_t1.sl.v685 trip_k0_t1.sl.HW_arg9_8 View.readCov
    simp (discharger := decide) only [↓readAt_miss]
    exact readAt_hit ..
  · unfold trip_k0_t1.sl.v700 trip_k0_t1.sl.HW_arg10_8 View.readCov
    simp (discharger := decide) only [↓readAt_miss]
    exact readAt_hit ..
  · unfold trip_k0_t1.sl.v709 trip_k0_t1.sl.HW_arg8_8 View.readCov
    simp (discharger := decide) only [↓readAt_miss]
    exact readAt_hit ..

/-- The scores of chain 0 against the trip's second block. -/
theorem scores_0 :
    trip_k0_t1.sl.v687 i arg5 arg12 v13 v14 v22 v23 v31 v32 v40 v41 X_arg5 k
      = score (View.readAt (Elt F) arg5.view (Rect.unit (s := S4096x512) (k0_off1 i k 1#32) S512x128.size (k0_off1_inb i k 0)).toLoadRect X_arg5) v13 := by
  unfold trip_k0_t1.sl.v687 trip_k0_t1.sl.HW_arg12_8 View.readCov
  simp (discharger := decide) only [↓readAt_miss]
  exact readAt_hit ..

/-- Chain 0, second block of the trip. -/
theorem second_0 :
    (⟨trip_k0_t1.sl.v699 i arg5 arg9 arg11 arg12 v13 v14 v22 v23 v31 v32 v40 v41 X_arg5 k f_arg9 f_arg11,
      trip_k0_t1.sl.v708 i arg5 arg9 arg10 arg11 arg12 v13 v14 v22 v23 v31 v32 v40 v41 X_arg5 k f_arg9 f_arg10 f_arg11,
      trip_k0_t1.sl.v718 i arg5 arg6 arg8 arg9 arg11 arg12 v13 v14 v22 v23 v31 v32 v40 v41 X_arg5 X_arg6 k f_arg8 f_arg9 f_arg11⟩ : Chain F)
      = (⟨trip_k0_t1.sl.v685 arg9 arg11 f_arg9 f_arg11,
      trip_k0_t1.sl.v700 arg9 arg10 arg11 f_arg9 f_arg10 f_arg11,
      trip_k0_t1.sl.v709 i arg6 arg8 arg9 arg11 X_arg6 k f_arg8 f_arg9 f_arg11⟩ : Chain F).up
        (flat (trip_k0_t1.sl.v687 i arg5 arg12 v13 v14 v22 v23 v31 v32 v40 v41 X_arg5 k)) (View.readAt (Elt F) arg6.view (Rect.unit (s := S8x512x512) (k0_off9 i k) S1x128x512.size (k0_off9_inb i k)).toLoadRect X_arg6) := rfl

/-- Chain 1, first block of the trip. -/
theorem first_1 :
    (⟨trip_k0_t1.sl.v401 arg9 arg11 f_arg9 f_arg11,
      trip_k0_t1.sl.v410 arg9 arg10 arg11 f_arg9 f_arg10 f_arg11,
      trip_k0_t1.sl.v420 i arg6 arg8 arg9 arg11 X_arg6 k f_arg8 f_arg9 f_arg11⟩ : Chain F)
      = (chainAt arg8 arg9 arg10 f_arg8 f_arg9 f_arg10 1 (by norm_num)).up (flat (scoreAt arg11 f_arg11 1 (by norm_num)))
        (View.readAt (Elt F) arg6.view (Rect.unit (s := S8x512x512) (k0_off5 i k) S1x128x512.size (k0_off5_inb i k)).toLoadRect X_arg6) := rfl

/-- Chain 1 is read back as the first block left it. -/
theorem back_1 :
    (⟨trip_k0_t1.sl.v719 i arg5 arg9 arg11 arg12 v13 v14 v22 v23 v31 v32 v40 v41 X_arg5 k f_arg9 f_arg11,
      trip_k0_t1.sl.v734 i arg5 arg9 arg10 arg11 arg12 v13 v14 v22 v23 v31 v32 v40 v41 X_arg5 k f_arg9 f_arg10 f_arg11,
      trip_k0_t1.sl.v743 i arg5 arg6 arg8 arg9 arg11 arg12 v13 v14 v22 v23 v31 v32 v40 v41 X_arg5 X_arg6 k f_arg8 f_arg9 f_arg11⟩ : Chain F)
      = (⟨trip_k0_t1.sl.v401 arg9 arg11 f_arg9 f_arg11,
      trip_k0_t1.sl.v410 arg9 arg10 arg11 f_arg9 f_arg10 f_arg11,
      trip_k0_t1.sl.v420 i arg6 arg8 arg9 arg11 X_arg6 k f_arg8 f_arg9 f_arg11⟩ : Chain F) := by
  congr 1
  · unfold trip_k0_t1.sl.v719 trip_k0_t1.sl.HW_arg9_9 trip_k0_t1.sl.HW_arg9_8 View.readCov
    simp (discharger := decide) only [↓readAt_miss]
    exact readAt_hit ..
  · unfold trip_k0_t1.sl.v734 trip_k0_t1.sl.HW_arg10_9 trip_k0_t1.sl.HW_arg10_8 View.readCov
    simp (discharger := decide) only [↓readAt_miss]
    exact readAt_hit ..
  · unfold trip_k0_t1.sl.v743 trip_k0_t1.sl.HW_arg8_9 trip_k0_t1.sl.HW_arg8_8 View.readCov
    simp (discharger := decide) only [↓readAt_miss]
    exact readAt_hit ..

/-- The scores of chain 1 against the trip's second block. -/
theorem scores_1 :
    trip_k0_t1.sl.v721 i arg5 arg12 v13 v14 v22 v23 v31 v32 v40 v41 X_arg5 k
      = score (View.readAt (Elt F) arg5.view (Rect.unit (s := S4096x512) (k0_off1 i k 1#32) S512x128.size (k0_off1_inb i k 0)).toLoadRect X_arg5) v14 := by
  unfold trip_k0_t1.sl.v721 trip_k0_t1.sl.HW_arg12_8 View.readCov
  simp (discharger := decide) only [↓readAt_miss]
  exact readAt_hit ..

/-- Chain 1, second block of the trip. -/
theorem second_1 :
    (⟨trip_k0_t1.sl.v733 i arg5 arg9 arg11 arg12 v13 v14 v22 v23 v31 v32 v40 v41 X_arg5 k f_arg9 f_arg11,
      trip_k0_t1.sl.v742 i arg5 arg9 arg10 arg11 arg12 v13 v14 v22 v23 v31 v32 v40 v41 X_arg5 k f_arg9 f_arg10 f_arg11,
      trip_k0_t1.sl.v752 i arg5 arg6 arg8 arg9 arg11 arg12 v13 v14 v22 v23 v31 v32 v40 v41 X_arg5 X_arg6 k f_arg8 f_arg9 f_arg11⟩ : Chain F)
      = (⟨trip_k0_t1.sl.v719 i arg5 arg9 arg11 arg12 v13 v14 v22 v23 v31 v32 v40 v41 X_arg5 k f_arg9 f_arg11,
      trip_k0_t1.sl.v734 i arg5 arg9 arg10 arg11 arg12 v13 v14 v22 v23 v31 v32 v40 v41 X_arg5 k f_arg9 f_arg10 f_arg11,
      trip_k0_t1.sl.v743 i arg5 arg6 arg8 arg9 arg11 arg12 v13 v14 v22 v23 v31 v32 v40 v41 X_arg5 X_arg6 k f_arg8 f_arg9 f_arg11⟩ : Chain F).up
        (flat (trip_k0_t1.sl.v721 i arg5 arg12 v13 v14 v22 v23 v31 v32 v40 v41 X_arg5 k)) (View.readAt (Elt F) arg6.view (Rect.unit (s := S8x512x512) (k0_off9 i k) S1x128x512.size (k0_off9_inb i k)).toLoadRect X_arg6) := rfl

/-- Chain 2, first block of the trip. -/
theorem first_2 :
    (⟨trip_k0_t1.sl.v438 arg9 arg11 f_arg9 f_arg11,
      trip_k0_t1.sl.v447 arg9 arg10 arg11 f_arg9 f_arg10 f_arg11,
      trip_k0_t1.sl.v457 i arg6 arg8 arg9 arg11 X_arg6 k f_arg8 f_arg9 f_arg11⟩ : Chain F)
      = (chainAt arg8 arg9 arg10 f_arg8 f_arg9 f_arg10 2 (by norm_num)).up (flat (scoreAt arg11 f_arg11 2 (by norm_num)))
        (View.readAt (Elt F) arg6.view (Rect.unit (s := S8x512x512) (k0_off6 i k) S1x128x512.size (k0_off6_inb i k)).toLoadRect X_arg6) := rfl

/-- Chain 2 is read back as the first block left it. -/
theorem back_2 :
    (⟨trip_k0_t1.sl.v756 i arg5 arg9 arg11 arg12 v13 v14 v22 v23 v31 v32 v40 v41 X_arg5 k f_arg9 f_arg11,
      trip_k0_t1.sl.v771 i arg5 arg9 arg10 arg11 arg12 v13 v14 v22 v23 v31 v32 v40 v41 X_arg5 k f_arg9 f_arg10 f_arg11,
      trip_k0_t1.sl.v780 i arg5 arg6 arg8 arg9 arg11 arg12 v13 v14 v22 v23 v31 v32 v40 v41 X_arg5 X_arg6 k f_arg8 f_arg9 f_arg11⟩ : Chain F)
      = (⟨trip_k0_t1.sl.v438 arg9 arg11 f_arg9 f_arg11,
      trip_k0_t1.sl.v447 arg9 arg10 arg11 f_arg9 f_arg10 f_arg11,
      trip_k0_t1.sl.v457 i arg6 arg8 arg9 arg11 X_arg6 k f_arg8 f_arg9 f_arg11⟩ : Chain F) := by
  congr 1
  · unfold trip_k0_t1.sl.v756 trip_k0_t1.sl.HW_arg9_10 trip_k0_t1.sl.HW_arg9_9 trip_k0_t1.sl.HW_arg9_8 View.readCov
    simp (discharger := decide) only [↓readAt_miss]
    exact readAt_hit ..
  · unfold trip_k0_t1.sl.v771 trip_k0_t1.sl.HW_arg10_10 trip_k0_t1.sl.HW_arg10_9 trip_k0_t1.sl.HW_arg10_8 View.readCov
    simp (discharger := decide) only [↓readAt_miss]
    exact readAt_hit ..
  · unfold trip_k0_t1.sl.v780 trip_k0_t1.sl.HW_arg8_10 trip_k0_t1.sl.HW_arg8_9 trip_k0_t1.sl.HW_arg8_8 View.readCov
    simp (discharger := decide) only [↓readAt_miss]
    exact readAt_hit ..

/-- The scores of chain 2 against the trip's second block. -/
theorem scores_2 :
    trip_k0_t1.sl.v758 i arg5 arg12 v13 v14 v22 v23 v31 v32 v40 v41 X_arg5 k
      = score (View.readAt (Elt F) arg5.view (Rect.unit (s := S4096x512) (k0_off2 i k 1#32) S512x128.size (k0_off2_inb i k 0)).toLoadRect X_arg5) v22 := by
  unfold trip_k0_t1.sl.v758 trip_k0_t1.sl.HW_arg12_8 View.readCov
  simp (discharger := decide) only [↓readAt_miss]
  exact readAt_hit ..

/-- Chain 2, second block of the trip. -/
theorem second_2 :
    (⟨trip_k0_t1.sl.v770 i arg5 arg9 arg11 arg12 v13 v14 v22 v23 v31 v32 v40 v41 X_arg5 k f_arg9 f_arg11,
      trip_k0_t1.sl.v779 i arg5 arg9 arg10 arg11 arg12 v13 v14 v22 v23 v31 v32 v40 v41 X_arg5 k f_arg9 f_arg10 f_arg11,
      trip_k0_t1.sl.v789 i arg5 arg6 arg8 arg9 arg11 arg12 v13 v14 v22 v23 v31 v32 v40 v41 X_arg5 X_arg6 k f_arg8 f_arg9 f_arg11⟩ : Chain F)
      = (⟨trip_k0_t1.sl.v756 i arg5 arg9 arg11 arg12 v13 v14 v22 v23 v31 v32 v40 v41 X_arg5 k f_arg9 f_arg11,
      trip_k0_t1.sl.v771 i arg5 arg9 arg10 arg11 arg12 v13 v14 v22 v23 v31 v32 v40 v41 X_arg5 k f_arg9 f_arg10 f_arg11,
      trip_k0_t1.sl.v780 i arg5 arg6 arg8 arg9 arg11 arg12 v13 v14 v22 v23 v31 v32 v40 v41 X_arg5 X_arg6 k f_arg8 f_arg9 f_arg11⟩ : Chain F).up
        (flat (trip_k0_t1.sl.v758 i arg5 arg12 v13 v14 v22 v23 v31 v32 v40 v41 X_arg5 k)) (View.readAt (Elt F) arg6.view (Rect.unit (s := S8x512x512) (k0_off10 i k) S1x128x512.size (k0_off10_inb i k)).toLoadRect X_arg6) := rfl

/-- Chain 3, first block of the trip. -/
theorem first_3 :
    (⟨trip_k0_t1.sl.v472 arg9 arg11 f_arg9 f_arg11,
      trip_k0_t1.sl.v481 arg9 arg10 arg11 f_arg9 f_arg10 f_arg11,
      trip_k0_t1.sl.v491 i arg6 arg8 arg9 arg11 X_arg6 k f_arg8 f_arg9 f_arg11⟩ : Chain F)
      = (chainAt arg8 arg9 arg10 f_arg8 f_arg9 f_arg10 3 (by norm_num)).up (flat (scoreAt arg11 f_arg11 3 (by norm_num)))
        (View.readAt (Elt F) arg6.view (Rect.unit (s := S8x512x512) (k0_off6 i k) S1x128x512.size (k0_off6_inb i k)).toLoadRect X_arg6) := rfl

/-- Chain 3 is read back as the first block left it. -/
theorem back_3 :
    (⟨trip_k0_t1.sl.v790 i arg5 arg9 arg11 arg12 v13 v14 v22 v23 v31 v32 v40 v41 X_arg5 k f_arg9 f_arg11,
      trip_k0_t1.sl.v805 i arg5 arg9 arg10 arg11 arg12 v13 v14 v22 v23 v31 v32 v40 v41 X_arg5 k f_arg9 f_arg10 f_arg11,
      trip_k0_t1.sl.v814 i arg5 arg6 arg8 arg9 arg11 arg12 v13 v14 v22 v23 v31 v32 v40 v41 X_arg5 X_arg6 k f_arg8 f_arg9 f_arg11⟩ : Chain F)
      = (⟨trip_k0_t1.sl.v472 arg9 arg11 f_arg9 f_arg11,
      trip_k0_t1.sl.v481 arg9 arg10 arg11 f_arg9 f_arg10 f_arg11,
      trip_k0_t1.sl.v491 i arg6 arg8 arg9 arg11 X_arg6 k f_arg8 f_arg9 f_arg11⟩ : Chain F) := by
  congr 1
  · unfold trip_k0_t1.sl.v790 trip_k0_t1.sl.HW_arg9_11 trip_k0_t1.sl.HW_arg9_10 trip_k0_t1.sl.HW_arg9_9 trip_k0_t1.sl.HW_arg9_8 View.readCov
    simp (discharger := decide) only [↓readAt_miss]
    exact readAt_hit ..
  · unfold trip_k0_t1.sl.v805 trip_k0_t1.sl.HW_arg10_11 trip_k0_t1.sl.HW_arg10_10 trip_k0_t1.sl.HW_arg10_9 trip_k0_t1.sl.HW_arg10_8 View.readCov
    simp (discharger := decide) only [↓readAt_miss]
    exact readAt_hit ..
  · unfold trip_k0_t1.sl.v814 trip_k0_t1.sl.HW_arg8_11 trip_k0_t1.sl.HW_arg8_10 trip_k0_t1.sl.HW_arg8_9 trip_k0_t1.sl.HW_arg8_8 View.readCov
    simp (discharger := decide) only [↓readAt_miss]
    exact readAt_hit ..

/-- The scores of chain 3 against the trip's second block. -/
theorem scores_3 :
    trip_k0_t1.sl.v792 i arg5 arg12 v13 v14 v22 v23 v31 v32 v40 v41 X_arg5 k
      = score (View.readAt (Elt F) arg5.view (Rect.unit (s := S4096x512) (k0_off2 i k 1#32) S512x128.size (k0_off2_inb i k 0)).toLoadRect X_arg5) v23 := by
  unfold trip_k0_t1.sl.v792 trip_k0_t1.sl.HW_arg12_8 View.readCov
  simp (discharger := decide) only [↓readAt_miss]
  exact readAt_hit ..

/-- Chain 3, second block of the trip. -/
theorem second_3 :
    (⟨trip_k0_t1.sl.v804 i arg5 arg9 arg11 arg12 v13 v14 v22 v23 v31 v32 v40 v41 X_arg5 k f_arg9 f_arg11,
      trip_k0_t1.sl.v813 i arg5 arg9 arg10 arg11 arg12 v13 v14 v22 v23 v31 v32 v40 v41 X_arg5 k f_arg9 f_arg10 f_arg11,
      trip_k0_t1.sl.v823 i arg5 arg6 arg8 arg9 arg11 arg12 v13 v14 v22 v23 v31 v32 v40 v41 X_arg5 X_arg6 k f_arg8 f_arg9 f_arg11⟩ : Chain F)
      = (⟨trip_k0_t1.sl.v790 i arg5 arg9 arg11 arg12 v13 v14 v22 v23 v31 v32 v40 v41 X_arg5 k f_arg9 f_arg11,
      trip_k0_t1.sl.v805 i arg5 arg9 arg10 arg11 arg12 v13 v14 v22 v23 v31 v32 v40 v41 X_arg5 k f_arg9 f_arg10 f_arg11,
      trip_k0_t1.sl.v814 i arg5 arg6 arg8 arg9 arg11 arg12 v13 v14 v22 v23 v31 v32 v40 v41 X_arg5 X_arg6 k f_arg8 f_arg9 f_arg11⟩ : Chain F).up
        (flat (trip_k0_t1.sl.v792 i arg5 arg12 v13 v14 v22 v23 v31 v32 v40 v41 X_arg5 k)) (View.readAt (Elt F) arg6.view (Rect.unit (s := S8x512x512) (k0_off10 i k) S1x128x512.size (k0_off10_inb i k)).toLoadRect X_arg6) := rfl

end Cert.Proof
-- ==== Proof.TripB.lean ====
module

public import proofs.«01_k».proof.Proof.Rows
public import proofs.«01_k».proof.Proof.Gen.KernelIdeal.Loops

/-! One trip of the kernel's main loop, chain by chain: what its two blocks of keys do to chains 4 to 7. -/

@[expose] public section

set_option maxRecDepth 16384

noncomputable section

open Cert.KernelIdeal Cert.KernelIdeal.Gen Idealize.ShloMosaic Idealize.ShloMosaic.TcCoe

namespace Cert.Proof

variable {F : FTy → Type} [FloatOps F] [Named F]
variable (i : grid0.Coords) (arg5 : Memref sig .tc .vmem S4096x512 .bf16) (arg6 : Memref sig .tc .vmem S8x512x512 .bf16)
  (arg8 : Memref sig .tc .vmem S8x128x512 .f32) (arg9 arg10 : Memref sig .tc .vmem S8x1x512 .f32)
  (arg11 arg12 : Memref sig .tc .vmem S8x512x512 .f32)
  (v13 v14 v22 v23 v31 v32 v40 v41 : FVec F S128x512 .bf16)
  (X_arg5 : BufTy.Contents (Elt F) arg5.view.ty) (X_arg6 : BufTy.Contents (Elt F) arg6.view.ty)
  (k : Fin (k0_t1_loop i).trips)
  (f_arg8 : BufTy.Contents (Elt F) arg8.view.ty) (f_arg9 : BufTy.Contents (Elt F) arg9.view.ty)
  (f_arg10 : BufTy.Contents (Elt F) arg10.view.ty) (f_arg11 : BufTy.Contents (Elt F) arg11.view.ty)

/-- Chain 4, first block of the trip. -/
theorem first_4 :
    (⟨trip_k0_t1.sl.v509 arg9 arg11 f_arg9 f_arg11,
      trip_k0_t1.sl.v518 arg9 arg10 arg11 f_arg9 f_arg10 f_arg11,
      trip_k0_t1.sl.v528 i arg6 arg8 arg9 arg11 X_arg6 k f_arg8 f_arg9 f_arg11⟩ : Chain F)
      = (chainAt arg8 arg9 arg10 f_arg8 f_arg9 f_arg10 4 (by norm_num)).up (flat (scoreAt arg11 f_arg11 4 (by norm_num)))
        (View.readAt (Elt F) arg6.view (Rect.unit (s := S8x512x512) (k0_off7 i k) S1x128x512.size (k0_off7_inb i k)).toLoadRect X_arg6) := rfl

/-- Chain 4 is read back as the first block left it. -/
theorem back_4 :
    (⟨trip_k0_t1.sl.v827 i arg5 arg9 arg11 arg12 v13 v14 v22 v23 v31 v32 v40 v41 X_arg5 k f_arg9 f_arg11,
      trip_k0_t1.sl.v842 i arg5 arg9 arg10 arg11 arg12 v13 v14 v22 v23 v31 v32 v40 v41 X_arg5 k f_arg9 f_arg10 f_arg11,
      trip_k0_t1.sl.v851 i arg5 arg6 arg8 arg9 arg11 arg12 v13 v14 v22 v23 v31 v32 v40 v41 X_arg5 X_arg6 k f_arg8 f_arg9 f_arg11⟩ : Chain F)
      = (⟨trip_k0_t1.sl.v509 arg9 arg11 f_arg9 f_arg11,
      trip_k0_t1.sl.v518 arg9 arg10 arg11 f_arg9 f_arg10 f_arg11,
      trip_k0_t1.sl.v528 i arg6 arg8 arg9 arg11 X_arg6 k f_arg8 f_arg9 f_arg11⟩ : Chain F) := by
  congr 1
  · unfold trip_k0_t1.sl.v827 trip_k0_t1.sl.HW_arg9_12 trip_k0_t1.sl.HW_arg9_11 trip_k0_t1.sl.HW_arg9_10 trip_k0_t1.sl.HW_arg9_9 trip_k0_t1.sl.HW_arg9_8 View.readCov
    simp (discharger := decide) only [↓readAt_miss]
    exact readAt_hit ..
  · unfold trip_k0_t1.sl.v842 trip_k0_t1.sl.HW_arg10_12 trip_k0_t1.sl.HW_arg10_11 trip_k0_t1.sl.HW_arg10_10 trip_k0_t1.sl.HW_arg10_9 trip_k0_t1.sl.HW_arg10_8 View.readCov
    simp (discharger := decide) only [↓readAt_miss]
    exact readAt_hit ..
  · unfold trip_k0_t1.sl.v851 trip_k0_t1.sl.HW_arg8_12 trip_k0_t1.sl.HW_arg8_11 trip_k0_t1.sl.HW_arg8_10 trip_k0_t1.sl.HW_arg8_9 trip_k0_t1.sl.HW_arg8_8 View.readCov
    simp (discharger := decide) only [↓readAt_miss]
    exact readAt_hit ..

/-- The scores of chain 4 against the trip's second block. -/
theorem scores_4 :
    trip_k0_t1.sl.v829 i arg5 arg12 v13 v14 v22 v23 v31 v32 v40 v41 X_arg5 k
      = score (View.readAt (Elt F) arg5.view (Rect.unit (s := S4096x512) (k0_off3 i k 1#32) S512x128.size (k0_off3_inb i k 0)).toLoadRect X_arg5) v31 := by
  unfold trip_k0_t1.sl.v829 trip_k0_t1.sl.HW_arg12_8 View.readCov
  simp (discharger := decide) only [↓readAt_miss]
  exact readAt_hit ..

/-- Chain 4, second block of the trip. -/
theorem second_4 :
    (⟨trip_k0_t1.sl.v841 i arg5 arg9 arg11 arg12 v13 v14 v22 v23 v31 v32 v40 v41 X_arg5 k f_arg9 f_arg11,
      trip_k0_t1.sl.v850 i arg5 arg9 arg10 arg11 arg12 v13 v14 v22 v23 v31 v32 v40 v41 X_arg5 k f_arg9 f_arg10 f_arg11,
      trip_k0_t1.sl.v860 i arg5 arg6 arg8 arg9 arg11 arg12 v13 v14 v22 v23 v31 v32 v40 v41 X_arg5 X_arg6 k f_arg8 f_arg9 f_arg11⟩ : Chain F)
      = (⟨trip_k0_t1.sl.v827 i arg5 arg9 arg11 arg12 v13 v14 v22 v23 v31 v32 v40 v41 X_arg5 k f_arg9 f_arg11,
      trip_k0_t1.sl.v842 i arg5 arg9 arg10 arg11 arg12 v13 v14 v22 v23 v31 v32 v40 v41 X_arg5 k f_arg9 f_arg10 f_arg11,
      trip_k0_t1.sl.v851 i arg5 arg6 arg8 arg9 arg11 arg12 v13 v14 v22 v23 v31 v32 v40 v41 X_arg5 X_arg6 k f_arg8 f_arg9 f_arg11⟩ : Chain F).up
        (flat (trip_k0_t1.sl.v829 i arg5 arg12 v13 v14 v22 v23 v31 v32 v40 v41 X_arg5 k)) (View.readAt (Elt F) arg6.view (Rect.unit (s := S8x512x512) (k0_off11 i k) S1x128x512.size (k0_off11_inb i k)).toLoadRect X_arg6) := rfl

/-- Chain 5, first block of the trip. -/
theorem first_5 :
    (⟨trip_k0_t1.sl.v543 arg9 arg11 f_arg9 f_arg11,
      trip_k0_t1.sl.v552 arg9 arg10 arg11 f_arg9 f_arg10 f_arg11,
      trip_k0_t1.sl.v562 i arg6 arg8 arg9 arg11 X_arg6 k f_arg8 f_arg9 f_arg11⟩ : Chain F)
      = (chainAt arg8 arg9 arg10 f_arg8 f_arg9 f_arg10 5 (by norm_num)).up (flat (scoreAt arg11 f_arg11 5 (by norm_num)))
        (View.readAt (Elt F) arg6.view (Rect.unit (s := S8x512x512) (k0_off7 i k) S1x128x512.size (k0_off7_inb i k)).toLoadRect X_arg6) := rfl

/-- Chain 5 is read back as the first block left it. -/
theorem back_5 :
    (⟨trip_k0_t1.sl.v861 i arg5 arg9 arg11 arg12 v13 v14 v22 v23 v31 v32 v40 v41 X_arg5 k f_arg9 f_arg11,
      trip_k0_t1.sl.v876 i arg5 arg9 arg10 arg11 arg12 v13 v14 v22 v23 v31 v32 v40 v41 X_arg5 k f_arg9 f_arg10 f_arg11,
      trip_k0_t1.sl.v885 i arg5 arg6 arg8 arg9 arg11 arg12 v13 v14 v22 v23 v31 v32 v40 v41 X_arg5 X_arg6 k f_arg8 f_arg9 f_arg11⟩ : Chain F)
      = (⟨trip_k0_t1.sl.v543 arg9 arg11 f_arg9 f_arg11,
      trip_k0_t1.sl.v552 arg9 arg10 arg11 f_arg9 f_arg10 f_arg11,
      trip_k0_t1.sl.v562 i arg6 arg8 arg9 arg11 X_arg6 k f_arg8 f_arg9 f_arg11⟩ : Chain F) := by
  congr 1
  · unfold trip_k0_t1.sl.v861 trip_k0_t1.sl.HW_arg9_13 trip_k0_t1.sl.HW_arg9_12 trip_k0_t1.sl.HW_arg9_11 trip_k0_t1.sl.HW_arg9_10 trip_k0_t1.sl.HW_arg9_9 trip_k0_t1.sl.HW_arg9_8 View.readCov
    simp (discharger := decide) only [↓readAt_miss]
    exact readAt_hit ..
  · unfold trip_k0_t1.sl.v876 trip_k0_t1.sl.HW_arg10_13 trip_k0_t1.sl.HW_arg10_12 trip_k0_t1.sl.HW_arg10_11 trip_k0_t1.sl.HW_arg10_10 trip_k0_t1.sl.HW_arg10_9 trip_k0_t1.sl.HW_arg10_8 View.readCov
    simp (discharger := decide) only [↓readAt_miss]
    exact readAt_hit ..
  · unfold trip_k0_t1.sl.v885 trip_k0_t1.sl.HW_arg8_13 trip_k0_t1.sl.HW_arg8_12 trip_k0_t1.sl.HW_arg8_11 trip_k0_t1.sl.HW_arg8_10 trip_k0_t1.sl.HW_arg8_9 trip_k0_t1.sl.HW_arg8_8 View.readCov
    simp (discharger := decide) only [↓readAt_miss]
    exact readAt_hit ..

/-- The scores of chain 5 against the trip's second block. -/
theorem scores_5 :
    trip_k0_t1.sl.v863 i arg5 arg12 v13 v14 v22 v23 v31 v32 v40 v41 X_arg5 k
      = score (View.readAt (Elt F) arg5.view (Rect.unit (s := S4096x512) (k0_off3 i k 1#32) S512x128.size (k0_off3_inb i k 0)).toLoadRect X_arg5) v32 := by
  unfold trip_k0_t1.sl.v863 trip_k0_t1.sl.HW_arg12_8 View.readCov
  simp (discharger := decide) only [↓readAt_miss]
  exact readAt_hit ..

/-- Chain 5, second block of the trip. -/
theorem second_5 :
    (⟨trip_k0_t1.sl.v875 i arg5 arg9 arg11 arg12 v13 v14 v22 v23 v31 v32 v40 v41 X_arg5 k f_arg9 f_arg11,
      trip_k0_t1.sl.v884 i arg5 arg9 arg10 arg11 arg12 v13 v14 v22 v23 v31 v32 v40 v41 X_arg5 k f_arg9 f_arg10 f_arg11,
      trip_k0_t1.sl.v894 i arg5 arg6 arg8 arg9 arg11 arg12 v13 v14 v22 v23 v31 v32 v40 v41 X_arg5 X_arg6 k f_arg8 f_arg9 f_arg11⟩ : Chain F)
      = (⟨trip_k0_t1.sl.v861 i arg5 arg9 arg11 arg12 v13 v14 v22 v23 v31 v32 v40 v41 X_arg5 k f_arg9 f_arg11,
      trip_k0_t1.sl.v876 i arg5 arg9 arg10 arg11 arg12 v13 v14 v22 v23 v31 v32 v40 v41 X_arg5 k f_arg9 f_arg10 f_arg11,
      trip_k0_t1.sl.v885 i arg5 arg6 arg8 arg9 arg11 arg12 v13 v14 v22 v23 v31 v32 v40 v41 X_arg5 X_arg6 k f_arg8 f_arg9 f_arg11⟩ : Chain F).up
        (flat (trip_k0_t1.sl.v863 i arg5 arg12 v13 v14 v22 v23 v31 v32 v40 v41 X_arg5 k)) (View.readAt (Elt F) arg6.view (Rect.unit (s := S8x512x512) (k0_off11 i k) S1x128x512.size (k0_off11_inb i k)).toLoadRect X_arg6) := rfl

/-- Chain 6, first block of the trip. -/
theorem first_6 :
    (⟨trip_k0_t1.sl.v580 arg9 arg11 f_arg9 f_arg11,
      trip_k0_t1.sl.v589 arg9 arg10 arg11 f_arg9 f_arg10 f_arg11,
      trip_k0_t1.sl.v599 i arg6 arg8 arg9 arg11 X_arg6 k f_arg8 f_arg9 f_arg11⟩ : Chain F)
      = (chainAt arg8 arg9 arg10 f_arg8 f_arg9 f_arg10 6 (by norm_num)).up (flat (scoreAt arg11 f_arg11 6 (by norm_num)))
        (View.readAt (Elt F) arg6.view (Rect.unit (s := S8x512x512) (k0_off8 i k) S1x128x512.size (k0_off8_inb i k)).toLoadRect X_arg6) := rfl

/-- Chain 6 is read back as the first block left it. -/
theorem back_6 :
    (⟨trip_k0_t1.sl.v898 i arg5 arg9 arg11 arg12 v13 v14 v22 v23 v31 v32 v40 v41 X_arg5 k f_arg9 f_arg11,
      trip_k0_t1.sl.v913 i arg5 arg9 arg10 arg11 arg12 v13 v14 v22 v23 v31 v32 v40 v41 X_arg5 k f_arg9 f_arg10 f_arg11,
      trip_k0_t1.sl.v922 i arg5 arg6 arg8 arg9 arg11 arg12 v13 v14 v22 v23 v31 v32 v40 v41 X_arg5 X_arg6 k f_arg8 f_arg9 f_arg11⟩ : Chain F)
      = (⟨trip_k0_t1.sl.v580 arg9 arg11 f_arg9 f_arg11,
      trip_k0_t1.sl.v589 arg9 arg10 arg11 f_arg9 f_arg10 f_arg11,
      trip_k0_t1.sl.v599 i arg6 arg8 arg9 arg11 X_arg6 k f_arg8 f_arg9 f_arg11⟩ : Chain F) := by
  congr 1
  · unfold trip_k0_t1.sl.v898 trip_k0_t1.sl.HW_arg9_14 trip_k0_t1.sl.HW_arg9_13 trip_k0_t1.sl.HW_arg9_12 trip_k0_t1.sl.HW_arg9_11 trip_k0_t1.sl.HW_arg9_10 trip_k0_t1.sl.HW_arg9_9 trip_k0_t1.sl.HW_arg9_8 View.readCov
    simp (discharger := decide) only [↓readAt_miss]
    exact readAt_hit ..
  · unfold trip_k0_t1.sl.v913 trip_k0_t1.sl.HW_arg10_14 trip_k0_t1.sl.HW_arg10_13 trip_k0_t1.sl.HW_arg10_12 trip_k0_t1.sl.HW_arg10_11 trip_k0_t1.sl.HW_arg10_10 trip_k0_t1.sl.HW_arg10_9 trip_k0_t1.sl.HW_arg10_8 View.readCov
    simp (discharger := decide) only [↓readAt_miss]
    exact readAt_hit ..
  · unfold trip_k0_t1.sl.v922 trip_k0_t1.sl.HW_arg8_14 trip_k0_t1.sl.HW_arg8_13 trip_k0_t1.sl.HW_arg8_12 trip_k0_t1.sl.HW_arg8_11 trip_k0_t1.sl.HW_arg8_10 trip_k0_t1.sl.HW_arg8_9 trip_k0_t1.sl.HW_arg8_8 View.readCov
    simp (discharger := decide) only [↓readAt_miss]
    exact readAt_hit ..

/-- The scores of chain 6 against the trip's second block. -/
theorem scores_6 :
    trip_k0_t1.sl.v900 i arg5 arg12 v13 v14 v22 v23 v31 v32 v40 v41 X_arg5 k
      = score (View.readAt (Elt F) arg5.view (Rect.unit (s := S4096x512) (k0_off4 i k 1#32) S512x128.size (k0_off4_inb i k 0)).toLoadRect X_arg5) v40 := by
  unfold trip_k0_t1.sl.v900 trip_k0_t1.sl.HW_arg12_8 View.readCov
  simp (discharger := decide) only [↓readAt_miss]
  exact readAt_hit ..

/-- Chain 6, second block of the trip. -/
theorem second_6 :
    (⟨trip_k0_t1.sl.v912 i arg5 arg9 arg11 arg12 v13 v14 v22 v23 v31 v32 v40 v41 X_arg5 k f_arg9 f_arg11,
      trip_k0_t1.sl.v921 i arg5 arg9 arg10 arg11 arg12 v13 v14 v22 v23 v31 v32 v40 v41 X_arg5 k f_arg9 f_arg10 f_arg11,
      trip_k0_t1.sl.v931 i arg5 arg6 arg8 arg9 arg11 arg12 v13 v14 v22 v23 v31 v32 v40 v41 X_arg5 X_arg6 k f_arg8 f_arg9 f_arg11⟩ : Chain F)
      = (⟨trip_k0_t1.sl.v898 i arg5 arg9 arg11 arg12 v13 v14 v22 v23 v31 v32 v40 v41 X_arg5 k f_arg9 f_arg11,
      trip_k0_t1.sl.v913 i arg5 arg9 arg10 arg11 arg12 v13 v14 v22 v23 v31 v32 v40 v41 X_arg5 k f_arg9 f_arg10 f_arg11,
      trip_k0_t1.sl.v922 i arg5 arg6 arg8 arg9 arg11 arg12 v13 v14 v22 v23 v31 v32 v40 v41 X_arg5 X_arg6 k f_arg8 f_arg9 f_arg11⟩ : Chain F).up
        (flat (trip_k0_t1.sl.v900 i arg5 arg12 v13 v14 v22 v23 v31 v32 v40 v41 X_arg5 k)) (View.readAt (Elt F) arg6.view (Rect.unit (s := S8x512x512) (k0_off12 i k) S1x128x512.size (k0_off12_inb i k)).toLoadRect X_arg6) := rfl

/-- Chain 7, first block of the trip. -/
theorem first_7 :
    (⟨trip_k0_t1.sl.v614 arg9 arg11 f_arg9 f_arg11,
      trip_k0_t1.sl.v623 arg9 arg10 arg11 f_arg9 f_arg10 f_arg11,
      trip_k0_t1.sl.v633 i arg6 arg8 arg9 arg11 X_arg6 k f_arg8 f_arg9 f_arg11⟩ : Chain F)
      = (chainAt arg8 arg9 arg10 f_arg8 f_arg9 f_arg10 7 (by norm_num)).up (flat (scoreAt arg11 f_arg11 7 (by norm_num)))
        (View.readAt (Elt F) arg6.view (Rect.unit (s := S8x512x512) (k0_off8 i k) S1x128x512.size (k0_off8_inb i k)).toLoadRect X_arg6) := rfl

/-- Chain 7 is read back as the first block left it. -/
theorem back_7 :
    (⟨trip_k0_t1.sl.v932 i arg5 arg9 arg11 arg12 v13 v14 v22 v23 v31 v32 v40 v41 X_arg5 k f_arg9 f_arg11,
      trip_k0_t1.sl.v947 i arg5 arg9 arg10 arg11 arg12 v13 v14 v22 v23 v31 v32 v40 v41 X_arg5 k f_arg9 f_arg10 f_arg11,
      trip_k0_t1.sl.v956 i arg5 arg6 arg8 arg9 arg11 arg12 v13 v14 v22 v23 v31 v32 v40 v41 X_arg5 X_arg6 k f_arg8 f_arg9 f_arg11⟩ : Chain F)
      = (⟨trip_k0_t1.sl.v614 arg9 arg11 f_arg9 f_arg11,
      trip_k0_t1.sl.v623 arg9 arg10 arg11 f_arg9 f_arg10 f_arg11,
      trip_k0_t1.sl.v633 i arg6 arg8 arg9 arg11 X_arg6 k f_arg8 f_arg9 f_arg11⟩ : Chain F) := by
  congr 1
  · unfold trip_k0_t1.sl.v932 trip_k0_t1.sl.HW_arg9_15 trip_k0_t1.sl.HW_arg9_14 trip_k0_t1.sl.HW_arg9_13 trip_k0_t1.sl.HW_arg9_12 trip_k0_t1.sl.HW_arg9_11 trip_k0_t1.sl.HW_arg9_10 trip_k0_t1.sl.HW_arg9_9 trip_k0_t1.sl.HW_arg9_8 View.readCov
    simp (discharger := decide) only [↓readAt_miss]
    exact readAt_hit ..
  · unfold trip_k0_t1.sl.v947 trip_k0_t1.sl.HW_arg10_15 trip_k0_t1.sl.HW_arg10_14 trip_k0_t1.sl.HW_arg10_13 trip_k0_t1.sl.HW_arg10_12 trip_k0_t1.sl.HW_arg10_11 trip_k0_t1.sl.HW_arg10_10 trip_k0_t1.sl.HW_arg10_9 trip_k0_t1.sl.HW_arg10_8 View.readCov
    simp (discharger := decide) only [↓readAt_miss]
    exact readAt_hit ..
  · unfold trip_k0_t1.sl.v956 trip_k0_t1.sl.HW_arg8_15 trip_k0_t1.sl.HW_arg8_14 trip_k0_t1.sl.HW_arg8_13 trip_k0_t1.sl.HW_arg8_12 trip_k0_t1.sl.HW_arg8_11 trip_k0_t1.sl.HW_arg8_10 trip_k0_t1.sl.HW_arg8_9 trip_k0_t1.sl.HW_arg8_8 View.readCov
    simp (discharger := decide) only [↓readAt_miss]
    exact readAt_hit ..

/-- The scores of chain 7 against the trip's second block. -/
theorem scores_7 :
    trip_k0_t1.sl.v934 i arg5 arg12 v13 v14 v22 v23 v31 v32 v40 v41 X_arg5 k
      = score (View.readAt (Elt F) arg5.view (Rect.unit (s := S4096x512) (k0_off4 i k 1#32) S512x128.size (k0_off4_inb i k 0)).toLoadRect X_arg5) v41 := by
  unfold trip_k0_t1.sl.v934 trip_k0_t1.sl.HW_arg12_8 View.readCov
  simp (discharger := decide) only [↓readAt_miss]
  exact readAt_hit ..

/-- Chain 7, second block of the trip. -/
theorem second_7 :
    (⟨trip_k0_t1.sl.v946 i arg5 arg9 arg11 arg12 v13 v14 v22 v23 v31 v32 v40 v41 X_arg5 k f_arg9 f_arg11,
      trip_k0_t1.sl.v955 i arg5 arg9 arg10 arg11 arg12 v13 v14 v22 v23 v31 v32 v40 v41 X_arg5 k f_arg9 f_arg10 f_arg11,
      k0_pay607 (trip_k0_t1.sl.v962 i arg5 arg6 arg8 arg9 arg11 arg12 v13 v14 v22 v23 v31 v32 v40 v41 X_arg5 X_arg6 k f_arg8 f_arg9 f_arg11)⟩ : Chain F)
      = (⟨trip_k0_t1.sl.v932 i arg5 arg9 arg11 arg12 v13 v14 v22 v23 v31 v32 v40 v41 X_arg5 k f_arg9 f_arg11,
      trip_k0_t1.sl.v947 i arg5 arg9 arg10 arg11 arg12 v13 v14 v22 v23 v31 v32 v40 v41 X_arg5 k f_arg9 f_arg10 f_arg11,
      trip_k0_t1.sl.v956 i arg5 arg6 arg8 arg9 arg11 arg12 v13 v14 v22 v23 v31 v32 v40 v41 X_arg5 X_arg6 k f_arg8 f_arg9 f_arg11⟩ : Chain F).up
        (flat (trip_k0_t1.sl.v934 i arg5 arg12 v13 v14 v22 v23 v31 v32 v40 v41 X_arg5 k)) (View.readAt (Elt F) arg6.view (Rect.unit (s := S8x512x512) (k0_off12 i k) S1x128x512.size (k0_off12_inb i k)).toLoadRect X_arg6) := rfl

end Cert.Proof
-- ==== Proof.Trip.lean ====
module

public import proofs.«01_k».proof.Proof.TripA
public import proofs.«01_k».proof.Proof.TripB

/-! One trip of the kernel's main loop, chain by chain: together, and with the blocks of keys and values named. Before the trip a score
    buffer holds the scores of block `2k`; the trip scores block `2k+1`, takes in block `2k`, scores
    block `2k+2` and takes in block `2k+1`. -/

@[expose] public section

set_option maxRecDepth 16384

noncomputable section

open Cert.KernelIdeal Cert.KernelIdeal.Gen Idealize.ShloMosaic Idealize.ShloMosaic.TcCoe Idealize.SL.Sem

namespace Cert.Proof

variable {F : FTy → Type} [FloatOps F] [Named F]

/-! ### The places that a trip loads from -/

theorem off1_at1 : ∀ (i : grid0.Coords) (k : Fin (k0_t1_loop i).trips),
    k0_off1 i k 1#32 = ![512 * (2 * k.val + 1), 128 * 0] := by decide +kernel

theorem off1_at2 : ∀ (i : grid0.Coords) (k : Fin (k0_t1_loop i).trips),
    k0_off1 i k 2#32 = ![512 * (2 * k.val + 2), 128 * 0] := by decide +kernel

theorem off5_at : ∀ (i : grid0.Coords) (k : Fin (k0_t1_loop i).trips),
    k0_off5 i k = ![2 * k.val, 128 * 0, 0] := by decide +kernel

theorem off9_at : ∀ (i : grid0.Coords) (k : Fin (k0_t1_loop i).trips),
    k0_off9 i k = ![2 * k.val + 1, 128 * 0, 0] := by decide +kernel

theorem off2_at1 : ∀ (i : grid0.Coords) (k : Fin (k0_t1_loop i).trips),
    k0_off2 i k 1#32 = ![512 * (2 * k.val + 1), 128 * 1] := by decide +kernel

theorem off2_at2 : ∀ (i : grid0.Coords) (k : Fin (k0_t1_loop i).trips),
    k0_off2 i k 2#32 = ![512 * (2 * k.val + 2), 128 * 1] := by decide +kernel

theorem off6_at : ∀ (i : grid0.Coords) (k : Fin (k0_t1_loop i).trips),
    k0_off6 i k = ![2 * k.val, 128 * 1, 0] := by decide +kernel

theorem off10_at : ∀ (i : grid0.Coords) (k : Fin (k0_t1_loop i).trips),
    k0_off10 i k = ![2 * k.val + 1, 128 * 1, 0] := by decide +kernel

theorem off3_at1 : ∀ (i : grid0.Coords) (k : Fin (k0_t1_loop i).trips),
    k0_off3 i k 1#32 = ![512 * (2 * k.val + 1), 128 * 2] := by decide +kernel

theorem off3_at2 : ∀ (i : grid0.Coords) (k : Fin (k0_t1_loop i).trips),
    k0_off3 i k 2#32 = ![512 * (2 * k.val + 2), 128 * 2] := by decide +kernel

theorem off7_at : ∀ (i : grid0.Coords) (k : Fin (k0_t1_loop i).trips),
    k0_off7 i k = ![2 * k.val, 128 * 2, 0] := by decide +kernel

theorem off11_at : ∀ (i : grid0.Coords) (k : Fin (k0_t1_loop i).trips),
    k0_off11 i k = ![2 * k.val + 1, 128 * 2, 0] := by decide +kernel

theorem off4_at1 : ∀ (i : grid0.Coords) (k : Fin (k0_t1_loop i).trips),
    k0_off4 i k 1#32 = ![512 * (2 * k.val + 1), 128 * 3] := by decide +kernel

theorem off4_at2 : ∀ (i : grid0.Coords) (k : Fin (k0_t1_loop i).trips),
    k0_off4 i k 2#32 = ![512 * (2 * k.val + 2), 128 * 3] := by decide +kernel

theorem off8_at : ∀ (i : grid0.Coords) (k : Fin (k0_t1_loop i).trips),
    k0_off8 i k = ![2 * k.val, 128 * 3, 0] := by decide +kernel

theorem off12_at : ∀ (i : grid0.Coords) (k : Fin (k0_t1_loop i).trips),
    k0_off12 i k = ![2 * k.val + 1, 128 * 3, 0] := by decide +kernel

theorem trip_lt (i : grid0.Coords) (k : Fin (k0_t1_loop i).trips) : k.val < 3 :=
  Nat.lt_of_lt_of_le k.isLt (k0_t1_abs i).2.1

/-! ### The trip -/

variable (𝒱 : Variants) (c : Dev nD) (bd : Option 𝒱.V) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (arg1 : BitVec 32)
    (v13 : FVec F S128x512 .bf16) (v14 : FVec F S128x512 .bf16) (v22 : FVec F S128x512 .bf16)
    (v23 : FVec F S128x512 .bf16) (v31 : FVec F S128x512 .bf16) (v32 : FVec F S128x512 .bf16)
    (v40 : FVec F S128x512 .bf16) (v41 : FVec F S128x512 .bf16) (v71 : BitVec 32)
    (v101 : FVec F S512x512 .f32) (x3 : Vec F S4096x512 .bf16) (x4 : Vec F S8x512x512 .bf16)
    (k : Fin (k0_t1_loop i).trips) (acc : BitVec 32) (f_arg8 : BufTy.Contents (Elt F) arg8.view.ty)
    (f_arg9 : BufTy.Contents (Elt F) arg9.view.ty) (f_arg10 : BufTy.Contents (Elt F) arg10.view.ty)
    (f_arg11 : BufTy.Contents (Elt F) arg11.view.ty) (f_arg12 : BufTy.Contents (Elt F) arg12.view.ty)

/-- What a trip does to chain 0, and the scores it leaves for the next one. -/
theorem trip_0 :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) 0 (by norm_num)
      = ((chainAt arg8 arg9 arg10 f_arg8 f_arg9 f_arg10 0 (by norm_num)).up
          (flat (scoreAt arg11 f_arg11 0 (by norm_num))) (vblk x4 0 (2 * k.val))).up
          (flat (score (kblk x3 0 (2 * k.val + 1)) v13)) (vblk x4 0 (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) 0 (by norm_num)
      = score (kblk x3 0 (2 * k.val + 2)) v13 := by
  have hk := trip_lt i k
  unfold tripL_k0_t1 trip_k0_t1
  dsimp only
  constructor
  · refine Eq.trans (b := (⟨trip_k0_t1.sl.v699 i arg5 arg9 arg11 arg12 v13 v14 v22 v23 v31 v32 v40 v41 (harg5.unread x3) k f_arg9 f_arg11,
      trip_k0_t1.sl.v708 i arg5 arg9 arg10 arg11 arg12 v13 v14 v22 v23 v31 v32 v40 v41 (harg5.unread x3) k f_arg9 f_arg10 f_arg11,
      trip_k0_t1.sl.v718 i arg5 arg6 arg8 arg9 arg11 arg12 v13 v14 v22 v23 v31 v32 v40 v41 (harg5.unread x3) (harg6.unread x4) k f_arg8 f_arg9 f_arg11⟩ : Chain F)) ?_ ?_
    · unfold chainAt
      congr 1
      · unfold trip_k0_t1.sl.HW_arg9_15 trip_k0_t1.sl.HW_arg9_14 trip_k0_t1.sl.HW_arg9_13 trip_k0_t1.sl.HW_arg9_12 trip_k0_t1.sl.HW_arg9_11 trip_k0_t1.sl.HW_arg9_10 trip_k0_t1.sl.HW_arg9_9
        simp (discharger := decide) only [↓readAt_miss]
        exact readAt_hit ..
      · unfold trip_k0_t1.sl.HW_arg10_15 trip_k0_t1.sl.HW_arg10_14 trip_k0_t1.sl.HW_arg10_13 trip_k0_t1.sl.HW_arg10_12 trip_k0_t1.sl.HW_arg10_11 trip_k0_t1.sl.HW_arg10_10 trip_k0_t1.sl.HW_arg10_9
        simp (discharger := decide) only [↓readAt_miss]
        exact readAt_hit ..
      · unfold trip_k0_t1.sl.HW_arg8_15 trip_k0_t1.sl.HW_arg8_14 trip_k0_t1.sl.HW_arg8_13 trip_k0_t1.sl.HW_arg8_12 trip_k0_t1.sl.HW_arg8_11 trip_k0_t1.sl.HW_arg8_10 trip_k0_t1.sl.HW_arg8_9
        simp (discharger := decide) only [↓readAt_miss]
        exact readAt_hit ..
    · rw [second_0, back_0, first_0, scores_0,
        readAt_kblk harg5 x3 0 (2 * k.val + 1) (by norm_num) (by omega) (off1_at1 i k),
        readAt_vblk harg6 x4 0 (2 * k.val) (by norm_num) (by omega) (off5_at i k),
        readAt_vblk harg6 x4 0 (2 * k.val + 1) (by norm_num) (by omega) (off9_at i k)]
  · unfold scoreAt
    simp (discharger := decide) only [↓readAt_miss]
    rw [← readAt_kblk harg5 x3 0 (2 * k.val + 2) (by norm_num) (by omega) (off1_at2 i k) (k0_off1_inb i k 1)]
    exact readAt_hit ..

/-- What a trip does to chain 1, and the scores it leaves for the next one. -/
theorem trip_1 :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) 1 (by norm_num)
      = ((chainAt arg8 arg9 arg10 f_arg8 f_arg9 f_arg10 1 (by norm_num)).up
          (flat (scoreAt arg11 f_arg11 1 (by norm_num))) (vblk x4 0 (2 * k.val))).up
          (flat (score (kblk x3 0 (2 * k.val + 1)) v14)) (vblk x4 0 (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) 1 (by norm_num)
      = score (kblk x3 0 (2 * k.val + 2)) v14 := by
  have hk := trip_lt i k
  unfold tripL_k0_t1 trip_k0_t1
  dsimp only
  constructor
  · refine Eq.trans (b := (⟨trip_k0_t1.sl.v733 i arg5 arg9 arg11 arg12 v13 v14 v22 v23 v31 v32 v40 v41 (harg5.unread x3) k f_arg9 f_arg11,
      trip_k0_t1.sl.v742 i arg5 arg9 arg10 arg11 arg12 v13 v14 v22 v23 v31 v32 v40 v41 (harg5.unread x3) k f_arg9 f_arg10 f_arg11,
      trip_k0_t1.sl.v752 i arg5 arg6 arg8 arg9 arg11 arg12 v13 v14 v22 v23 v31 v32 v40 v41 (harg5.unread x3) (harg6.unread x4) k f_arg8 f_arg9 f_arg11⟩ : Chain F)) ?_ ?_
    · unfold chainAt
      congr 1
      · unfold trip_k0_t1.sl.HW_arg9_15 trip_k0_t1.sl.HW_arg9_14 trip_k0_t1.sl.HW_arg9_13 trip_k0_t1.sl.HW_arg9_12 trip_k0_t1.sl.HW_arg9_11 trip_k0_t1.sl.HW_arg9_10
        simp (discharger := decide) only [↓readAt_miss]
        exact readAt_hit ..
      · unfold trip_k0_t1.sl.HW_arg10_15 trip_k0_t1.sl.HW_arg10_14 trip_k0_t1.sl.HW_arg10_13 trip_k0_t1.sl.HW_arg10_12 trip_k0_t1.sl.HW_arg10_11 trip_k0_t1.sl.HW_arg10_10
        simp (discharger := decide) only [↓readAt_miss]
        exact readAt_hit ..
      · unfold trip_k0_t1.sl.HW_arg8_15 trip_k0_t1.sl.HW_arg8_14 trip_k0_t1.sl.HW_arg8_13 trip_k0_t1.sl.HW_arg8_12 trip_k0_t1.sl.HW_arg8_11 trip_k0_t1.sl.HW_arg8_10
        simp (discharger := decide) only [↓readAt_miss]
        exact readAt_hit ..
    · rw [second_1, back_1, first_1, scores_1,
        readAt_kblk harg5 x3 0 (2 * k.val + 1) (by norm_num) (by omega) (off1_at1 i k),
        readAt_vblk harg6 x4 0 (2 * k.val) (by norm_num) (by omega) (off5_at i k),
        readAt_vblk harg6 x4 0 (2 * k.val + 1) (by norm_num) (by omega) (off9_at i k)]
  · unfold scoreAt
    simp (discharger := decide) only [↓readAt_miss]
    rw [← readAt_kblk harg5 x3 0 (2 * k.val + 2) (by norm_num) (by omega) (off1_at2 i k) (k0_off1_inb i k 1)]
    exact readAt_hit ..

/-- What a trip does to chain 2, and the scores it leaves for the next one. -/
theorem trip_2 :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) 2 (by norm_num)
      = ((chainAt arg8 arg9 arg10 f_arg8 f_arg9 f_arg10 2 (by norm_num)).up
          (flat (scoreAt arg11 f_arg11 2 (by norm_num))) (vblk x4 1 (2 * k.val))).up
          (flat (score (kblk x3 1 (2 * k.val + 1)) v22)) (vblk x4 1 (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) 2 (by norm_num)
      = score (kblk x3 1 (2 * k.val + 2)) v22 := by
  have hk := trip_lt i k
  unfold tripL_k0_t1 trip_k0_t1
  dsimp only
  constructor
  · refine Eq.trans (b := (⟨trip_k0_t1.sl.v770 i arg5 arg9 arg11 arg12 v13 v14 v22 v23 v31 v32 v40 v41 (harg5.unread x3) k f_arg9 f_arg11,
      trip_k0_t1.sl.v779 i arg5 arg9 arg10 arg11 arg12 v13 v14 v22 v23 v31 v32 v40 v41 (harg5.unread x3) k f_arg9 f_arg10 f_arg11,
      trip_k0_t1.sl.v789 i arg5 arg6 arg8 arg9 arg11 arg12 v13 v14 v22 v23 v31 v32 v40 v41 (harg5.unread x3) (harg6.unread x4) k f_arg8 f_arg9 f_arg11⟩ : Chain F)) ?_ ?_
    · unfold chainAt
      congr 1
      · unfold trip_k0_t1.sl.HW_arg9_15 trip_k0_t1.sl.HW_arg9_14 trip_k0_t1.sl.HW_arg9_13 trip_k0_t1.sl.HW_arg9_12 trip_k0_t1.sl.HW_arg9_11
        simp (discharger := decide) only [↓readAt_miss]
        exact readAt_hit ..
      · unfold trip_k0_t1.sl.HW_arg10_15 trip_k0_t1.sl.HW_arg10_14 trip_k0_t1.sl.HW_arg10_13 trip_k0_t1.sl.HW_arg10_12 trip_k0_t1.sl.HW_arg10_11
        simp (discharger := decide) only [↓readAt_miss]
        exact readAt_hit ..
      · unfold trip_k0_t1.sl.HW_arg8_15 trip_k0_t1.sl.HW_arg8_14 trip_k0_t1.sl.HW_arg8_13 trip_k0_t1.sl.HW_arg8_12 trip_k0_t1.sl.HW_arg8_11
        simp (discharger := decide) only [↓readAt_miss]
        exact readAt_hit ..
    · rw [second_2, back_2, first_2, scores_2,
        readAt_kblk harg5 x3 1 (2 * k.val + 1) (by norm_num) (by omega) (off2_at1 i k),
        readAt_vblk harg6 x4 1 (2 * k.val) (by norm_num) (by omega) (off6_at i k),
        readAt_vblk harg6 x4 1 (2 * k.val + 1) (by norm_num) (by omega) (off10_at i k)]
  · unfold scoreAt
    simp (discharger := decide) only [↓readAt_miss]
    rw [← readAt_kblk harg5 x3 1 (2 * k.val + 2) (by norm_num) (by omega) (off2_at2 i k) (k0_off2_inb i k 1)]
    exact readAt_hit ..

/-- What a trip does to chain 3, and the scores it leaves for the next one. -/
theorem trip_3 :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) 3 (by norm_num)
      = ((chainAt arg8 arg9 arg10 f_arg8 f_arg9 f_arg10 3 (by norm_num)).up
          (flat (scoreAt arg11 f_arg11 3 (by norm_num))) (vblk x4 1 (2 * k.val))).up
          (flat (score (kblk x3 1 (2 * k.val + 1)) v23)) (vblk x4 1 (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) 3 (by norm_num)
      = score (kblk x3 1 (2 * k.val + 2)) v23 := by
  have hk := trip_lt i k
  unfold tripL_k0_t1 trip_k0_t1
  dsimp only
  constructor
  · refine Eq.trans (b := (⟨trip_k0_t1.sl.v804 i arg5 arg9 arg11 arg12 v13 v14 v22 v23 v31 v32 v40 v41 (harg5.unread x3) k f_arg9 f_arg11,
      trip_k0_t1.sl.v813 i arg5 arg9 arg10 arg11 arg12 v13 v14 v22 v23 v31 v32 v40 v41 (harg5.unread x3) k f_arg9 f_arg10 f_arg11,
      trip_k0_t1.sl.v823 i arg5 arg6 arg8 arg9 arg11 arg12 v13 v14 v22 v23 v31 v32 v40 v41 (harg5.unread x3) (harg6.unread x4) k f_arg8 f_arg9 f_arg11⟩ : Chain F)) ?_ ?_
    · unfold chainAt
      congr 1
      · unfold trip_k0_t1.sl.HW_arg9_15 trip_k0_t1.sl.HW_arg9_14 trip_k0_t1.sl.HW_arg9_13 trip_k0_t1.sl.HW_arg9_12
        simp (discharger := decide) only [↓readAt_miss]
        exact readAt_hit ..
      · unfold trip_k0_t1.sl.HW_arg10_15 trip_k0_t1.sl.HW_arg10_14 trip_k0_t1.sl.HW_arg10_13 trip_k0_t1.sl.HW_arg10_12
        simp (discharger := decide) only [↓readAt_miss]
        exact readAt_hit ..
      · unfold trip_k0_t1.sl.HW_arg8_15 trip_k0_t1.sl.HW_arg8_14 trip_k0_t1.sl.HW_arg8_13 trip_k0_t1.sl.HW_arg8_12
        simp (discharger := decide) only [↓readAt_miss]
        exact readAt_hit ..
    · rw [second_3, back_3, first_3, scores_3,
        readAt_kblk harg5 x3 1 (2 * k.val + 1) (by norm_num) (by omega) (off2_at1 i k),
        readAt_vblk harg6 x4 1 (2 * k.val) (by norm_num) (by omega) (off6_at i k),
        readAt_vblk harg6 x4 1 (2 * k.val + 1) (by norm_num) (by omega) (off10_at i k)]
  · unfold scoreAt
    simp (discharger := decide) only [↓readAt_miss]
    rw [← readAt_kblk harg5 x3 1 (2 * k.val + 2) (by norm_num) (by omega) (off2_at2 i k) (k0_off2_inb i k 1)]
    exact readAt_hit ..

/-- What a trip does to chain 4, and the scores it leaves for the next one. -/
theorem trip_4 :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) 4 (by norm_num)
      = ((chainAt arg8 arg9 arg10 f_arg8 f_arg9 f_arg10 4 (by norm_num)).up
          (flat (scoreAt arg11 f_arg11 4 (by norm_num))) (vblk x4 2 (2 * k.val))).up
          (flat (score (kblk x3 2 (2 * k.val + 1)) v31)) (vblk x4 2 (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) 4 (by norm_num)
      = score (kblk x3 2 (2 * k.val + 2)) v31 := by
  have hk := trip_lt i k
  unfold tripL_k0_t1 trip_k0_t1
  dsimp only
  constructor
  · refine Eq.trans (b := (⟨trip_k0_t1.sl.v841 i arg5 arg9 arg11 arg12 v13 v14 v22 v23 v31 v32 v40 v41 (harg5.unread x3) k f_arg9 f_arg11,
      trip_k0_t1.sl.v850 i arg5 arg9 arg10 arg11 arg12 v13 v14 v22 v23 v31 v32 v40 v41 (harg5.unread x3) k f_arg9 f_arg10 f_arg11,
      trip_k0_t1.sl.v860 i arg5 arg6 arg8 arg9 arg11 arg12 v13 v14 v22 v23 v31 v32 v40 v41 (harg5.unread x3) (harg6.unread x4) k f_arg8 f_arg9 f_arg11⟩ : Chain F)) ?_ ?_
    · unfold chainAt
      congr 1
      · unfold trip_k0_t1.sl.HW_arg9_15 trip_k0_t1.sl.HW_arg9_14 trip_k0_t1.sl.HW_arg9_13
        simp (discharger := decide) only [↓readAt_miss]
        exact readAt_hit ..
      · unfold trip_k0_t1.sl.HW_arg10_15 trip_k0_t1.sl.HW_arg10_14 trip_k0_t1.sl.HW_arg10_13
        simp (discharger := decide) only [↓readAt_miss]
        exact readAt_hit ..
      · unfold trip_k0_t1.sl.HW_arg8_15 trip_k0_t1.sl.HW_arg8_14 trip_k0_t1.sl.HW_arg8_13
        simp (discharger := decide) only [↓readAt_miss]
        exact readAt_hit ..
    · rw [second_4, back_4, first_4, scores_4,
        readAt_kblk harg5 x3 2 (2 * k.val + 1) (by norm_num) (by omega) (off3_at1 i k),
        readAt_vblk harg6 x4 2 (2 * k.val) (by norm_num) (by omega) (off7_at i k),
        readAt_vblk harg6 x4 2 (2 * k.val + 1) (by norm_num) (by omega) (off11_at i k)]
  · unfold scoreAt
    simp (discharger := decide) only [↓readAt_miss]
    rw [← readAt_kblk harg5 x3 2 (2 * k.val + 2) (by norm_num) (by omega) (off3_at2 i k) (k0_off3_inb i k 1)]
    exact readAt_hit ..

/-- What a trip does to chain 5, and the scores it leaves for the next one. -/
theorem trip_5 :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) 5 (by norm_num)
      = ((chainAt arg8 arg9 arg10 f_arg8 f_arg9 f_arg10 5 (by norm_num)).up
          (flat (scoreAt arg11 f_arg11 5 (by norm_num))) (vblk x4 2 (2 * k.val))).up
          (flat (score (kblk x3 2 (2 * k.val + 1)) v32)) (vblk x4 2 (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) 5 (by norm_num)
      = score (kblk x3 2 (2 * k.val + 2)) v32 := by
  have hk := trip_lt i k
  unfold tripL_k0_t1 trip_k0_t1
  dsimp only
  constructor
  · refine Eq.trans (b := (⟨trip_k0_t1.sl.v875 i arg5 arg9 arg11 arg12 v13 v14 v22 v23 v31 v32 v40 v41 (harg5.unread x3) k f_arg9 f_arg11,
      trip_k0_t1.sl.v884 i arg5 arg9 arg10 arg11 arg12 v13 v14 v22 v23 v31 v32 v40 v41 (harg5.unread x3) k f_arg9 f_arg10 f_arg11,
      trip_k0_t1.sl.v894 i arg5 arg6 arg8 arg9 arg11 arg12 v13 v14 v22 v23 v31 v32 v40 v41 (harg5.unread x3) (harg6.unread x4) k f_arg8 f_arg9 f_arg11⟩ : Chain F)) ?_ ?_
    · unfold chainAt
      congr 1
      · unfold trip_k0_t1.sl.HW_arg9_15 trip_k0_t1.sl.HW_arg9_14
        simp (discharger := decide) only [↓readAt_miss]
        exact readAt_hit ..
      · unfold trip_k0_t1.sl.HW_arg10_15 trip_k0_t1.sl.HW_arg10_14
        simp (discharger := decide) only [↓readAt_miss]
        exact readAt_hit ..
      · unfold trip_k0_t1.sl.HW_arg8_15 trip_k0_t1.sl.HW_arg8_14
        simp (discharger := decide) only [↓readAt_miss]
        exact readAt_hit ..
    · rw [second_5, back_5, first_5, scores_5,
        readAt_kblk harg5 x3 2 (2 * k.val + 1) (by norm_num) (by omega) (off3_at1 i k),
        readAt_vblk harg6 x4 2 (2 * k.val) (by norm_num) (by omega) (off7_at i k),
        readAt_vblk harg6 x4 2 (2 * k.val + 1) (by norm_num) (by omega) (off11_at i k)]
  · unfold scoreAt
    simp (discharger := decide) only [↓readAt_miss]
    rw [← readAt_kblk harg5 x3 2 (2 * k.val + 2) (by norm_num) (by omega) (off3_at2 i k) (k0_off3_inb i k 1)]
    exact readAt_hit ..

/-- What a trip does to chain 6, and the scores it leaves for the next one. -/
theorem trip_6 :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) 6 (by norm_num)
      = ((chainAt arg8 arg9 arg10 f_arg8 f_arg9 f_arg10 6 (by norm_num)).up
          (flat (scoreAt arg11 f_arg11 6 (by norm_num))) (vblk x4 3 (2 * k.val))).up
          (flat (score (kblk x3 3 (2 * k.val + 1)) v40)) (vblk x4 3 (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) 6 (by norm_num)
      = score (kblk x3 3 (2 * k.val + 2)) v40 := by
  have hk := trip_lt i k
  unfold tripL_k0_t1 trip_k0_t1
  dsimp only
  constructor
  · refine Eq.trans (b := (⟨trip_k0_t1.sl.v912 i arg5 arg9 arg11 arg12 v13 v14 v22 v23 v31 v32 v40 v41 (harg5.unread x3) k f_arg9 f_arg11,
      trip_k0_t1.sl.v921 i arg5 arg9 arg10 arg11 arg12 v13 v14 v22 v23 v31 v32 v40 v41 (harg5.unread x3) k f_arg9 f_arg10 f_arg11,
      trip_k0_t1.sl.v931 i arg5 arg6 arg8 arg9 arg11 arg12 v13 v14 v22 v23 v31 v32 v40 v41 (harg5.unread x3) (harg6.unread x4) k f_arg8 f_arg9 f_arg11⟩ : Chain F)) ?_ ?_
    · unfold chainAt
      congr 1
      · unfold trip_k0_t1.sl.HW_arg9_15
        simp (discharger := decide) only [↓readAt_miss]
        exact readAt_hit ..
      · unfold trip_k0_t1.sl.HW_arg10_15
        simp (discharger := decide) only [↓readAt_miss]
        exact readAt_hit ..
      · unfold trip_k0_t1.sl.HW_arg8_15
        simp (discharger := decide) only [↓readAt_miss]
        exact readAt_hit ..
    · rw [second_6, back_6, first_6, scores_6,
        readAt_kblk harg5 x3 3 (2 * k.val + 1) (by norm_num) (by omega) (off4_at1 i k),
        readAt_vblk harg6 x4 3 (2 * k.val) (by norm_num) (by omega) (off8_at i k),
        readAt_vblk harg6 x4 3 (2 * k.val + 1) (by norm_num) (by omega) (off12_at i k)]
  · unfold scoreAt
    simp (discharger := decide) only [↓readAt_miss]
    rw [← readAt_kblk harg5 x3 3 (2 * k.val + 2) (by norm_num) (by omega) (off4_at2 i k) (k0_off4_inb i k 1)]
    exact readAt_hit ..

/-- What a trip does to chain 7, and the scores it leaves for the next one. -/
theorem trip_7 :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) 7 (by norm_num)
      = ((chainAt arg8 arg9 arg10 f_arg8 f_arg9 f_arg10 7 (by norm_num)).up
          (flat (scoreAt arg11 f_arg11 7 (by norm_num))) (vblk x4 3 (2 * k.val))).up
          (flat (score (kblk x3 3 (2 * k.val + 1)) v41)) (vblk x4 3 (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) 7 (by norm_num)
      = score (kblk x3 3 (2 * k.val + 2)) v41 := by
  have hk := trip_lt i k
  unfold tripL_k0_t1 trip_k0_t1
  dsimp only
  constructor
  · refine Eq.trans (b := (⟨trip_k0_t1.sl.v946 i arg5 arg9 arg11 arg12 v13 v14 v22 v23 v31 v32 v40 v41 (harg5.unread x3) k f_arg9 f_arg11,
      trip_k0_t1.sl.v955 i arg5 arg9 arg10 arg11 arg12 v13 v14 v22 v23 v31 v32 v40 v41 (harg5.unread x3) k f_arg9 f_arg10 f_arg11,
      k0_pay607 (trip_k0_t1.sl.v962 i arg5 arg6 arg8 arg9 arg11 arg12 v13 v14 v22 v23 v31 v32 v40 v41 (harg5.unread x3) (harg6.unread x4) k f_arg8 f_arg9 f_arg11)⟩ : Chain F)) ?_ ?_
    · unfold chainAt
      congr 1
      · exact readAt_hit ..
      · exact readAt_hit ..
      · exact readAt_hit ..
    · rw [second_7, back_7, first_7, scores_7,
        readAt_kblk harg5 x3 3 (2 * k.val + 1) (by norm_num) (by omega) (off4_at1 i k),
        readAt_vblk harg6 x4 3 (2 * k.val) (by norm_num) (by omega) (off8_at i k),
        readAt_vblk harg6 x4 3 (2 * k.val + 1) (by norm_num) (by omega) (off12_at i k)]
  · unfold scoreAt
    simp (discharger := decide) only [↓readAt_miss]
    rw [← readAt_kblk harg5 x3 3 (2 * k.val + 2) (by norm_num) (by omega) (off4_at2 i k) (k0_off4_inb i k 1)]
    exact readAt_hit ..

end Cert.Proof
-- ==== Proof.Loop.lean ====
module

public import proofs.«01_k».proof.Proof.Trip

/-! The kernel's main loop takes in the key blocks that every query of the block sees, two a trip:
    after `K` trips chain `n` has taken in blocks `0` to `2K - 1`, and the score buffer holds the
    scores of block `2K`. -/

@[expose] public section

set_option maxRecDepth 16384

noncomputable section

open Cert.KernelIdeal Cert.KernelIdeal.Gen Idealize.ShloMosaic Idealize.ShloMosaic.TcCoe Idealize.SL.Sem

namespace Cert.Proof

variable {F : FTy → Type} [FloatOps F] [Named F]

/-- A chain after the first `J` key blocks, none of them masked. -/
def Chain.over (x3 : Vec F S4096x512 .bf16) (x4 : Vec F S8x512x512 .bf16) (h : ℕ) (q : FVec F S128x512 .bf16)
    (c : Chain F) : ℕ → Chain F
  | 0 => c
  | J + 1 => (Chain.over x3 x4 h q c J).up (flat (score (kblk x3 h J) q)) (vblk x4 h J)

/-- The queries of chain `n`, of the eight that the kernel prepares. -/
def qAt (v13 v14 v22 v23 v31 v32 v40 v41 : FVec F S128x512 .bf16) (n : ℕ) : FVec F S128x512 .bf16 :=
  match n with
  | 0 => v13 | 1 => v14 | 2 => v22 | 3 => v23 | 4 => v31 | 5 => v32 | 6 => v40 | _ => v41

section

variable (𝒱 : Variants) (c : Dev nD) (bd : Option 𝒱.V) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (arg1 : BitVec 32)
    (v13 : FVec F S128x512 .bf16) (v14 : FVec F S128x512 .bf16) (v22 : FVec F S128x512 .bf16)
    (v23 : FVec F S128x512 .bf16) (v31 : FVec F S128x512 .bf16) (v32 : FVec F S128x512 .bf16)
    (v40 : FVec F S128x512 .bf16) (v41 : FVec F S128x512 .bf16) (v71 : BitVec 32)
    (v101 : FVec F S512x512 .f32) (x3 : Vec F S4096x512 .bf16) (x4 : Vec F S8x512x512 .bf16)
    (k : Fin (k0_t1_loop i).trips) (acc : BitVec 32) (f_arg8 : BufTy.Contents (Elt F) arg8.view.ty)
    (f_arg9 : BufTy.Contents (Elt F) arg9.view.ty) (f_arg10 : BufTy.Contents (Elt F) arg10.view.ty)
    (f_arg11 : BufTy.Contents (Elt F) arg11.view.ty) (f_arg12 : BufTy.Contents (Elt F) arg12.view.ty)

/-- What a trip does to any chain. -/
theorem trip_at (n : ℕ) (h : n < 8) :
    chainAt arg8 arg9 arg10
        (arg8.view.writes (Elt F) f_arg8 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).1)
        (arg9.view.writes (Elt F) f_arg9 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.1)
        (arg10.view.writes (Elt F) f_arg10 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.1) n h
      = ((chainAt arg8 arg9 arg10 f_arg8 f_arg9 f_arg10 n h).up
          (flat (scoreAt arg11 f_arg11 n h)) (vblk x4 (n / 2) (2 * k.val))).up
          (flat (score (kblk x3 (n / 2) (2 * k.val + 1)) (qAt v13 v14 v22 v23 v31 v32 v40 v41 n))) (vblk x4 (n / 2) (2 * k.val + 1))
    ∧ scoreAt arg11
        (arg11.view.writes (Elt F) f_arg11 (tripL_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) k acc f_arg8 f_arg9 f_arg10 f_arg11 f_arg12).2.2.2.1) n h
      = score (kblk x3 (n / 2) (2 * k.val + 2)) (qAt v13 v14 v22 v23 v31 v32 v40 v41 n) := by
  interval_cases n
  · exact trip_0 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 k acc f_arg8 f_arg9 f_arg10 f_arg11 f_arg12
  · exact trip_1 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 k acc f_arg8 f_arg9 f_arg10 f_arg11 f_arg12
  · exact trip_2 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 k acc f_arg8 f_arg9 f_arg10 f_arg11 f_arg12
  · exact trip_3 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 k acc f_arg8 f_arg9 f_arg10 f_arg11 f_arg12
  · exact trip_4 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 k acc f_arg8 f_arg9 f_arg10 f_arg11 f_arg12
  · exact trip_5 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 k acc f_arg8 f_arg9 f_arg10 f_arg11 f_arg12
  · exact trip_6 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 k acc f_arg8 f_arg9 f_arg10 f_arg11 f_arg12
  · exact trip_7 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 k acc f_arg8 f_arg9 f_arg10 f_arg11 f_arg12

end

variable (𝒱 : Variants) (c : Dev nD) (bd : Option 𝒱.V) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (arg1 : BitVec 32)
    (v13 : FVec F S128x512 .bf16) (v14 : FVec F S128x512 .bf16) (v22 : FVec F S128x512 .bf16)
    (v23 : FVec F S128x512 .bf16) (v31 : FVec F S128x512 .bf16) (v32 : FVec F S128x512 .bf16)
    (v40 : FVec F S128x512 .bf16) (v41 : FVec F S128x512 .bf16) (v71 : BitVec 32)
    (v101 : FVec F S512x512 .f32) (x3 : Vec F S4096x512 .bf16) (x4 : Vec F S8x512x512 .bf16)
    (G_arg8 : BufTy.Contents (Elt F) arg8.view.ty) (G_arg9 : BufTy.Contents (Elt F) arg9.view.ty)
    (G_arg10 : BufTy.Contents (Elt F) arg10.view.ty) (G_arg11 : BufTy.Contents (Elt F) arg11.view.ty)
    (G_arg12 : BufTy.Contents (Elt F) arg12.view.ty) (init : BitVec 32)

/-- After `n` pairs of blocks the chains have gone over `2 n` blocks of keys, and block `2 n` of the scores is ready. -/
theorem loop_at (n : ℕ) (h : n < 8)
    (hs : scoreAt arg11 G_arg11 n h = score (kblk x3 (n / 2) 0) (qAt v13 v14 v22 v23 v31 v32 v40 v41 n))
    (K : ℕ) (hK : K ≤ (k0_t1_loop i).trips) :
    chainAt arg8 arg9 arg10
        (arg8.view.writes (Elt F) G_arg8 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.1)
        (arg9.view.writes (Elt F) G_arg9 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.2.1)
        (arg10.view.writes (Elt F) G_arg10 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.2.2.1) n h
      = (chainAt arg8 arg9 arg10 G_arg8 G_arg9 G_arg10 n h).over x3 x4 (n / 2) (qAt v13 v14 v22 v23 v31 v32 v40 v41 n) (2 * K)
    ∧ scoreAt arg11 (arg11.view.writes (Elt F) G_arg11 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.2.2.2.1) n h
      = score (kblk x3 (n / 2) (2 * K)) (qAt v13 v14 v22 v23 v31 v32 v40 v41 n) := by
  induction K with
  | zero => exact ⟨rfl, hs⟩
  | succ K ih =>
    obtain ⟨ih1, ih2⟩ := ih (by omega)
    have hst := st_k0_t1_succ (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init ⟨K, hK⟩
    rw [hst]
    dsimp only
    rw [View.writes_append, View.writes_append, View.writes_append, View.writes_append]
    have ht := trip_at 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 ⟨K, hK⟩ (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).1 (arg8.view.writes (Elt F) G_arg8 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.1)
      (arg9.view.writes (Elt F) G_arg9 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.2.1) (arg10.view.writes (Elt F) G_arg10 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.2.2.1)
      (arg11.view.writes (Elt F) G_arg11 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.2.2.2.1) (arg12.view.writes (Elt F) G_arg12 (st_k0_t1 (F := F) 𝒱 c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) G_arg8 G_arg9 G_arg10 G_arg11 G_arg12 init K).2.2.2.2.2) n h
    refine ⟨ht.1.trans ?_, ht.2⟩
    rw [ih1, ih2]
    rfl

end Cert.Proof
-- ==== Proof.After.lean ====
module

public import proofs.«01_k».proof.Proof.Loop

/-! What the kernel's body does around its main loop, in terms of chains: the eight query blocks it
    prepares, the empty chains it starts from, the chains after the loop, the last block of keys,
    which is masked, and the normalised difference of two chains that it stores. -/

@[expose] public section

set_option maxRecDepth 16384

noncomputable section

open Cert.KernelIdeal Cert.KernelIdeal.Gen Idealize.ShloMosaic Idealize.ShloMosaic.TcCoe Idealize.SL.Sem

namespace Cert.Proof

variable {F : FTy → Type} [FloatOps F] [Named F]

/-- Head `h` of a block of queries, feature by query. -/
def qblk {α : Type} (x : S1x512x512.Idx → α) (h : ℕ) : S1x128x512.Idx → α := fun y =>
  x (ix3 0 ⟨(128 * h + (y 1).val) % 512, Nat.mod_lt _ (by norm_num)⟩ (y 2))

/-- The queries of chain `n`: head `n / 2`, scaled, with the features of the other component set to
    zero. -/
def qry (x2 : Vec F S1x512x512 .bf16) (n : ℕ) : FVec F S128x512 .bf16 :=
  if n % 2 = 0 then k0_pay575 (qblk x2 (n / 2)) else k0_pay576 (qblk x2 (n / 2))

theorem readAt_qblk {arg4 : Memref sig .tc .vmem S1x512x512 .bf16} (harg4 : arg4.IsWhole)
    (x : Vec F S1x512x512 .bf16) (h : ℕ) (hh : h < 4) {off : Fin 3 → ℕ} (hoff : off = ![0, 128 * h, 0])
    (inb : ∀ a, off a + S1x128x512.size a ≤ S1x512x512.size a) :
    View.readAt (Elt F) arg4.view (Rect.unit (s := S1x512x512) off S1x128x512.size inb).toLoadRect (harg4.unread x) = qblk x h := by
  subst hoff
  funext y
  rw [View.readAt_apply, harg4.read_unread]
  refine congrArg x ?_
  have h0 : (y 0).val < 1 := (y 0).isLt
  have h1 : (y 1).val < 128 := (y 1).isLt
  funext a
  apply Fin.ext
  fin_cases a
  · show 0 + 1 * (y 0).val = 0
    omega
  · show 128 * h + 1 * (y 1).val = (128 * h + (y 1).val) % 512
    omega
  · show 0 + 1 * (y 2).val = (y 2).val
    omega

/-- A chain that has seen no key. -/
def chain0 : Chain F where
  M := fun _ => FloatOps.ofBits .f32 0xFF800000#32
  L := fun _ => FloatOps.ofBits .f32 0x00000000#32
  A := fun _ => FloatOps.ofBits .f32 0x00000000#32

/-- Scores of the queries' own block: a key after the query is left out. -/
def mask (s : FVec F S512x512 .f32) : FVec F S512x512 .f32 :=
  select k0_pay571 s (broadcast S512x512 (FloatOps.ofBits .f32 0xFF800000#32))

/-- A chain after all the keys that its queries see: blocks `0` to `J - 1`, and block `J` masked. -/
def finChain (x3 : Vec F S4096x512 .bf16) (x4 : Vec F S8x512x512 .bf16) (h J : ℕ) (q : FVec F S128x512 .bf16) : Chain F :=
  (chain0.over x3 x4 h q J).up (mask (flat (score (kblk x3 h J) q))) (vblk x4 h J)

/-- A chain updated with a block, its parts replaced by equal ones. -/
theorem step_of {E C D : Chain F} {s s' : FVec F S1x512x512 .f32} {k k' : FVec F S1x128x512 .bf16} (hC : C = D) (hs : s = s') (hk : k = k')
    (hE : E = C.up (flat s) k) : E = D.up (flat s') k' := by
  rw [hE, hC, hs, hk]

/-- The sums of a chain updated with a masked block likewise. -/
theorem masked_of {v : FVec F S1x1x512 .f32} {w : FVec F S1x128x512 .f32} {C D : Chain F} {s s' : FVec F S1x512x512 .f32}
    {k k' : FVec F S1x128x512 .bf16} (hC : C = D) (hs : s = s') (hk : k = k') (hv : v = (C.up (mask (flat s)) k).L)
    (hw : w = (C.up (mask (flat s)) k).A) : v = (D.up (mask (flat s')) k').L ∧ w = (D.up (mask (flat s')) k').A := by
  rw [hv, hw, hC, hs, hk]
  exact ⟨rfl, rfl⟩

/-- The lambda, from its four rows. -/
def lamOf (x0 : Vec F S4x64 .f32) : FVec F S1x1 .f32 := k0_pay590 x0

/-- What a head stores: the first component's average minus lambda times the second's, normalised
    over the features, times the gains, query by feature. -/
def headOut (lam : FVec F S1x1 .f32) (gs : Vec F S128x1 .f32) (a b : Chain F) : FVec F S512x128 .bf16 :=
  k0_pay1 (k0_pay618 lam a.A a.L b.A b.L) (k0_pay619 lam a.A a.L b.A b.L) gs

/-- The four stores of the body's result, one head each. -/
def outPieces (x0 : Vec F S4x64 .f32) (x1 : Vec F S128x1 .f32) (x2 : Vec F S1x512x512 .bf16) (x3 : Vec F S4096x512 .bf16)
    (x4 : Vec F S8x512x512 .bf16) (J : ℕ) : List (View.Piece (Elt F) S512x512 .bf16) :=
  [⟨Rect.unit (s := S512x512) ![0, 384] S512x128.size inb_S512x512_S512x128_0_384,
      headOut (lamOf x0) x1 (finChain x3 x4 3 J (qry x2 6)) (finChain x3 x4 3 J (qry x2 7))⟩,
    ⟨Rect.unit (s := S512x512) ![0, 256] S512x128.size inb_S512x512_S512x128_0_256,
      headOut (lamOf x0) x1 (finChain x3 x4 2 J (qry x2 4)) (finChain x3 x4 2 J (qry x2 5))⟩,
    ⟨Rect.unit (s := S512x512) ![0, 128] S512x128.size inb_S512x512_S512x128_0_128,
      headOut (lamOf x0) x1 (finChain x3 x4 1 J (qry x2 2)) (finChain x3 x4 1 J (qry x2 3))⟩,
    ⟨Rect.unit (s := S512x512) ![0, 0] S512x128.size inb_S512x512_S512x128_0_0,
      headOut (lamOf x0) x1 (finChain x3 x4 0 J (qry x2 0)) (finChain x3 x4 0 J (qry x2 1))⟩]

theorem readAt_all {κ : Kind} {sp : Space} {s : Shape} {e : EltTy} {m : Memref sig κ sp s e} (hm : m.IsWhole)
    (x : s.Idx → Elt F e) {off : Fin s.rank → ℕ} (ho : ∀ a, off a = 0) (inb : ∀ a, off a + s.size a ≤ s.size a) :
    View.readAt (Elt F) m.view (Rect.unit (s := s) off s.size inb).toLoadRect (hm.unread x) = x := by
  funext y
  rw [View.readAt_apply, hm.read_unread]
  refine congrArg x ?_
  funext a
  apply Fin.ext
  show off a + 1 * (y a).val = (y a).val
  rw [ho a]; omega

/-- A load from a store of one value everywhere. -/
theorem readAt_const {sig : RefSig} {κ : Kind} {sp : Space} {s : Shape} {e : EltTy} {Val : EltTy → Type}
    (v : View sig κ sp s e) (r : Rect s) (a : Val e) (w : r.shape.Idx → Val e) (hw : w = fun _ => a)
    (f : v.ty.Contents Val) (B : LoadRect s) (hr : ∀ y, ∃ j, r.emb j = y) :
    v.readAt Val B (v.writes Val f [⟨r, w⟩]) = fun _ => a := by
  funext j
  rw [View.readAt_apply]
  obtain ⟨k, hk⟩ := hr (B.idx j)
  rw [← hk]
  refine (View.read_writes_cons_emb v f r w [] k).trans ?_
  rw [hw]

theorem emb_whole {s : Shape} (off : Fin s.rank → ℕ) (ho : ∀ a, off a = 0) (inb : ∀ a, off a + s.size a ≤ s.size a) (y : s.Idx) :
    ∃ j, (Rect.unit (s := s) off s.size inb).emb j = y := by
  refine ⟨y, ?_⟩
  funext a
  apply Fin.ext
  show off a + 1 * (y a).val = (y a).val
  rw [ho a]; omega

theorem Chain.mk_congr {M M' L L' : FVec F S1x1x512 .f32} {A A' : FVec F S1x128x512 .f32} (hM : M = M') (hL : L = L')
    (hA : A = A') : (⟨M, L, A⟩ : Chain F) = ⟨M', L', A'⟩ := by
  subst hM hL hA; rfl

theorem pay591_eq : (k0_pay591 : FVec F S8x128x512 .f32) = fun _ => FloatOps.ofBits .f32 0x00000000#32 := by
  unfold k0_pay591
  rfl

theorem pay592_eq : (k0_pay592 : FVec F S8x1x512 .f32) = fun _ => FloatOps.ofBits .f32 0x00000000#32 := by
  unfold k0_pay592
  rfl

theorem pay593_eq : (k0_pay593 : FVec F S8x1x512 .f32) = fun _ => FloatOps.ofBits .f32 0xFF800000#32 := by
  unfold k0_pay593
  rfl

theorem emb_acc : ∀ y, ∃ j, (Rect.unit (s := S8x128x512) ![0, 0, 0] S8x128x512.size inb_S8x128x512_S8x128x512_0_0_0).emb j = y :=
  emb_whole (s := S8x128x512) ![0, 0, 0] (by intro a; fin_cases a <;> rfl) _

theorem emb_sum : ∀ y, ∃ j, (Rect.unit (s := S8x1x512) ![0, 0, 0] S8x1x512.size inb_S8x1x512_S8x1x512_0_0_0).emb j = y :=
  emb_whole (s := S8x1x512) ![0, 0, 0] (by intro a; fin_cases a <;> rfl) _

/-- The buffers as the body first fills them hold empty chains. -/
theorem empty_at (arg8 : Memref sig .tc .vmem S8x128x512 .f32) (arg9 arg10 : Memref sig .tc .vmem S8x1x512 .f32)
    (g8 : BufTy.Contents (Elt F) arg8.view.ty) (g9 : BufTy.Contents (Elt F) arg9.view.ty)
    (g10 : BufTy.Contents (Elt F) arg10.view.ty) (n : ℕ) (h : n < 8) :
    chainAt arg8 arg9 arg10
      (arg8.view.writes (Elt F) g8 [⟨(Rect.unit (s := S8x128x512) ![0, 0, 0] S8x128x512.size inb_S8x128x512_S8x128x512_0_0_0), k0_pay591⟩])
      (arg9.view.writes (Elt F) g9 [⟨(Rect.unit (s := S8x1x512) ![0, 0, 0] S8x1x512.size inb_S8x1x512_S8x1x512_0_0_0), k0_pay593⟩])
      (arg10.view.writes (Elt F) g10 [⟨(Rect.unit (s := S8x1x512) ![0, 0, 0] S8x1x512.size inb_S8x1x512_S8x1x512_0_0_0), k0_pay592⟩]) n h
      = (chain0 : Chain F) := by
  unfold chainAt chain0
  refine Chain.mk_congr ?_ ?_ ?_
  · apply readAt_const
    · exact pay593_eq
    · exact emb_sum
  · apply readAt_const
    · exact pay592_eq
    · exact emb_sum
  · apply readAt_const
    · exact pay591_eq
    · exact emb_acc

/-! ### The loops -/

theorem trips_even : ∀ i : grid0.Coords, k0_cond1 i = 1#1 → 2 * (k0_t1_loop i).trips = (i 1).val := by decide +kernel

theorem trips_odd : ∀ i : grid0.Coords, k0_cond2 i = 1#1 → 2 * (k0_t1_loop i).trips + 1 = (i 1).val := by decide +kernel

variable (bd : Option Variants.none.V) (c : Dev nD) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (arg1 : BitVec 32)
    (v13 v14 v22 v23 v31 v32 v40 v41 : FVec F S128x512 .bf16) (v71 : BitVec 32)
    (v101 : FVec F S512x512 .f32) (v137 : BitVec 32) (x3 : Vec F S4096x512 .bf16) (x4 : Vec F S8x512x512 .bf16)

/-- The second loop makes no trip. -/
theorem rem_nil (X_arg5 : BufTy.Contents (Elt F) arg5.view.ty) (X_arg6 : BufTy.Contents (Elt F) arg6.view.ty)
    (G_arg8 : BufTy.Contents (Elt F) arg8.view.ty) (G_arg9 : BufTy.Contents (Elt F) arg9.view.ty)
    (G_arg10 : BufTy.Contents (Elt F) arg10.view.ty) (G_arg11 : BufTy.Contents (Elt F) arg11.view.ty)
    (G_arg12 : BufTy.Contents (Elt F) arg12.view.ty) (init : BitVec 32) :
    st_k0_t2 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 v137 X_arg5 X_arg6 G_arg8 G_arg9 G_arg10 G_arg11 G_arg12 init
      (Scf.trips (k0_t2_loop i).lb (k0_t2_loop i).ub (k0_t2_loop i).st) = (init, [], [], [], [], []) := by
  have h : Scf.trips (k0_t2_loop i).lb (k0_t2_loop i).ub (k0_t2_loop i).st = 0 := Nat.le_zero.mp (k0_t2_abs i).2.1
  rw [h]
  rfl

variable (L8 : List (View.Piece (Elt F) S8x128x512 .f32)) (L9 L10 : List (View.Piece (Elt F) S8x1x512 .f32))
    (L11 : List (View.Piece (Elt F) S8x512x512 .f32)) (f12 : BufTy.Contents (Elt F) arg12.view.ty)
    (g8 : BufTy.Contents (Elt F) arg8.view.ty) (g9 : BufTy.Contents (Elt F) arg9.view.ty)
    (g10 : BufTy.Contents (Elt F) arg10.view.ty) (g11 : BufTy.Contents (Elt F) arg11.view.ty)

/-- What the chains and the score buffer are after both loops, from what they are before. -/
theorem after_at (n : ℕ) (h : n < 8)
    (hs : scoreAt arg11 (arg11.view.writes (Elt F) g11 L11) n h = score (kblk x3 (n / 2) 0) (qAt v13 v14 v22 v23 v31 v32 v40 v41 n))
    (hc : chainAt arg8 arg9 arg10 (arg8.view.writes (Elt F) g8 L8) (arg9.view.writes (Elt F) g9 L9)
      (arg10.view.writes (Elt F) g10 L10) n h = chain0) :
    chainAt arg8 arg9 arg10
        (arg8.view.writes (Elt F) g8 ((st_k0_t2 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 v137 (harg5.unread x3) (harg6.unread x4) (arg8.view.writes (Elt F) g8 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.1 ++ L8)) (arg9.view.writes (Elt F) g9 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.1 ++ L9)) (arg10.view.writes (Elt F) g10 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.1 ++ L10)) (arg11.view.writes (Elt F) g11 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.1 ++ L11)) (arg12.view.writes (Elt F) f12 (st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.2) (st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).1 (Scf.trips (k0_t2_loop i).lb (k0_t2_loop i).ub (k0_t2_loop i).st)).2.1 ++ ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.1 ++ L8)))
        (arg9.view.writes (Elt F) g9 ((st_k0_t2 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 v137 (harg5.unread x3) (harg6.unread x4) (arg8.view.writes (Elt F) g8 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.1 ++ L8)) (arg9.view.writes (Elt F) g9 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.1 ++ L9)) (arg10.view.writes (Elt F) g10 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.1 ++ L10)) (arg11.view.writes (Elt F) g11 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.1 ++ L11)) (arg12.view.writes (Elt F) f12 (st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.2) (st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).1 (Scf.trips (k0_t2_loop i).lb (k0_t2_loop i).ub (k0_t2_loop i).st)).2.2.1 ++ ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.1 ++ L9)))
        (arg10.view.writes (Elt F) g10 ((st_k0_t2 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 v137 (harg5.unread x3) (harg6.unread x4) (arg8.view.writes (Elt F) g8 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.1 ++ L8)) (arg9.view.writes (Elt F) g9 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.1 ++ L9)) (arg10.view.writes (Elt F) g10 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.1 ++ L10)) (arg11.view.writes (Elt F) g11 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.1 ++ L11)) (arg12.view.writes (Elt F) f12 (st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.2) (st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).1 (Scf.trips (k0_t2_loop i).lb (k0_t2_loop i).ub (k0_t2_loop i).st)).2.2.2.1 ++ ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.1 ++ L10))) n h
      = chain0.over x3 x4 (n / 2) (qAt v13 v14 v22 v23 v31 v32 v40 v41 n) (2 * (k0_t1_loop i).trips)
    ∧ scoreAt arg11 (arg11.view.writes (Elt F) g11 ((st_k0_t2 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 v137 (harg5.unread x3) (harg6.unread x4) (arg8.view.writes (Elt F) g8 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.1 ++ L8)) (arg9.view.writes (Elt F) g9 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.1 ++ L9)) (arg10.view.writes (Elt F) g10 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.1 ++ L10)) (arg11.view.writes (Elt F) g11 ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.1 ++ L11)) (arg12.view.writes (Elt F) f12 (st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.2) (st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).1 (Scf.trips (k0_t2_loop i).lb (k0_t2_loop i).ub (k0_t2_loop i).st)).2.2.2.2.1 ++ ((st_k0_t1 (F := F) Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 (harg5.unread x3) (harg6.unread x4) (arg8.view.writes (Elt F) g8 L8) (arg9.view.writes (Elt F) g9 L9) (arg10.view.writes (Elt F) g10 L10) (arg11.view.writes (Elt F) g11 L11) f12 (0#32) (Scf.trips (k0_t1_loop i).lb (k0_t1_loop i).ub (k0_t1_loop i).st)).2.2.2.2.1 ++ L11))) n h
      = score (kblk x3 (n / 2) (2 * (k0_t1_loop i).trips)) (qAt v13 v14 v22 v23 v31 v32 v40 v41 n) := by
  rw [rem_nil]
  dsimp only [List.nil_append]
  simp only [View.writes_append]
  rw [← hc]
  exact loop_at Variants.none c bd i arg2 harg2 arg3 harg3 arg4 harg4 arg5 harg5 arg6 harg6 arg7 harg7 arg8 harg8 arg9 harg9 arg10 harg10 arg11 harg11 arg12 harg12 arg1 v13 v14 v22 v23 v31 v32 v40 v41 v71 v101 x3 x4 _ _ _ _ f12 (0#32) n h hs _ le_rfl

end Cert.Proof
-- ==== Proof.RunA.lean ====
module

public import proofs.«01_k».proof.Proof.Gen.KernelIdeal.Frame.Runs

/-! The kernel's body run once, at a query block whose number is even: the block has one remaining key block, its own.
    `runA` finds the pieces that the body's stores leave in the result's block; they are named over
    the blocks of the inputs and over what the second score buffer `arg12` held before. -/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's run at such a block: from the input blocks `x0` to `x4` it ends with them in place and with
    the pieces of the witness stored in the result's block. -/
noncomputable def runA (c : Dev nD) (i : grid0.Coords) (arg2 : Memref sig .tc .vmem S4x64 .f32) (harg2 : arg2.IsWhole) (arg3 : Memref sig .tc .vmem S128x1 .f32) (harg3 : arg3.IsWhole) (arg4 : Memref sig .tc .vmem S1x512x512 .bf16) (harg4 : arg4.IsWhole) (arg5 : Memref sig .tc .vmem S4096x512 .bf16) (harg5 : arg5.IsWhole) (arg6 : Memref sig .tc .vmem S8x512x512 .bf16) (harg6 : arg6.IsWhole) (arg7 : Memref sig .tc .vmem S512x512 .bf16) (harg7 : arg7.IsWhole) (arg8 : Memref sig .tc .vmem S8x128x512 .f32) (harg8 : arg8.IsWhole) (arg9 : Memref sig .tc .vmem S8x1x512 .f32) (harg9 : arg9.IsWhole) (arg10 : Memref sig .tc .vmem S8x1x512 .f32) (harg10 : arg10.IsWhole) (arg11 : Memref sig .tc .vmem S8x512x512 .f32) (harg11 : arg11.IsWhole) (arg12 : Memref sig .tc .vmem S8x512x512 .f32) (harg12 : arg12.IsWhole) (hc0 : cond0_0 i) (hc1 : ¬cond0_1 i)
    (x0 : Vec F S4x64 .f32) (x1 : Vec F S128x1 .f32) (x2 : Vec F S1x512x512 .bf16) (x3 : Vec F S4096x512 .bf16) (x4 : Vec F S8x512x512 .bf16)
    (f12 : BufTy.Contents (Elt F) arg12.view.ty) :
    { L5 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (arg12.view.loc (c : Thread nD τ) ↦[arg12.view.set]{fullShare} f12)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_differential_attention i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_differential_attention_eq_skeleton]; unfold cc0_differential_attention_skel
    simp only [k0_part69_eq_skeleton, k0_part70_eq_skeleton, k0_part71_eq_skeleton, k0_part72_eq_skeleton, k0_part73_eq_skeleton, k0_part49_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, HS4, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Proof

end
-- ==== Proof.FinA.lean ====
module

public import proofs.«01_k».proof.Proof.After
public import proofs.«01_k».proof.Proof.RunA

/-! The chains that the body leaves at a query block whose number is even: what it finds after the
    loops, and what the last key block, which is masked, makes of it. -/

@[expose] public section

set_option maxRecDepth 16384

noncomputable section

open Cert.KernelIdeal Cert.KernelIdeal.Gen Cert.KernelIdeal.Proof Idealize.ShloMosaic Idealize.ShloMosaic.TcCoe Idealize.SL.Sem

namespace Cert.Proof

variable {F : FTy → Type} [FloatOps F] [Named F]

variable (c : Dev nD) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (hc0 : cond0_0 i) (hc1 : ¬cond0_1 i)
    (x0 : Vec F S4x64 .f32) (x1 : Vec F S128x1 .f32) (x2 : Vec F S1x512x512 .bf16) (x3 : Vec F S4096x512 .bf16)
    (x4 : Vec F S8x512x512 .bf16) (f12 : BufTy.Contents (Elt F) arg12.view.ty)

/-- The query blocks that the body prepares. -/
theorem qA_eq (n : ℕ) (h : n < 8) : (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) n) = qry x2 n := by
  have e0 := readAt_qblk harg4 x2 0 (by norm_num) (off := ![0, 0, 0]) rfl inb_S1x512x512_S1x128x512_0_0_0
  have e1 := readAt_qblk harg4 x2 1 (by norm_num) (off := ![0, 128, 0]) rfl inb_S1x512x512_S1x128x512_0_128_0
  have e2 := readAt_qblk harg4 x2 2 (by norm_num) (off := ![0, 256, 0]) rfl inb_S1x512x512_S1x128x512_0_256_0
  have e3 := readAt_qblk harg4 x2 3 (by norm_num) (off := ![0, 384, 0]) rfl inb_S1x512x512_S1x128x512_0_384_0
  interval_cases n
  · exact congrArg k0_pay575 e0
  · exact congrArg k0_pay576 e0
  · exact congrArg k0_pay579 e1
  · exact congrArg k0_pay580 e1
  · exact congrArg k0_pay583 e2
  · exact congrArg k0_pay584 e2
  · exact congrArg (fun w => k0_pay588 k0_pay572 (k0_pay585 w)) e3
  · exact congrArg (fun w => k0_pay589 k0_pay572 (k0_pay585 w)) e3

/-- The first key block's scores, as the body stores them. -/
theorem sA_eq (g11 : BufTy.Contents (Elt F) arg11.view.ty) (n : ℕ) (h : n < 8) :
    scoreAt arg11 (arg11.view.writes (Elt F) g11 (runA.sl.HS3_8 (F := F) c arg4 harg4 arg5 harg5 x2 x3)) n h
      = score (kblk x3 (n / 2) 0) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) n) := by
  have e0 := readAt_kblk harg5 x3 0 0 (by norm_num) (by norm_num) (off := ![0, 0]) rfl inb_S4096x512_S512x128_0_0
  have e1 := readAt_kblk harg5 x3 1 0 (by norm_num) (by norm_num) (off := ![0, 128]) rfl inb_S4096x512_S512x128_0_128
  have e2 := readAt_kblk harg5 x3 2 0 (by norm_num) (by norm_num) (off := ![0, 256]) rfl inb_S4096x512_S512x128_0_256
  have e3 := readAt_kblk harg5 x3 3 0 (by norm_num) (by norm_num) (off := ![0, 384]) rfl inb_S4096x512_S512x128_0_384
  interval_cases n
  · exact (readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_hit ..).trans (congrArg (fun k => score k (runA.sl.r (F := F) c arg4 harg4 x2)) e0))))))))
  · exact (readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_hit ..).trans (congrArg (fun k => score k (runA.sl.r_1 (F := F) c arg4 harg4 x2)) e0)))))))
  · exact (readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_hit ..).trans (congrArg (fun k => score k (runA.sl.r_2 (F := F) c arg4 harg4 x2)) e1))))))
  · exact (readAt_miss _ _ _ _ _ _ rfl).trans ((readAt_miss _ _ _ _ _ _ rfl).trans ((readAt_miss _ _ _ _ _ _ rfl).trans ((readAt_miss _ _ _ _ _ _ rfl).trans ((readAt_hit ..).trans (congrArg (fun k => score k (runA.sl.r_3 (F := F) c arg4 harg4 x2)) e1)))))
  · exact (readAt_miss _ _ _ _ _ _ rfl).trans ((readAt_miss _ _ _ _ _ _ rfl).trans ((readAt_miss _ _ _ _ _ _ rfl).trans ((readAt_hit ..).trans (congrArg (fun k => score k (runA.sl.r_4 (F := F) c arg4 harg4 x2)) e2))))
  · exact (readAt_miss _ _ _ _ _ _ rfl).trans ((readAt_miss _ _ _ _ _ _ rfl).trans ((readAt_hit ..).trans (congrArg (fun k => score k (runA.sl.r_5 (F := F) c arg4 harg4 x2)) e2)))
  · exact (readAt_miss _ _ _ _ _ _ rfl).trans ((readAt_hit ..).trans (congrArg (fun k => score k (runA.sl.r_7 (F := F) c arg4 harg4 x2)) e3))
  · exact (readAt_hit ..).trans (congrArg (fun k => score k (runA.sl.r_8 (F := F) c arg4 harg4 x2)) e3)

/-- The chains that the body starts from are empty. -/
theorem cA_eq (g8 : BufTy.Contents (Elt F) arg8.view.ty) (g9 : BufTy.Contents (Elt F) arg9.view.ty)
    (g10 : BufTy.Contents (Elt F) arg10.view.ty) (n : ℕ) (h : n < 8) :
    chainAt arg8 arg9 arg10 (arg8.view.writes (Elt F) g8 runA.sl.HS0_1)
      (arg9.view.writes (Elt F) g9 runA.sl.HS1_1) (arg10.view.writes (Elt F) g10 runA.sl.HS2_1) n h
      = (chain0 : Chain F) := by
  unfold runA.sl.HS0_1 runA.sl.HS1_1 runA.sl.HS2_1
  exact empty_at arg8 arg9 arg10 g8 g9 g10 n h

include hc0 hc1

/-- Chain 0 as the body finds it after the loops. -/
theorem inA_0 : (⟨(runA.sl.v305 (F := F) c i arg2 harg2 arg3 harg3 arg4 harg4 arg5 harg5 arg6 harg6 arg7 harg7 arg8 harg8 arg9 harg9 arg10 harg10 arg11 harg11 arg12 harg12 x2 x3 x4 f12), (runA.sl.v322 (F := F) c i arg2 harg2 arg3 harg3 arg4 harg4 arg5 harg5 arg6 harg6 arg7 harg7 arg8 harg8 arg9 harg9 arg10 harg10 arg11 harg11 arg12 harg12 x2 x3 x4 f12), (runA.sl.v331 (F := F) c i arg2 harg2 arg3 harg3 arg4 harg4 arg5 harg5 arg6 harg6 arg7 harg7 arg8 harg8 arg9 harg9 arg10 harg10 arg11 harg11 arg12 harg12 x2 x3 x4 f12)⟩ : Chain F)
    = chain0.over x3 x4 0 (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 0) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 0 (by norm_num) (sA_eq c arg4 harg4 arg5 harg5 arg11 x2 x3 ?g11 0 _) (cA_eq arg8 arg9 arg10 ?g8 ?g9 ?g10 0 _)).1
  case main =>
  unfold chainAt
  refine Chain.mk_congr ?_ ?_ ?_
  · unfold runA.sl.v305 View.readCov
    exact rfl
  · unfold runA.sl.v322 View.readCov
    exact rfl
  · unfold runA.sl.v331 View.readCov
    exact rfl

/-- What the body makes of chain 0. -/
theorem upA_0 : (runA.sl.v330 (F := F) c i arg2 harg2 arg3 harg3 arg4 harg4 arg5 harg5 arg6 harg6 arg7 harg7 arg8 harg8 arg9 harg9 arg10 harg10 arg11 harg11 arg12 harg12 x2 x3 x4 f12) = (finChain x3 x4 0 (i 1).val (qry x2 0)).L
    ∧ (runA.sl.v340 (F := F) c i arg2 harg2 arg3 harg3 arg4 harg4 arg5 harg5 arg6 harg6 arg7 harg7 arg8 harg8 arg9 harg9 arg10 harg10 arg11 harg11 arg12 harg12 hc0 x2 x3 x4 f12) = (finChain x3 x4 0 (i 1).val (qry x2 0)).A := by
  have hi := inA_0 c i arg2 harg2 arg3 harg3 arg4 harg4 arg5 harg5 arg6 harg6 arg7 harg7 arg8 harg8 arg9 harg9 arg10 harg10 arg11 harg11 arg12 harg12 hc0 hc1 x2 x3 x4 f12
  have hs : (runA.sl.v307 (F := F) c i arg2 harg2 arg3 harg3 arg4 harg4 arg5 harg5 arg6 harg6 arg7 harg7 arg8 harg8 arg9 harg9 arg10 harg10 arg11 harg11 arg12 harg12 x2 x3 x4 f12) = score (kblk x3 0 (2 * (k0_t1_loop i).trips)) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 0) := by
    refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 0 (by norm_num) (sA_eq c arg4 harg4 arg5 harg5 arg11 x2 x3 ?g11 0 _) (cA_eq arg8 arg9 arg10 ?g8 ?g9 ?g10 0 _)).2
    case main => rfl
  have hv := readAt_vblk harg6 x4 0 (i 1).val (by norm_num) (i 1).isLt (k0_off25_eq i) (k0_off25_inb i hc0)
  have hq := qA_eq c arg4 harg4 x2 0 (by norm_num)
  have ht := trips_even i hc0
  rw [hq, ht] at hi hs
  exact masked_of hi hs hv rfl rfl

/-- Chain 1 as the body finds it after the loops. -/
theorem inA_1 : (⟨(runA.sl.v341 (F := F) c i arg2 harg2 arg3 harg3 arg4 harg4 arg5 harg5 arg6 harg6 arg7 harg7 arg8 harg8 arg9 harg9 arg10 harg10 arg11 harg11 arg12 harg12 x2 x3 x4 f12), (runA.sl.v358 (F := F) c i arg2 harg2 arg3 harg3 arg4 harg4 arg5 harg5 arg6 harg6 arg7 harg7 arg8 harg8 arg9 harg9 arg10 harg10 arg11 harg11 arg12 harg12 x2 x3 x4 f12), (runA.sl.v367 (F := F) c i arg2 harg2 arg3 harg3 arg4 harg4 arg5 harg5 arg6 harg6 arg7 harg7 arg8 harg8 arg9 harg9 arg10 harg10 arg11 harg11 arg12 harg12 hc0 x2 x3 x4 f12)⟩ : Chain F)
    = chain0.over x3 x4 0 (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 1) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 1 (by norm_num) (sA_eq c arg4 harg4 arg5 harg5 arg11 x2 x3 ?g11 1 _) (cA_eq arg8 arg9 arg10 ?g8 ?g9 ?g10 1 _)).1
  case main =>
  unfold chainAt
  refine Chain.mk_congr ?_ ?_ ?_
  · unfold runA.sl.v341 runA.sl.HS1_1_1 View.readCov
    refine (readAt_miss _ _ _ _ _ _ rfl).trans ?_
    exact rfl
  · unfold runA.sl.v358 runA.sl.HS2_1_1 View.readCov
    refine (readAt_miss _ _ _ _ _ _ rfl).trans ?_
    exact rfl
  · unfold runA.sl.v367 runA.sl.HS0_1_1 View.readCov
    refine (readAt_miss _ _ _ _ _ _ rfl).trans ?_
    exact rfl

/-- What the body makes of chain 1. -/
theorem upA_1 : (runA.sl.v366 (F := F) c i arg2 harg2 arg3 harg3 arg4 harg4 arg5 harg5 arg6 harg6 arg7 harg7 arg8 harg8 arg9 harg9 arg10 harg10 arg11 harg11 arg12 harg12 x2 x3 x4 f12) = (finChain x3 x4 0 (i 1).val (qry x2 1)).L
    ∧ (runA.sl.v376 (F := F) c i arg2 harg2 arg3 harg3 arg4 harg4 arg5 harg5 arg6 harg6 arg7 harg7 arg8 harg8 arg9 harg9 arg10 harg10 arg11 harg11 arg12 harg12 hc0 x2 x3 x4 f12) = (finChain x3 x4 0 (i 1).val (qry x2 1)).A := by
  have hi := inA_1 c i arg2 harg2 arg3 harg3 arg4 harg4 arg5 harg5 arg6 harg6 arg7 harg7 arg8 harg8 arg9 harg9 arg10 harg10 arg11 harg11 arg12 harg12 hc0 hc1 x2 x3 x4 f12
  have hs : (runA.sl.v343 (F := F) c i arg2 harg2 arg3 harg3 arg4 harg4 arg5 harg5 arg6 harg6 arg7 harg7 arg8 harg8 arg9 harg9 arg10 harg10 arg11 harg11 arg12 harg12 x2 x3 x4 f12) = score (kblk x3 0 (2 * (k0_t1_loop i).trips)) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 1) := by
    refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 1 (by norm_num) (sA_eq c arg4 harg4 arg5 harg5 arg11 x2 x3 ?g11 1 _) (cA_eq arg8 arg9 arg10 ?g8 ?g9 ?g10 1 _)).2
    case main => rfl
  have hv := readAt_vblk harg6 x4 0 (i 1).val (by norm_num) (i 1).isLt (k0_off25_eq i) (k0_off25_inb i hc0)
  have hq := qA_eq c arg4 harg4 x2 1 (by norm_num)
  have ht := trips_even i hc0
  rw [hq, ht] at hi hs
  exact masked_of hi hs hv rfl rfl

/-- Chain 2 as the body finds it after the loops. -/
theorem inA_2 : (⟨(runA.sl.v380 (F := F) c i arg2 harg2 arg3 harg3 arg4 harg4 arg5 harg5 arg6 harg6 arg7 harg7 arg8 harg8 arg9 harg9 arg10 harg10 arg11 harg11 arg12 harg12 x2 x3 x4 f12), (runA.sl.v397 (F := F) c i arg2 harg2 arg3 harg3 arg4 harg4 arg5 harg5 arg6 harg6 arg7 harg7 arg8 harg8 arg9 harg9 arg10 harg10 arg11 harg11 arg12 harg12 x2 x3 x4 f12), (runA.sl.v406 (F := F) c i arg2 harg2 arg3 harg3 arg4 harg4 arg5 harg5 arg6 harg6 arg7 harg7 arg8 harg8 arg9 harg9 arg10 harg10 arg11 harg11 arg12 harg12 hc0 x2 x3 x4 f12)⟩ : Chain F)
    = chain0.over x3 x4 1 (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 2) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 2 (by norm_num) (sA_eq c arg4 harg4 arg5 harg5 arg11 x2 x3 ?g11 2 _) (cA_eq arg8 arg9 arg10 ?g8 ?g9 ?g10 2 _)).1
  case main =>
  unfold chainAt
  refine Chain.mk_congr ?_ ?_ ?_
  · unfold runA.sl.v380 runA.sl.HS1_2 runA.sl.HS1_1_1 View.readCov
    refine (readAt_miss _ _ _ _ _ _ rfl).trans ?_
    refine (readAt_miss _ _ _ _ _ _ rfl).trans ?_
    exact rfl
  · unfold runA.sl.v397 runA.sl.HS2_2 runA.sl.HS2_1_1 View.readCov
    refine (readAt_miss _ _ _ _ _ _ rfl).trans ?_
    refine (readAt_miss _ _ _ _ _ _ rfl).trans ?_
    exact rfl
  · unfold runA.sl.v406 runA.sl.HS0_2 runA.sl.HS0_1_1 View.readCov
    refine (readAt_miss _ _ _ _ _ _ rfl).trans ?_
    refine (readAt_miss _ _ _ _ _ _ rfl).trans ?_
    exact rfl

/-- What the body makes of chain 2. -/
theorem upA_2 : (runA.sl.v405 (F := F) c i arg2 harg2 arg3 harg3 arg4 harg4 arg5 harg5 arg6 harg6 arg7 harg7 arg8 harg8 arg9 harg9 arg10 harg10 arg11 harg11 arg12 harg12 x2 x3 x4 f12) = (finChain x3 x4 1 (i 1).val (qry x2 2)).L
    ∧ (runA.sl.v415 (F := F) c i arg2 harg2 arg3 harg3 arg4 harg4 arg5 harg5 arg6 harg6 arg7 harg7 arg8 harg8 arg9 harg9 arg10 harg10 arg11 harg11 arg12 harg12 hc0 x2 x3 x4 f12) = (finChain x3 x4 1 (i 1).val (qry x2 2)).A := by
  have hi := inA_2 c i arg2 harg2 arg3 harg3 arg4 harg4 arg5 harg5 arg6 harg6 arg7 harg7 arg8 harg8 arg9 harg9 arg10 harg10 arg11 harg11 arg12 harg12 hc0 hc1 x2 x3 x4 f12
  have hs : (runA.sl.v382 (F := F) c i arg2 harg2 arg3 harg3 arg4 harg4 arg5 harg5 arg6 harg6 arg7 harg7 arg8 harg8 arg9 harg9 arg10 harg10 arg11 harg11 arg12 harg12 x2 x3 x4 f12) = score (kblk x3 1 (2 * (k0_t1_loop i).trips)) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 2) := by
    refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 2 (by norm_num) (sA_eq c arg4 harg4 arg5 harg5 arg11 x2 x3 ?g11 2 _) (cA_eq arg8 arg9 arg10 ?g8 ?g9 ?g10 2 _)).2
    case main => rfl
  have hv := readAt_vblk harg6 x4 1 (i 1).val (by norm_num) (i 1).isLt (k0_off26_eq i) (k0_off26_inb i hc0)
  have hq := qA_eq c arg4 harg4 x2 2 (by norm_num)
  have ht := trips_even i hc0
  rw [hq, ht] at hi hs
  exact masked_of hi hs hv rfl rfl

/-- Chain 3 as the body finds it after the loops. -/
theorem inA_3 : (⟨(runA.sl.v416 (F := F) c i arg2 harg2 arg3 harg3 arg4 harg4 arg5 harg5 arg6 harg6 arg7 harg7 arg8 harg8 arg9 harg9 arg10 harg10 arg11 harg11 arg12 harg12 x2 x3 x4 f12), (runA.sl.v433 (F := F) c i arg2 harg2 arg3 harg3 arg4 harg4 arg5 harg5 arg6 harg6 arg7 harg7 arg8 harg8 arg9 harg9 arg10 harg10 arg11 harg11 arg12 harg12 x2 x3 x4 f12), (runA.sl.v442 (F := F) c i arg2 harg2 arg3 harg3 arg4 harg4 arg5 harg5 arg6 harg6 arg7 harg7 arg8 harg8 arg9 harg9 arg10 harg10 arg11 harg11 arg12 harg12 hc0 x2 x3 x4 f12)⟩ : Chain F)
    = chain0.over x3 x4 1 (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 3) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 3 (by norm_num) (sA_eq c arg4 harg4 arg5 harg5 arg11 x2 x3 ?g11 3 _) (cA_eq arg8 arg9 arg10 ?g8 ?g9 ?g10 3 _)).1
  case main =>
  unfold chainAt
  refine Chain.mk_congr ?_ ?_ ?_
  · unfold runA.sl.v416 runA.sl.HS1_3 runA.sl.HS1_2 runA.sl.HS1_1_1 View.readCov
    refine (readAt_miss _ _ _ _ _ _ rfl).trans ?_
    refine (readAt_miss _ _ _ _ _ _ rfl).trans ?_
    refine (readAt_miss _ _ _ _ _ _ rfl).trans ?_
    exact rfl
  · unfold runA.sl.v433 runA.sl.HS2_3 runA.sl.HS2_2 runA.sl.HS2_1_1 View.readCov
    refine (readAt_miss _ _ _ _ _ _ rfl).trans ?_
    refine (readAt_miss _ _ _ _ _ _ rfl).trans ?_
    refine (readAt_miss _ _ _ _ _ _ rfl).trans ?_
    exact rfl
  · unfold runA.sl.v442 runA.sl.HS0_3 runA.sl.HS0_2 runA.sl.HS0_1_1 View.readCov
    refine (readAt_miss _ _ _ _ _ _ rfl).trans ?_
    refine (readAt_miss _ _ _ _ _ _ rfl).trans ?_
    refine (readAt_miss _ _ _ _ _ _ rfl).trans ?_
    exact rfl

/-- What the body makes of chain 3. -/
theorem upA_3 : (runA.sl.v441 (F := F) c i arg2 harg2 arg3 harg3 arg4 harg4 arg5 harg5 arg6 harg6 arg7 harg7 arg8 harg8 arg9 harg9 arg10 harg10 arg11 harg11 arg12 harg12 x2 x3 x4 f12) = (finChain x3 x4 1 (i 1).val (qry x2 3)).L
    ∧ (runA.sl.v451 (F := F) c i arg2 harg2 arg3 harg3 arg4 harg4 arg5 harg5 arg6 harg6 arg7 harg7 arg8 harg8 arg9 harg9 arg10 harg10 arg11 harg11 arg12 harg12 hc0 x2 x3 x4 f12) = (finChain x3 x4 1 (i 1).val (qry x2 3)).A := by
  have hi := inA_3 c i arg2 harg2 arg3 harg3 arg4 harg4 arg5 harg5 arg6 harg6 arg7 harg7 arg8 harg8 arg9 harg9 arg10 harg10 arg11 harg11 arg12 harg12 hc0 hc1 x2 x3 x4 f12
  have hs : (runA.sl.v418 (F := F) c i arg2 harg2 arg3 harg3 arg4 harg4 arg5 harg5 arg6 harg6 arg7 harg7 arg8 harg8 arg9 harg9 arg10 harg10 arg11 harg11 arg12 harg12 x2 x3 x4 f12) = score (kblk x3 1 (2 * (k0_t1_loop i).trips)) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 3) := by
    refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 3 (by norm_num) (sA_eq c arg4 harg4 arg5 harg5 arg11 x2 x3 ?g11 3 _) (cA_eq arg8 arg9 arg10 ?g8 ?g9 ?g10 3 _)).2
    case main => rfl
  have hv := readAt_vblk harg6 x4 1 (i 1).val (by norm_num) (i 1).isLt (k0_off26_eq i) (k0_off26_inb i hc0)
  have hq := qA_eq c arg4 harg4 x2 3 (by norm_num)
  have ht := trips_even i hc0
  rw [hq, ht] at hi hs
  exact masked_of hi hs hv rfl rfl

/-- Chain 4 as the body finds it after the loops. -/
theorem inA_4 : (⟨(runA.sl.v455 (F := F) c i arg2 harg2 arg3 harg3 arg4 harg4 arg5 harg5 arg6 harg6 arg7 harg7 arg8 harg8 arg9 harg9 arg10 harg10 arg11 harg11 arg12 harg12 x2 x3 x4 f12), (runA.sl.v472 (F := F) c i arg2 harg2 arg3 harg3 arg4 harg4 arg5 harg5 arg6 harg6 arg7 harg7 arg8 harg8 arg9 harg9 arg10 harg10 arg11 harg11 arg12 harg12 x2 x3 x4 f12), (runA.sl.v481 (F := F) c i arg2 harg2 arg3 harg3 arg4 harg4 arg5 harg5 arg6 harg6 arg7 harg7 arg8 harg8 arg9 harg9 arg10 harg10 arg11 harg11 arg12 harg12 hc0 x2 x3 x4 f12)⟩ : Chain F)
    = chain0.over x3 x4 2 (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 4) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 4 (by norm_num) (sA_eq c arg4 harg4 arg5 harg5 arg11 x2 x3 ?g11 4 _) (cA_eq arg8 arg9 arg10 ?g8 ?g9 ?g10 4 _)).1
  case main =>
  unfold chainAt
  refine Chain.mk_congr ?_ ?_ ?_
  · unfold runA.sl.v455 runA.sl.HS1_4 runA.sl.HS1_3 runA.sl.HS1_2 runA.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runA.sl.v472 runA.sl.HS2_4 runA.sl.HS2_3 runA.sl.HS2_2 runA.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runA.sl.v481 runA.sl.HS0_4 runA.sl.HS0_3 runA.sl.HS0_2 runA.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl

/-- What the body makes of chain 4. -/
theorem upA_4 : (runA.sl.v480 (F := F) c i arg2 harg2 arg3 harg3 arg4 harg4 arg5 harg5 arg6 harg6 arg7 harg7 arg8 harg8 arg9 harg9 arg10 harg10 arg11 harg11 arg12 harg12 x2 x3 x4 f12) = (finChain x3 x4 2 (i 1).val (qry x2 4)).L
    ∧ (runA.sl.v490 (F := F) c i arg2 harg2 arg3 harg3 arg4 harg4 arg5 harg5 arg6 harg6 arg7 harg7 arg8 harg8 arg9 harg9 arg10 harg10 arg11 harg11 arg12 harg12 hc0 x2 x3 x4 f12) = (finChain x3 x4 2 (i 1).val (qry x2 4)).A := by
  have hi := inA_4 c i arg2 harg2 arg3 harg3 arg4 harg4 arg5 harg5 arg6 harg6 arg7 harg7 arg8 harg8 arg9 harg9 arg10 harg10 arg11 harg11 arg12 harg12 hc0 hc1 x2 x3 x4 f12
  have hs : (runA.sl.v457 (F := F) c i arg2 harg2 arg3 harg3 arg4 harg4 arg5 harg5 arg6 harg6 arg7 harg7 arg8 harg8 arg9 harg9 arg10 harg10 arg11 harg11 arg12 harg12 x2 x3 x4 f12) = score (kblk x3 2 (2 * (k0_t1_loop i).trips)) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 4) := by
    refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 4 (by norm_num) (sA_eq c arg4 harg4 arg5 harg5 arg11 x2 x3 ?g11 4 _) (cA_eq arg8 arg9 arg10 ?g8 ?g9 ?g10 4 _)).2
    case main => rfl
  have hv := readAt_vblk harg6 x4 2 (i 1).val (by norm_num) (i 1).isLt (k0_off27_eq i) (k0_off27_inb i hc0)
  have hq := qA_eq c arg4 harg4 x2 4 (by norm_num)
  have ht := trips_even i hc0
  rw [hq, ht] at hi hs
  exact masked_of hi hs hv rfl rfl

/-- Chain 5 as the body finds it after the loops. -/
theorem inA_5 : (⟨(runA.sl.v491 (F := F) c i arg2 harg2 arg3 harg3 arg4 harg4 arg5 harg5 arg6 harg6 arg7 harg7 arg8 harg8 arg9 harg9 arg10 harg10 arg11 harg11 arg12 harg12 x2 x3 x4 f12), (runA.sl.v508 (F := F) c i arg2 harg2 arg3 harg3 arg4 harg4 arg5 harg5 arg6 harg6 arg7 harg7 arg8 harg8 arg9 harg9 arg10 harg10 arg11 harg11 arg12 harg12 x2 x3 x4 f12), (runA.sl.v517 (F := F) c i arg2 harg2 arg3 harg3 arg4 harg4 arg5 harg5 arg6 harg6 arg7 harg7 arg8 harg8 arg9 harg9 arg10 harg10 arg11 harg11 arg12 harg12 hc0 x2 x3 x4 f12)⟩ : Chain F)
    = chain0.over x3 x4 2 (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 5) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 5 (by norm_num) (sA_eq c arg4 harg4 arg5 harg5 arg11 x2 x3 ?g11 5 _) (cA_eq arg8 arg9 arg10 ?g8 ?g9 ?g10 5 _)).1
  case main =>
  unfold chainAt
  refine Chain.mk_congr ?_ ?_ ?_
  · unfold runA.sl.v491 runA.sl.HS1_5 runA.sl.HS1_4 runA.sl.HS1_3 runA.sl.HS1_2 runA.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runA.sl.v508 runA.sl.HS2_5 runA.sl.HS2_4 runA.sl.HS2_3 runA.sl.HS2_2 runA.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runA.sl.v517 runA.sl.HS0_5 runA.sl.HS0_4 runA.sl.HS0_3 runA.sl.HS0_2 runA.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl

/-- What the body makes of chain 5. -/
theorem upA_5 : (runA.sl.v516 (F := F) c i arg2 harg2 arg3 harg3 arg4 harg4 arg5 harg5 arg6 harg6 arg7 harg7 arg8 harg8 arg9 harg9 arg10 harg10 arg11 harg11 arg12 harg12 x2 x3 x4 f12) = (finChain x3 x4 2 (i 1).val (qry x2 5)).L
    ∧ (runA.sl.v526 (F := F) c i arg2 harg2 arg3 harg3 arg4 harg4 arg5 harg5 arg6 harg6 arg7 harg7 arg8 harg8 arg9 harg9 arg10 harg10 arg11 harg11 arg12 harg12 hc0 x2 x3 x4 f12) = (finChain x3 x4 2 (i 1).val (qry x2 5)).A := by
  have hi := inA_5 c i arg2 harg2 arg3 harg3 arg4 harg4 arg5 harg5 arg6 harg6 arg7 harg7 arg8 harg8 arg9 harg9 arg10 harg10 arg11 harg11 arg12 harg12 hc0 hc1 x2 x3 x4 f12
  have hs : (runA.sl.v493 (F := F) c i arg2 harg2 arg3 harg3 arg4 harg4 arg5 harg5 arg6 harg6 arg7 harg7 arg8 harg8 arg9 harg9 arg10 harg10 arg11 harg11 arg12 harg12 x2 x3 x4 f12) = score (kblk x3 2 (2 * (k0_t1_loop i).trips)) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 5) := by
    refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 5 (by norm_num) (sA_eq c arg4 harg4 arg5 harg5 arg11 x2 x3 ?g11 5 _) (cA_eq arg8 arg9 arg10 ?g8 ?g9 ?g10 5 _)).2
    case main => rfl
  have hv := readAt_vblk harg6 x4 2 (i 1).val (by norm_num) (i 1).isLt (k0_off27_eq i) (k0_off27_inb i hc0)
  have hq := qA_eq c arg4 harg4 x2 5 (by norm_num)
  have ht := trips_even i hc0
  rw [hq, ht] at hi hs
  exact masked_of hi hs hv rfl rfl

/-- Chain 6 as the body finds it after the loops. -/
theorem inA_6 : (⟨(runA.sl.v530 (F := F) c i arg2 harg2 arg3 harg3 arg4 harg4 arg5 harg5 arg6 harg6 arg7 harg7 arg8 harg8 arg9 harg9 arg10 harg10 arg11 harg11 arg12 harg12 x2 x3 x4 f12), (runA.sl.v547 (F := F) c i arg2 harg2 arg3 harg3 arg4 harg4 arg5 harg5 arg6 harg6 arg7 harg7 arg8 harg8 arg9 harg9 arg10 harg10 arg11 harg11 arg12 harg12 x2 x3 x4 f12), (runA.sl.v556 (F := F) c i arg2 harg2 arg3 harg3 arg4 harg4 arg5 harg5 arg6 harg6 arg7 harg7 arg8 harg8 arg9 harg9 arg10 harg10 arg11 harg11 arg12 harg12 hc0 x2 x3 x4 f12)⟩ : Chain F)
    = chain0.over x3 x4 3 (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 6) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 6 (by norm_num) (sA_eq c arg4 harg4 arg5 harg5 arg11 x2 x3 ?g11 6 _) (cA_eq arg8 arg9 arg10 ?g8 ?g9 ?g10 6 _)).1
  case main =>
  unfold chainAt
  refine Chain.mk_congr ?_ ?_ ?_
  · unfold runA.sl.v530 runA.sl.HS1_6 runA.sl.HS1_5 runA.sl.HS1_4 runA.sl.HS1_3 runA.sl.HS1_2 runA.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runA.sl.v547 runA.sl.HS2_6 runA.sl.HS2_5 runA.sl.HS2_4 runA.sl.HS2_3 runA.sl.HS2_2 runA.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runA.sl.v556 runA.sl.HS0_6 runA.sl.HS0_5 runA.sl.HS0_4 runA.sl.HS0_3 runA.sl.HS0_2 runA.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl

/-- What the body makes of chain 6. -/
theorem upA_6 : (runA.sl.v555 (F := F) c i arg2 harg2 arg3 harg3 arg4 harg4 arg5 harg5 arg6 harg6 arg7 harg7 arg8 harg8 arg9 harg9 arg10 harg10 arg11 harg11 arg12 harg12 x2 x3 x4 f12) = (finChain x3 x4 3 (i 1).val (qry x2 6)).L
    ∧ (runA.sl.v565 (F := F) c i arg2 harg2 arg3 harg3 arg4 harg4 arg5 harg5 arg6 harg6 arg7 harg7 arg8 harg8 arg9 harg9 arg10 harg10 arg11 harg11 arg12 harg12 hc0 x2 x3 x4 f12) = (finChain x3 x4 3 (i 1).val (qry x2 6)).A := by
  have hi := inA_6 c i arg2 harg2 arg3 harg3 arg4 harg4 arg5 harg5 arg6 harg6 arg7 harg7 arg8 harg8 arg9 harg9 arg10 harg10 arg11 harg11 arg12 harg12 hc0 hc1 x2 x3 x4 f12
  have hs : (runA.sl.v532 (F := F) c i arg2 harg2 arg3 harg3 arg4 harg4 arg5 harg5 arg6 harg6 arg7 harg7 arg8 harg8 arg9 harg9 arg10 harg10 arg11 harg11 arg12 harg12 x2 x3 x4 f12) = score (kblk x3 3 (2 * (k0_t1_loop i).trips)) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 6) := by
    refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 6 (by norm_num) (sA_eq c arg4 harg4 arg5 harg5 arg11 x2 x3 ?g11 6 _) (cA_eq arg8 arg9 arg10 ?g8 ?g9 ?g10 6 _)).2
    case main => rfl
  have hv := readAt_vblk harg6 x4 3 (i 1).val (by norm_num) (i 1).isLt (k0_off28_eq i) (k0_off28_inb i hc0)
  have hq := qA_eq c arg4 harg4 x2 6 (by norm_num)
  have ht := trips_even i hc0
  rw [hq, ht] at hi hs
  exact masked_of hi hs hv rfl rfl

/-- Chain 7 as the body finds it after the loops. -/
theorem inA_7 : (⟨(runA.sl.v566 (F := F) c i arg2 harg2 arg3 harg3 arg4 harg4 arg5 harg5 arg6 harg6 arg7 harg7 arg8 harg8 arg9 harg9 arg10 harg10 arg11 harg11 arg12 harg12 x2 x3 x4 f12), (runA.sl.v583 (F := F) c i arg2 harg2 arg3 harg3 arg4 harg4 arg5 harg5 arg6 harg6 arg7 harg7 arg8 harg8 arg9 harg9 arg10 harg10 arg11 harg11 arg12 harg12 x2 x3 x4 f12), (runA.sl.v592 (F := F) c i arg2 harg2 arg3 harg3 arg4 harg4 arg5 harg5 arg6 harg6 arg7 harg7 arg8 harg8 arg9 harg9 arg10 harg10 arg11 harg11 arg12 harg12 hc0 x2 x3 x4 f12)⟩ : Chain F)
    = chain0.over x3 x4 3 (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 7) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 7 (by norm_num) (sA_eq c arg4 harg4 arg5 harg5 arg11 x2 x3 ?g11 7 _) (cA_eq arg8 arg9 arg10 ?g8 ?g9 ?g10 7 _)).1
  case main =>
  unfold chainAt
  refine Chain.mk_congr ?_ ?_ ?_
  · unfold runA.sl.v566 runA.sl.HS1_7 runA.sl.HS1_6 runA.sl.HS1_5 runA.sl.HS1_4 runA.sl.HS1_3 runA.sl.HS1_2 runA.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runA.sl.v583 runA.sl.HS2_7 runA.sl.HS2_6 runA.sl.HS2_5 runA.sl.HS2_4 runA.sl.HS2_3 runA.sl.HS2_2 runA.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runA.sl.v592 runA.sl.HS0_7 runA.sl.HS0_6 runA.sl.HS0_5 runA.sl.HS0_4 runA.sl.HS0_3 runA.sl.HS0_2 runA.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl

/-- What the body makes of chain 7. -/
theorem upA_7 : (runA.sl.v591 (F := F) c i arg2 harg2 arg3 harg3 arg4 harg4 arg5 harg5 arg6 harg6 arg7 harg7 arg8 harg8 arg9 harg9 arg10 harg10 arg11 harg11 arg12 harg12 x2 x3 x4 f12) = (finChain x3 x4 3 (i 1).val (qry x2 7)).L
    ∧ (runA.sl.v601 (F := F) c i arg2 harg2 arg3 harg3 arg4 harg4 arg5 harg5 arg6 harg6 arg7 harg7 arg8 harg8 arg9 harg9 arg10 harg10 arg11 harg11 arg12 harg12 hc0 x2 x3 x4 f12) = (finChain x3 x4 3 (i 1).val (qry x2 7)).A := by
  have hi := inA_7 c i arg2 harg2 arg3 harg3 arg4 harg4 arg5 harg5 arg6 harg6 arg7 harg7 arg8 harg8 arg9 harg9 arg10 harg10 arg11 harg11 arg12 harg12 hc0 hc1 x2 x3 x4 f12
  have hs : (runA.sl.v568 (F := F) c i arg2 harg2 arg3 harg3 arg4 harg4 arg5 harg5 arg6 harg6 arg7 harg7 arg8 harg8 arg9 harg9 arg10 harg10 arg11 harg11 arg12 harg12 x2 x3 x4 f12) = score (kblk x3 3 (2 * (k0_t1_loop i).trips)) (qAt (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) 7) := by
    refine Eq.trans ?main (after_at ?bd c i arg2 harg2 arg3 harg3 arg4 harg4 arg5 harg5 arg6 harg6 arg7 harg7 arg8 harg8 arg9 harg9 arg10 harg10 arg11 harg11 arg12 harg12 ?a1 (runA.sl.r (F := F) c arg4 harg4 x2) (runA.sl.r_1 (F := F) c arg4 harg4 x2) (runA.sl.r_2 (F := F) c arg4 harg4 x2) (runA.sl.r_3 (F := F) c arg4 harg4 x2) (runA.sl.r_4 (F := F) c arg4 harg4 x2) (runA.sl.r_5 (F := F) c arg4 harg4 x2) (runA.sl.r_7 (F := F) c arg4 harg4 x2) (runA.sl.r_8 (F := F) c arg4 harg4 x2) (0#32) (runA.sl.r_11 (F := F) c arg4 harg4 arg5 harg5 x2 x3) (runA.sl.v137 i) x3 x4 runA.sl.HS0_1 runA.sl.HS1_1 runA.sl.HS2_1 (runA.sl.HS3_8 (F := F) c arg4 harg4 arg5 harg5 x2 x3) f12 ?g8 ?g9 ?g10 ?g11 7 (by norm_num) (sA_eq c arg4 harg4 arg5 harg5 arg11 x2 x3 ?g11 7 _) (cA_eq arg8 arg9 arg10 ?g8 ?g9 ?g10 7 _)).2
    case main => rfl
  have hv := readAt_vblk harg6 x4 3 (i 1).val (by norm_num) (i 1).isLt (k0_off28_eq i) (k0_off28_inb i hc0)
  have hq := qA_eq c arg4 harg4 x2 7 (by norm_num)
  have ht := trips_even i hc0
  rw [hq, ht] at hi hs
  exact masked_of hi hs hv rfl rfl

end Cert.Proof
-- ==== Proof.OutA.lean ====
module

public import proofs.«01_k».proof.Proof.FinA

/-! What the body stores at a query block whose number is even. -/

@[expose] public section

set_option maxRecDepth 16384

noncomputable section

open Cert.KernelIdeal Cert.KernelIdeal.Gen Cert.KernelIdeal.Proof Idealize.ShloMosaic Idealize.ShloMosaic.TcCoe Idealize.SL.Sem

namespace Cert.Proof

variable {F : FTy → Type} [FloatOps F] [Named F]

variable (c : Dev nD) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (hc0 : cond0_0 i) (hc1 : ¬cond0_1 i)
    (x0 : Vec F S4x64 .f32) (x1 : Vec F S128x1 .f32) (x2 : Vec F S1x512x512 .bf16) (x3 : Vec F S4096x512 .bf16)
    (x4 : Vec F S8x512x512 .bf16) (f12 : BufTy.Contents (Elt F) arg12.view.ty)

include hc0 hc1

/-- What the body reads back of chain 0 at the end. -/
theorem outA_0 : (runA.sl.v166 (F := F) c i arg2 harg2 arg3 harg3 arg4 harg4 arg5 harg5 arg6 harg6 arg7 harg7 arg8 harg8 arg9 harg9 arg10 harg10 arg11 harg11 arg12 harg12 hc0 x2 x3 x4 f12) = (finChain x3 x4 0 (i 1).val (qry x2 0)).A
    ∧ (runA.sl.v168 (F := F) c i arg2 harg2 arg3 harg3 arg4 harg4 arg5 harg5 arg6 harg6 arg7 harg7 arg8 harg8 arg9 harg9 arg10 harg10 arg11 harg11 arg12 harg12 x2 x3 x4 f12) = (finChain x3 x4 0 (i 1).val (qry x2 0)).L := by
  have hu := upA_0 c i arg2 harg2 arg3 harg3 arg4 harg4 arg5 harg5 arg6 harg6 arg7 harg7 arg8 harg8 arg9 harg9 arg10 harg10 arg11 harg11 arg12 harg12 hc0 hc1 x2 x3 x4 f12
  constructor
  · unfold runA.sl.v166 runA.sl.HS0_8 runA.sl.HS0_7 runA.sl.HS0_6 runA.sl.HS0_5 runA.sl.HS0_4 runA.sl.HS0_3 runA.sl.HS0_2 runA.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.2
  · unfold runA.sl.v168 runA.sl.HS2_8 runA.sl.HS2_7 runA.sl.HS2_6 runA.sl.HS2_5 runA.sl.HS2_4 runA.sl.HS2_3 runA.sl.HS2_2 runA.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 1 at the end. -/
theorem outA_1 : (runA.sl.v172 (F := F) c i arg2 harg2 arg3 harg3 arg4 harg4 arg5 harg5 arg6 harg6 arg7 harg7 arg8 harg8 arg9 harg9 arg10 harg10 arg11 harg11 arg12 harg12 hc0 x2 x3 x4 f12) = (finChain x3 x4 0 (i 1).val (qry x2 1)).A
    ∧ (runA.sl.v174 (F := F) c i arg2 harg2 arg3 harg3 arg4 harg4 arg5 harg5 arg6 harg6 arg7 harg7 arg8 harg8 arg9 harg9 arg10 harg10 arg11 harg11 arg12 harg12 x2 x3 x4 f12) = (finChain x3 x4 0 (i 1).val (qry x2 1)).L := by
  have hu := upA_1 c i arg2 harg2 arg3 harg3 arg4 harg4 arg5 harg5 arg6 harg6 arg7 harg7 arg8 harg8 arg9 harg9 arg10 harg10 arg11 harg11 arg12 harg12 hc0 hc1 x2 x3 x4 f12
  constructor
  · unfold runA.sl.v172 runA.sl.HS0_8 runA.sl.HS0_7 runA.sl.HS0_6 runA.sl.HS0_5 runA.sl.HS0_4 runA.sl.HS0_3 runA.sl.HS0_2 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.2
  · unfold runA.sl.v174 runA.sl.HS2_8 runA.sl.HS2_7 runA.sl.HS2_6 runA.sl.HS2_5 runA.sl.HS2_4 runA.sl.HS2_3 runA.sl.HS2_2 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 2 at the end. -/
theorem outA_2 : (runA.sl.v200 (F := F) c i arg2 harg2 arg3 harg3 arg4 harg4 arg5 harg5 arg6 harg6 arg7 harg7 arg8 harg8 arg9 harg9 arg10 harg10 arg11 harg11 arg12 harg12 hc0 x2 x3 x4 f12) = (finChain x3 x4 1 (i 1).val (qry x2 2)).A
    ∧ (runA.sl.v202 (F := F) c i arg2 harg2 arg3 harg3 arg4 harg4 arg5 harg5 arg6 harg6 arg7 harg7 arg8 harg8 arg9 harg9 arg10 harg10 arg11 harg11 arg12 harg12 x2 x3 x4 f12) = (finChain x3 x4 1 (i 1).val (qry x2 2)).L := by
  have hu := upA_2 c i arg2 harg2 arg3 harg3 arg4 harg4 arg5 harg5 arg6 harg6 arg7 harg7 arg8 harg8 arg9 harg9 arg10 harg10 arg11 harg11 arg12 harg12 hc0 hc1 x2 x3 x4 f12
  constructor
  · unfold runA.sl.v200 runA.sl.HS0_8 runA.sl.HS0_7 runA.sl.HS0_6 runA.sl.HS0_5 runA.sl.HS0_4 runA.sl.HS0_3 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.2
  · unfold runA.sl.v202 runA.sl.HS2_8 runA.sl.HS2_7 runA.sl.HS2_6 runA.sl.HS2_5 runA.sl.HS2_4 runA.sl.HS2_3 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 3 at the end. -/
theorem outA_3 : (runA.sl.v206 (F := F) c i arg2 harg2 arg3 harg3 arg4 harg4 arg5 harg5 arg6 harg6 arg7 harg7 arg8 harg8 arg9 harg9 arg10 harg10 arg11 harg11 arg12 harg12 hc0 x2 x3 x4 f12) = (finChain x3 x4 1 (i 1).val (qry x2 3)).A
    ∧ (runA.sl.v208 (F := F) c i arg2 harg2 arg3 harg3 arg4 harg4 arg5 harg5 arg6 harg6 arg7 harg7 arg8 harg8 arg9 harg9 arg10 harg10 arg11 harg11 arg12 harg12 x2 x3 x4 f12) = (finChain x3 x4 1 (i 1).val (qry x2 3)).L := by
  have hu := upA_3 c i arg2 harg2 arg3 harg3 arg4 harg4 arg5 harg5 arg6 harg6 arg7 harg7 arg8 harg8 arg9 harg9 arg10 harg10 arg11 harg11 arg12 harg12 hc0 hc1 x2 x3 x4 f12
  constructor
  · unfold runA.sl.v206 runA.sl.HS0_8 runA.sl.HS0_7 runA.sl.HS0_6 runA.sl.HS0_5 runA.sl.HS0_4 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.2
  · unfold runA.sl.v208 runA.sl.HS2_8 runA.sl.HS2_7 runA.sl.HS2_6 runA.sl.HS2_5 runA.sl.HS2_4 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 4 at the end. -/
theorem outA_4 : (runA.sl.v234 (F := F) c i arg2 harg2 arg3 harg3 arg4 harg4 arg5 harg5 arg6 harg6 arg7 harg7 arg8 harg8 arg9 harg9 arg10 harg10 arg11 harg11 arg12 harg12 hc0 x2 x3 x4 f12) = (finChain x3 x4 2 (i 1).val (qry x2 4)).A
    ∧ (runA.sl.v236 (F := F) c i arg2 harg2 arg3 harg3 arg4 harg4 arg5 harg5 arg6 harg6 arg7 harg7 arg8 harg8 arg9 harg9 arg10 harg10 arg11 harg11 arg12 harg12 x2 x3 x4 f12) = (finChain x3 x4 2 (i 1).val (qry x2 4)).L := by
  have hu := upA_4 c i arg2 harg2 arg3 harg3 arg4 harg4 arg5 harg5 arg6 harg6 arg7 harg7 arg8 harg8 arg9 harg9 arg10 harg10 arg11 harg11 arg12 harg12 hc0 hc1 x2 x3 x4 f12
  constructor
  · unfold runA.sl.v234 runA.sl.HS0_8 runA.sl.HS0_7 runA.sl.HS0_6 runA.sl.HS0_5 View.readCov
    refine (readAt_miss _ _ _ _ _ _ rfl).trans ?_
    refine (readAt_miss _ _ _ _ _ _ rfl).trans ?_
    refine (readAt_miss _ _ _ _ _ _ rfl).trans ?_
    exact (readAt_hit ..).trans hu.2
  · unfold runA.sl.v236 runA.sl.HS2_8 runA.sl.HS2_7 runA.sl.HS2_6 runA.sl.HS2_5 View.readCov
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 5 at the end. -/
theorem outA_5 : (runA.sl.v240 (F := F) c i arg2 harg2 arg3 harg3 arg4 harg4 arg5 harg5 arg6 harg6 arg7 harg7 arg8 harg8 arg9 harg9 arg10 harg10 arg11 harg11 arg12 harg12 hc0 x2 x3 x4 f12) = (finChain x3 x4 2 (i 1).val (qry x2 5)).A
    ∧ (runA.sl.v242 (F := F) c i arg2 harg2 arg3 harg3 arg4 harg4 arg5 harg5 arg6 harg6 arg7 harg7 arg8 harg8 arg9 harg9 arg10 harg10 arg11 harg11 arg12 harg12 x2 x3 x4 f12) = (finChain x3 x4 2 (i 1).val (qry x2 5)).L := by
  have hu := upA_5 c i arg2 harg2 arg3 harg3 arg4 harg4 arg5 harg5 arg6 harg6 arg7 harg7 arg8 harg8 arg9 harg9 arg10 harg10 arg11 harg11 arg12 harg12 hc0 hc1 x2 x3 x4 f12
  constructor
  · unfold runA.sl.v240 runA.sl.HS0_8 runA.sl.HS0_7 runA.sl.HS0_6 View.readCov
    refine (readAt_miss _ _ _ _ _ _ rfl).trans ?_
    refine (readAt_miss _ _ _ _ _ _ rfl).trans ?_
    exact (readAt_hit ..).trans hu.2
  · unfold runA.sl.v242 runA.sl.HS2_8 runA.sl.HS2_7 runA.sl.HS2_6 View.readCov
    refine (readAt_miss _ _ _ _ _ _ rfl).trans ?_
    refine (readAt_miss _ _ _ _ _ _ rfl).trans ?_
    exact (readAt_hit ..).trans hu.1

/-- What the body reads back of chain 6 at the end. -/
theorem outA_6 : (runA.sl.v268 (F := F) c i arg2 harg2 arg3 harg3 arg4 harg4 arg5 harg5 arg6 harg6 arg7 harg7 arg8 harg8 arg9 harg9 arg10 harg10 arg11 harg11 arg12 harg12 hc0 x2 x3 x4 f12) = (finChain x3 x4 3 (i 1).val (qry x2 6)).A
    ∧ (runA.sl.v270 (F := F) c i arg2 harg2 arg3 harg3 arg4 harg4 arg5 harg5 arg6 harg6 arg7 harg7 arg8 harg8 arg9 harg9 arg10 harg10 arg11 harg11 arg12 harg12 x2 x3 x4 f12) = (finChain x3 x4 3 (i 1).val (qry x2 6)).L := by
  have hu := upA_6 c i arg2 harg2 arg3 harg3 arg4 harg4 arg5 harg5 arg6 harg6 arg7 harg7 arg8 harg8 arg9 harg9 arg10 harg10 arg11 harg11 arg12 harg12 hc0 hc1 x2 x3 x4 f12
  constructor
  · unfold runA.sl.v268 runA.sl.HS0_8 runA.sl.HS0_7 View.readCov
    refine (readAt_miss _ _ _ _ _ _ rfl).trans ?_
    exact (readAt_hit ..).trans hu.2
  · unfold runA.sl.v270 runA.sl.HS2_8 runA.sl.HS2_7 View.readCov
    refine (readAt_miss _ _ _ _ _ _ rfl).trans ?_
    exact (readAt_hit ..).trans hu.1

/-- What the body reads back of chain 7 at the end. -/
theorem outA_7 : (runA.sl.v274 (F := F) c i arg2 harg2 arg3 harg3 arg4 harg4 arg5 harg5 arg6 harg6 arg7 harg7 arg8 harg8 arg9 harg9 arg10 harg10 arg11 harg11 arg12 harg12 hc0 x2 x3 x4 f12) = (finChain x3 x4 3 (i 1).val (qry x2 7)).A
    ∧ (runA.sl.v276 (F := F) c i arg2 harg2 arg3 harg3 arg4 harg4 arg5 harg5 arg6 harg6 arg7 harg7 arg8 harg8 arg9 harg9 arg10 harg10 arg11 harg11 arg12 harg12 x2 x3 x4 f12) = (finChain x3 x4 3 (i 1).val (qry x2 7)).L := by
  have hu := upA_7 c i arg2 harg2 arg3 harg3 arg4 harg4 arg5 harg5 arg6 harg6 arg7 harg7 arg8 harg8 arg9 harg9 arg10 harg10 arg11 harg11 arg12 harg12 hc0 hc1 x2 x3 x4 f12
  constructor
  · unfold runA.sl.v274 runA.sl.HS0_8 View.readCov
    exact (readAt_hit ..).trans hu.2
  · unfold runA.sl.v276 runA.sl.HS2_8 View.readCov
    exact (readAt_hit ..).trans hu.1

/-- The pieces that the run at such a block finds, in terms of the chains. -/
theorem runA_pieces : (runA c i arg2 harg2 arg3 harg3 arg4 harg4 arg5 harg5 arg6 harg6 arg7 harg7 arg8 harg8 arg9 harg9 arg10 harg10 arg11 harg11 arg12 harg12 hc0 hc1 x0 x1 x2 x3 x4 f12).1 = outPieces x0 x1 x2 x3 x4 (i 1).val := by
  have hl : (runA.sl.r_9 (F := F) c arg2 harg2 x0) = lamOf x0 := congrArg k0_pay590 (readAt_all harg2 x0 (off := ![0, 0]) (by intro a; fin_cases a <;> rfl) inb_S4x64_S4x64_0_0)
  have hg : (View.readAt (Elt F) arg3.view (Rect.unit (s := S128x1) ![0, 0] S128x1.size inb_S128x1_S128x1_0_0).toLoadRect (harg3.unread x1)) = x1 := readAt_all harg3 x1 (by intro a; fin_cases a <;> rfl) inb_S128x1_S128x1_0_0
  have o0 := outA_0 c i arg2 harg2 arg3 harg3 arg4 harg4 arg5 harg5 arg6 harg6 arg7 harg7 arg8 harg8 arg9 harg9 arg10 harg10 arg11 harg11 arg12 harg12 hc0 hc1 x2 x3 x4 f12
  have o1 := outA_1 c i arg2 harg2 arg3 harg3 arg4 harg4 arg5 harg5 arg6 harg6 arg7 harg7 arg8 harg8 arg9 harg9 arg10 harg10 arg11 harg11 arg12 harg12 hc0 hc1 x2 x3 x4 f12
  have o2 := outA_2 c i arg2 harg2 arg3 harg3 arg4 harg4 arg5 harg5 arg6 harg6 arg7 harg7 arg8 harg8 arg9 harg9 arg10 harg10 arg11 harg11 arg12 harg12 hc0 hc1 x2 x3 x4 f12
  have o3 := outA_3 c i arg2 harg2 arg3 harg3 arg4 harg4 arg5 harg5 arg6 harg6 arg7 harg7 arg8 harg8 arg9 harg9 arg10 harg10 arg11 harg11 arg12 harg12 hc0 hc1 x2 x3 x4 f12
  have o4 := outA_4 c i arg2 harg2 arg3 harg3 arg4 harg4 arg5 harg5 arg6 harg6 arg7 harg7 arg8 harg8 arg9 harg9 arg10 harg10 arg11 harg11 arg12 harg12 hc0 hc1 x2 x3 x4 f12
  have o5 := outA_5 c i arg2 harg2 arg3 harg3 arg4 harg4 arg5 harg5 arg6 harg6 arg7 harg7 arg8 harg8 arg9 harg9 arg10 harg10 arg11 harg11 arg12 harg12 hc0 hc1 x2 x3 x4 f12
  have o6 := outA_6 c i arg2 harg2 arg3 harg3 arg4 harg4 arg5 harg5 arg6 harg6 arg7 harg7 arg8 harg8 arg9 harg9 arg10 harg10 arg11 harg11 arg12 harg12 hc0 hc1 x2 x3 x4 f12
  have o7 := outA_7 c i arg2 harg2 arg3 harg3 arg4 harg4 arg5 harg5 arg6 harg6 arg7 harg7 arg8 harg8 arg9 harg9 arg10 harg10 arg11 harg11 arg12 harg12 hc0 hc1 x2 x3 x4 f12
  have e : (runA c i arg2 harg2 arg3 harg3 arg4 harg4 arg5 harg5 arg6 harg6 arg7 harg7 arg8 harg8 arg9 harg9 arg10 harg10 arg11 harg11 arg12 harg12 hc0 hc1 x0 x1 x2 x3 x4 f12).1 = [⟨Rect.unit (s := S512x512) ![0, 384] S512x128.size inb_S512x512_S512x128_0_384,
        k0_pay1 (k0_pay618 (runA.sl.r_9 (F := F) c arg2 harg2 x0) (runA.sl.v268 (F := F) c i arg2 harg2 arg3 harg3 arg4 harg4 arg5 harg5 arg6 harg6 arg7 harg7 arg8 harg8 arg9 harg9 arg10 harg10 arg11 harg11 arg12 harg12 hc0 x2 x3 x4 f12) (runA.sl.v270 (F := F) c i arg2 harg2 arg3 harg3 arg4 harg4 arg5 harg5 arg6 harg6 arg7 harg7 arg8 harg8 arg9 harg9 arg10 harg10 arg11 harg11 arg12 harg12 x2 x3 x4 f12) (runA.sl.v274 (F := F) c i arg2 harg2 arg3 harg3 arg4 harg4 arg5 harg5 arg6 harg6 arg7 harg7 arg8 harg8 arg9 harg9 arg10 harg10 arg11 harg11 arg12 harg12 hc0 x2 x3 x4 f12) (runA.sl.v276 (F := F) c i arg2 harg2 arg3 harg3 arg4 harg4 arg5 harg5 arg6 harg6 arg7 harg7 arg8 harg8 arg9 harg9 arg10 harg10 arg11 harg11 arg12 harg12 x2 x3 x4 f12)) (k0_pay619 (runA.sl.r_9 (F := F) c arg2 harg2 x0) (runA.sl.v268 (F := F) c i arg2 harg2 arg3 harg3 arg4 harg4 arg5 harg5 arg6 harg6 arg7 harg7 arg8 harg8 arg9 harg9 arg10 harg10 arg11 harg11 arg12 harg12 hc0 x2 x3 x4 f12) (runA.sl.v270 (F := F) c i arg2 harg2 arg3 harg3 arg4 harg4 arg5 harg5 arg6 harg6 arg7 harg7 arg8 harg8 arg9 harg9 arg10 harg10 arg11 harg11 arg12 harg12 x2 x3 x4 f12) (runA.sl.v274 (F := F) c i arg2 harg2 arg3 harg3 arg4 harg4 arg5 harg5 arg6 harg6 arg7 harg7 arg8 harg8 arg9 harg9 arg10 harg10 arg11 harg11 arg12 harg12 hc0 x2 x3 x4 f12) (runA.sl.v276 (F := F) c i arg2 harg2 arg3 harg3 arg4 harg4 arg5 harg5 arg6 harg6 arg7 harg7 arg8 harg8 arg9 harg9 arg10 harg10 arg11 harg11 arg12 harg12 x2 x3 x4 f12)) (View.readAt (Elt F) arg3.view (Rect.unit (s := S128x1) ![0, 0] S128x1.size inb_S128x1_S128x1_0_0).toLoadRect (harg3.unread x1))⟩, ⟨Rect.unit (s := S512x512) ![0, 256] S512x128.size inb_S512x512_S512x128_0_256,
        k0_pay1 (k0_pay618 (runA.sl.r_9 (F := F) c arg2 harg2 x0) (runA.sl.v234 (F := F) c i arg2 harg2 arg3 harg3 arg4 harg4 arg5 harg5 arg6 harg6 arg7 harg7 arg8 harg8 arg9 harg9 arg10 harg10 arg11 harg11 arg12 harg12 hc0 x2 x3 x4 f12) (runA.sl.v236 (F := F) c i arg2 harg2 arg3 harg3 arg4 harg4 arg5 harg5 arg6 harg6 arg7 harg7 arg8 harg8 arg9 harg9 arg10 harg10 arg11 harg11 arg12 harg12 x2 x3 x4 f12) (runA.sl.v240 (F := F) c i arg2 harg2 arg3 harg3 arg4 harg4 arg5 harg5 arg6 harg6 arg7 harg7 arg8 harg8 arg9 harg9 arg10 harg10 arg11 harg11 arg12 harg12 hc0 x2 x3 x4 f12) (runA.sl.v242 (F := F) c i arg2 harg2 arg3 harg3 arg4 harg4 arg5 harg5 arg6 harg6 arg7 harg7 arg8 harg8 arg9 harg9 arg10 harg10 arg11 harg11 arg12 harg12 x2 x3 x4 f12)) (k0_pay619 (runA.sl.r_9 (F := F) c arg2 harg2 x0) (runA.sl.v234 (F := F) c i arg2 harg2 arg3 harg3 arg4 harg4 arg5 harg5 arg6 harg6 arg7 harg7 arg8 harg8 arg9 harg9 arg10 harg10 arg11 harg11 arg12 harg12 hc0 x2 x3 x4 f12) (runA.sl.v236 (F := F) c i arg2 harg2 arg3 harg3 arg4 harg4 arg5 harg5 arg6 harg6 arg7 harg7 arg8 harg8 arg9 harg9 arg10 harg10 arg11 harg11 arg12 harg12 x2 x3 x4 f12) (runA.sl.v240 (F := F) c i arg2 harg2 arg3 harg3 arg4 harg4 arg5 harg5 arg6 harg6 arg7 harg7 arg8 harg8 arg9 harg9 arg10 harg10 arg11 harg11 arg12 harg12 hc0 x2 x3 x4 f12) (runA.sl.v242 (F := F) c i arg2 harg2 arg3 harg3 arg4 harg4 arg5 harg5 arg6 harg6 arg7 harg7 arg8 harg8 arg9 harg9 arg10 harg10 arg11 harg11 arg12 harg12 x2 x3 x4 f12)) (View.readAt (Elt F) arg3.view (Rect.unit (s := S128x1) ![0, 0] S128x1.size inb_S128x1_S128x1_0_0).toLoadRect (harg3.unread x1))⟩, ⟨Rect.unit (s := S512x512) ![0, 128] S512x128.size inb_S512x512_S512x128_0_128,
        k0_pay1 (k0_pay618 (runA.sl.r_9 (F := F) c arg2 harg2 x0) (runA.sl.v200 (F := F) c i arg2 harg2 arg3 harg3 arg4 harg4 arg5 harg5 arg6 harg6 arg7 harg7 arg8 harg8 arg9 harg9 arg10 harg10 arg11 harg11 arg12 harg12 hc0 x2 x3 x4 f12) (runA.sl.v202 (F := F) c i arg2 harg2 arg3 harg3 arg4 harg4 arg5 harg5 arg6 harg6 arg7 harg7 arg8 harg8 arg9 harg9 arg10 harg10 arg11 harg11 arg12 harg12 x2 x3 x4 f12) (runA.sl.v206 (F := F) c i arg2 harg2 arg3 harg3 arg4 harg4 arg5 harg5 arg6 harg6 arg7 harg7 arg8 harg8 arg9 harg9 arg10 harg10 arg11 harg11 arg12 harg12 hc0 x2 x3 x4 f12) (runA.sl.v208 (F := F) c i arg2 harg2 arg3 harg3 arg4 harg4 arg5 harg5 arg6 harg6 arg7 harg7 arg8 harg8 arg9 harg9 arg10 harg10 arg11 harg11 arg12 harg12 x2 x3 x4 f12)) (k0_pay619 (runA.sl.r_9 (F := F) c arg2 harg2 x0) (runA.sl.v200 (F := F) c i arg2 harg2 arg3 harg3 arg4 harg4 arg5 harg5 arg6 harg6 arg7 harg7 arg8 harg8 arg9 harg9 arg10 harg10 arg11 harg11 arg12 harg12 hc0 x2 x3 x4 f12) (runA.sl.v202 (F := F) c i arg2 harg2 arg3 harg3 arg4 harg4 arg5 harg5 arg6 harg6 arg7 harg7 arg8 harg8 arg9 harg9 arg10 harg10 arg11 harg11 arg12 harg12 x2 x3 x4 f12) (runA.sl.v206 (F := F) c i arg2 harg2 arg3 harg3 arg4 harg4 arg5 harg5 arg6 harg6 arg7 harg7 arg8 harg8 arg9 harg9 arg10 harg10 arg11 harg11 arg12 harg12 hc0 x2 x3 x4 f12) (runA.sl.v208 (F := F) c i arg2 harg2 arg3 harg3 arg4 harg4 arg5 harg5 arg6 harg6 arg7 harg7 arg8 harg8 arg9 harg9 arg10 harg10 arg11 harg11 arg12 harg12 x2 x3 x4 f12)) (View.readAt (Elt F) arg3.view (Rect.unit (s := S128x1) ![0, 0] S128x1.size inb_S128x1_S128x1_0_0).toLoadRect (harg3.unread x1))⟩, ⟨Rect.unit (s := S512x512) ![0, 0] S512x128.size inb_S512x512_S512x128_0_0,
        k0_pay1 (k0_pay618 (runA.sl.r_9 (F := F) c arg2 harg2 x0) (runA.sl.v166 (F := F) c i arg2 harg2 arg3 harg3 arg4 harg4 arg5 harg5 arg6 harg6 arg7 harg7 arg8 harg8 arg9 harg9 arg10 harg10 arg11 harg11 arg12 harg12 hc0 x2 x3 x4 f12) (runA.sl.v168 (F := F) c i arg2 harg2 arg3 harg3 arg4 harg4 arg5 harg5 arg6 harg6 arg7 harg7 arg8 harg8 arg9 harg9 arg10 harg10 arg11 harg11 arg12 harg12 x2 x3 x4 f12) (runA.sl.v172 (F := F) c i arg2 harg2 arg3 harg3 arg4 harg4 arg5 harg5 arg6 harg6 arg7 harg7 arg8 harg8 arg9 harg9 arg10 harg10 arg11 harg11 arg12 harg12 hc0 x2 x3 x4 f12) (runA.sl.v174 (F := F) c i arg2 harg2 arg3 harg3 arg4 harg4 arg5 harg5 arg6 harg6 arg7 harg7 arg8 harg8 arg9 harg9 arg10 harg10 arg11 harg11 arg12 harg12 x2 x3 x4 f12)) (k0_pay619 (runA.sl.r_9 (F := F) c arg2 harg2 x0) (runA.sl.v166 (F := F) c i arg2 harg2 arg3 harg3 arg4 harg4 arg5 harg5 arg6 harg6 arg7 harg7 arg8 harg8 arg9 harg9 arg10 harg10 arg11 harg11 arg12 harg12 hc0 x2 x3 x4 f12) (runA.sl.v168 (F := F) c i arg2 harg2 arg3 harg3 arg4 harg4 arg5 harg5 arg6 harg6 arg7 harg7 arg8 harg8 arg9 harg9 arg10 harg10 arg11 harg11 arg12 harg12 x2 x3 x4 f12) (runA.sl.v172 (F := F) c i arg2 harg2 arg3 harg3 arg4 harg4 arg5 harg5 arg6 harg6 arg7 harg7 arg8 harg8 arg9 harg9 arg10 harg10 arg11 harg11 arg12 harg12 hc0 x2 x3 x4 f12) (runA.sl.v174 (F := F) c i arg2 harg2 arg3 harg3 arg4 harg4 arg5 harg5 arg6 harg6 arg7 harg7 arg8 harg8 arg9 harg9 arg10 harg10 arg11 harg11 arg12 harg12 x2 x3 x4 f12)) (View.readAt (Elt F) arg3.view (Rect.unit (s := S128x1) ![0, 0] S128x1.size inb_S128x1_S128x1_0_0).toLoadRect (harg3.unread x1))⟩] := rfl
  rw [e, hl, hg, o0.1, o0.2, o1.1, o1.2, o2.1, o2.2, o3.1, o3.2, o4.1, o4.2, o5.1, o5.2, o6.1, o6.2, o7.1, o7.2]
  rfl

end Cert.Proof
-- ==== Proof.RunB.lean ====
module

public import proofs.«01_k».proof.Proof.Gen.KernelIdeal.Frame.Runs

/-! The kernel's body run once, at a query block whose number is odd: the block has two remaining key blocks, the one before its own and its own.
    `runB` finds the pieces that the body's stores leave in the result's block; they are named over
    the blocks of the inputs and over what the second score buffer `arg12` held before. -/

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body's run at such a block: from the input blocks `x0` to `x4` it ends with them in place and with
    the pieces of the witness stored in the result's block. -/
noncomputable def runB (c : Dev nD) (i : grid0.Coords) (arg2 : Memref sig .tc .vmem S4x64 .f32) (harg2 : arg2.IsWhole) (arg3 : Memref sig .tc .vmem S128x1 .f32) (harg3 : arg3.IsWhole) (arg4 : Memref sig .tc .vmem S1x512x512 .bf16) (harg4 : arg4.IsWhole) (arg5 : Memref sig .tc .vmem S4096x512 .bf16) (harg5 : arg5.IsWhole) (arg6 : Memref sig .tc .vmem S8x512x512 .bf16) (harg6 : arg6.IsWhole) (arg7 : Memref sig .tc .vmem S512x512 .bf16) (harg7 : arg7.IsWhole) (arg8 : Memref sig .tc .vmem S8x128x512 .f32) (harg8 : arg8.IsWhole) (arg9 : Memref sig .tc .vmem S8x1x512 .f32) (harg9 : arg9.IsWhole) (arg10 : Memref sig .tc .vmem S8x1x512 .f32) (harg10 : arg10.IsWhole) (arg11 : Memref sig .tc .vmem S8x512x512 .f32) (harg11 : arg11.IsWhole) (arg12 : Memref sig .tc .vmem S8x512x512 .f32) (harg12 : arg12.IsWhole) (hc0 : ¬cond0_0 i) (hc1 : cond0_1 i)
    (x0 : Vec F S4x64 .f32) (x1 : Vec F S128x1 .f32) (x2 : Vec F S1x512x512 .bf16) (x3 : Vec F S4096x512 .bf16) (x4 : Vec F S8x512x512 .bf16)
    (f12 : BufTy.Contents (Elt F) arg12.view.ty) :
    { L5 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (arg12.view.loc (c : Thread nD τ) ↦[arg12.view.set]{fullShare} f12)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_differential_attention i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_differential_attention_eq_skeleton]; unfold cc0_differential_attention_skel
    simp only [k0_part69_eq_skeleton, k0_part70_eq_skeleton, k0_part71_eq_skeleton, k0_part72_eq_skeleton, k0_part73_eq_skeleton, k0_part68_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, HS4, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Proof

end
-- ==== Proof.FinB1.lean ====
module

public import proofs.«01_k».proof.Proof.After
public import proofs.«01_k».proof.Proof.RunB

/-! The chains at a query block whose number is odd: what the body finds after the loops, and the
    block before the queries' own, which is not masked. -/

@[expose] public section

set_option maxRecDepth 16384

noncomputable section

open Cert.KernelIdeal Cert.KernelIdeal.Gen Cert.KernelIdeal.Proof Idealize.ShloMosaic Idealize.ShloMosaic.TcCoe Idealize.SL.Sem

namespace Cert.Proof

theorem off33_at : ∀ i : grid0.Coords, k0_cond2 i = 1#1 →
    k0_off33 i = ![2 * (k0_t1_loop i).trips, 128 * 0, 0] := by decide +kernel

theorem off34_at : ∀ i : grid0.Coords, k0_cond2 i = 1#1 →
    k0_off34 i = ![2 * (k0_t1_loop i).trips, 128 * 1, 0] := by decide +kernel

theorem off35_at : ∀ i : grid0.Coords, k0_cond2 i = 1#1 →
    k0_off35 i = ![2 * (k0_t1_loop i).trips, 128 * 2, 0] := by decide +kernel

theorem off36_at : ∀ i : grid0.Coords, k0_cond2 i = 1#1 →
    k0_off36 i = ![2 * (k0_t1_loop i).trips, 128 * 3, 0] := by decide +kernel

variable {F : FTy → Type} [FloatOps F] [Named F]

variable (c : Dev nD) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (hc0 : ¬cond0_0 i) (hc1 : cond0_1 i)
    (x0 : Vec F S4x64 .f32) (x1 : Vec F S128x1 .f32) (x2 : Vec F S1x512x512 .bf16) (x3 : Vec F S4096x512 .bf16)
    (x4 : Vec F S8x512x512 .bf16) (f12 : BufTy.Contents (Elt F) arg12.view.ty)

/-- The query blocks that the body prepares. -/
theorem qB_eq (n : ℕ) (h : n < 8) : (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) n) = qry x2 n := by
  have e0 := readAt_qblk harg4 x2 0 (by norm_num) (off := ![0, 0, 0]) rfl inb_S1x512x512_S1x128x512_0_0_0
  have e1 := readAt_qblk harg4 x2 1 (by norm_num) (off := ![0, 128, 0]) rfl inb_S1x512x512_S1x128x512_0_128_0
  have e2 := readAt_qblk harg4 x2 2 (by norm_num) (off := ![0, 256, 0]) rfl inb_S1x512x512_S1x128x512_0_256_0
  have e3 := readAt_qblk harg4 x2 3 (by norm_num) (off := ![0, 384, 0]) rfl inb_S1x512x512_S1x128x512_0_384_0
  interval_cases n
  · exact congrArg k0_pay575 e0
  · exact congrArg k0_pay576 e0
  · exact congrArg k0_pay579 e1
  · exact congrArg k0_pay580 e1
  · exact congrArg k0_pay583 e2
  · exact congrArg k0_pay584 e2
  · exact congrArg (fun w => k0_pay588 k0_pay572 (k0_pay585 w)) e3
  · exact congrArg (fun w => k0_pay589 k0_pay572 (k0_pay585 w)) e3

/-- The first key block's scores, as the body stores them. -/
theorem sB_eq (g11 : BufTy.Contents (Elt F) arg11.view.ty) (n : ℕ) (h : n < 8) :
    scoreAt arg11 (arg11.view.writes (Elt F) g11 (runB.sl.HS3_8 (F := F) c arg4 harg4 arg5 harg5 x2 x3)) n h
      = score (kblk x3 (n / 2) 0) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) n) := by
  have e0 := readAt_kblk harg5 x3 0 0 (by norm_num) (by norm_num) (off := ![0, 0]) rfl inb_S4096x512_S512x128_0_0
  have e1 := readAt_kblk harg5 x3 1 0 (by norm_num) (by norm_num) (off := ![0, 128]) rfl inb_S4096x512_S512x128_0_128
  have e2 := readAt_kblk harg5 x3 2 0 (by norm_num) (by norm_num) (off := ![0, 256]) rfl inb_S4096x512_S512x128_0_256
  have e3 := readAt_kblk harg5 x3 3 0 (by norm_num) (by norm_num) (off := ![0, 384]) rfl inb_S4096x512_S512x128_0_384
  interval_cases n
  · exact (readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_hit ..).trans (congrArg (fun k => score k (runB.sl.r (F := F) c arg4 harg4 x2)) e0))))))))
  · exact (readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_hit ..).trans (congrArg (fun k => score k (runB.sl.r_1 (F := F) c arg4 harg4 x2)) e0)))))))
  · exact (readAt_miss _ _ _ _ _ _ rfl).trans ((readAt_miss _ _ _ _ _ _ rfl).trans ((readAt_miss _ _ _ _ _ _ rfl).trans ((readAt_miss _ _ _ _ _ _ rfl).trans ((readAt_miss _ _ _ _ _ _ rfl).trans ((readAt_hit ..).trans (congrArg (fun k => score k (runB.sl.r_2 (F := F) c arg4 harg4 x2)) e1))))))
  · exact (readAt_miss _ _ _ _ _ _ rfl).trans ((readAt_miss _ _ _ _ _ _ rfl).trans ((readAt_miss _ _ _ _ _ _ rfl).trans ((readAt_miss _ _ _ _ _ _ rfl).trans ((readAt_hit ..).trans (congrArg (fun k => score k (runB.sl.r_3 (F := F) c arg4 harg4 x2)) e1)))))
  · exact (readAt_miss _ _ _ _ _ _ rfl).trans ((readAt_miss _ _ _ _ _ _ rfl).trans ((readAt_miss _ _ _ _ _ _ rfl).trans ((readAt_hit ..).trans (congrArg (fun k => score k (runB.sl.r_4 (F := F) c arg4 harg4 x2)) e2))))
  · exact (readAt_miss _ _ _ _ _ _ rfl).trans ((readAt_miss _ _ _ _ _ _ rfl).trans ((readAt_hit ..).trans (congrArg (fun k => score k (runB.sl.r_5 (F := F) c arg4 harg4 x2)) e2)))
  · exact (readAt_miss _ _ _ _ _ _ rfl).trans ((readAt_hit ..).trans (congrArg (fun k => score k (runB.sl.r_7 (F := F) c arg4 harg4 x2)) e3))
  · exact (readAt_hit ..).trans (congrArg (fun k => score k (runB.sl.r_8 (F := F) c arg4 harg4 x2)) e3)

/-- The chains that the body starts from are empty. -/
theorem cB_eq (g8 : BufTy.Contents (Elt F) arg8.view.ty) (g9 : BufTy.Contents (Elt F) arg9.view.ty)
    (g10 : BufTy.Contents (Elt F) arg10.view.ty) (n : ℕ) (h : n < 8) :
    chainAt arg8 arg9 arg10 (arg8.view.writes (Elt F) g8 runB.sl.HS0_1)
      (arg9.view.writes (Elt F) g9 runB.sl.HS1_1) (arg10.view.writes (Elt F) g10 runB.sl.HS2_1) n h
      = (chain0 : Chain F) := by
  unfold runB.sl.HS0_1 runB.sl.HS1_1 runB.sl.HS2_1
  exact empty_at arg8 arg9 arg10 g8 g9 g10 n h

include hc0 hc1

/-- Chain 0 as the body finds it after the loops. -/
theorem inB_0 : (⟨(runB.sl.v352 (F := F) c i arg2 harg2 arg3 harg3 arg4 harg4 arg5 harg5 arg6 harg6 arg7 harg7 arg8 harg8 arg9 harg9 arg10 harg10 arg11 harg11 arg12 harg12 x2 x3 x4 f12), (runB.sl.v367 (F := F) c i arg2 harg2 arg3 harg3 arg4 harg4 arg5 harg5 arg6 harg6 arg7 harg7 arg8 harg8 arg9 harg9 arg10 harg10 arg11 harg11 arg12 harg12 x2 x3 x4 f12), (runB.sl.v376 (F := F) c i arg2 harg2 arg3 harg3 arg4 harg4 arg5 harg5 arg6 harg6 arg7 harg7 arg8 harg8 arg9 harg9 arg10 harg10 arg11 harg11 arg12 harg12 x2 x3 x4 f12)⟩ : Chain F)
    = chain0.over x3 x4 0 (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 0) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 0 (by norm_num) (sB_eq c arg4 harg4 arg5 harg5 arg11 x2 x3 ?g11 0 _) (cB_eq arg8 arg9 arg10 ?g8 ?g9 ?g10 0 _)).1
  case main =>
  unfold chainAt
  refine Chain.mk_congr ?_ ?_ ?_
  · unfold runB.sl.v352 View.readCov
    exact rfl
  · unfold runB.sl.v367 View.readCov
    exact rfl
  · unfold runB.sl.v376 View.readCov
    exact rfl

/-- Chain 0 after the block before the queries' own. -/
theorem firstB_0 : (⟨(runB.sl.v366 (F := F) c i arg2 harg2 arg3 harg3 arg4 harg4 arg5 harg5 arg6 harg6 arg7 harg7 arg8 harg8 arg9 harg9 arg10 harg10 arg11 harg11 arg12 harg12 x2 x3 x4 f12), (runB.sl.v375 (F := F) c i arg2 harg2 arg3 harg3 arg4 harg4 arg5 harg5 arg6 harg6 arg7 harg7 arg8 harg8 arg9 harg9 arg10 harg10 arg11 harg11 arg12 harg12 x2 x3 x4 f12), (runB.sl.v385 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 0 (qry x2 0) (i 1).val := by
  have hi := inB_0 c i arg2 harg2 arg3 harg3 arg4 harg4 arg5 harg5 arg6 harg6 arg7 harg7 arg8 harg8 arg9 harg9 arg10 harg10 arg11 harg11 arg12 harg12 hc0 hc1 x2 x3 x4 f12
  have ht := trips_odd i hc1
  have hs : (runB.sl.v354 (F := F) c i arg2 harg2 arg3 harg3 arg4 harg4 arg5 harg5 arg6 harg6 arg7 harg7 arg8 harg8 arg9 harg9 arg10 harg10 arg11 harg11 arg12 harg12 x2 x3 x4 f12) = score (kblk x3 0 (2 * (k0_t1_loop i).trips)) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 0) := by
    refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 0 (by norm_num) (sB_eq c arg4 harg4 arg5 harg5 arg11 x2 x3 ?g11 0 _) (cB_eq arg8 arg9 arg10 ?g8 ?g9 ?g10 0 _)).2
    case main => rfl
  have hlt : (i 1).val < 8 := (i 1).isLt
  have hv := readAt_vblk harg6 x4 0 (2 * (k0_t1_loop i).trips) (by norm_num) (by omega) (off33_at i hc1) (k0_off33_inb i hc1)
  have hq := qB_eq c arg4 harg4 x2 0 (by norm_num)
  rw [hq] at hi hs
  rw [← ht]
  have e := fun E => step_of (E := E) hi hs hv
  exact e _ rfl

/-- Chain 1 as the body finds it after the loops. -/
theorem inB_1 : (⟨(runB.sl.v386 (F := F) c i arg2 harg2 arg3 harg3 arg4 harg4 arg5 harg5 arg6 harg6 arg7 harg7 arg8 harg8 arg9 harg9 arg10 harg10 arg11 harg11 arg12 harg12 x2 x3 x4 f12), (runB.sl.v401 (F := F) c i arg2 harg2 arg3 harg3 arg4 harg4 arg5 harg5 arg6 harg6 arg7 harg7 arg8 harg8 arg9 harg9 arg10 harg10 arg11 harg11 arg12 harg12 x2 x3 x4 f12), (runB.sl.v410 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 0 (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 1) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 1 (by norm_num) (sB_eq c arg4 harg4 arg5 harg5 arg11 x2 x3 ?g11 1 _) (cB_eq arg8 arg9 arg10 ?g8 ?g9 ?g10 1 _)).1
  case main =>
  unfold chainAt
  refine Chain.mk_congr ?_ ?_ ?_
  · unfold runB.sl.v386 runB.sl.HS1_1_1 View.readCov
    refine (readAt_miss _ _ _ _ _ _ rfl).trans ?_
    exact rfl
  · unfold runB.sl.v401 runB.sl.HS2_1_1 View.readCov
    refine (readAt_miss _ _ _ _ _ _ rfl).trans ?_
    exact rfl
  · unfold runB.sl.v410 runB.sl.HS0_1_1 View.readCov
    refine (readAt_miss _ _ _ _ _ _ rfl).trans ?_
    exact rfl

/-- Chain 1 after the block before the queries' own. -/
theorem firstB_1 : (⟨(runB.sl.v400 (F := F) c i arg2 harg2 arg3 harg3 arg4 harg4 arg5 harg5 arg6 harg6 arg7 harg7 arg8 harg8 arg9 harg9 arg10 harg10 arg11 harg11 arg12 harg12 x2 x3 x4 f12), (runB.sl.v409 (F := F) c i arg2 harg2 arg3 harg3 arg4 harg4 arg5 harg5 arg6 harg6 arg7 harg7 arg8 harg8 arg9 harg9 arg10 harg10 arg11 harg11 arg12 harg12 x2 x3 x4 f12), (runB.sl.v419 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 0 (qry x2 1) (i 1).val := by
  have hi := inB_1 c i arg2 harg2 arg3 harg3 arg4 harg4 arg5 harg5 arg6 harg6 arg7 harg7 arg8 harg8 arg9 harg9 arg10 harg10 arg11 harg11 arg12 harg12 hc0 hc1 x2 x3 x4 f12
  have ht := trips_odd i hc1
  have hs : (runB.sl.v388 (F := F) c i arg2 harg2 arg3 harg3 arg4 harg4 arg5 harg5 arg6 harg6 arg7 harg7 arg8 harg8 arg9 harg9 arg10 harg10 arg11 harg11 arg12 harg12 x2 x3 x4 f12) = score (kblk x3 0 (2 * (k0_t1_loop i).trips)) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 1) := by
    refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 1 (by norm_num) (sB_eq c arg4 harg4 arg5 harg5 arg11 x2 x3 ?g11 1 _) (cB_eq arg8 arg9 arg10 ?g8 ?g9 ?g10 1 _)).2
    case main => rfl
  have hlt : (i 1).val < 8 := (i 1).isLt
  have hv := readAt_vblk harg6 x4 0 (2 * (k0_t1_loop i).trips) (by norm_num) (by omega) (off33_at i hc1) (k0_off33_inb i hc1)
  have hq := qB_eq c arg4 harg4 x2 1 (by norm_num)
  rw [hq] at hi hs
  rw [← ht]
  have e := fun E => step_of (E := E) hi hs hv
  exact e _ rfl

/-- Chain 2 as the body finds it after the loops. -/
theorem inB_2 : (⟨(runB.sl.v423 (F := F) c i arg2 harg2 arg3 harg3 arg4 harg4 arg5 harg5 arg6 harg6 arg7 harg7 arg8 harg8 arg9 harg9 arg10 harg10 arg11 harg11 arg12 harg12 x2 x3 x4 f12), (runB.sl.v438 (F := F) c i arg2 harg2 arg3 harg3 arg4 harg4 arg5 harg5 arg6 harg6 arg7 harg7 arg8 harg8 arg9 harg9 arg10 harg10 arg11 harg11 arg12 harg12 x2 x3 x4 f12), (runB.sl.v447 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 1 (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 2) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 2 (by norm_num) (sB_eq c arg4 harg4 arg5 harg5 arg11 x2 x3 ?g11 2 _) (cB_eq arg8 arg9 arg10 ?g8 ?g9 ?g10 2 _)).1
  case main =>
  unfold chainAt
  refine Chain.mk_congr ?_ ?_ ?_
  · unfold runB.sl.v423 runB.sl.HS1_2 runB.sl.HS1_1_1 View.readCov
    refine (readAt_miss _ _ _ _ _ _ rfl).trans ?_
    refine (readAt_miss _ _ _ _ _ _ rfl).trans ?_
    exact rfl
  · unfold runB.sl.v438 runB.sl.HS2_2 runB.sl.HS2_1_1 View.readCov
    refine (readAt_miss _ _ _ _ _ _ rfl).trans ?_
    refine (readAt_miss _ _ _ _ _ _ rfl).trans ?_
    exact rfl
  · unfold runB.sl.v447 runB.sl.HS0_2 runB.sl.HS0_1_1 View.readCov
    refine (readAt_miss _ _ _ _ _ _ rfl).trans ?_
    refine (readAt_miss _ _ _ _ _ _ rfl).trans ?_
    exact rfl

/-- Chain 2 after the block before the queries' own. -/
theorem firstB_2 : (⟨(runB.sl.v437 (F := F) c i arg2 harg2 arg3 harg3 arg4 harg4 arg5 harg5 arg6 harg6 arg7 harg7 arg8 harg8 arg9 harg9 arg10 harg10 arg11 harg11 arg12 harg12 x2 x3 x4 f12), (runB.sl.v446 (F := F) c i arg2 harg2 arg3 harg3 arg4 harg4 arg5 harg5 arg6 harg6 arg7 harg7 arg8 harg8 arg9 harg9 arg10 harg10 arg11 harg11 arg12 harg12 x2 x3 x4 f12), (runB.sl.v456 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 1 (qry x2 2) (i 1).val := by
  have hi := inB_2 c i arg2 harg2 arg3 harg3 arg4 harg4 arg5 harg5 arg6 harg6 arg7 harg7 arg8 harg8 arg9 harg9 arg10 harg10 arg11 harg11 arg12 harg12 hc0 hc1 x2 x3 x4 f12
  have ht := trips_odd i hc1
  have hs : (runB.sl.v425 (F := F) c i arg2 harg2 arg3 harg3 arg4 harg4 arg5 harg5 arg6 harg6 arg7 harg7 arg8 harg8 arg9 harg9 arg10 harg10 arg11 harg11 arg12 harg12 x2 x3 x4 f12) = score (kblk x3 1 (2 * (k0_t1_loop i).trips)) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 2) := by
    refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 2 (by norm_num) (sB_eq c arg4 harg4 arg5 harg5 arg11 x2 x3 ?g11 2 _) (cB_eq arg8 arg9 arg10 ?g8 ?g9 ?g10 2 _)).2
    case main => rfl
  have hlt : (i 1).val < 8 := (i 1).isLt
  have hv := readAt_vblk harg6 x4 1 (2 * (k0_t1_loop i).trips) (by norm_num) (by omega) (off34_at i hc1) (k0_off34_inb i hc1)
  have hq := qB_eq c arg4 harg4 x2 2 (by norm_num)
  rw [hq] at hi hs
  rw [← ht]
  have e := fun E => step_of (E := E) hi hs hv
  exact e _ rfl

/-- Chain 3 as the body finds it after the loops. -/
theorem inB_3 : (⟨(runB.sl.v457 (F := F) c i arg2 harg2 arg3 harg3 arg4 harg4 arg5 harg5 arg6 harg6 arg7 harg7 arg8 harg8 arg9 harg9 arg10 harg10 arg11 harg11 arg12 harg12 x2 x3 x4 f12), (runB.sl.v472 (F := F) c i arg2 harg2 arg3 harg3 arg4 harg4 arg5 harg5 arg6 harg6 arg7 harg7 arg8 harg8 arg9 harg9 arg10 harg10 arg11 harg11 arg12 harg12 x2 x3 x4 f12), (runB.sl.v481 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 1 (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 3) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 3 (by norm_num) (sB_eq c arg4 harg4 arg5 harg5 arg11 x2 x3 ?g11 3 _) (cB_eq arg8 arg9 arg10 ?g8 ?g9 ?g10 3 _)).1
  case main =>
  unfold chainAt
  refine Chain.mk_congr ?_ ?_ ?_
  · unfold runB.sl.v457 runB.sl.HS1_3 runB.sl.HS1_2 runB.sl.HS1_1_1 View.readCov
    refine (readAt_miss _ _ _ _ _ _ rfl).trans ?_
    refine (readAt_miss _ _ _ _ _ _ rfl).trans ?_
    refine (readAt_miss _ _ _ _ _ _ rfl).trans ?_
    exact rfl
  · unfold runB.sl.v472 runB.sl.HS2_3 runB.sl.HS2_2 runB.sl.HS2_1_1 View.readCov
    refine (readAt_miss _ _ _ _ _ _ rfl).trans ?_
    refine (readAt_miss _ _ _ _ _ _ rfl).trans ?_
    refine (readAt_miss _ _ _ _ _ _ rfl).trans ?_
    exact rfl
  · unfold runB.sl.v481 runB.sl.HS0_3 runB.sl.HS0_2 runB.sl.HS0_1_1 View.readCov
    refine (readAt_miss _ _ _ _ _ _ rfl).trans ?_
    refine (readAt_miss _ _ _ _ _ _ rfl).trans ?_
    refine (readAt_miss _ _ _ _ _ _ rfl).trans ?_
    exact rfl

/-- Chain 3 after the block before the queries' own. -/
theorem firstB_3 : (⟨(runB.sl.v471 (F := F) c i arg2 harg2 arg3 harg3 arg4 harg4 arg5 harg5 arg6 harg6 arg7 harg7 arg8 harg8 arg9 harg9 arg10 harg10 arg11 harg11 arg12 harg12 x2 x3 x4 f12), (runB.sl.v480 (F := F) c i arg2 harg2 arg3 harg3 arg4 harg4 arg5 harg5 arg6 harg6 arg7 harg7 arg8 harg8 arg9 harg9 arg10 harg10 arg11 harg11 arg12 harg12 x2 x3 x4 f12), (runB.sl.v490 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 1 (qry x2 3) (i 1).val := by
  have hi := inB_3 c i arg2 harg2 arg3 harg3 arg4 harg4 arg5 harg5 arg6 harg6 arg7 harg7 arg8 harg8 arg9 harg9 arg10 harg10 arg11 harg11 arg12 harg12 hc0 hc1 x2 x3 x4 f12
  have ht := trips_odd i hc1
  have hs : (runB.sl.v459 (F := F) c i arg2 harg2 arg3 harg3 arg4 harg4 arg5 harg5 arg6 harg6 arg7 harg7 arg8 harg8 arg9 harg9 arg10 harg10 arg11 harg11 arg12 harg12 x2 x3 x4 f12) = score (kblk x3 1 (2 * (k0_t1_loop i).trips)) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 3) := by
    refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 3 (by norm_num) (sB_eq c arg4 harg4 arg5 harg5 arg11 x2 x3 ?g11 3 _) (cB_eq arg8 arg9 arg10 ?g8 ?g9 ?g10 3 _)).2
    case main => rfl
  have hlt : (i 1).val < 8 := (i 1).isLt
  have hv := readAt_vblk harg6 x4 1 (2 * (k0_t1_loop i).trips) (by norm_num) (by omega) (off34_at i hc1) (k0_off34_inb i hc1)
  have hq := qB_eq c arg4 harg4 x2 3 (by norm_num)
  rw [hq] at hi hs
  rw [← ht]
  have e := fun E => step_of (E := E) hi hs hv
  exact e _ rfl

/-- Chain 4 as the body finds it after the loops. -/
theorem inB_4 : (⟨(runB.sl.v494 (F := F) c i arg2 harg2 arg3 harg3 arg4 harg4 arg5 harg5 arg6 harg6 arg7 harg7 arg8 harg8 arg9 harg9 arg10 harg10 arg11 harg11 arg12 harg12 x2 x3 x4 f12), (runB.sl.v509 (F := F) c i arg2 harg2 arg3 harg3 arg4 harg4 arg5 harg5 arg6 harg6 arg7 harg7 arg8 harg8 arg9 harg9 arg10 harg10 arg11 harg11 arg12 harg12 x2 x3 x4 f12), (runB.sl.v518 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 2 (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 4) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 4 (by norm_num) (sB_eq c arg4 harg4 arg5 harg5 arg11 x2 x3 ?g11 4 _) (cB_eq arg8 arg9 arg10 ?g8 ?g9 ?g10 4 _)).1
  case main =>
  unfold chainAt
  refine Chain.mk_congr ?_ ?_ ?_
  · unfold runB.sl.v494 runB.sl.HS1_4 runB.sl.HS1_3 runB.sl.HS1_2 runB.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runB.sl.v509 runB.sl.HS2_4 runB.sl.HS2_3 runB.sl.HS2_2 runB.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runB.sl.v518 runB.sl.HS0_4 runB.sl.HS0_3 runB.sl.HS0_2 runB.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl

/-- Chain 4 after the block before the queries' own. -/
theorem firstB_4 : (⟨(runB.sl.v508 (F := F) c i arg2 harg2 arg3 harg3 arg4 harg4 arg5 harg5 arg6 harg6 arg7 harg7 arg8 harg8 arg9 harg9 arg10 harg10 arg11 harg11 arg12 harg12 x2 x3 x4 f12), (runB.sl.v517 (F := F) c i arg2 harg2 arg3 harg3 arg4 harg4 arg5 harg5 arg6 harg6 arg7 harg7 arg8 harg8 arg9 harg9 arg10 harg10 arg11 harg11 arg12 harg12 x2 x3 x4 f12), (runB.sl.v527 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 2 (qry x2 4) (i 1).val := by
  have hi := inB_4 c i arg2 harg2 arg3 harg3 arg4 harg4 arg5 harg5 arg6 harg6 arg7 harg7 arg8 harg8 arg9 harg9 arg10 harg10 arg11 harg11 arg12 harg12 hc0 hc1 x2 x3 x4 f12
  have ht := trips_odd i hc1
  have hs : (runB.sl.v496 (F := F) c i arg2 harg2 arg3 harg3 arg4 harg4 arg5 harg5 arg6 harg6 arg7 harg7 arg8 harg8 arg9 harg9 arg10 harg10 arg11 harg11 arg12 harg12 x2 x3 x4 f12) = score (kblk x3 2 (2 * (k0_t1_loop i).trips)) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 4) := by
    refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 4 (by norm_num) (sB_eq c arg4 harg4 arg5 harg5 arg11 x2 x3 ?g11 4 _) (cB_eq arg8 arg9 arg10 ?g8 ?g9 ?g10 4 _)).2
    case main => rfl
  have hlt : (i 1).val < 8 := (i 1).isLt
  have hv := readAt_vblk harg6 x4 2 (2 * (k0_t1_loop i).trips) (by norm_num) (by omega) (off35_at i hc1) (k0_off35_inb i hc1)
  have hq := qB_eq c arg4 harg4 x2 4 (by norm_num)
  rw [hq] at hi hs
  rw [← ht]
  have e := fun E => step_of (E := E) hi hs hv
  exact e _ rfl

/-- Chain 5 as the body finds it after the loops. -/
theorem inB_5 : (⟨(runB.sl.v528 (F := F) c i arg2 harg2 arg3 harg3 arg4 harg4 arg5 harg5 arg6 harg6 arg7 harg7 arg8 harg8 arg9 harg9 arg10 harg10 arg11 harg11 arg12 harg12 x2 x3 x4 f12), (runB.sl.v543 (F := F) c i arg2 harg2 arg3 harg3 arg4 harg4 arg5 harg5 arg6 harg6 arg7 harg7 arg8 harg8 arg9 harg9 arg10 harg10 arg11 harg11 arg12 harg12 x2 x3 x4 f12), (runB.sl.v552 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 2 (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 5) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 5 (by norm_num) (sB_eq c arg4 harg4 arg5 harg5 arg11 x2 x3 ?g11 5 _) (cB_eq arg8 arg9 arg10 ?g8 ?g9 ?g10 5 _)).1
  case main =>
  unfold chainAt
  refine Chain.mk_congr ?_ ?_ ?_
  · unfold runB.sl.v528 runB.sl.HS1_5 runB.sl.HS1_4 runB.sl.HS1_3 runB.sl.HS1_2 runB.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runB.sl.v543 runB.sl.HS2_5 runB.sl.HS2_4 runB.sl.HS2_3 runB.sl.HS2_2 runB.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runB.sl.v552 runB.sl.HS0_5 runB.sl.HS0_4 runB.sl.HS0_3 runB.sl.HS0_2 runB.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl

/-- Chain 5 after the block before the queries' own. -/
theorem firstB_5 : (⟨(runB.sl.v542 (F := F) c i arg2 harg2 arg3 harg3 arg4 harg4 arg5 harg5 arg6 harg6 arg7 harg7 arg8 harg8 arg9 harg9 arg10 harg10 arg11 harg11 arg12 harg12 x2 x3 x4 f12), (runB.sl.v551 (F := F) c i arg2 harg2 arg3 harg3 arg4 harg4 arg5 harg5 arg6 harg6 arg7 harg7 arg8 harg8 arg9 harg9 arg10 harg10 arg11 harg11 arg12 harg12 x2 x3 x4 f12), (runB.sl.v561 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 2 (qry x2 5) (i 1).val := by
  have hi := inB_5 c i arg2 harg2 arg3 harg3 arg4 harg4 arg5 harg5 arg6 harg6 arg7 harg7 arg8 harg8 arg9 harg9 arg10 harg10 arg11 harg11 arg12 harg12 hc0 hc1 x2 x3 x4 f12
  have ht := trips_odd i hc1
  have hs : (runB.sl.v530 (F := F) c i arg2 harg2 arg3 harg3 arg4 harg4 arg5 harg5 arg6 harg6 arg7 harg7 arg8 harg8 arg9 harg9 arg10 harg10 arg11 harg11 arg12 harg12 x2 x3 x4 f12) = score (kblk x3 2 (2 * (k0_t1_loop i).trips)) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 5) := by
    refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 5 (by norm_num) (sB_eq c arg4 harg4 arg5 harg5 arg11 x2 x3 ?g11 5 _) (cB_eq arg8 arg9 arg10 ?g8 ?g9 ?g10 5 _)).2
    case main => rfl
  have hlt : (i 1).val < 8 := (i 1).isLt
  have hv := readAt_vblk harg6 x4 2 (2 * (k0_t1_loop i).trips) (by norm_num) (by omega) (off35_at i hc1) (k0_off35_inb i hc1)
  have hq := qB_eq c arg4 harg4 x2 5 (by norm_num)
  rw [hq] at hi hs
  rw [← ht]
  have e := fun E => step_of (E := E) hi hs hv
  exact e _ rfl

/-- Chain 6 as the body finds it after the loops. -/
theorem inB_6 : (⟨(runB.sl.v565 (F := F) c i arg2 harg2 arg3 harg3 arg4 harg4 arg5 harg5 arg6 harg6 arg7 harg7 arg8 harg8 arg9 harg9 arg10 harg10 arg11 harg11 arg12 harg12 x2 x3 x4 f12), (runB.sl.v580 (F := F) c i arg2 harg2 arg3 harg3 arg4 harg4 arg5 harg5 arg6 harg6 arg7 harg7 arg8 harg8 arg9 harg9 arg10 harg10 arg11 harg11 arg12 harg12 x2 x3 x4 f12), (runB.sl.v589 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 3 (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 6) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 6 (by norm_num) (sB_eq c arg4 harg4 arg5 harg5 arg11 x2 x3 ?g11 6 _) (cB_eq arg8 arg9 arg10 ?g8 ?g9 ?g10 6 _)).1
  case main =>
  unfold chainAt
  refine Chain.mk_congr ?_ ?_ ?_
  · unfold runB.sl.v565 runB.sl.HS1_6 runB.sl.HS1_5 runB.sl.HS1_4 runB.sl.HS1_3 runB.sl.HS1_2 runB.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runB.sl.v580 runB.sl.HS2_6 runB.sl.HS2_5 runB.sl.HS2_4 runB.sl.HS2_3 runB.sl.HS2_2 runB.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runB.sl.v589 runB.sl.HS0_6 runB.sl.HS0_5 runB.sl.HS0_4 runB.sl.HS0_3 runB.sl.HS0_2 runB.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl

/-- Chain 6 after the block before the queries' own. -/
theorem firstB_6 : (⟨(runB.sl.v579 (F := F) c i arg2 harg2 arg3 harg3 arg4 harg4 arg5 harg5 arg6 harg6 arg7 harg7 arg8 harg8 arg9 harg9 arg10 harg10 arg11 harg11 arg12 harg12 x2 x3 x4 f12), (runB.sl.v588 (F := F) c i arg2 harg2 arg3 harg3 arg4 harg4 arg5 harg5 arg6 harg6 arg7 harg7 arg8 harg8 arg9 harg9 arg10 harg10 arg11 harg11 arg12 harg12 x2 x3 x4 f12), (runB.sl.v598 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 3 (qry x2 6) (i 1).val := by
  have hi := inB_6 c i arg2 harg2 arg3 harg3 arg4 harg4 arg5 harg5 arg6 harg6 arg7 harg7 arg8 harg8 arg9 harg9 arg10 harg10 arg11 harg11 arg12 harg12 hc0 hc1 x2 x3 x4 f12
  have ht := trips_odd i hc1
  have hs : (runB.sl.v567 (F := F) c i arg2 harg2 arg3 harg3 arg4 harg4 arg5 harg5 arg6 harg6 arg7 harg7 arg8 harg8 arg9 harg9 arg10 harg10 arg11 harg11 arg12 harg12 x2 x3 x4 f12) = score (kblk x3 3 (2 * (k0_t1_loop i).trips)) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 6) := by
    refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 6 (by norm_num) (sB_eq c arg4 harg4 arg5 harg5 arg11 x2 x3 ?g11 6 _) (cB_eq arg8 arg9 arg10 ?g8 ?g9 ?g10 6 _)).2
    case main => rfl
  have hlt : (i 1).val < 8 := (i 1).isLt
  have hv := readAt_vblk harg6 x4 3 (2 * (k0_t1_loop i).trips) (by norm_num) (by omega) (off36_at i hc1) (k0_off36_inb i hc1)
  have hq := qB_eq c arg4 harg4 x2 6 (by norm_num)
  rw [hq] at hi hs
  rw [← ht]
  have e := fun E => step_of (E := E) hi hs hv
  exact e _ rfl

/-- Chain 7 as the body finds it after the loops. -/
theorem inB_7 : (⟨(runB.sl.v599 (F := F) c i arg2 harg2 arg3 harg3 arg4 harg4 arg5 harg5 arg6 harg6 arg7 harg7 arg8 harg8 arg9 harg9 arg10 harg10 arg11 harg11 arg12 harg12 x2 x3 x4 f12), (runB.sl.v614 (F := F) c i arg2 harg2 arg3 harg3 arg4 harg4 arg5 harg5 arg6 harg6 arg7 harg7 arg8 harg8 arg9 harg9 arg10 harg10 arg11 harg11 arg12 harg12 x2 x3 x4 f12), (runB.sl.v623 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 3 (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 7) (2 * (k0_t1_loop i).trips) := by
  refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 7 (by norm_num) (sB_eq c arg4 harg4 arg5 harg5 arg11 x2 x3 ?g11 7 _) (cB_eq arg8 arg9 arg10 ?g8 ?g9 ?g10 7 _)).1
  case main =>
  unfold chainAt
  refine Chain.mk_congr ?_ ?_ ?_
  · unfold runB.sl.v599 runB.sl.HS1_7 runB.sl.HS1_6 runB.sl.HS1_5 runB.sl.HS1_4 runB.sl.HS1_3 runB.sl.HS1_2 runB.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runB.sl.v614 runB.sl.HS2_7 runB.sl.HS2_6 runB.sl.HS2_5 runB.sl.HS2_4 runB.sl.HS2_3 runB.sl.HS2_2 runB.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl
  · unfold runB.sl.v623 runB.sl.HS0_7 runB.sl.HS0_6 runB.sl.HS0_5 runB.sl.HS0_4 runB.sl.HS0_3 runB.sl.HS0_2 runB.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact rfl

/-- Chain 7 after the block before the queries' own. -/
theorem firstB_7 : (⟨(runB.sl.v613 (F := F) c i arg2 harg2 arg3 harg3 arg4 harg4 arg5 harg5 arg6 harg6 arg7 harg7 arg8 harg8 arg9 harg9 arg10 harg10 arg11 harg11 arg12 harg12 x2 x3 x4 f12), (runB.sl.v622 (F := F) c i arg2 harg2 arg3 harg3 arg4 harg4 arg5 harg5 arg6 harg6 arg7 harg7 arg8 harg8 arg9 harg9 arg10 harg10 arg11 harg11 arg12 harg12 x2 x3 x4 f12), (runB.sl.v632 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = chain0.over x3 x4 3 (qry x2 7) (i 1).val := by
  have hi := inB_7 c i arg2 harg2 arg3 harg3 arg4 harg4 arg5 harg5 arg6 harg6 arg7 harg7 arg8 harg8 arg9 harg9 arg10 harg10 arg11 harg11 arg12 harg12 hc0 hc1 x2 x3 x4 f12
  have ht := trips_odd i hc1
  have hs : (runB.sl.v601 (F := F) c i arg2 harg2 arg3 harg3 arg4 harg4 arg5 harg5 arg6 harg6 arg7 harg7 arg8 harg8 arg9 harg9 arg10 harg10 arg11 harg11 arg12 harg12 x2 x3 x4 f12) = score (kblk x3 3 (2 * (k0_t1_loop i).trips)) (qAt (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) 7) := by
    refine Eq.trans ?main (after_at ?bd c i arg2 harg2 arg3 harg3 arg4 harg4 arg5 harg5 arg6 harg6 arg7 harg7 arg8 harg8 arg9 harg9 arg10 harg10 arg11 harg11 arg12 harg12 ?a1 (runB.sl.r (F := F) c arg4 harg4 x2) (runB.sl.r_1 (F := F) c arg4 harg4 x2) (runB.sl.r_2 (F := F) c arg4 harg4 x2) (runB.sl.r_3 (F := F) c arg4 harg4 x2) (runB.sl.r_4 (F := F) c arg4 harg4 x2) (runB.sl.r_5 (F := F) c arg4 harg4 x2) (runB.sl.r_7 (F := F) c arg4 harg4 x2) (runB.sl.r_8 (F := F) c arg4 harg4 x2) (0#32) (runB.sl.r_11 (F := F) c arg4 harg4 arg5 harg5 x2 x3) (runB.sl.v137 i) x3 x4 runB.sl.HS0_1 runB.sl.HS1_1 runB.sl.HS2_1 (runB.sl.HS3_8 (F := F) c arg4 harg4 arg5 harg5 x2 x3) f12 ?g8 ?g9 ?g10 ?g11 7 (by norm_num) (sB_eq c arg4 harg4 arg5 harg5 arg11 x2 x3 ?g11 7 _) (cB_eq arg8 arg9 arg10 ?g8 ?g9 ?g10 7 _)).2
    case main => rfl
  have hlt : (i 1).val < 8 := (i 1).isLt
  have hv := readAt_vblk harg6 x4 3 (2 * (k0_t1_loop i).trips) (by norm_num) (by omega) (off36_at i hc1) (k0_off36_inb i hc1)
  have hq := qB_eq c arg4 harg4 x2 7 (by norm_num)
  rw [hq] at hi hs
  rw [← ht]
  have e := fun E => step_of (E := E) hi hs hv
  exact e _ rfl

end Cert.Proof
-- ==== Proof.FinB2.lean ====
module

public import proofs.«01_k».proof.Proof.FinB1

/-! The chains that the body leaves at a query block whose number is odd. -/

@[expose] public section

set_option maxRecDepth 16384

noncomputable section

open Cert.KernelIdeal Cert.KernelIdeal.Gen Cert.KernelIdeal.Proof Idealize.ShloMosaic Idealize.ShloMosaic.TcCoe Idealize.SL.Sem

namespace Cert.Proof

variable {F : FTy → Type} [FloatOps F] [Named F]

variable (c : Dev nD) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (hc0 : ¬cond0_0 i) (hc1 : cond0_1 i)
    (x0 : Vec F S4x64 .f32) (x1 : Vec F S128x1 .f32) (x2 : Vec F S1x512x512 .bf16) (x3 : Vec F S4096x512 .bf16)
    (x4 : Vec F S8x512x512 .bf16) (f12 : BufTy.Contents (Elt F) arg12.view.ty)

include hc0 hc1

/-- Chain 0 as the last block finds it. -/
theorem againB_0 : (⟨(runB.sl.v636 (F := F) c i arg2 harg2 arg3 harg3 arg4 harg4 arg5 harg5 arg6 harg6 arg7 harg7 arg8 harg8 arg9 harg9 arg10 harg10 arg11 harg11 arg12 harg12 x2 x3 x4 f12), (runB.sl.v653 (F := F) c i arg2 harg2 arg3 harg3 arg4 harg4 arg5 harg5 arg6 harg6 arg7 harg7 arg8 harg8 arg9 harg9 arg10 harg10 arg11 harg11 arg12 harg12 x2 x3 x4 f12), (runB.sl.v662 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = (⟨(runB.sl.v366 (F := F) c i arg2 harg2 arg3 harg3 arg4 harg4 arg5 harg5 arg6 harg6 arg7 harg7 arg8 harg8 arg9 harg9 arg10 harg10 arg11 harg11 arg12 harg12 x2 x3 x4 f12), (runB.sl.v375 (F := F) c i arg2 harg2 arg3 harg3 arg4 harg4 arg5 harg5 arg6 harg6 arg7 harg7 arg8 harg8 arg9 harg9 arg10 harg10 arg11 harg11 arg12 harg12 x2 x3 x4 f12), (runB.sl.v385 (F := F) c i arg2 harg2 arg3 harg3 arg4 harg4 arg5 harg5 arg6 harg6 arg7 harg7 arg8 harg8 arg9 harg9 arg10 harg10 arg11 harg11 arg12 harg12 hc1 x2 x3 x4 f12)⟩ : Chain F) := by
  refine Chain.mk_congr ?_ ?_ ?_
  · unfold runB.sl.v636 runB.sl.HS1_8 runB.sl.HS1_7 runB.sl.HS1_6 runB.sl.HS1_5 runB.sl.HS1_4 runB.sl.HS1_3 runB.sl.HS1_2 runB.sl.HS1_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v653 runB.sl.HS2_8 runB.sl.HS2_7 runB.sl.HS2_6 runB.sl.HS2_5 runB.sl.HS2_4 runB.sl.HS2_3 runB.sl.HS2_2 runB.sl.HS2_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v662 runB.sl.HS0_8 runB.sl.HS0_7 runB.sl.HS0_6 runB.sl.HS0_5 runB.sl.HS0_4 runB.sl.HS0_3 runB.sl.HS0_2 runB.sl.HS0_1_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..

/-- What the body makes of chain 0. -/
theorem upB_0 : (runB.sl.v661 (F := F) c i arg2 harg2 arg3 harg3 arg4 harg4 arg5 harg5 arg6 harg6 arg7 harg7 arg8 harg8 arg9 harg9 arg10 harg10 arg11 harg11 arg12 harg12 hc1 x2 x3 x4 f12) = (finChain x3 x4 0 (i 1).val (qry x2 0)).L
    ∧ (runB.sl.v671 (F := F) c i arg2 harg2 arg3 harg3 arg4 harg4 arg5 harg5 arg6 harg6 arg7 harg7 arg8 harg8 arg9 harg9 arg10 harg10 arg11 harg11 arg12 harg12 hc1 x2 x3 x4 f12) = (finChain x3 x4 0 (i 1).val (qry x2 0)).A := by
  have hi := (againB_0 c i arg2 harg2 arg3 harg3 arg4 harg4 arg5 harg5 arg6 harg6 arg7 harg7 arg8 harg8 arg9 harg9 arg10 harg10 arg11 harg11 arg12 harg12 hc0 hc1 x2 x3 x4 f12).trans (firstB_0 c i arg2 harg2 arg3 harg3 arg4 harg4 arg5 harg5 arg6 harg6 arg7 harg7 arg8 harg8 arg9 harg9 arg10 harg10 arg11 harg11 arg12 harg12 hc0 hc1 x2 x3 x4 f12)
  have hs : (runB.sl.v638 (F := F) c i arg2 harg2 arg3 harg3 arg4 harg4 arg5 harg5 arg6 harg6 arg7 harg7 arg8 harg8 arg9 harg9 arg10 harg10 arg11 harg11 arg12 harg12 hc1 x2 x3 x4 f12) = score (View.readAt (Elt F) arg5.view (Rect.unit (s := S4096x512) (k0_off29 i) S512x128.size (k0_off29_inb i hc1)).toLoadRect (harg5.unread x3)) (runB.sl.r (F := F) c arg4 harg4 x2) := by
    unfold runB.sl.v638 runB.sl.HS4_8 runB.sl.HS4_7 runB.sl.HS4_6 runB.sl.HS4_5 runB.sl.HS4_4 runB.sl.HS4_3 runB.sl.HS4_2 runB.sl.HS4_1 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans rfl
  have hk := readAt_kblk harg5 x3 0 (i 1).val (by norm_num) (i 1).isLt (k0_off29_eq i) (k0_off29_inb i hc1)
  have hv := readAt_vblk harg6 x4 0 (i 1).val (by norm_num) (i 1).isLt (k0_off37_eq i) (k0_off37_inb i hc1)
  have hq : (runB.sl.r (F := F) c arg4 harg4 x2) = qry x2 0 := qB_eq c arg4 harg4 x2 0 (by norm_num)
  rw [hk, hq] at hs
  exact masked_of hi hs hv rfl rfl

/-- Chain 1 as the last block finds it. -/
theorem againB_1 : (⟨(runB.sl.v672 (F := F) c i arg2 harg2 arg3 harg3 arg4 harg4 arg5 harg5 arg6 harg6 arg7 harg7 arg8 harg8 arg9 harg9 arg10 harg10 arg11 harg11 arg12 harg12 hc1 x2 x3 x4 f12), (runB.sl.v689 (F := F) c i arg2 harg2 arg3 harg3 arg4 harg4 arg5 harg5 arg6 harg6 arg7 harg7 arg8 harg8 arg9 harg9 arg10 harg10 arg11 harg11 arg12 harg12 hc1 x2 x3 x4 f12), (runB.sl.v698 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = (⟨(runB.sl.v400 (F := F) c i arg2 harg2 arg3 harg3 arg4 harg4 arg5 harg5 arg6 harg6 arg7 harg7 arg8 harg8 arg9 harg9 arg10 harg10 arg11 harg11 arg12 harg12 x2 x3 x4 f12), (runB.sl.v409 (F := F) c i arg2 harg2 arg3 harg3 arg4 harg4 arg5 harg5 arg6 harg6 arg7 harg7 arg8 harg8 arg9 harg9 arg10 harg10 arg11 harg11 arg12 harg12 x2 x3 x4 f12), (runB.sl.v419 (F := F) c i arg2 harg2 arg3 harg3 arg4 harg4 arg5 harg5 arg6 harg6 arg7 harg7 arg8 harg8 arg9 harg9 arg10 harg10 arg11 harg11 arg12 harg12 hc1 x2 x3 x4 f12)⟩ : Chain F) := by
  refine Chain.mk_congr ?_ ?_ ?_
  · unfold runB.sl.v672 runB.sl.HS1_9 runB.sl.HS1_8 runB.sl.HS1_7 runB.sl.HS1_6 runB.sl.HS1_5 runB.sl.HS1_4 runB.sl.HS1_3 runB.sl.HS1_2 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v689 runB.sl.HS2_9 runB.sl.HS2_8 runB.sl.HS2_7 runB.sl.HS2_6 runB.sl.HS2_5 runB.sl.HS2_4 runB.sl.HS2_3 runB.sl.HS2_2 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v698 runB.sl.HS0_9 runB.sl.HS0_8 runB.sl.HS0_7 runB.sl.HS0_6 runB.sl.HS0_5 runB.sl.HS0_4 runB.sl.HS0_3 runB.sl.HS0_2 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..

/-- What the body makes of chain 1. -/
theorem upB_1 : (runB.sl.v697 (F := F) c i arg2 harg2 arg3 harg3 arg4 harg4 arg5 harg5 arg6 harg6 arg7 harg7 arg8 harg8 arg9 harg9 arg10 harg10 arg11 harg11 arg12 harg12 hc1 x2 x3 x4 f12) = (finChain x3 x4 0 (i 1).val (qry x2 1)).L
    ∧ (runB.sl.v707 (F := F) c i arg2 harg2 arg3 harg3 arg4 harg4 arg5 harg5 arg6 harg6 arg7 harg7 arg8 harg8 arg9 harg9 arg10 harg10 arg11 harg11 arg12 harg12 hc1 x2 x3 x4 f12) = (finChain x3 x4 0 (i 1).val (qry x2 1)).A := by
  have hi := (againB_1 c i arg2 harg2 arg3 harg3 arg4 harg4 arg5 harg5 arg6 harg6 arg7 harg7 arg8 harg8 arg9 harg9 arg10 harg10 arg11 harg11 arg12 harg12 hc0 hc1 x2 x3 x4 f12).trans (firstB_1 c i arg2 harg2 arg3 harg3 arg4 harg4 arg5 harg5 arg6 harg6 arg7 harg7 arg8 harg8 arg9 harg9 arg10 harg10 arg11 harg11 arg12 harg12 hc0 hc1 x2 x3 x4 f12)
  have hs : (runB.sl.v674 (F := F) c i arg2 harg2 arg3 harg3 arg4 harg4 arg5 harg5 arg6 harg6 arg7 harg7 arg8 harg8 arg9 harg9 arg10 harg10 arg11 harg11 arg12 harg12 hc1 x2 x3 x4 f12) = score (View.readAt (Elt F) arg5.view (Rect.unit (s := S4096x512) (k0_off29 i) S512x128.size (k0_off29_inb i hc1)).toLoadRect (harg5.unread x3)) (runB.sl.r_1 (F := F) c arg4 harg4 x2) := by
    unfold runB.sl.v674 runB.sl.HS4_8 runB.sl.HS4_7 runB.sl.HS4_6 runB.sl.HS4_5 runB.sl.HS4_4 runB.sl.HS4_3 runB.sl.HS4_2 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans rfl
  have hk := readAt_kblk harg5 x3 0 (i 1).val (by norm_num) (i 1).isLt (k0_off29_eq i) (k0_off29_inb i hc1)
  have hv := readAt_vblk harg6 x4 0 (i 1).val (by norm_num) (i 1).isLt (k0_off37_eq i) (k0_off37_inb i hc1)
  have hq : (runB.sl.r_1 (F := F) c arg4 harg4 x2) = qry x2 1 := qB_eq c arg4 harg4 x2 1 (by norm_num)
  rw [hk, hq] at hs
  exact masked_of hi hs hv rfl rfl

/-- Chain 2 as the last block finds it. -/
theorem againB_2 : (⟨(runB.sl.v711 (F := F) c i arg2 harg2 arg3 harg3 arg4 harg4 arg5 harg5 arg6 harg6 arg7 harg7 arg8 harg8 arg9 harg9 arg10 harg10 arg11 harg11 arg12 harg12 hc1 x2 x3 x4 f12), (runB.sl.v728 (F := F) c i arg2 harg2 arg3 harg3 arg4 harg4 arg5 harg5 arg6 harg6 arg7 harg7 arg8 harg8 arg9 harg9 arg10 harg10 arg11 harg11 arg12 harg12 hc1 x2 x3 x4 f12), (runB.sl.v737 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = (⟨(runB.sl.v437 (F := F) c i arg2 harg2 arg3 harg3 arg4 harg4 arg5 harg5 arg6 harg6 arg7 harg7 arg8 harg8 arg9 harg9 arg10 harg10 arg11 harg11 arg12 harg12 x2 x3 x4 f12), (runB.sl.v446 (F := F) c i arg2 harg2 arg3 harg3 arg4 harg4 arg5 harg5 arg6 harg6 arg7 harg7 arg8 harg8 arg9 harg9 arg10 harg10 arg11 harg11 arg12 harg12 x2 x3 x4 f12), (runB.sl.v456 (F := F) c i arg2 harg2 arg3 harg3 arg4 harg4 arg5 harg5 arg6 harg6 arg7 harg7 arg8 harg8 arg9 harg9 arg10 harg10 arg11 harg11 arg12 harg12 hc1 x2 x3 x4 f12)⟩ : Chain F) := by
  refine Chain.mk_congr ?_ ?_ ?_
  · unfold runB.sl.v711 runB.sl.HS1_10 runB.sl.HS1_9 runB.sl.HS1_8 runB.sl.HS1_7 runB.sl.HS1_6 runB.sl.HS1_5 runB.sl.HS1_4 runB.sl.HS1_3 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v728 runB.sl.HS2_10 runB.sl.HS2_9 runB.sl.HS2_8 runB.sl.HS2_7 runB.sl.HS2_6 runB.sl.HS2_5 runB.sl.HS2_4 runB.sl.HS2_3 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v737 runB.sl.HS0_10 runB.sl.HS0_9 runB.sl.HS0_8 runB.sl.HS0_7 runB.sl.HS0_6 runB.sl.HS0_5 runB.sl.HS0_4 runB.sl.HS0_3 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..

/-- What the body makes of chain 2. -/
theorem upB_2 : (runB.sl.v736 (F := F) c i arg2 harg2 arg3 harg3 arg4 harg4 arg5 harg5 arg6 harg6 arg7 harg7 arg8 harg8 arg9 harg9 arg10 harg10 arg11 harg11 arg12 harg12 hc1 x2 x3 x4 f12) = (finChain x3 x4 1 (i 1).val (qry x2 2)).L
    ∧ (runB.sl.v746 (F := F) c i arg2 harg2 arg3 harg3 arg4 harg4 arg5 harg5 arg6 harg6 arg7 harg7 arg8 harg8 arg9 harg9 arg10 harg10 arg11 harg11 arg12 harg12 hc1 x2 x3 x4 f12) = (finChain x3 x4 1 (i 1).val (qry x2 2)).A := by
  have hi := (againB_2 c i arg2 harg2 arg3 harg3 arg4 harg4 arg5 harg5 arg6 harg6 arg7 harg7 arg8 harg8 arg9 harg9 arg10 harg10 arg11 harg11 arg12 harg12 hc0 hc1 x2 x3 x4 f12).trans (firstB_2 c i arg2 harg2 arg3 harg3 arg4 harg4 arg5 harg5 arg6 harg6 arg7 harg7 arg8 harg8 arg9 harg9 arg10 harg10 arg11 harg11 arg12 harg12 hc0 hc1 x2 x3 x4 f12)
  have hs : (runB.sl.v713 (F := F) c i arg2 harg2 arg3 harg3 arg4 harg4 arg5 harg5 arg6 harg6 arg7 harg7 arg8 harg8 arg9 harg9 arg10 harg10 arg11 harg11 arg12 harg12 hc1 x2 x3 x4 f12) = score (View.readAt (Elt F) arg5.view (Rect.unit (s := S4096x512) (k0_off30 i) S512x128.size (k0_off30_inb i hc1)).toLoadRect (harg5.unread x3)) (runB.sl.r_2 (F := F) c arg4 harg4 x2) := by
    unfold runB.sl.v713 runB.sl.HS4_8 runB.sl.HS4_7 runB.sl.HS4_6 runB.sl.HS4_5 runB.sl.HS4_4 runB.sl.HS4_3 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans rfl
  have hk := readAt_kblk harg5 x3 1 (i 1).val (by norm_num) (i 1).isLt (k0_off30_eq i) (k0_off30_inb i hc1)
  have hv := readAt_vblk harg6 x4 1 (i 1).val (by norm_num) (i 1).isLt (k0_off38_eq i) (k0_off38_inb i hc1)
  have hq : (runB.sl.r_2 (F := F) c arg4 harg4 x2) = qry x2 2 := qB_eq c arg4 harg4 x2 2 (by norm_num)
  rw [hk, hq] at hs
  exact masked_of hi hs hv rfl rfl

/-- Chain 3 as the last block finds it. -/
theorem againB_3 : (⟨(runB.sl.v747 (F := F) c i arg2 harg2 arg3 harg3 arg4 harg4 arg5 harg5 arg6 harg6 arg7 harg7 arg8 harg8 arg9 harg9 arg10 harg10 arg11 harg11 arg12 harg12 hc1 x2 x3 x4 f12), (runB.sl.v764 (F := F) c i arg2 harg2 arg3 harg3 arg4 harg4 arg5 harg5 arg6 harg6 arg7 harg7 arg8 harg8 arg9 harg9 arg10 harg10 arg11 harg11 arg12 harg12 hc1 x2 x3 x4 f12), (runB.sl.v773 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = (⟨(runB.sl.v471 (F := F) c i arg2 harg2 arg3 harg3 arg4 harg4 arg5 harg5 arg6 harg6 arg7 harg7 arg8 harg8 arg9 harg9 arg10 harg10 arg11 harg11 arg12 harg12 x2 x3 x4 f12), (runB.sl.v480 (F := F) c i arg2 harg2 arg3 harg3 arg4 harg4 arg5 harg5 arg6 harg6 arg7 harg7 arg8 harg8 arg9 harg9 arg10 harg10 arg11 harg11 arg12 harg12 x2 x3 x4 f12), (runB.sl.v490 (F := F) c i arg2 harg2 arg3 harg3 arg4 harg4 arg5 harg5 arg6 harg6 arg7 harg7 arg8 harg8 arg9 harg9 arg10 harg10 arg11 harg11 arg12 harg12 hc1 x2 x3 x4 f12)⟩ : Chain F) := by
  refine Chain.mk_congr ?_ ?_ ?_
  · unfold runB.sl.v747 runB.sl.HS1_11 runB.sl.HS1_10 runB.sl.HS1_9 runB.sl.HS1_8 runB.sl.HS1_7 runB.sl.HS1_6 runB.sl.HS1_5 runB.sl.HS1_4 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v764 runB.sl.HS2_11 runB.sl.HS2_10 runB.sl.HS2_9 runB.sl.HS2_8 runB.sl.HS2_7 runB.sl.HS2_6 runB.sl.HS2_5 runB.sl.HS2_4 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v773 runB.sl.HS0_11 runB.sl.HS0_10 runB.sl.HS0_9 runB.sl.HS0_8 runB.sl.HS0_7 runB.sl.HS0_6 runB.sl.HS0_5 runB.sl.HS0_4 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..

/-- What the body makes of chain 3. -/
theorem upB_3 : (runB.sl.v772 (F := F) c i arg2 harg2 arg3 harg3 arg4 harg4 arg5 harg5 arg6 harg6 arg7 harg7 arg8 harg8 arg9 harg9 arg10 harg10 arg11 harg11 arg12 harg12 hc1 x2 x3 x4 f12) = (finChain x3 x4 1 (i 1).val (qry x2 3)).L
    ∧ (runB.sl.v782 (F := F) c i arg2 harg2 arg3 harg3 arg4 harg4 arg5 harg5 arg6 harg6 arg7 harg7 arg8 harg8 arg9 harg9 arg10 harg10 arg11 harg11 arg12 harg12 hc1 x2 x3 x4 f12) = (finChain x3 x4 1 (i 1).val (qry x2 3)).A := by
  have hi := (againB_3 c i arg2 harg2 arg3 harg3 arg4 harg4 arg5 harg5 arg6 harg6 arg7 harg7 arg8 harg8 arg9 harg9 arg10 harg10 arg11 harg11 arg12 harg12 hc0 hc1 x2 x3 x4 f12).trans (firstB_3 c i arg2 harg2 arg3 harg3 arg4 harg4 arg5 harg5 arg6 harg6 arg7 harg7 arg8 harg8 arg9 harg9 arg10 harg10 arg11 harg11 arg12 harg12 hc0 hc1 x2 x3 x4 f12)
  have hs : (runB.sl.v749 (F := F) c i arg2 harg2 arg3 harg3 arg4 harg4 arg5 harg5 arg6 harg6 arg7 harg7 arg8 harg8 arg9 harg9 arg10 harg10 arg11 harg11 arg12 harg12 hc1 x2 x3 x4 f12) = score (View.readAt (Elt F) arg5.view (Rect.unit (s := S4096x512) (k0_off30 i) S512x128.size (k0_off30_inb i hc1)).toLoadRect (harg5.unread x3)) (runB.sl.r_3 (F := F) c arg4 harg4 x2) := by
    unfold runB.sl.v749 runB.sl.HS4_8 runB.sl.HS4_7 runB.sl.HS4_6 runB.sl.HS4_5 runB.sl.HS4_4 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans rfl
  have hk := readAt_kblk harg5 x3 1 (i 1).val (by norm_num) (i 1).isLt (k0_off30_eq i) (k0_off30_inb i hc1)
  have hv := readAt_vblk harg6 x4 1 (i 1).val (by norm_num) (i 1).isLt (k0_off38_eq i) (k0_off38_inb i hc1)
  have hq : (runB.sl.r_3 (F := F) c arg4 harg4 x2) = qry x2 3 := qB_eq c arg4 harg4 x2 3 (by norm_num)
  rw [hk, hq] at hs
  exact masked_of hi hs hv rfl rfl

/-- Chain 4 as the last block finds it. -/
theorem againB_4 : (⟨(runB.sl.v786 (F := F) c i arg2 harg2 arg3 harg3 arg4 harg4 arg5 harg5 arg6 harg6 arg7 harg7 arg8 harg8 arg9 harg9 arg10 harg10 arg11 harg11 arg12 harg12 hc1 x2 x3 x4 f12), (runB.sl.v803 (F := F) c i arg2 harg2 arg3 harg3 arg4 harg4 arg5 harg5 arg6 harg6 arg7 harg7 arg8 harg8 arg9 harg9 arg10 harg10 arg11 harg11 arg12 harg12 hc1 x2 x3 x4 f12), (runB.sl.v812 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = (⟨(runB.sl.v508 (F := F) c i arg2 harg2 arg3 harg3 arg4 harg4 arg5 harg5 arg6 harg6 arg7 harg7 arg8 harg8 arg9 harg9 arg10 harg10 arg11 harg11 arg12 harg12 x2 x3 x4 f12), (runB.sl.v517 (F := F) c i arg2 harg2 arg3 harg3 arg4 harg4 arg5 harg5 arg6 harg6 arg7 harg7 arg8 harg8 arg9 harg9 arg10 harg10 arg11 harg11 arg12 harg12 x2 x3 x4 f12), (runB.sl.v527 (F := F) c i arg2 harg2 arg3 harg3 arg4 harg4 arg5 harg5 arg6 harg6 arg7 harg7 arg8 harg8 arg9 harg9 arg10 harg10 arg11 harg11 arg12 harg12 hc1 x2 x3 x4 f12)⟩ : Chain F) := by
  refine Chain.mk_congr ?_ ?_ ?_
  · unfold runB.sl.v786 runB.sl.HS1_12 runB.sl.HS1_11 runB.sl.HS1_10 runB.sl.HS1_9 runB.sl.HS1_8 runB.sl.HS1_7 runB.sl.HS1_6 runB.sl.HS1_5 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v803 runB.sl.HS2_12 runB.sl.HS2_11 runB.sl.HS2_10 runB.sl.HS2_9 runB.sl.HS2_8 runB.sl.HS2_7 runB.sl.HS2_6 runB.sl.HS2_5 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v812 runB.sl.HS0_12 runB.sl.HS0_11 runB.sl.HS0_10 runB.sl.HS0_9 runB.sl.HS0_8 runB.sl.HS0_7 runB.sl.HS0_6 runB.sl.HS0_5 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..

/-- What the body makes of chain 4. -/
theorem upB_4 : (runB.sl.v811 (F := F) c i arg2 harg2 arg3 harg3 arg4 harg4 arg5 harg5 arg6 harg6 arg7 harg7 arg8 harg8 arg9 harg9 arg10 harg10 arg11 harg11 arg12 harg12 hc1 x2 x3 x4 f12) = (finChain x3 x4 2 (i 1).val (qry x2 4)).L
    ∧ (runB.sl.v821 (F := F) c i arg2 harg2 arg3 harg3 arg4 harg4 arg5 harg5 arg6 harg6 arg7 harg7 arg8 harg8 arg9 harg9 arg10 harg10 arg11 harg11 arg12 harg12 hc1 x2 x3 x4 f12) = (finChain x3 x4 2 (i 1).val (qry x2 4)).A := by
  have hi := (againB_4 c i arg2 harg2 arg3 harg3 arg4 harg4 arg5 harg5 arg6 harg6 arg7 harg7 arg8 harg8 arg9 harg9 arg10 harg10 arg11 harg11 arg12 harg12 hc0 hc1 x2 x3 x4 f12).trans (firstB_4 c i arg2 harg2 arg3 harg3 arg4 harg4 arg5 harg5 arg6 harg6 arg7 harg7 arg8 harg8 arg9 harg9 arg10 harg10 arg11 harg11 arg12 harg12 hc0 hc1 x2 x3 x4 f12)
  have hs : (runB.sl.v788 (F := F) c i arg2 harg2 arg3 harg3 arg4 harg4 arg5 harg5 arg6 harg6 arg7 harg7 arg8 harg8 arg9 harg9 arg10 harg10 arg11 harg11 arg12 harg12 hc1 x2 x3 x4 f12) = score (View.readAt (Elt F) arg5.view (Rect.unit (s := S4096x512) (k0_off31 i) S512x128.size (k0_off31_inb i hc1)).toLoadRect (harg5.unread x3)) (runB.sl.r_4 (F := F) c arg4 harg4 x2) := by
    unfold runB.sl.v788 runB.sl.HS4_8 runB.sl.HS4_7 runB.sl.HS4_6 runB.sl.HS4_5 View.readCov
    refine (readAt_miss _ _ _ _ _ _ rfl).trans ?_
    refine (readAt_miss _ _ _ _ _ _ rfl).trans ?_
    refine (readAt_miss _ _ _ _ _ _ rfl).trans ?_
    exact (readAt_hit ..).trans rfl
  have hk := readAt_kblk harg5 x3 2 (i 1).val (by norm_num) (i 1).isLt (k0_off31_eq i) (k0_off31_inb i hc1)
  have hv := readAt_vblk harg6 x4 2 (i 1).val (by norm_num) (i 1).isLt (k0_off39_eq i) (k0_off39_inb i hc1)
  have hq : (runB.sl.r_4 (F := F) c arg4 harg4 x2) = qry x2 4 := qB_eq c arg4 harg4 x2 4 (by norm_num)
  rw [hk, hq] at hs
  exact masked_of hi hs hv rfl rfl

/-- Chain 5 as the last block finds it. -/
theorem againB_5 : (⟨(runB.sl.v822 (F := F) c i arg2 harg2 arg3 harg3 arg4 harg4 arg5 harg5 arg6 harg6 arg7 harg7 arg8 harg8 arg9 harg9 arg10 harg10 arg11 harg11 arg12 harg12 hc1 x2 x3 x4 f12), (runB.sl.v839 (F := F) c i arg2 harg2 arg3 harg3 arg4 harg4 arg5 harg5 arg6 harg6 arg7 harg7 arg8 harg8 arg9 harg9 arg10 harg10 arg11 harg11 arg12 harg12 hc1 x2 x3 x4 f12), (runB.sl.v848 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = (⟨(runB.sl.v542 (F := F) c i arg2 harg2 arg3 harg3 arg4 harg4 arg5 harg5 arg6 harg6 arg7 harg7 arg8 harg8 arg9 harg9 arg10 harg10 arg11 harg11 arg12 harg12 x2 x3 x4 f12), (runB.sl.v551 (F := F) c i arg2 harg2 arg3 harg3 arg4 harg4 arg5 harg5 arg6 harg6 arg7 harg7 arg8 harg8 arg9 harg9 arg10 harg10 arg11 harg11 arg12 harg12 x2 x3 x4 f12), (runB.sl.v561 (F := F) c i arg2 harg2 arg3 harg3 arg4 harg4 arg5 harg5 arg6 harg6 arg7 harg7 arg8 harg8 arg9 harg9 arg10 harg10 arg11 harg11 arg12 harg12 hc1 x2 x3 x4 f12)⟩ : Chain F) := by
  refine Chain.mk_congr ?_ ?_ ?_
  · unfold runB.sl.v822 runB.sl.HS1_13 runB.sl.HS1_12 runB.sl.HS1_11 runB.sl.HS1_10 runB.sl.HS1_9 runB.sl.HS1_8 runB.sl.HS1_7 runB.sl.HS1_6 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v839 runB.sl.HS2_13 runB.sl.HS2_12 runB.sl.HS2_11 runB.sl.HS2_10 runB.sl.HS2_9 runB.sl.HS2_8 runB.sl.HS2_7 runB.sl.HS2_6 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v848 runB.sl.HS0_13 runB.sl.HS0_12 runB.sl.HS0_11 runB.sl.HS0_10 runB.sl.HS0_9 runB.sl.HS0_8 runB.sl.HS0_7 runB.sl.HS0_6 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..

/-- What the body makes of chain 5. -/
theorem upB_5 : (runB.sl.v847 (F := F) c i arg2 harg2 arg3 harg3 arg4 harg4 arg5 harg5 arg6 harg6 arg7 harg7 arg8 harg8 arg9 harg9 arg10 harg10 arg11 harg11 arg12 harg12 hc1 x2 x3 x4 f12) = (finChain x3 x4 2 (i 1).val (qry x2 5)).L
    ∧ (runB.sl.v857 (F := F) c i arg2 harg2 arg3 harg3 arg4 harg4 arg5 harg5 arg6 harg6 arg7 harg7 arg8 harg8 arg9 harg9 arg10 harg10 arg11 harg11 arg12 harg12 hc1 x2 x3 x4 f12) = (finChain x3 x4 2 (i 1).val (qry x2 5)).A := by
  have hi := (againB_5 c i arg2 harg2 arg3 harg3 arg4 harg4 arg5 harg5 arg6 harg6 arg7 harg7 arg8 harg8 arg9 harg9 arg10 harg10 arg11 harg11 arg12 harg12 hc0 hc1 x2 x3 x4 f12).trans (firstB_5 c i arg2 harg2 arg3 harg3 arg4 harg4 arg5 harg5 arg6 harg6 arg7 harg7 arg8 harg8 arg9 harg9 arg10 harg10 arg11 harg11 arg12 harg12 hc0 hc1 x2 x3 x4 f12)
  have hs : (runB.sl.v824 (F := F) c i arg2 harg2 arg3 harg3 arg4 harg4 arg5 harg5 arg6 harg6 arg7 harg7 arg8 harg8 arg9 harg9 arg10 harg10 arg11 harg11 arg12 harg12 hc1 x2 x3 x4 f12) = score (View.readAt (Elt F) arg5.view (Rect.unit (s := S4096x512) (k0_off31 i) S512x128.size (k0_off31_inb i hc1)).toLoadRect (harg5.unread x3)) (runB.sl.r_5 (F := F) c arg4 harg4 x2) := by
    unfold runB.sl.v824 runB.sl.HS4_8 runB.sl.HS4_7 runB.sl.HS4_6 View.readCov
    refine (readAt_miss _ _ _ _ _ _ rfl).trans ?_
    refine (readAt_miss _ _ _ _ _ _ rfl).trans ?_
    exact (readAt_hit ..).trans rfl
  have hk := readAt_kblk harg5 x3 2 (i 1).val (by norm_num) (i 1).isLt (k0_off31_eq i) (k0_off31_inb i hc1)
  have hv := readAt_vblk harg6 x4 2 (i 1).val (by norm_num) (i 1).isLt (k0_off39_eq i) (k0_off39_inb i hc1)
  have hq : (runB.sl.r_5 (F := F) c arg4 harg4 x2) = qry x2 5 := qB_eq c arg4 harg4 x2 5 (by norm_num)
  rw [hk, hq] at hs
  exact masked_of hi hs hv rfl rfl

/-- Chain 6 as the last block finds it. -/
theorem againB_6 : (⟨(runB.sl.v861 (F := F) c i arg2 harg2 arg3 harg3 arg4 harg4 arg5 harg5 arg6 harg6 arg7 harg7 arg8 harg8 arg9 harg9 arg10 harg10 arg11 harg11 arg12 harg12 hc1 x2 x3 x4 f12), (runB.sl.v878 (F := F) c i arg2 harg2 arg3 harg3 arg4 harg4 arg5 harg5 arg6 harg6 arg7 harg7 arg8 harg8 arg9 harg9 arg10 harg10 arg11 harg11 arg12 harg12 hc1 x2 x3 x4 f12), (runB.sl.v887 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = (⟨(runB.sl.v579 (F := F) c i arg2 harg2 arg3 harg3 arg4 harg4 arg5 harg5 arg6 harg6 arg7 harg7 arg8 harg8 arg9 harg9 arg10 harg10 arg11 harg11 arg12 harg12 x2 x3 x4 f12), (runB.sl.v588 (F := F) c i arg2 harg2 arg3 harg3 arg4 harg4 arg5 harg5 arg6 harg6 arg7 harg7 arg8 harg8 arg9 harg9 arg10 harg10 arg11 harg11 arg12 harg12 x2 x3 x4 f12), (runB.sl.v598 (F := F) c i arg2 harg2 arg3 harg3 arg4 harg4 arg5 harg5 arg6 harg6 arg7 harg7 arg8 harg8 arg9 harg9 arg10 harg10 arg11 harg11 arg12 harg12 hc1 x2 x3 x4 f12)⟩ : Chain F) := by
  refine Chain.mk_congr ?_ ?_ ?_
  · unfold runB.sl.v861 runB.sl.HS1_14 runB.sl.HS1_13 runB.sl.HS1_12 runB.sl.HS1_11 runB.sl.HS1_10 runB.sl.HS1_9 runB.sl.HS1_8 runB.sl.HS1_7 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v878 runB.sl.HS2_14 runB.sl.HS2_13 runB.sl.HS2_12 runB.sl.HS2_11 runB.sl.HS2_10 runB.sl.HS2_9 runB.sl.HS2_8 runB.sl.HS2_7 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v887 runB.sl.HS0_14 runB.sl.HS0_13 runB.sl.HS0_12 runB.sl.HS0_11 runB.sl.HS0_10 runB.sl.HS0_9 runB.sl.HS0_8 runB.sl.HS0_7 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..

/-- What the body makes of chain 6. -/
theorem upB_6 : (runB.sl.v886 (F := F) c i arg2 harg2 arg3 harg3 arg4 harg4 arg5 harg5 arg6 harg6 arg7 harg7 arg8 harg8 arg9 harg9 arg10 harg10 arg11 harg11 arg12 harg12 hc1 x2 x3 x4 f12) = (finChain x3 x4 3 (i 1).val (qry x2 6)).L
    ∧ (runB.sl.v896 (F := F) c i arg2 harg2 arg3 harg3 arg4 harg4 arg5 harg5 arg6 harg6 arg7 harg7 arg8 harg8 arg9 harg9 arg10 harg10 arg11 harg11 arg12 harg12 hc1 x2 x3 x4 f12) = (finChain x3 x4 3 (i 1).val (qry x2 6)).A := by
  have hi := (againB_6 c i arg2 harg2 arg3 harg3 arg4 harg4 arg5 harg5 arg6 harg6 arg7 harg7 arg8 harg8 arg9 harg9 arg10 harg10 arg11 harg11 arg12 harg12 hc0 hc1 x2 x3 x4 f12).trans (firstB_6 c i arg2 harg2 arg3 harg3 arg4 harg4 arg5 harg5 arg6 harg6 arg7 harg7 arg8 harg8 arg9 harg9 arg10 harg10 arg11 harg11 arg12 harg12 hc0 hc1 x2 x3 x4 f12)
  have hs : (runB.sl.v863 (F := F) c i arg2 harg2 arg3 harg3 arg4 harg4 arg5 harg5 arg6 harg6 arg7 harg7 arg8 harg8 arg9 harg9 arg10 harg10 arg11 harg11 arg12 harg12 hc1 x2 x3 x4 f12) = score (View.readAt (Elt F) arg5.view (Rect.unit (s := S4096x512) (k0_off32 i) S512x128.size (k0_off32_inb i hc1)).toLoadRect (harg5.unread x3)) (runB.sl.r_7 (F := F) c arg4 harg4 x2) := by
    unfold runB.sl.v863 runB.sl.HS4_8 runB.sl.HS4_7 View.readCov
    refine (readAt_miss _ _ _ _ _ _ rfl).trans ?_
    exact (readAt_hit ..).trans rfl
  have hk := readAt_kblk harg5 x3 3 (i 1).val (by norm_num) (i 1).isLt (k0_off32_eq i) (k0_off32_inb i hc1)
  have hv := readAt_vblk harg6 x4 3 (i 1).val (by norm_num) (i 1).isLt (k0_off40_eq i) (k0_off40_inb i hc1)
  have hq : (runB.sl.r_7 (F := F) c arg4 harg4 x2) = qry x2 6 := qB_eq c arg4 harg4 x2 6 (by norm_num)
  rw [hk, hq] at hs
  exact masked_of hi hs hv rfl rfl

/-- Chain 7 as the last block finds it. -/
theorem againB_7 : (⟨(runB.sl.v897 (F := F) c i arg2 harg2 arg3 harg3 arg4 harg4 arg5 harg5 arg6 harg6 arg7 harg7 arg8 harg8 arg9 harg9 arg10 harg10 arg11 harg11 arg12 harg12 hc1 x2 x3 x4 f12), (runB.sl.v914 (F := F) c i arg2 harg2 arg3 harg3 arg4 harg4 arg5 harg5 arg6 harg6 arg7 harg7 arg8 harg8 arg9 harg9 arg10 harg10 arg11 harg11 arg12 harg12 hc1 x2 x3 x4 f12), (runB.sl.v923 (F := F) c i arg2 harg2 arg3 harg3 arg4 harg4 arg5 harg5 arg6 harg6 arg7 harg7 arg8 harg8 arg9 harg9 arg10 harg10 arg11 harg11 arg12 harg12 hc1 x2 x3 x4 f12)⟩ : Chain F)
    = (⟨(runB.sl.v613 (F := F) c i arg2 harg2 arg3 harg3 arg4 harg4 arg5 harg5 arg6 harg6 arg7 harg7 arg8 harg8 arg9 harg9 arg10 harg10 arg11 harg11 arg12 harg12 x2 x3 x4 f12), (runB.sl.v622 (F := F) c i arg2 harg2 arg3 harg3 arg4 harg4 arg5 harg5 arg6 harg6 arg7 harg7 arg8 harg8 arg9 harg9 arg10 harg10 arg11 harg11 arg12 harg12 x2 x3 x4 f12), (runB.sl.v632 (F := F) c i arg2 harg2 arg3 harg3 arg4 harg4 arg5 harg5 arg6 harg6 arg7 harg7 arg8 harg8 arg9 harg9 arg10 harg10 arg11 harg11 arg12 harg12 hc1 x2 x3 x4 f12)⟩ : Chain F) := by
  refine Chain.mk_congr ?_ ?_ ?_
  · unfold runB.sl.v897 runB.sl.HS1_15 runB.sl.HS1_14 runB.sl.HS1_13 runB.sl.HS1_12 runB.sl.HS1_11 runB.sl.HS1_10 runB.sl.HS1_9 runB.sl.HS1_8 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v914 runB.sl.HS2_15 runB.sl.HS2_14 runB.sl.HS2_13 runB.sl.HS2_12 runB.sl.HS2_11 runB.sl.HS2_10 runB.sl.HS2_9 runB.sl.HS2_8 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..
  · unfold runB.sl.v923 runB.sl.HS0_15 runB.sl.HS0_14 runB.sl.HS0_13 runB.sl.HS0_12 runB.sl.HS0_11 runB.sl.HS0_10 runB.sl.HS0_9 runB.sl.HS0_8 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact readAt_hit ..

/-- What the body makes of chain 7. -/
theorem upB_7 : (runB.sl.v922 (F := F) c i arg2 harg2 arg3 harg3 arg4 harg4 arg5 harg5 arg6 harg6 arg7 harg7 arg8 harg8 arg9 harg9 arg10 harg10 arg11 harg11 arg12 harg12 hc1 x2 x3 x4 f12) = (finChain x3 x4 3 (i 1).val (qry x2 7)).L
    ∧ (k0_pay609 (runB.sl.v860 (F := F) i arg6 harg6 hc1 x4) (runB.sl.v910 (F := F) c i arg2 harg2 arg3 harg3 arg4 harg4 arg5 harg5 arg6 harg6 arg7 harg7 arg8 harg8 arg9 harg9 arg10 harg10 arg11 harg11 arg12 harg12 hc1 x2 x3 x4 f12) (runB.sl.v926 (F := F) c i arg2 harg2 arg3 harg3 arg4 harg4 arg5 harg5 arg6 harg6 arg7 harg7 arg8 harg8 arg9 harg9 arg10 harg10 arg11 harg11 arg12 harg12 hc1 x2 x3 x4 f12)) = (finChain x3 x4 3 (i 1).val (qry x2 7)).A := by
  have hi := (againB_7 c i arg2 harg2 arg3 harg3 arg4 harg4 arg5 harg5 arg6 harg6 arg7 harg7 arg8 harg8 arg9 harg9 arg10 harg10 arg11 harg11 arg12 harg12 hc0 hc1 x2 x3 x4 f12).trans (firstB_7 c i arg2 harg2 arg3 harg3 arg4 harg4 arg5 harg5 arg6 harg6 arg7 harg7 arg8 harg8 arg9 harg9 arg10 harg10 arg11 harg11 arg12 harg12 hc0 hc1 x2 x3 x4 f12)
  have hs : (runB.sl.v899 (F := F) c i arg2 harg2 arg3 harg3 arg4 harg4 arg5 harg5 arg6 harg6 arg7 harg7 arg8 harg8 arg9 harg9 arg10 harg10 arg11 harg11 arg12 harg12 hc1 x2 x3 x4 f12) = score (View.readAt (Elt F) arg5.view (Rect.unit (s := S4096x512) (k0_off32 i) S512x128.size (k0_off32_inb i hc1)).toLoadRect (harg5.unread x3)) (runB.sl.r_8 (F := F) c arg4 harg4 x2) := by
    unfold runB.sl.v899 runB.sl.HS4_8 View.readCov
    exact (readAt_hit ..).trans rfl
  have hk := readAt_kblk harg5 x3 3 (i 1).val (by norm_num) (i 1).isLt (k0_off32_eq i) (k0_off32_inb i hc1)
  have hv := readAt_vblk harg6 x4 3 (i 1).val (by norm_num) (i 1).isLt (k0_off40_eq i) (k0_off40_inb i hc1)
  have hq : (runB.sl.r_8 (F := F) c arg4 harg4 x2) = qry x2 7 := qB_eq c arg4 harg4 x2 7 (by norm_num)
  rw [hk, hq] at hs
  exact masked_of hi hs hv rfl rfl

end Cert.Proof
-- ==== Proof.OutB.lean ====
module

public import proofs.«01_k».proof.Proof.FinB2

/-! What the body stores at a query block whose number is odd. -/

@[expose] public section

set_option maxRecDepth 16384

noncomputable section

open Cert.KernelIdeal Cert.KernelIdeal.Gen Cert.KernelIdeal.Proof Idealize.ShloMosaic Idealize.ShloMosaic.TcCoe Idealize.SL.Sem

namespace Cert.Proof

variable {F : FTy → Type} [FloatOps F] [Named F]

variable (c : Dev nD) (i : grid0.Coords) (arg2 : Memref sig .tc .vmem S4x64 .f32)
    (harg2 : arg2.IsWhole) (arg3 : Memref sig .tc .vmem S128x1 .f32) (harg3 : arg3.IsWhole)
    (arg4 : Memref sig .tc .vmem S1x512x512 .bf16) (harg4 : arg4.IsWhole)
    (arg5 : Memref sig .tc .vmem S4096x512 .bf16) (harg5 : arg5.IsWhole)
    (arg6 : Memref sig .tc .vmem S8x512x512 .bf16) (harg6 : arg6.IsWhole)
    (arg7 : Memref sig .tc .vmem S512x512 .bf16) (harg7 : arg7.IsWhole)
    (arg8 : Memref sig .tc .vmem S8x128x512 .f32) (harg8 : arg8.IsWhole)
    (arg9 : Memref sig .tc .vmem S8x1x512 .f32) (harg9 : arg9.IsWhole)
    (arg10 : Memref sig .tc .vmem S8x1x512 .f32) (harg10 : arg10.IsWhole)
    (arg11 : Memref sig .tc .vmem S8x512x512 .f32) (harg11 : arg11.IsWhole)
    (arg12 : Memref sig .tc .vmem S8x512x512 .f32) (harg12 : arg12.IsWhole) (hc0 : ¬cond0_0 i) (hc1 : cond0_1 i)
    (x0 : Vec F S4x64 .f32) (x1 : Vec F S128x1 .f32) (x2 : Vec F S1x512x512 .bf16) (x3 : Vec F S4096x512 .bf16)
    (x4 : Vec F S8x512x512 .bf16) (f12 : BufTy.Contents (Elt F) arg12.view.ty)

include hc0 hc1

/-- What the body reads back of chain 0 at the end. -/
theorem outB_0 : (runB.sl.v166 (F := F) c i arg2 harg2 arg3 harg3 arg4 harg4 arg5 harg5 arg6 harg6 arg7 harg7 arg8 harg8 arg9 harg9 arg10 harg10 arg11 harg11 arg12 harg12 hc1 x2 x3 x4 f12) = (finChain x3 x4 0 (i 1).val (qry x2 0)).A
    ∧ (runB.sl.v168 (F := F) c i arg2 harg2 arg3 harg3 arg4 harg4 arg5 harg5 arg6 harg6 arg7 harg7 arg8 harg8 arg9 harg9 arg10 harg10 arg11 harg11 arg12 harg12 hc1 x2 x3 x4 f12) = (finChain x3 x4 0 (i 1).val (qry x2 0)).L := by
  have hu := upB_0 c i arg2 harg2 arg3 harg3 arg4 harg4 arg5 harg5 arg6 harg6 arg7 harg7 arg8 harg8 arg9 harg9 arg10 harg10 arg11 harg11 arg12 harg12 hc0 hc1 x2 x3 x4 f12
  constructor
  · unfold runB.sl.v166 runB.sl.HS0_16 runB.sl.HS0_15 runB.sl.HS0_14 runB.sl.HS0_13 runB.sl.HS0_12 runB.sl.HS0_11 runB.sl.HS0_10 runB.sl.HS0_9 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.2
  · unfold runB.sl.v168 runB.sl.HS2_16 runB.sl.HS2_15 runB.sl.HS2_14 runB.sl.HS2_13 runB.sl.HS2_12 runB.sl.HS2_11 runB.sl.HS2_10 runB.sl.HS2_9 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 1 at the end. -/
theorem outB_1 : (runB.sl.v172 (F := F) c i arg2 harg2 arg3 harg3 arg4 harg4 arg5 harg5 arg6 harg6 arg7 harg7 arg8 harg8 arg9 harg9 arg10 harg10 arg11 harg11 arg12 harg12 hc1 x2 x3 x4 f12) = (finChain x3 x4 0 (i 1).val (qry x2 1)).A
    ∧ (runB.sl.v174 (F := F) c i arg2 harg2 arg3 harg3 arg4 harg4 arg5 harg5 arg6 harg6 arg7 harg7 arg8 harg8 arg9 harg9 arg10 harg10 arg11 harg11 arg12 harg12 hc1 x2 x3 x4 f12) = (finChain x3 x4 0 (i 1).val (qry x2 1)).L := by
  have hu := upB_1 c i arg2 harg2 arg3 harg3 arg4 harg4 arg5 harg5 arg6 harg6 arg7 harg7 arg8 harg8 arg9 harg9 arg10 harg10 arg11 harg11 arg12 harg12 hc0 hc1 x2 x3 x4 f12
  constructor
  · unfold runB.sl.v172 runB.sl.HS0_16 runB.sl.HS0_15 runB.sl.HS0_14 runB.sl.HS0_13 runB.sl.HS0_12 runB.sl.HS0_11 runB.sl.HS0_10 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.2
  · unfold runB.sl.v174 runB.sl.HS2_16 runB.sl.HS2_15 runB.sl.HS2_14 runB.sl.HS2_13 runB.sl.HS2_12 runB.sl.HS2_11 runB.sl.HS2_10 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 2 at the end. -/
theorem outB_2 : (runB.sl.v200 (F := F) c i arg2 harg2 arg3 harg3 arg4 harg4 arg5 harg5 arg6 harg6 arg7 harg7 arg8 harg8 arg9 harg9 arg10 harg10 arg11 harg11 arg12 harg12 hc1 x2 x3 x4 f12) = (finChain x3 x4 1 (i 1).val (qry x2 2)).A
    ∧ (runB.sl.v202 (F := F) c i arg2 harg2 arg3 harg3 arg4 harg4 arg5 harg5 arg6 harg6 arg7 harg7 arg8 harg8 arg9 harg9 arg10 harg10 arg11 harg11 arg12 harg12 hc1 x2 x3 x4 f12) = (finChain x3 x4 1 (i 1).val (qry x2 2)).L := by
  have hu := upB_2 c i arg2 harg2 arg3 harg3 arg4 harg4 arg5 harg5 arg6 harg6 arg7 harg7 arg8 harg8 arg9 harg9 arg10 harg10 arg11 harg11 arg12 harg12 hc0 hc1 x2 x3 x4 f12
  constructor
  · unfold runB.sl.v200 runB.sl.HS0_16 runB.sl.HS0_15 runB.sl.HS0_14 runB.sl.HS0_13 runB.sl.HS0_12 runB.sl.HS0_11 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.2
  · unfold runB.sl.v202 runB.sl.HS2_16 runB.sl.HS2_15 runB.sl.HS2_14 runB.sl.HS2_13 runB.sl.HS2_12 runB.sl.HS2_11 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 3 at the end. -/
theorem outB_3 : (runB.sl.v206 (F := F) c i arg2 harg2 arg3 harg3 arg4 harg4 arg5 harg5 arg6 harg6 arg7 harg7 arg8 harg8 arg9 harg9 arg10 harg10 arg11 harg11 arg12 harg12 hc1 x2 x3 x4 f12) = (finChain x3 x4 1 (i 1).val (qry x2 3)).A
    ∧ (runB.sl.v208 (F := F) c i arg2 harg2 arg3 harg3 arg4 harg4 arg5 harg5 arg6 harg6 arg7 harg7 arg8 harg8 arg9 harg9 arg10 harg10 arg11 harg11 arg12 harg12 hc1 x2 x3 x4 f12) = (finChain x3 x4 1 (i 1).val (qry x2 3)).L := by
  have hu := upB_3 c i arg2 harg2 arg3 harg3 arg4 harg4 arg5 harg5 arg6 harg6 arg7 harg7 arg8 harg8 arg9 harg9 arg10 harg10 arg11 harg11 arg12 harg12 hc0 hc1 x2 x3 x4 f12
  constructor
  · unfold runB.sl.v206 runB.sl.HS0_16 runB.sl.HS0_15 runB.sl.HS0_14 runB.sl.HS0_13 runB.sl.HS0_12 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.2
  · unfold runB.sl.v208 runB.sl.HS2_16 runB.sl.HS2_15 runB.sl.HS2_14 runB.sl.HS2_13 runB.sl.HS2_12 View.readCov
    refine (readAt_miss _ _ _ _ _ _ rfl).trans ?_
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 4 at the end. -/
theorem outB_4 : (runB.sl.v234 (F := F) c i arg2 harg2 arg3 harg3 arg4 harg4 arg5 harg5 arg6 harg6 arg7 harg7 arg8 harg8 arg9 harg9 arg10 harg10 arg11 harg11 arg12 harg12 hc1 x2 x3 x4 f12) = (finChain x3 x4 2 (i 1).val (qry x2 4)).A
    ∧ (runB.sl.v236 (F := F) c i arg2 harg2 arg3 harg3 arg4 harg4 arg5 harg5 arg6 harg6 arg7 harg7 arg8 harg8 arg9 harg9 arg10 harg10 arg11 harg11 arg12 harg12 hc1 x2 x3 x4 f12) = (finChain x3 x4 2 (i 1).val (qry x2 4)).L := by
  have hu := upB_4 c i arg2 harg2 arg3 harg3 arg4 harg4 arg5 harg5 arg6 harg6 arg7 harg7 arg8 harg8 arg9 harg9 arg10 harg10 arg11 harg11 arg12 harg12 hc0 hc1 x2 x3 x4 f12
  constructor
  · unfold runB.sl.v234 runB.sl.HS0_16 runB.sl.HS0_15 runB.sl.HS0_14 runB.sl.HS0_13 View.readCov
    refine (readAt_miss _ _ _ _ _ _ rfl).trans ?_
    refine (readAt_miss _ _ _ _ _ _ rfl).trans ?_
    refine (readAt_miss _ _ _ _ _ _ rfl).trans ?_
    exact (readAt_hit ..).trans hu.2
  · unfold runB.sl.v236 runB.sl.HS2_16 runB.sl.HS2_15 runB.sl.HS2_14 runB.sl.HS2_13 View.readCov
    refine (readAt_miss _ _ _ _ _ _ rfl).trans ?_
    refine (readAt_miss _ _ _ _ _ _ rfl).trans ?_
    refine (readAt_miss _ _ _ _ _ _ rfl).trans ?_
    exact (readAt_hit ..).trans hu.1

/-- What the body reads back of chain 5 at the end. -/
theorem outB_5 : (runB.sl.v240 (F := F) c i arg2 harg2 arg3 harg3 arg4 harg4 arg5 harg5 arg6 harg6 arg7 harg7 arg8 harg8 arg9 harg9 arg10 harg10 arg11 harg11 arg12 harg12 hc1 x2 x3 x4 f12) = (finChain x3 x4 2 (i 1).val (qry x2 5)).A
    ∧ (runB.sl.v242 (F := F) c i arg2 harg2 arg3 harg3 arg4 harg4 arg5 harg5 arg6 harg6 arg7 harg7 arg8 harg8 arg9 harg9 arg10 harg10 arg11 harg11 arg12 harg12 hc1 x2 x3 x4 f12) = (finChain x3 x4 2 (i 1).val (qry x2 5)).L := by
  have hu := upB_5 c i arg2 harg2 arg3 harg3 arg4 harg4 arg5 harg5 arg6 harg6 arg7 harg7 arg8 harg8 arg9 harg9 arg10 harg10 arg11 harg11 arg12 harg12 hc0 hc1 x2 x3 x4 f12
  constructor
  · unfold runB.sl.v240 runB.sl.HS0_16 runB.sl.HS0_15 runB.sl.HS0_14 View.readCov
    refine (readAt_miss _ _ _ _ _ _ rfl).trans ?_
    refine (readAt_miss _ _ _ _ _ _ rfl).trans ?_
    exact (readAt_hit ..).trans hu.2
  · unfold runB.sl.v242 runB.sl.HS2_16 runB.sl.HS2_15 runB.sl.HS2_14 View.readCov
    refine (readAt_miss _ _ _ _ _ _ rfl).trans ?_
    refine (readAt_miss _ _ _ _ _ _ rfl).trans ?_
    exact (readAt_hit ..).trans hu.1

/-- What the body reads back of chain 6 at the end. -/
theorem outB_6 : (runB.sl.v268 (F := F) c i arg2 harg2 arg3 harg3 arg4 harg4 arg5 harg5 arg6 harg6 arg7 harg7 arg8 harg8 arg9 harg9 arg10 harg10 arg11 harg11 arg12 harg12 hc1 x2 x3 x4 f12) = (finChain x3 x4 3 (i 1).val (qry x2 6)).A
    ∧ (runB.sl.v270 (F := F) c i arg2 harg2 arg3 harg3 arg4 harg4 arg5 harg5 arg6 harg6 arg7 harg7 arg8 harg8 arg9 harg9 arg10 harg10 arg11 harg11 arg12 harg12 hc1 x2 x3 x4 f12) = (finChain x3 x4 3 (i 1).val (qry x2 6)).L := by
  have hu := upB_6 c i arg2 harg2 arg3 harg3 arg4 harg4 arg5 harg5 arg6 harg6 arg7 harg7 arg8 harg8 arg9 harg9 arg10 harg10 arg11 harg11 arg12 harg12 hc0 hc1 x2 x3 x4 f12
  constructor
  · unfold runB.sl.v268 runB.sl.HS0_16 runB.sl.HS0_15 View.readCov
    refine (readAt_miss _ _ _ _ _ _ rfl).trans ?_
    exact (readAt_hit ..).trans hu.2
  · unfold runB.sl.v270 runB.sl.HS2_16 runB.sl.HS2_15 View.readCov
    refine (readAt_miss _ _ _ _ _ _ rfl).trans ?_
    exact (readAt_hit ..).trans hu.1

/-- What the body reads back of chain 7 at the end. -/
theorem outB_7 : (runB.sl.v274 (F := F) c i arg2 harg2 arg3 harg3 arg4 harg4 arg5 harg5 arg6 harg6 arg7 harg7 arg8 harg8 arg9 harg9 arg10 harg10 arg11 harg11 arg12 harg12 hc1 x2 x3 x4 f12) = (finChain x3 x4 3 (i 1).val (qry x2 7)).A
    ∧ (runB.sl.v276 (F := F) c i arg2 harg2 arg3 harg3 arg4 harg4 arg5 harg5 arg6 harg6 arg7 harg7 arg8 harg8 arg9 harg9 arg10 harg10 arg11 harg11 arg12 harg12 hc1 x2 x3 x4 f12) = (finChain x3 x4 3 (i 1).val (qry x2 7)).L := by
  have hu := upB_7 c i arg2 harg2 arg3 harg3 arg4 harg4 arg5 harg5 arg6 harg6 arg7 harg7 arg8 harg8 arg9 harg9 arg10 harg10 arg11 harg11 arg12 harg12 hc0 hc1 x2 x3 x4 f12
  constructor
  · unfold runB.sl.v274 runB.sl.HS0_16 View.readCov
    exact (readAt_hit ..).trans hu.2
  · unfold runB.sl.v276 runB.sl.HS2_16 View.readCov
    exact (readAt_hit ..).trans hu.1

/-- The pieces that the run at such a block finds, in terms of the chains. -/
theorem runB_pieces : (runB c i arg2 harg2 arg3 harg3 arg4 harg4 arg5 harg5 arg6 harg6 arg7 harg7 arg8 harg8 arg9 harg9 arg10 harg10 arg11 harg11 arg12 harg12 hc0 hc1 x0 x1 x2 x3 x4 f12).1 = outPieces x0 x1 x2 x3 x4 (i 1).val := by
  have hl : (runB.sl.r_9 (F := F) c arg2 harg2 x0) = lamOf x0 := congrArg k0_pay590 (readAt_all harg2 x0 (off := ![0, 0]) (by intro a; fin_cases a <;> rfl) inb_S4x64_S4x64_0_0)
  have hg : (View.readAt (Elt F) arg3.view (Rect.unit (s := S128x1) ![0, 0] S128x1.size inb_S128x1_S128x1_0_0).toLoadRect (harg3.unread x1)) = x1 := readAt_all harg3 x1 (by intro a; fin_cases a <;> rfl) inb_S128x1_S128x1_0_0
  have o0 := outB_0 c i arg2 harg2 arg3 harg3 arg4 harg4 arg5 harg5 arg6 harg6 arg7 harg7 arg8 harg8 arg9 harg9 arg10 harg10 arg11 harg11 arg12 harg12 hc0 hc1 x2 x3 x4 f12
  have o1 := outB_1 c i arg2 harg2 arg3 harg3 arg4 harg4 arg5 harg5 arg6 harg6 arg7 harg7 arg8 harg8 arg9 harg9 arg10 harg10 arg11 harg11 arg12 harg12 hc0 hc1 x2 x3 x4 f12
  have o2 := outB_2 c i arg2 harg2 arg3 harg3 arg4 harg4 arg5 harg5 arg6 harg6 arg7 harg7 arg8 harg8 arg9 harg9 arg10 harg10 arg11 harg11 arg12 harg12 hc0 hc1 x2 x3 x4 f12
  have o3 := outB_3 c i arg2 harg2 arg3 harg3 arg4 harg4 arg5 harg5 arg6 harg6 arg7 harg7 arg8 harg8 arg9 harg9 arg10 harg10 arg11 harg11 arg12 harg12 hc0 hc1 x2 x3 x4 f12
  have o4 := outB_4 c i arg2 harg2 arg3 harg3 arg4 harg4 arg5 harg5 arg6 harg6 arg7 harg7 arg8 harg8 arg9 harg9 arg10 harg10 arg11 harg11 arg12 harg12 hc0 hc1 x2 x3 x4 f12
  have o5 := outB_5 c i arg2 harg2 arg3 harg3 arg4 harg4 arg5 harg5 arg6 harg6 arg7 harg7 arg8 harg8 arg9 harg9 arg10 harg10 arg11 harg11 arg12 harg12 hc0 hc1 x2 x3 x4 f12
  have o6 := outB_6 c i arg2 harg2 arg3 harg3 arg4 harg4 arg5 harg5 arg6 harg6 arg7 harg7 arg8 harg8 arg9 harg9 arg10 harg10 arg11 harg11 arg12 harg12 hc0 hc1 x2 x3 x4 f12
  have o7 := outB_7 c i arg2 harg2 arg3 harg3 arg4 harg4 arg5 harg5 arg6 harg6 arg7 harg7 arg8 harg8 arg9 harg9 arg10 harg10 arg11 harg11 arg12 harg12 hc0 hc1 x2 x3 x4 f12
  have e : (runB c i arg2 harg2 arg3 harg3 arg4 harg4 arg5 harg5 arg6 harg6 arg7 harg7 arg8 harg8 arg9 harg9 arg10 harg10 arg11 harg11 arg12 harg12 hc0 hc1 x0 x1 x2 x3 x4 f12).1 = [⟨Rect.unit (s := S512x512) ![0, 384] S512x128.size inb_S512x512_S512x128_0_384,
        k0_pay1 (k0_pay618 (runB.sl.r_9 (F := F) c arg2 harg2 x0) (runB.sl.v268 (F := F) c i arg2 harg2 arg3 harg3 arg4 harg4 arg5 harg5 arg6 harg6 arg7 harg7 arg8 harg8 arg9 harg9 arg10 harg10 arg11 harg11 arg12 harg12 hc1 x2 x3 x4 f12) (runB.sl.v270 (F := F) c i arg2 harg2 arg3 harg3 arg4 harg4 arg5 harg5 arg6 harg6 arg7 harg7 arg8 harg8 arg9 harg9 arg10 harg10 arg11 harg11 arg12 harg12 hc1 x2 x3 x4 f12) (runB.sl.v274 (F := F) c i arg2 harg2 arg3 harg3 arg4 harg4 arg5 harg5 arg6 harg6 arg7 harg7 arg8 harg8 arg9 harg9 arg10 harg10 arg11 harg11 arg12 harg12 hc1 x2 x3 x4 f12) (runB.sl.v276 (F := F) c i arg2 harg2 arg3 harg3 arg4 harg4 arg5 harg5 arg6 harg6 arg7 harg7 arg8 harg8 arg9 harg9 arg10 harg10 arg11 harg11 arg12 harg12 hc1 x2 x3 x4 f12)) (k0_pay619 (runB.sl.r_9 (F := F) c arg2 harg2 x0) (runB.sl.v268 (F := F) c i arg2 harg2 arg3 harg3 arg4 harg4 arg5 harg5 arg6 harg6 arg7 harg7 arg8 harg8 arg9 harg9 arg10 harg10 arg11 harg11 arg12 harg12 hc1 x2 x3 x4 f12) (runB.sl.v270 (F := F) c i arg2 harg2 arg3 harg3 arg4 harg4 arg5 harg5 arg6 harg6 arg7 harg7 arg8 harg8 arg9 harg9 arg10 harg10 arg11 harg11 arg12 harg12 hc1 x2 x3 x4 f12) (runB.sl.v274 (F := F) c i arg2 harg2 arg3 harg3 arg4 harg4 arg5 harg5 arg6 harg6 arg7 harg7 arg8 harg8 arg9 harg9 arg10 harg10 arg11 harg11 arg12 harg12 hc1 x2 x3 x4 f12) (runB.sl.v276 (F := F) c i arg2 harg2 arg3 harg3 arg4 harg4 arg5 harg5 arg6 harg6 arg7 harg7 arg8 harg8 arg9 harg9 arg10 harg10 arg11 harg11 arg12 harg12 hc1 x2 x3 x4 f12)) (View.readAt (Elt F) arg3.view (Rect.unit (s := S128x1) ![0, 0] S128x1.size inb_S128x1_S128x1_0_0).toLoadRect (harg3.unread x1))⟩, ⟨Rect.unit (s := S512x512) ![0, 256] S512x128.size inb_S512x512_S512x128_0_256,
        k0_pay1 (k0_pay618 (runB.sl.r_9 (F := F) c arg2 harg2 x0) (runB.sl.v234 (F := F) c i arg2 harg2 arg3 harg3 arg4 harg4 arg5 harg5 arg6 harg6 arg7 harg7 arg8 harg8 arg9 harg9 arg10 harg10 arg11 harg11 arg12 harg12 hc1 x2 x3 x4 f12) (runB.sl.v236 (F := F) c i arg2 harg2 arg3 harg3 arg4 harg4 arg5 harg5 arg6 harg6 arg7 harg7 arg8 harg8 arg9 harg9 arg10 harg10 arg11 harg11 arg12 harg12 hc1 x2 x3 x4 f12) (runB.sl.v240 (F := F) c i arg2 harg2 arg3 harg3 arg4 harg4 arg5 harg5 arg6 harg6 arg7 harg7 arg8 harg8 arg9 harg9 arg10 harg10 arg11 harg11 arg12 harg12 hc1 x2 x3 x4 f12) (runB.sl.v242 (F := F) c i arg2 harg2 arg3 harg3 arg4 harg4 arg5 harg5 arg6 harg6 arg7 harg7 arg8 harg8 arg9 harg9 arg10 harg10 arg11 harg11 arg12 harg12 hc1 x2 x3 x4 f12)) (k0_pay619 (runB.sl.r_9 (F := F) c arg2 harg2 x0) (runB.sl.v234 (F := F) c i arg2 harg2 arg3 harg3 arg4 harg4 arg5 harg5 arg6 harg6 arg7 harg7 arg8 harg8 arg9 harg9 arg10 harg10 arg11 harg11 arg12 harg12 hc1 x2 x3 x4 f12) (runB.sl.v236 (F := F) c i arg2 harg2 arg3 harg3 arg4 harg4 arg5 harg5 arg6 harg6 arg7 harg7 arg8 harg8 arg9 harg9 arg10 harg10 arg11 harg11 arg12 harg12 hc1 x2 x3 x4 f12) (runB.sl.v240 (F := F) c i arg2 harg2 arg3 harg3 arg4 harg4 arg5 harg5 arg6 harg6 arg7 harg7 arg8 harg8 arg9 harg9 arg10 harg10 arg11 harg11 arg12 harg12 hc1 x2 x3 x4 f12) (runB.sl.v242 (F := F) c i arg2 harg2 arg3 harg3 arg4 harg4 arg5 harg5 arg6 harg6 arg7 harg7 arg8 harg8 arg9 harg9 arg10 harg10 arg11 harg11 arg12 harg12 hc1 x2 x3 x4 f12)) (View.readAt (Elt F) arg3.view (Rect.unit (s := S128x1) ![0, 0] S128x1.size inb_S128x1_S128x1_0_0).toLoadRect (harg3.unread x1))⟩, ⟨Rect.unit (s := S512x512) ![0, 128] S512x128.size inb_S512x512_S512x128_0_128,
        k0_pay1 (k0_pay618 (runB.sl.r_9 (F := F) c arg2 harg2 x0) (runB.sl.v200 (F := F) c i arg2 harg2 arg3 harg3 arg4 harg4 arg5 harg5 arg6 harg6 arg7 harg7 arg8 harg8 arg9 harg9 arg10 harg10 arg11 harg11 arg12 harg12 hc1 x2 x3 x4 f12) (runB.sl.v202 (F := F) c i arg2 harg2 arg3 harg3 arg4 harg4 arg5 harg5 arg6 harg6 arg7 harg7 arg8 harg8 arg9 harg9 arg10 harg10 arg11 harg11 arg12 harg12 hc1 x2 x3 x4 f12) (runB.sl.v206 (F := F) c i arg2 harg2 arg3 harg3 arg4 harg4 arg5 harg5 arg6 harg6 arg7 harg7 arg8 harg8 arg9 harg9 arg10 harg10 arg11 harg11 arg12 harg12 hc1 x2 x3 x4 f12) (runB.sl.v208 (F := F) c i arg2 harg2 arg3 harg3 arg4 harg4 arg5 harg5 arg6 harg6 arg7 harg7 arg8 harg8 arg9 harg9 arg10 harg10 arg11 harg11 arg12 harg12 hc1 x2 x3 x4 f12)) (k0_pay619 (runB.sl.r_9 (F := F) c arg2 harg2 x0) (runB.sl.v200 (F := F) c i arg2 harg2 arg3 harg3 arg4 harg4 arg5 harg5 arg6 harg6 arg7 harg7 arg8 harg8 arg9 harg9 arg10 harg10 arg11 harg11 arg12 harg12 hc1 x2 x3 x4 f12) (runB.sl.v202 (F := F) c i arg2 harg2 arg3 harg3 arg4 harg4 arg5 harg5 arg6 harg6 arg7 harg7 arg8 harg8 arg9 harg9 arg10 harg10 arg11 harg11 arg12 harg12 hc1 x2 x3 x4 f12) (runB.sl.v206 (F := F) c i arg2 harg2 arg3 harg3 arg4 harg4 arg5 harg5 arg6 harg6 arg7 harg7 arg8 harg8 arg9 harg9 arg10 harg10 arg11 harg11 arg12 harg12 hc1 x2 x3 x4 f12) (runB.sl.v208 (F := F) c i arg2 harg2 arg3 harg3 arg4 harg4 arg5 harg5 arg6 harg6 arg7 harg7 arg8 harg8 arg9 harg9 arg10 harg10 arg11 harg11 arg12 harg12 hc1 x2 x3 x4 f12)) (View.readAt (Elt F) arg3.view (Rect.unit (s := S128x1) ![0, 0] S128x1.size inb_S128x1_S128x1_0_0).toLoadRect (harg3.unread x1))⟩, ⟨Rect.unit (s := S512x512) ![0, 0] S512x128.size inb_S512x512_S512x128_0_0,
        k0_pay1 (k0_pay618 (runB.sl.r_9 (F := F) c arg2 harg2 x0) (runB.sl.v166 (F := F) c i arg2 harg2 arg3 harg3 arg4 harg4 arg5 harg5 arg6 harg6 arg7 harg7 arg8 harg8 arg9 harg9 arg10 harg10 arg11 harg11 arg12 harg12 hc1 x2 x3 x4 f12) (runB.sl.v168 (F := F) c i arg2 harg2 arg3 harg3 arg4 harg4 arg5 harg5 arg6 harg6 arg7 harg7 arg8 harg8 arg9 harg9 arg10 harg10 arg11 harg11 arg12 harg12 hc1 x2 x3 x4 f12) (runB.sl.v172 (F := F) c i arg2 harg2 arg3 harg3 arg4 harg4 arg5 harg5 arg6 harg6 arg7 harg7 arg8 harg8 arg9 harg9 arg10 harg10 arg11 harg11 arg12 harg12 hc1 x2 x3 x4 f12) (runB.sl.v174 (F := F) c i arg2 harg2 arg3 harg3 arg4 harg4 arg5 harg5 arg6 harg6 arg7 harg7 arg8 harg8 arg9 harg9 arg10 harg10 arg11 harg11 arg12 harg12 hc1 x2 x3 x4 f12)) (k0_pay619 (runB.sl.r_9 (F := F) c arg2 harg2 x0) (runB.sl.v166 (F := F) c i arg2 harg2 arg3 harg3 arg4 harg4 arg5 harg5 arg6 harg6 arg7 harg7 arg8 harg8 arg9 harg9 arg10 harg10 arg11 harg11 arg12 harg12 hc1 x2 x3 x4 f12) (runB.sl.v168 (F := F) c i arg2 harg2 arg3 harg3 arg4 harg4 arg5 harg5 arg6 harg6 arg7 harg7 arg8 harg8 arg9 harg9 arg10 harg10 arg11 harg11 arg12 harg12 hc1 x2 x3 x4 f12) (runB.sl.v172 (F := F) c i arg2 harg2 arg3 harg3 arg4 harg4 arg5 harg5 arg6 harg6 arg7 harg7 arg8 harg8 arg9 harg9 arg10 harg10 arg11 harg11 arg12 harg12 hc1 x2 x3 x4 f12) (runB.sl.v174 (F := F) c i arg2 harg2 arg3 harg3 arg4 harg4 arg5 harg5 arg6 harg6 arg7 harg7 arg8 harg8 arg9 harg9 arg10 harg10 arg11 harg11 arg12 harg12 hc1 x2 x3 x4 f12)) (View.readAt (Elt F) arg3.view (Rect.unit (s := S128x1) ![0, 0] S128x1.size inb_S128x1_S128x1_0_0).toLoadRect (harg3.unread x1))⟩] := rfl
  rw [e, hl, hg, o0.1, o0.2, o1.1, o1.2, o2.1, o2.2, o3.1, o3.2, o4.1, o4.2, o5.1, o5.2, o6.1, o6.2, o7.1, o7.2]
  rfl

end Cert.Proof
-- ==== Proof.Frame.lean ====
module

public import proofs.«01_k».proof.Proof.OutA
public import proofs.«01_k».proof.Proof.OutB
public import Idealize.ShloMosaic.Lib.Claim

/-! The run of the whole program over real numbers: every grid point leaves the four heads of `outPieces` in its
    block, the argument arrays stay as they were, and every semaphore ends at zero. -/

@[expose] public section

set_option maxRecDepth 16384

noncomputable section

namespace Cert.KernelIdeal.Proof

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four heads' stores fill the result's block. -/
theorem outPieces_cover (x0 : Vec F S4x64 .f32) (x1 : Vec F S128x1 .f32) (x2 : Vec F S1x512x512 .bf16)
    (x3 : Vec F S4096x512 .bf16) (x4 : Vec F S8x512x512 .bf16) (J : ℕ) (y : S512x512.Idx) :
    ∃ pc ∈ outPieces x0 x1 x2 x3 x4 J, y ∈ pc.1.set :=
  View.cover_of_tiledL (outPieces x0 x1 x2 x3 x4 J) S512x128.size (by sl_kernel_rfl) y

/-- What the result's block holds after grid point `t`. -/
def outBlock (c : Dev nD) (t : Fin cfg0.N) : Vec F S512x512 .bf16 :=
  VO0_5.read (Elt F) (VO0_5.writes (Elt F) VO0_5.junk (outPieces (iblk m c 0 t) (iblk m c 1 t) (iblk m c 2 t)
    (iblk m c 3 t) (iblk m c 4 t) ((grid0.coords t) 1).val))

/-- The data of the pipeline on a core: the arrays as the region finds them, each input block left as fetched,
    the result block at `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ _ := Pipeline.ΦA spec0 c
  q w := Pipeline.shareOf spec0 w
  owed _ := 0

/-- The arrays of the data are those the region finds. -/
theorem A_eq (c : Dev nD) (w : Fin cfg0.W) : (dats m 0 c).A w = V m c (Pipeline.arrRef spec0 w) := by
  dsimp only [dats]

/-- What each block holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock m c t := by dsimp only [dats]

/-- Each input block holds its part of the array before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in
/-- The body at any point, by the run of the point's kind. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outBlock
  have hN : t.val < 64 := lt_of_lt_of_eq t.isLt (show cfg0.N = 64 from N_0)
  by_cases h0 : t.val % 2 = 0
  · have h1 : ¬ t.val % 2 = 1 := by omega
    iintro ⟨⟨⟨HS0, HS1, HS2, HS3, ⟨%ds4, HS4⟩⟩, Hg⟩, Ho, ⟨%d0, H0⟩, ⟨%d1, H1⟩, ⟨%d2, H2⟩, ⟨%d3, H3⟩, ⟨%d4, H4⟩, ⟨%d5, H5⟩⟩
    unfold owns
    icases HS4 with ⟨%f12, -, HS4⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) f12).2 Set.univ _)
    unfold owns
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    rw [runA_pieces]
    iintro ⟨H0, H1, H2, H3, H4, ⟨%e5, H5⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    iexists _; isplitr
    swap; · iexact H5
    ipureintro; exact View.read_writes_of_cover _ _ _ _ _ (outPieces_cover _ _ _ _ _ _)
  · have h1 : t.val % 2 = 1 := by omega
    iintro ⟨⟨⟨HS0, HS1, HS2, HS3, ⟨%ds4, HS4⟩⟩, Hg⟩, Ho, ⟨%d0, H0⟩, ⟨%d1, H1⟩, ⟨%d2, H2⟩, ⟨%d3, H3⟩, ⟨%d4, H4⟩, ⟨%d5, H5⟩⟩
    unfold owns
    icases HS4 with ⟨%f12, -, HS4⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) f12).2 Set.univ _)
    unfold owns
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    rw [runB_pieces]
    iintro ⟨H0, H1, H2, H3, H4, ⟨%e5, H5⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    iexists _; isplitr
    swap; · iexact H5
    ipureintro; exact View.read_writes_of_cover _ _ _ _ _ (outPieces_cover _ _ _ _ _ _)

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- What the pipeline asks of its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays at what the data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arrays at what the data say. -/
theorem run_main : θ_run defs (onTc (τ := τ) (main (F := F))) (s₀ m ρ) (Pipeline.FramePost cfgs (dats m) 0 (V m)) :=
  (θ_run defs _ _).mono (fun _ h => h.1) (run_main_quiescent m ρ)

/-- Every run leaves the argument arrays as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame of the program: every run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Proof

end
-- ==== Proof.Value.lean ====
module

public import proofs.«01_k».proof.Proof.Frame

/-! The result array after the run, block by block. -/

@[expose] public section

set_option maxRecDepth 16384

noncomputable section

namespace Cert.KernelIdeal.Proof

open Cert.KernelIdeal Cert.KernelIdeal.Gen Cert.Proof Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- What point `t` writes back is its block of the result. -/
theorem flushed5 (c : Dev nD) (t : Fin cfg0.N) :
    (dats m 0 c).flushed 5 t = (cfg0.win 5).cut (grid0.coords t) (outBlock m c t) := by
  show (cfg0.win 5).cut (grid0.coords t) ((dats m 0 c).after 5 t) = _
  rw [after0_5]

/-- Distinct grid points have distinct blocks of the result. -/
theorem idx_inj5 : ∀ t t' : Fin cfg0.N, win0_5.index t = win0_5.index t' → t = t' :=
  (by decide +kernel : ∀ t t' : Fin grid0.N, win0_5.index t = win0_5.index t' → t = t')

/-- Blocks of distinct grid points share no index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- A block of the final array is what its point wrote back. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- The result array after the run. -/
theorem post5 (r : PUnit × MemSt nD τ sig (Elt F)) (h : Pipeline.FramePost cfgs (dats m) 0 (V m) r) (c : Dev nD) :
    r.2.mem ((c : Thread nD τ).loc main_v22) = (dats m 0 c).arrAt 5 cfg0.N :=
  (h c).1 5

/-- Argument 0 is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument 6 is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument 7 is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The run with the result array named and the arguments unchanged. -/
theorem run_blocks : θ_run defs (onTc (τ := τ) (main (F := F))) ⟨m, fun _ => 0, ρ⟩ fun r => ∀ c : Dev nD,
      r.2.mem ((c : Thread nD τ).loc main_v22) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post5 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Proof

end
-- ==== Proof.Reads.lean ====
module

public import proofs.«01_k».proof.Proof.After
public import Idealize.ShloMosaic.Lib.Pointwise

/-! What the kernel computes for one query, read entry by entry over the real numbers, and what each of its
    chains stands for after its blocks of keys. -/

@[expose] public section
set_option maxRecDepth 16384
noncomputable section
open Cert.KernelIdeal Cert.KernelIdeal.Gen Idealize.ShloMosaic Idealize.ShloMosaic.TcCoe Idealize.SL.Sem
namespace Cert.Proof

/-- A score is the product of a key and a query. -/
theorem flat_score_apply (kb : FVec Ideal S512x128 .bf16) (q : FVec Ideal S128x512 .bf16) (k x : Fin 512) :
    flat (score kb q) (ix2 k x) = ∑ f : Fin 128, kb (ix2 k f) * q (ix2 f x) := by
  unfold flat score
  pointwise

/-- A small number as a signed word. -/
theorem toInt_ofNat_small (a : ℕ) (ha : a < 2 ^ 31) : (BitVec.ofNat 32 a).toInt = a := by
  rw [BitVec.toInt_eq_toNat_cond, BitVec.toNat_ofNat, Nat.mod_eq_of_lt (by omega), if_pos (by omega)]

/-- Comparing small numbers as signed words. -/
theorem ofNat_sle (a b : ℕ) (ha : a < 2 ^ 31) (hb : b < 2 ^ 31) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide]
    congr 1
    rw [toInt_ofNat_small a ha, toInt_ofNat_small b hb]
    simp
  simp only [IntOp.cmpi, h]
  by_cases hab : a ≤ b <;> simp [hab]

/-- Comparing small numbers as signed words, strictly. -/
theorem ofNat_slt (a b : ℕ) (ha : a < 2 ^ 31) (hb : b < 2 ^ 31) :
    IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide]
    congr 1
    rw [toInt_ofNat_small a ha, toInt_ofNat_small b hb]
    simp
  simp only [IntOp.cmpi, h]
  by_cases hab : a < b <;> simp [hab]

/-- A selection by a comparison. -/
theorem select_ite {α : Type} (p : Prop) [Decidable p] (a b : α) :
    Scalar.select (if p then 1#1 else 0#1) a b = if p then a else b := by
  by_cases h : p <;> simp [h, Scalar.select]

/-- The mask leaves out keys after the query. -/
theorem mask_apply (s : FVec Ideal S512x512 .f32) (k x : Fin 512) :
    mask s (ix2 k x) = if k.val ≤ x.val then s (ix2 k x) else ⊥ := by
  unfold mask
  pointwise [k0_pay571]
  rw [ofNat_sle _ _ (by omega) (by omega), select_ite, ofBits_negInf]

/-- The named constant. -/
theorem named_scale : Named.named (F := Ideal) κ "qk_scale_log2e" (φ := .f32) 0x3E38AA3B#32 = (((Real.log 2)⁻¹ * 8⁻¹ : ℝ) : EReal) := rfl

/-- The queries of the first component: the first 64 features, scaled. -/
theorem qry_even (x2 : FVec Ideal S1x512x512 .bf16) (h : ℕ) (f : Fin 128) (x : Fin 512) :
    qry x2 (2 * h) (ix2 f x) = if f.val < 64 then x2 (ix3 0 ⟨(128 * h + f.val) % 512, Nat.mod_lt _ (by norm_num)⟩ x) * (((Real.log 2)⁻¹ * 8⁻¹ : ℝ) : EReal) else 0 := by
  unfold qry
  rw [if_pos (by omega), Nat.mul_div_cancel_left _ (by norm_num)]
  pointwise [k0_pay575, k0_pay572, k0_pay573, k0_pay574, qblk]
  rw [show (64#32) = BitVec.ofNat 32 64 from rfl, ofNat_slt _ _ (by omega) (by omega), select_ite]
  rfl

/-- The queries of the second component: the last 64 features, scaled. -/
theorem qry_odd (x2 : FVec Ideal S1x512x512 .bf16) (h : ℕ) (f : Fin 128) (x : Fin 512) :
    qry x2 (2 * h + 1) (ix2 f x) = if f.val < 64 then 0 else x2 (ix3 0 ⟨(128 * h + f.val) % 512, Nat.mod_lt _ (by norm_num)⟩ x) * (((Real.log 2)⁻¹ * 8⁻¹ : ℝ) : EReal) := by
  unfold qry
  rw [if_neg (by omega), show (2 * h + 1) / 2 = h by omega]
  pointwise [k0_pay576, k0_pay572, k0_pay573, k0_pay574, qblk]
  rw [show (64#32) = BitVec.ofNat 32 64 from rfl, ofNat_slt _ _ (by omega) (by omega), select_ite]
  rfl

/-- The difference of the two averages at a feature. -/
def diffAt (lam : EReal) (a b : Online.Acc) (d : Fin 128) : EReal :=
  Ideal.div (a.A d) a.L - lam * Ideal.div (b.A d) b.L

/-- A vector of 128 features normalised, times a gain and the last factor. -/
def normAt (o : Fin 128 → EReal) (g : EReal) (d : Fin 128) : EReal :=
  o d * Ideal.rsqrt (Ideal.div (∑ e, o e * o e) (Ideal.ofBits .f32 0x43000000#32) + Ideal.ofBits .f32 0x358637BD#32) * g
    * Ideal.ofBits .f32 0x3F4CCCCD#32

/-- What a head stores, read at a query and a feature. -/
theorem headOut_apply (lam : FVec Ideal S1x1 .f32) (gs : Vec Ideal S128x1 .f32) (a b : Chain Ideal) (x : Fin 512) (d : Fin 128) :
    headOut lam gs a b (ix2 x d) = normAt (diffAt (lam (ix2 0 0)) (a.col x) (b.col x)) (gs (ix2 d 0)) d := by
  unfold headOut normAt diffAt Chain.col
  pointwise [k0_pay1, k0_pay618, k0_pay619]

/-- The lambda, read. -/
theorem lamOf_apply (x0 : Vec Ideal S4x64 .f32) :
    lamOf x0 (ix2 0 0) = Ideal.exp (∑ f, x0 (ix2 0 f) * x0 (ix2 1 f)) - Ideal.exp (∑ f, x0 (ix2 2 f) * x0 (ix2 3 f)) + Ideal.ofBits .f32 0x3E4CCCCD#32 := by
  unfold lamOf
  pointwise [k0_pay590]

/-! ### The chains of a query -/

/-- An empty chain has seen nothing at any query. -/
theorem chain0_col (x : Fin 512) : (chain0 : Chain Ideal).col x = Online.Acc.zero := by
  unfold Chain.col chain0 Online.Acc.zero
  exact congr (congr (congrArg Online.Acc.mk ofBits_negInf) Ideal.ofBits_zero_f32) (funext fun _ => Ideal.ofBits_zero_f32)

section Stands
variable {x3 : FVec Ideal S4096x512 .bf16} {x4 : FVec Ideal S8x512x512 .bf16} {h : ℕ} {q : FVec Ideal S128x512 .bf16} {x : Fin 512}
  {sr : ℕ → Fin 512 → ℝ} {vr : ℕ → Fin 128 → Fin 512 → ℝ}

/-- After the unmasked blocks a chain stands for the weights of their keys. -/
theorem over_stands (hs : ∀ J k, flat (score (kblk x3 h J) q) (ix2 k x) = ((sr J k : ℝ) : EReal))
    (hv : ∀ J d k, vblk x4 h J (ix3 0 d k) = ((vr J d k : ℝ) : EReal)) (J : ℕ) :
    ((chain0.over x3 x4 h q J).col x).Stands (∑ j ∈ Finset.range J, ∑ k, Real.rpow 2 (sr j k))
      (fun d => ∑ j ∈ Finset.range J, ∑ k, vr j d k * Real.rpow 2 (sr j k)) := by
  induction J with
  | zero =>
    show ((chain0 : Chain Ideal).col x).Stands _ _
    rw [chain0_col]; simpa using Online.stands_zero
  | succ J ih =>
    show (((chain0.over x3 x4 h q J).up _ _).col x).Stands _ _
    rw [Chain.col_up]
    have := ih.step (s := fun k => flat (score (kblk x3 h J) q) (ix2 k x)) (v := fun d k => vblk x4 h J (ix3 0 d k)) (vr := vr J)
      (fun k => Or.inr ⟨_, hs J k⟩) ⟨0, _, hs J 0⟩ (hv J)
    simpa only [Finset.sum_range_succ, hs, Online.wt_coe] using this

/-- After its own, masked block a chain stands for the weights of all the keys its query sees. -/
theorem fin_stands (hs : ∀ J k, flat (score (kblk x3 h J) q) (ix2 k x) = ((sr J k : ℝ) : EReal))
    (hv : ∀ J d k, vblk x4 h J (ix3 0 d k) = ((vr J d k : ℝ) : EReal)) (J : ℕ) :
    ((finChain x3 x4 h J q).col x).Stands
      ((∑ j ∈ Finset.range J, ∑ k, Real.rpow 2 (sr j k)) + ∑ k : Fin 512, if k.val ≤ x.val then Real.rpow 2 (sr J k) else 0)
      (fun d => (∑ j ∈ Finset.range J, ∑ k, vr j d k * Real.rpow 2 (sr j k))
        + ∑ k : Fin 512, vr J d k * (if k.val ≤ x.val then Real.rpow 2 (sr J k) else 0)) := by
  unfold finChain
  rw [Chain.col_up]
  have e : ∀ k, mask (flat (score (kblk x3 h J) q)) (ix2 k x) = if k.val ≤ x.val then ((sr J k : ℝ) : EReal) else ⊥ := fun k => by
    rw [mask_apply, hs]
  have w : ∀ k, Online.wt (mask (flat (score (kblk x3 h J) q)) (ix2 k x)) = if k.val ≤ x.val then Real.rpow 2 (sr J k) else 0 := fun k => by
    rw [e]; split
    · exact Online.wt_coe _
    · exact Online.wt_bot
  have := (over_stands hs hv J).step (s := fun k => mask (flat (score (kblk x3 h J) q)) (ix2 k x)) (v := fun d k => vblk x4 h J (ix3 0 d k)) (vr := vr J)
    (fun k => by
      show mask _ (ix2 k x) = ⊥ ∨ _
      rw [e]; split
      · exact Or.inr ⟨_, rfl⟩
      · exact Or.inl rfl) ⟨x, _, (e x).trans (if_pos le_rfl)⟩ (hv J)
  simpa only [w] using this

end Stands

end Cert.Proof
-- ==== Proof.Mean.lean ====
module

public import Mathlib.Analysis.SpecialFunctions.Pow.Real

/-! The differential attention of one query and head over real numbers, without program text: the weights of
    the keys that the query sees, their sum, the weighted values, and the difference of the two means. -/

@[expose] public section
noncomputable section
namespace Cert.Proof

/-- A position in the sequence. -/
def key (n : ℕ) : Fin 4096 := ⟨n % 4096, Nat.mod_lt _ (by norm_num)⟩

/-- Feature `y` of head `h`. -/
def ft (h y : ℕ) : Fin 512 := ⟨(128 * h + y) % 512, Nat.mod_lt _ (by norm_num)⟩

/-- A position is itself. -/
theorem key_val (s : Fin 4096) : key s.val = s := Fin.ext (Nat.mod_eq_of_lt s.isLt)

/-- The product of a query and a key in component `c` of head `h`. -/
def sc (q k : Fin 8 → Fin 4096 → Fin 512 → ℝ) (b : Fin 8) (h c : ℕ) (s : Fin 4096) (n : ℕ) : ℝ :=
  ∑ f : Fin 64, q b s (ft h (64 * c + f.val)) * k b (key n) (ft h (64 * c + f.val))

/-- The weight of a key: of a later one than the query, nothing. -/
def sees (q k : Fin 8 → Fin 4096 → Fin 512 → ℝ) (b : Fin 8) (h c : ℕ) (s : Fin 4096) (n : ℕ) : ℝ :=
  if n ≤ s.val then Real.exp (sc q k b h c s n / 8) else 0

/-- The sum of the weights. -/
def tot (q k : Fin 8 → Fin 4096 → Fin 512 → ℝ) (b : Fin 8) (h c : ℕ) (s : Fin 4096) : ℝ :=
  ∑ s' : Fin 4096, sees q k b h c s s'.val

/-- The weighted values. -/
def wsum (q k v : Fin 8 → Fin 4096 → Fin 512 → ℝ) (b : Fin 8) (h c : ℕ) (s : Fin 4096) (d : Fin 128) : ℝ :=
  ∑ s' : Fin 4096, v b (key s'.val) (ft h d.val) * sees q k b h c s s'.val

/-- The first component's mean of the values minus lambda times the second's. -/
def meanDiff (q k v : Fin 8 → Fin 4096 → Fin 512 → ℝ) (lam : ℝ) (b : Fin 8) (h : ℕ) (s : Fin 4096) (d : Fin 128) : ℝ :=
  wsum q k v b h 0 s d / tot q k b h 0 s - lam * (wsum q k v b h 1 s d / tot q k b h 1 s)

/-- The sum of the weights is positive: the query sees itself. -/
theorem tot_pos (q k : Fin 8 → Fin 4096 → Fin 512 → ℝ) (b : Fin 8) (h c : ℕ) (s : Fin 4096) : 0 < tot q k b h c s := by
  refine Finset.sum_pos' (fun s' _ => ?_) ⟨s, Finset.mem_univ s, ?_⟩
  · unfold sees; split
    · exact (Real.exp_pos _).le
    · exact le_rfl
  · unfold sees; rw [if_pos le_rfl]; exact Real.exp_pos _

/-- Powers of two of the scaled product are the weights. -/
theorem rpow_scale (x : ℝ) : Real.rpow 2 (x * ((Real.log 2)⁻¹ * 8⁻¹)) = Real.exp (x / 8) := by
  show (2 : ℝ) ^ (x * ((Real.log 2)⁻¹ * 8⁻¹) : ℝ) = _
  rw [Real.rpow_def_of_pos (by norm_num)]
  congr 1
  have : Real.log 2 ≠ 0 := (Real.log_pos (by norm_num)).ne'
  field_simp

/-- A sum over positions by blocks of 512. -/
theorem sum_blocks (f : ℕ → ℝ) (J : ℕ) : ∑ n ∈ Finset.range (512 * J), f n = ∑ j ∈ Finset.range J, ∑ k : Fin 512, f (512 * j + k.val) := by
  induction J with
  | zero => simp
  | succ J ih =>
    rw [Finset.sum_range_succ, ← ih, Nat.mul_succ, Finset.sum_range_add, Fin.sum_univ_eq_sum_range (fun k => f (512 * J + k))]

/-- A sum over the positions up to query `512 J + x`: whole blocks, then part of block `J`. -/
theorem sum_seen (f : ℕ → ℝ) (J : ℕ) (hJ : J < 8) (x : Fin 512) :
    ∑ s' : Fin 4096, (if s'.val ≤ 512 * J + x.val then f s'.val else 0)
      = (∑ j ∈ Finset.range J, ∑ k : Fin 512, f (512 * j + k.val))
        + ∑ k : Fin 512, if k.val ≤ x.val then f (512 * J + k.val) else 0 := by
  obtain ⟨R, hR⟩ : ∃ R, 4096 = 512 * J + (512 + R) := ⟨4096 - 512 * J - 512, by omega⟩
  have e := congrArg (fun N => ∑ n ∈ Finset.range N, if n ≤ 512 * J + x.val then f n else 0) hR
  refine ((Fin.sum_univ_eq_sum_range (fun n => if n ≤ 512 * J + x.val then f n else 0) 4096).trans e).trans ?_
  rw [Finset.sum_range_add, Finset.sum_range_add, ← sum_blocks,
    Fin.sum_univ_eq_sum_range (fun k => if k ≤ x.val then f (512 * J + k) else 0)]
  have h3 : ∑ y ∈ Finset.range R, (if 512 * J + (512 + y) ≤ 512 * J + x.val then f (512 * J + (512 + y)) else 0) = 0 :=
    Finset.sum_eq_zero fun y _ => if_neg (by omega)
  rw [h3, add_zero]
  congr 1
  · refine Finset.sum_congr rfl fun n hn => if_pos ?_
    have := Finset.mem_range.mp hn
    omega
  · refine Finset.sum_congr rfl fun n _ => ?_
    by_cases hn : n ≤ x.val
    · rw [if_pos hn, if_pos (by omega)]
    · rw [if_neg hn, if_neg (by omega)]

end Cert.Proof
-- ==== Proof.Means.lean ====
module

public import proofs.«01_k».proof.Proof.Reads
public import proofs.«01_k».proof.Proof.Mean

/-! The kernel's chains over real inputs: each stands for the weights and weighted values of `Mean`. -/

@[expose] public section
set_option maxRecDepth 16384
noncomputable section
open Cert.KernelIdeal Cert.KernelIdeal.Gen Idealize.ShloMosaic Idealize.ShloMosaic.TcCoe Idealize.SL.Sem
namespace Cert.Proof

/-- 128 features are two components of 64. -/
theorem sum_halves (g : Fin 128 → EReal) : ∑ f, g f = (∑ f : Fin 64, g ⟨f.val, by omega⟩) + ∑ f : Fin 64, g ⟨64 + f.val, by omega⟩ :=
  Fin.sum_univ_add (a := 64) (b := 64) g

section
variable {x2 : FVec Ideal S1x512x512 .bf16} {x3 : FVec Ideal S4096x512 .bf16} {x4 : FVec Ideal S8x512x512 .bf16}
  {q k v : Fin 8 → Fin 4096 → Fin 512 → ℝ} {b : Fin 8} {i : ℕ} {x : Fin 512}

/-- Scores of the first component. -/
theorem score_even (h2 : ∀ f, x2 (ix3 0 f x) = ((q b (key (512 * i + x.val)) f : ℝ) : EReal))
    (h3 : ∀ n f, x3 (ix2 n f) = ((k b n f : ℝ) : EReal)) (h J : ℕ) (y : Fin 512) :
    flat (score (kblk x3 h J) (qry x2 (2 * h))) (ix2 y x)
      = ((sc q k b h 0 (key (512 * i + x.val)) (512 * J + y.val) * ((Real.log 2)⁻¹ * 8⁻¹) : ℝ) : EReal) := by
  rw [flat_score_apply, sum_halves]
  have e0 : ∀ f : Fin 64, kblk x3 h J (ix2 y ⟨f.val, by omega⟩) * qry x2 (2 * h) (ix2 ⟨f.val, by omega⟩ x)
      = ((q b (key (512 * i + x.val)) (ft h (64 * 0 + f.val)) * k b (key (512 * J + y.val)) (ft h (64 * 0 + f.val)) * ((Real.log 2)⁻¹ * 8⁻¹) : ℝ) : EReal) := by
    intro f
    rw [qry_even, if_pos f.isLt, h2]
    show x3 (ix2 (key (512 * J + y.val)) (ft h f.val)) * _ = _
    rw [h3, Nat.mul_zero, Nat.zero_add, ← EReal.coe_mul, ← EReal.coe_mul]
    congr 1
    show _ * (q b (key (512 * i + x.val)) (ft h f.val) * _) = _
    ring
  have e1 : ∀ f : Fin 64, kblk x3 h J (ix2 y ⟨64 + f.val, by omega⟩) * qry x2 (2 * h) (ix2 ⟨64 + f.val, by omega⟩ x) = 0 := by
    intro f
    rw [qry_even, if_neg (by show ¬ 64 + f.val < 64; omega), mul_zero]
  simp only [e0, e1, Finset.sum_const_zero, add_zero]
  rw [Online.coe_sum, ← Finset.sum_mul]
  rfl

/-- Scores of the second component. -/
theorem score_odd (h2 : ∀ f, x2 (ix3 0 f x) = ((q b (key (512 * i + x.val)) f : ℝ) : EReal))
    (h3 : ∀ n f, x3 (ix2 n f) = ((k b n f : ℝ) : EReal)) (h J : ℕ) (y : Fin 512) :
    flat (score (kblk x3 h J) (qry x2 (2 * h + 1))) (ix2 y x)
      = ((sc q k b h 1 (key (512 * i + x.val)) (512 * J + y.val) * ((Real.log 2)⁻¹ * 8⁻¹) : ℝ) : EReal) := by
  rw [flat_score_apply, sum_halves]
  have e0 : ∀ f : Fin 64, kblk x3 h J (ix2 y ⟨f.val, by omega⟩) * qry x2 (2 * h + 1) (ix2 ⟨f.val, by omega⟩ x) = 0 := by
    intro f
    rw [qry_odd, if_pos f.isLt, mul_zero]
  have e1 : ∀ f : Fin 64, kblk x3 h J (ix2 y ⟨64 + f.val, by omega⟩) * qry x2 (2 * h + 1) (ix2 ⟨64 + f.val, by omega⟩ x)
      = ((q b (key (512 * i + x.val)) (ft h (64 * 1 + f.val)) * k b (key (512 * J + y.val)) (ft h (64 * 1 + f.val)) * ((Real.log 2)⁻¹ * 8⁻¹) : ℝ) : EReal) := by
    intro f
    rw [qry_odd, if_neg (by show ¬ 64 + f.val < 64; omega), h2]
    show x3 (ix2 (key (512 * J + y.val)) (ft h (64 + f.val))) * _ = _
    rw [h3, Nat.mul_one, ← EReal.coe_mul, ← EReal.coe_mul]
    congr 1
    show _ * (q b (key (512 * i + x.val)) (ft h (64 + f.val)) * _) = _
    ring
  simp only [e0, e1, Finset.sum_const_zero, zero_add]
  rw [Online.coe_sum, ← Finset.sum_mul]
  rfl

/-- Values of a block. -/
theorem value_at (h4 : ∀ j f y, x4 (ix3 j f y) = ((v b (key (512 * j.val + y.val)) f : ℝ) : EReal)) (h J : ℕ) (d : Fin 128) (y : Fin 512) :
    vblk x4 h J (ix3 0 d y) = ((v b (key (512 * J + y.val)) (ft h d.val) : ℝ) : EReal) := by
  show x4 (ix3 ⟨J % 8, Nat.mod_lt _ (by norm_num)⟩ (ft h d.val) y) = _
  rw [h4]
  have : key (512 * (J % 8) + y.val) = key (512 * J + y.val) := Fin.ext (by show (512 * (J % 8) + y.val) % 4096 = (512 * J + y.val) % 4096; omega)
  show ((v b (key (512 * (J % 8) + y.val)) _ : ℝ) : EReal) = _
  rw [this]

/-- A chain, at the end, stands for the attention of its query. -/
theorem fin_means (h4 : ∀ j f y, x4 (ix3 j f y) = ((v b (key (512 * j.val + y.val)) f : ℝ) : EReal)) (hi : i < 8) (h c : ℕ)
    {qq : FVec Ideal S128x512 .bf16}
    (hs : ∀ J y, flat (score (kblk x3 h J) qq) (ix2 y x)
      = ((sc q k b h c (key (512 * i + x.val)) (512 * J + y.val) * ((Real.log 2)⁻¹ * 8⁻¹) : ℝ) : EReal)) :
    ((finChain x3 x4 h i qq).col x).Stands (tot q k b h c (key (512 * i + x.val))) (wsum q k v b h c (key (512 * i + x.val))) := by
  have key' := fin_stands (x4 := x4) (vr := fun J d y => v b (key (512 * J + y.val)) (ft h d.val)) hs (value_at h4 h) i
  have hx : (key (512 * i + x.val)).val = 512 * i + x.val := Nat.mod_eq_of_lt (by omega)
  have eZ : tot q k b h c (key (512 * i + x.val)) = _ := sum_seen (fun n => Real.exp (sc q k b h c (key (512 * i + x.val)) n / 8)) i hi x |> (Eq.trans (by unfold tot sees; rw [hx]))
  have eN : wsum q k v b h c (key (512 * i + x.val)) = fun d => _ := funext fun d => sum_seen (fun n => v b (key n) (ft h d.val) * Real.exp (sc q k b h c (key (512 * i + x.val)) n / 8)) i hi x |> (Eq.trans (by unfold wsum sees; rw [hx]; simp only [mul_ite, mul_zero]))
  rw [eZ, eN]
  simpa only [rpow_scale, mul_ite, mul_zero] using key'

end

end Cert.Proof
-- ==== Proof.Blocks.lean ====
module

public import proofs.«01_k».proof.Proof.Value
public import Idealize.ShloMosaic.Lib.Pipeline.ValueKit
public import Idealize.ShloMosaic.Lib.Claim
/-! The blocks that a grid point fetches, read as entries of the argument arrays. -/

@[expose] public section
set_option maxRecDepth 16384
noncomputable section
namespace Cert.KernelIdeal.Proof
open Cert.KernelIdeal Cert.KernelIdeal.Gen Cert.Proof Idealize.ShloMosaic Idealize.ShloMosaic.TcCoe Idealize.SL.Sem
variable (m : (ℓ : Loc nD τ sig) → Buf (Elt Ideal) ℓ)

/-- The blocks of the windows at a grid point. -/
theorem idx : ∀ t : Fin cfg0.N, win0_0.index t = ![0, 0] ∧ win0_1.index t = ![0, 0] ∧ win0_2.index t = ![t.val, 0, 0]
   ∧ win0_3.index t = ![t.val / 8, 1] ∧ win0_4.index t = ![t.val / 8, 1, 0] ∧ win0_5.index t = ![t.val, 0] :=
  (by decide +kernel : ∀ t : Fin grid0.N, _)

set_option maxHeartbeats 1000000 in
/-- The array that holds the keys, as the kernel is given it. -/
theorem V4 (c : Dev nD) : V m c main_v4 = (truncf .bf16 (concatenate S32768x3072 1 [⟨S32768x512, broadcastInDim S32768x512 ![] bcast_S_S32768x512 (constant S_ .f32 0x00000000#32)⟩, ⟨S32768x512, shapeCast S32768x512 (m ((c.tc : Thread nD τ).loc main_arg1) : FVec Ideal S8x4096x512 .f32) shapeCasts_S8x4096x512_S32768x512⟩, ⟨S32768x2048, broadcastInDim S32768x2048 ![] bcast_S_S32768x2048 (constant S_ .f32 0x00000000#32)⟩] concatenates_S32768x512_S32768x512_S32768x2048_S32768x3072_d1) bitsLt_bf16_f32 : FVec Ideal S32768x3072 .bf16) := by
  unfold V
  after_results_simp
  rfl

set_option maxHeartbeats 1000000 in
/-- The array that holds the queries and the values, features before positions. -/
theorem V10 (c : Dev nD) : V m c main_v10 = (truncf .bf16 (concatenate S64x1024x512 1 [⟨S64x512x512, transpose S64x512x512 [0, 2, 1] (shapeCast S64x512x512 (m ((c.tc : Thread nD τ).loc main_arg0) : FVec Ideal S8x4096x512 .f32) shapeCasts_S8x4096x512_S64x512x512) transposes_S64x512x512_S64x512x512_0_2_1⟩, ⟨S64x512x512, transpose S64x512x512 [0, 2, 1] (shapeCast S64x512x512 (m ((c.tc : Thread nD τ).loc main_arg2) : FVec Ideal S8x4096x512 .f32) shapeCasts_S8x4096x512_S64x512x512) transposes_S64x512x512_S64x512x512_0_2_1⟩] concatenates_S64x512x512_S64x512x512_S64x1024x512_d1) bitsLt_bf16_f32 : FVec Ideal S64x1024x512 .bf16) := by
  unfold V
  after_results_simp
  rfl

set_option maxHeartbeats 1000000 in
/-- The four rows of the lambda. -/
theorem V19 (c : Dev nD) : V m c main_v19 = (concatenate S4x64 0 [⟨S1x64, broadcastInDim S1x64 ![1] bcast_S64_S1x64_1 (shapeCast S64 (m ((c.tc : Thread nD τ).loc main_arg3) : FVec Ideal S1x64 .f32) shapeCasts_S1x64_S64)⟩, ⟨S1x64, broadcastInDim S1x64 ![1] bcast_S64_S1x64_1 (shapeCast S64 (m ((c.tc : Thread nD τ).loc main_arg4) : FVec Ideal S1x64 .f32) shapeCasts_S1x64_S64)⟩, ⟨S1x64, broadcastInDim S1x64 ![1] bcast_S64_S1x64_1 (shapeCast S64 (m ((c.tc : Thread nD τ).loc main_arg5) : FVec Ideal S1x64 .f32) shapeCasts_S1x64_S64)⟩, ⟨S1x64, broadcastInDim S1x64 ![1] bcast_S64_S1x64_1 (shapeCast S64 (m ((c.tc : Thread nD τ).loc main_arg6) : FVec Ideal S1x64 .f32) shapeCasts_S1x64_S64)⟩] concatenates_S1x64_S1x64_S1x64_S1x64_S4x64_d0 : FVec Ideal S4x64 .f32) := by
  unfold V
  after_results_simp
  rfl

set_option maxHeartbeats 1000000 in
/-- The gains as a column. -/
theorem V21 (c : Dev nD) : V m c main_v21 = (broadcastInDim S128x1 ![0] bcast_S128_S128x1_0 (shapeCast S128 (m ((c.tc : Thread nD τ).loc main_arg7) : FVec Ideal S1x128 .f32) shapeCasts_S1x128_S128) : FVec Ideal S128x1 .f32) := by
  unfold V
  after_results_simp
  rfl

/-- Where block 0 lies in its array. -/
theorem emb0 (t : Fin cfg0.N) (r : Fin 4) (f : Fin 64) : ((cfg0.win 0).blk t).view.emb (ix2 r f) = (ix2 r f : S4x64.Idx) := by
  blk_ext [idx t]

/-- Where block 1 lies in its array. -/
theorem emb1 (t : Fin cfg0.N) (d : Fin 128) (z : Fin 1) : ((cfg0.win 1).blk t).view.emb (ix2 d z) = (ix2 d z : S128x1.Idx) := by
  blk_ext [idx t]

/-- Where block 2 lies in its array. -/
theorem emb2 (t : Fin cfg0.N) (z : Fin 1) (f x : Fin 512) (a : Fin 64) (g : Fin 1024) (ha : a.val = t.val) (hg : g.val = f.val) :
    ((cfg0.win 2).blk t).view.emb (ix3 z f x) = (ix3 a g x : S64x1024x512.Idx) := by
  blk_ext [idx t]

/-- Where block 3 lies in its array. -/
theorem emb3 (t : Fin cfg0.N) (k : Fin 4096) (f : Fin 512) (a : Fin 32768) (g : Fin 3072) (ha : a.val = t.val / 8 * 4096 + k.val) (hg : g.val = 512 + f.val) :
    ((cfg0.win 3).blk t).view.emb (ix2 k f) = (ix2 a g : S32768x3072.Idx) := by
  blk_ext [idx t]

/-- Where block 4 lies in its array. -/
theorem emb4 (t : Fin cfg0.N) (j : Fin 8) (f x : Fin 512) (a : Fin 64) (g : Fin 1024) (ha : a.val = t.val / 8 * 8 + j.val) (hg : g.val = 512 + f.val) :
    ((cfg0.win 4).blk t).view.emb (ix3 j f x) = (ix3 a g x : S64x1024x512.Idx) := by
  blk_ext [idx t]

/-- Where block 5 lies in its array. -/
theorem emb5 (t : Fin cfg0.N) (x d : Fin 512) (a : Fin 32768) (ha : a.val = t.val * 512 + x.val) :
    ((cfg0.win 5).blk t).view.emb (ix2 x d) = (ix2 a d : S32768x512.Idx) := by
  blk_ext [idx t]

/-- The middle one of the three pieces side by side. -/
theorem cat_mid (x0 x1 : FVec Ideal S32768x512 .f32) (x2 : FVec Ideal S32768x2048 .f32)
    (a : Fin 32768) (g : Fin 3072) (f : Fin 512) (hg : g.val = 512 + f.val) :
    concatenate S32768x3072 1 [⟨S32768x512, x0⟩, ⟨S32768x512, x1⟩, ⟨S32768x2048, x2⟩]
      concatenates_S32768x512_S32768x512_S32768x2048_S32768x3072_d1 (ix2 a g) = x1 (ix2 a f) := by
  refine concatenate_apply_piece (t := S32768x3072) 1 [⟨S32768x512, x0⟩, ⟨S32768x512, x1⟩, ⟨S32768x2048, x2⟩] _ (ix2 a g) 1 (show 1 < 3 by decide) S32768x512 x1 rfl rfl 512 rfl (ix2 a f) ?_ ?_
  · intro b' hb'
    match b' with
    | ⟨0, _⟩ => rfl
    | ⟨1, _⟩ => exact absurd rfl hb'
  · show 512 + f.val = g.val
    omega

/-- The first of the two pieces. -/
theorem cat_fst (x0 x1 : FVec Ideal S64x512x512 .f32) (a : Fin 64) (g : Fin 1024) (x f : Fin 512) (hg : g.val = f.val) :
    concatenate S64x1024x512 1 [⟨S64x512x512, x0⟩, ⟨S64x512x512, x1⟩]
      concatenates_S64x512x512_S64x512x512_S64x1024x512_d1 (ix3 a g x) = x0 (ix3 a f x) := by
  refine concatenate_apply_piece (t := S64x1024x512) 1 [⟨S64x512x512, x0⟩, ⟨S64x512x512, x1⟩] _ (ix3 a g x) 0 (show 0 < 2 by decide) S64x512x512 x0 rfl rfl 0 rfl (ix3 a f x) ?_ ?_
  · intro b' hb'
    match b' with
    | ⟨0, _⟩ => rfl
    | ⟨1, _⟩ => exact absurd rfl hb'
    | ⟨2, _⟩ => rfl
  · show 0 + f.val = g.val
    omega

/-- The second of the two pieces. -/
theorem cat_snd (x0 x1 : FVec Ideal S64x512x512 .f32) (a : Fin 64) (g : Fin 1024) (x f : Fin 512) (hg : g.val = 512 + f.val) :
    concatenate S64x1024x512 1 [⟨S64x512x512, x0⟩, ⟨S64x512x512, x1⟩]
      concatenates_S64x512x512_S64x512x512_S64x1024x512_d1 (ix3 a g x) = x1 (ix3 a f x) := by
  refine concatenate_apply_piece (t := S64x1024x512) 1 [⟨S64x512x512, x0⟩, ⟨S64x512x512, x1⟩] _ (ix3 a g x) 1 (show 1 < 2 by decide) S64x512x512 x1 rfl rfl 512 rfl (ix3 a f x) ?_ ?_
  · intro b' hb'
    match b' with
    | ⟨0, _⟩ => rfl
    | ⟨1, _⟩ => exact absurd rfl hb'
    | ⟨2, _⟩ => rfl
  · show 512 + f.val = g.val
    omega

/-- Features before positions, from the positions in 64 steps of 512. -/
theorem turn_at (x : FVec Ideal S8x4096x512 .f32) (a : Fin 64) (g : Fin 512) (y : Fin 512) (b : Fin 8) (k : Fin 4096)
    (ha : b.val * 4096 + k.val = a.val * 512 + y.val) :
    transpose S64x512x512 [0, 2, 1] (shapeCast S64x512x512 x shapeCasts_S8x4096x512_S64x512x512)
      transposes_S64x512x512_S64x512x512_0_2_1 (ix3 a g y) = x (ix3 b k g) := by
  refine (transpose_apply _ _ _ _ (ix3 a y g) (fun b' => match b' with | ⟨0, _⟩ => rfl | ⟨1, _⟩ => rfl | ⟨2, _⟩ => rfl)).trans ?_
  refine shapeCast_apply _ _ _ (ix3 b k g) ?_
  rw [Shape.rowMajor_val_three, Shape.rowMajor_val_three]
  show (b.val * 4096 + k.val) * 512 + g.val = (a.val * 512 + y.val) * 512 + g.val
  omega

/-- The keys in their array. -/
theorem V4_at (c : Dev nD) (a : Fin 32768) (g : Fin 3072) (b : Fin 8) (k : Fin 4096) (f : Fin 512) (ha : a.val = b.val * 4096 + k.val) (hg : g.val = 512 + f.val) :
   (V m c main_v4 : FVec Ideal S32768x3072 .bf16) (ix2 a g) = (m ((c.tc : Thread nD τ).loc main_arg1) : FVec Ideal S8x4096x512 .f32) (ix3 b k f) := by
  rw [V4]
  refine Eq.trans (cat_mid _ _ _ a g f hg) ?_
  refine shapeCast_apply _ _ _ (ix3 b k f) ?_
  rw [Shape.rowMajor_val_three, Shape.rowMajor_val_two]
  show (b.val * 4096 + k.val) * 512 + f.val = a.val * 512 + f.val
  omega

/-- The queries in their array. -/
theorem V10_q (c : Dev nD) (a : Fin 64) (g : Fin 1024) (x : Fin 512) (b : Fin 8) (k : Fin 4096) (f : Fin 512) (ha : b.val * 4096 + k.val = a.val * 512 + x.val) (hg : g.val = f.val) :
   (V m c main_v10 : FVec Ideal S64x1024x512 .bf16) (ix3 a g x) = (m ((c.tc : Thread nD τ).loc main_arg0) : FVec Ideal S8x4096x512 .f32) (ix3 b k f) := by
  rw [V10]
  exact Eq.trans (cat_fst _ _ a g x f hg) (turn_at _ a f x b k ha)

/-- The values in their array. -/
theorem V10_v (c : Dev nD) (a : Fin 64) (g : Fin 1024) (x : Fin 512) (b : Fin 8) (k : Fin 4096) (f : Fin 512) (ha : b.val * 4096 + k.val = a.val * 512 + x.val) (hg : g.val = 512 + f.val) :
   (V m c main_v10 : FVec Ideal S64x1024x512 .bf16) (ix3 a g x) = (m ((c.tc : Thread nD τ).loc main_arg2) : FVec Ideal S8x4096x512 .f32) (ix3 b k f) := by
  rw [V10]
  exact Eq.trans (cat_snd _ _ a g x f hg) (turn_at _ a f x b k ha)

/-- The four rows, read. -/
theorem V19_at (c : Dev nD) (r : Fin 4) (f : Fin 64) :
   (V m c main_v19 : FVec Ideal S4x64 .f32) (ix2 r f) = (![m ((c.tc : Thread nD τ).loc main_arg3), m ((c.tc : Thread nD τ).loc main_arg4), m ((c.tc : Thread nD τ).loc main_arg5), m ((c.tc : Thread nD τ).loc main_arg6)] r : FVec Ideal S1x64 .f32) (ix2 0 f) := by
  rw [V19]
  pointwise
  fin_cases r <;> rfl

/-- The gains, read. -/
theorem V21_at (c : Dev nD) (d : Fin 128) (z : Fin 1) :
   (V m c main_v21 : FVec Ideal S128x1 .f32) (ix2 d z) = (m ((c.tc : Thread nD τ).loc main_arg7) : FVec Ideal S1x128 .f32) (ix2 0 d) := by
  rw [V21]
  pointwise

/-- The block of lambda vectors: row `r` is vector `r`. -/
theorem blk0_at (c : Dev nD) (t : Fin cfg0.N) (r : Fin 4) (f : Fin 64) :
   (iblk m c 0 t : FVec Ideal S4x64 .f32) (ix2 r f) = (![m ((c.tc : Thread nD τ).loc main_arg3), m ((c.tc : Thread nD τ).loc main_arg4), m ((c.tc : Thread nD τ).loc main_arg5), m ((c.tc : Thread nD τ).loc main_arg6)] r : FVec Ideal S1x64 .f32) (ix2 0 f) := by
  blk_simp [iblk]
  exact (congrArg (V m c main_v19) (emb0 t r f)).trans (V19_at m c r f)

/-- The block of the gains at a grid point. -/
theorem blk1_at (c : Dev nD) (t : Fin cfg0.N) (d : Fin 128) (z : Fin 1) :
   (iblk m c 1 t : FVec Ideal S128x1 .f32) (ix2 d z) = (m ((c.tc : Thread nD τ).loc main_arg7) : FVec Ideal S1x128 .f32) (ix2 0 d) := by
  blk_simp [iblk]
  exact (congrArg (V m c main_v21) (emb1 t d z)).trans (V21_at m c d z)

/-- The block of the queries at a grid point. -/
theorem blk2_at (c : Dev nD) (t : Fin cfg0.N) (z : Fin 1) (f x : Fin 512) (b : Fin 8) (k : Fin 4096) (hk : b.val * 4096 + k.val = t.val * 512 + x.val) :
   (iblk m c 2 t : FVec Ideal S1x512x512 .bf16) (ix3 z f x) = (m ((c.tc : Thread nD τ).loc main_arg0) : FVec Ideal S8x4096x512 .f32) (ix3 b k f) := by
  have hN : t.val < 64 := lt_of_lt_of_eq t.isLt (show cfg0.N = 64 from N_0)
  blk_simp [iblk]
  exact (congrArg (V m c main_v10) (emb2 t z f x ⟨t.val, hN⟩ ⟨f.val, by omega⟩ rfl rfl)).trans
    (V10_q m c ⟨t.val, hN⟩ ⟨f.val, by omega⟩ x b k f hk rfl)

/-- The block of the keys at a grid point. -/
theorem blk3_at (c : Dev nD) (t : Fin cfg0.N) (k : Fin 4096) (f : Fin 512) (b : Fin 8) (hb : b.val = t.val / 8) :
   (iblk m c 3 t : FVec Ideal S4096x512 .bf16) (ix2 k f) = (m ((c.tc : Thread nD τ).loc main_arg1) : FVec Ideal S8x4096x512 .f32) (ix3 b k f) := by
  have hN : t.val < 64 := lt_of_lt_of_eq t.isLt (show cfg0.N = 64 from N_0)
  have hf : 512 + f.val < 3072 := by omega
  have hbk : b.val * 4096 + k.val < 32768 := by omega
  blk_simp [iblk]
  exact (congrArg (V m c main_v4) (emb3 t k f ⟨b.val * 4096 + k.val, hbk⟩ ⟨512 + f.val, hf⟩ (by simp [hb]) rfl)).trans
    (V4_at m c ⟨b.val * 4096 + k.val, hbk⟩ ⟨512 + f.val, hf⟩ b k f rfl rfl)

/-- The block of the values at a grid point. -/
theorem blk4_at (c : Dev nD) (t : Fin cfg0.N) (j : Fin 8) (f x : Fin 512) (b : Fin 8) (k : Fin 4096) (hb : b.val = t.val / 8) (hk : k.val = j.val * 512 + x.val) :
   (iblk m c 4 t : FVec Ideal S8x512x512 .bf16) (ix3 j f x) = (m ((c.tc : Thread nD τ).loc main_arg2) : FVec Ideal S8x4096x512 .f32) (ix3 b k f) := by
  have hN : t.val < 64 := lt_of_lt_of_eq t.isLt (show cfg0.N = 64 from N_0)
  have hf : 512 + f.val < 1024 := by omega
  have hbk : b.val * 8 + j.val < 64 := by omega
  blk_simp [iblk]
  exact (congrArg (V m c main_v10) (emb4 t j f x ⟨b.val * 8 + j.val, hbk⟩ ⟨512 + f.val, hf⟩ (by simp [hb]) rfl)).trans
    (V10_v m c ⟨b.val * 8 + j.val, hbk⟩ ⟨512 + f.val, hf⟩ x b k f (by show _ = (b.val * 8 + j.val) * 512 + x.val; omega) rfl)
-- ==== Proof.Output.lean ====
module

public import proofs.«01_k».proof.Proof.Means
public import proofs.«01_k».proof.Proof.Blocks

/-! The kernel's result array over real inputs, entry by entry. -/

@[expose] public section
set_option maxRecDepth 16384
noncomputable section
open Cert.KernelIdeal Cert.KernelIdeal.Gen Idealize.ShloMosaic Idealize.ShloMosaic.TcCoe Idealize.SL.Sem
namespace Cert.KernelIdeal.Proof
open Cert.Proof

/-- A block of the result, read in head `h`. -/
theorem out_read (x0 : Vec Ideal S4x64 .f32) (x1 : Vec Ideal S128x1 .f32) (x2 : Vec Ideal S1x512x512 .bf16)
    (x3 : Vec Ideal S4096x512 .bf16) (x4 : Vec Ideal S8x512x512 .bf16) (J h : ℕ) (hh : h < 4) (x e : Fin 512) (d : Fin 128)
    (he : e.val = 128 * h + d.val) :
    VO0_5.read (Elt Ideal) (VO0_5.writes (Elt Ideal) VO0_5.junk (outPieces x0 x1 x2 x3 x4 J)) (ix2 x e)
      = headOut (lamOf x0) x1 (finChain x3 x4 h J (qry x2 (2 * h))) (finChain x3 x4 h J (qry x2 (2 * h + 1))) (ix2 x d) := by
  have hd := d.isLt
  unfold outPieces
  have miss : ∀ (o : ℕ) (inb) (w) (L : List (View.Piece (Elt Ideal) S512x512 .bf16)), (e.val < o ∨ o + 128 ≤ e.val) →
      VO0_5.read (Elt Ideal) (VO0_5.writes (Elt Ideal) VO0_5.junk (⟨Rect.unit (s := S512x512) ![0, o] S512x128.size inb, w⟩ :: L)) (ix2 x e)
        = VO0_5.read (Elt Ideal) (VO0_5.writes (Elt Ideal) VO0_5.junk L) (ix2 x e) := fun o inb w L ho =>
    View.read_writes_cons_miss_of_axis VO0_5 _ _ L (ix2 x e : S512x512.Idx) (1 : Fin 2) o 128 rfl rfl rfl ho
  have hit : ∀ (o : ℕ) (inb) (w) (L : List (View.Piece (Elt Ideal) S512x512 .bf16)), e.val = o + d.val →
      VO0_5.read (Elt Ideal) (VO0_5.writes (Elt Ideal) VO0_5.junk (⟨Rect.unit (s := S512x512) ![0, o] S512x128.size inb, w⟩ :: L)) (ix2 x e)
        = w (ix2 x d : S512x128.Idx) := fun o inb w L ho =>
    View.read_writes_cons_hit_of_coords VO0_5 _ _ w L (ix2 x d : S512x128.Idx) (ix2 x e : S512x512.Idx) (by
      intro a
      match a with
      | ⟨0, _⟩ => show x.val = 0 + 1 * x.val; omega
      | ⟨1, _⟩ => show e.val = o + 1 * d.val; omega)
  interval_cases h
  · exact (miss 384 _ _ _ (by omega)).trans ((miss 256 _ _ _ (by omega)).trans ((miss 128 _ _ _ (by omega)).trans (hit 0 _ _ _ (by omega))))
  · exact (miss 384 _ _ _ (by omega)).trans ((miss 256 _ _ _ (by omega)).trans (hit 128 _ _ _ (by omega)))
  · exact (miss 384 _ _ _ (by omega)).trans (hit 256 _ _ _ (by omega))
  · exact hit 384 _ _ _ (by omega)

/-- The second coordinate of a grid point. -/
theorem coord_snd : ∀ t : Fin cfg0.N, ((grid0.coords t) 1).val = t.val % 8 :=
  (by decide +kernel : ∀ t : Fin grid0.N, ((grid0.coords t) 1).val = t.val % 8)

variable (m : (ℓ : Loc nD τ sig) → Buf (Elt Ideal) ℓ)

/-- Lambda from its four rows. -/
def lamVal (a b c d : FVec Ideal S1x64 .f32) : EReal :=
  Ideal.exp (∑ f : Fin 64, a (ix2 0 f) * b (ix2 0 f)) - Ideal.exp (∑ f : Fin 64, c (ix2 0 f) * d (ix2 0 f))
    + Ideal.ofBits .f32 0x3E4CCCCD#32

/-- The body's lambda is that of the arguments. -/
theorem lamOf_at (c : Dev nD) (t : Fin cfg0.N) : lamOf (iblk m c 0 t) (ix2 0 0)
    = lamVal (m ((c.tc : Thread nD τ).loc main_arg3) : FVec Ideal S1x64 .f32) (m ((c.tc : Thread nD τ).loc main_arg4) : FVec Ideal S1x64 .f32) (m ((c.tc : Thread nD τ).loc main_arg5) : FVec Ideal S1x64 .f32) (m ((c.tc : Thread nD τ).loc main_arg6) : FVec Ideal S1x64 .f32) := by
  rw [lamOf_apply]
  unfold lamVal
  have r0 : ∀ f, iblk m c 0 t (ix2 0 f) = (m ((c.tc : Thread nD τ).loc main_arg3) : FVec Ideal S1x64 .f32) (ix2 0 f) := fun f => blk0_at m c t 0 f
  have r1 : ∀ f, iblk m c 0 t (ix2 1 f) = (m ((c.tc : Thread nD τ).loc main_arg4) : FVec Ideal S1x64 .f32) (ix2 0 f) := fun f => blk0_at m c t 1 f
  have r2 : ∀ f, iblk m c 0 t (ix2 2 f) = (m ((c.tc : Thread nD τ).loc main_arg5) : FVec Ideal S1x64 .f32) (ix2 0 f) := fun f => blk0_at m c t 2 f
  have r3 : ∀ f, iblk m c 0 t (ix2 3 f) = (m ((c.tc : Thread nD τ).loc main_arg6) : FVec Ideal S1x64 .f32) (ix2 0 f) := fun f => blk0_at m c t 3 f
  simp only [r0, r1, r2, r3]

/-- An entry of the result array is one of a block. -/
theorem arr_at (c : Dev nD) (t : Fin cfg0.N) (x e : Fin 512) (a : Fin 32768) (ha : a.val = t.val * 512 + x.val) :
    ((dats m 0 c).arrAt 5 cfg0.N : FVec Ideal S32768x512 .bf16) (ix2 a e) = outBlock m c t (ix2 x e) :=
  ((congrArg ((dats m 0 c).arrAt 5 cfg0.N : FVec Ideal S32768x512 .bf16) (emb5 t x e a ha)).symm.trans
    (congrFun (blocks5 m c t (flush0_5 t)) (ix2 x e))).trans (congrFun (flushed5 m c t) (ix2 x e))

/-- The result array over real queries, keys, values and lambda. -/
theorem out_at (c : Dev nD) (q k v : Fin 8 → Fin 4096 → Fin 512 → ℝ) (lam : ℝ)
    (h0 : ∀ b s f, (m ((c.tc : Thread nD τ).loc main_arg0) : FVec Ideal S8x4096x512 .f32) (ix3 b s f) = ((q b s f : ℝ) : EReal))
    (h1 : ∀ b s f, (m ((c.tc : Thread nD τ).loc main_arg1) : FVec Ideal S8x4096x512 .f32) (ix3 b s f) = ((k b s f : ℝ) : EReal))
    (h2 : ∀ b s f, (m ((c.tc : Thread nD τ).loc main_arg2) : FVec Ideal S8x4096x512 .f32) (ix3 b s f) = ((v b s f : ℝ) : EReal))
    (hl : lamVal (m ((c.tc : Thread nD τ).loc main_arg3) : FVec Ideal S1x64 .f32) (m ((c.tc : Thread nD τ).loc main_arg4) : FVec Ideal S1x64 .f32) (m ((c.tc : Thread nD τ).loc main_arg5) : FVec Ideal S1x64 .f32) (m ((c.tc : Thread nD τ).loc main_arg6) : FVec Ideal S1x64 .f32) = ((lam : ℝ) : EReal))
    (b : Fin 8) (s : Fin 4096) (h : Fin 4) (d : Fin 128) (a : Fin 32768) (e : Fin 512) (ha : a.val = b.val * 4096 + s.val)
    (he : e.val = 128 * h.val + d.val) :
    ((dats m 0 c).arrAt 5 cfg0.N : FVec Ideal S32768x512 .bf16) (ix2 a e)
      = normAt (fun d' => ((meanDiff q k v lam b h.val s d' : ℝ) : EReal))
          ((m ((c.tc : Thread nD τ).loc main_arg7) : FVec Ideal S1x128 .f32) (ix2 0 d)) d := by
  have hb := b.isLt
  have hs := s.isLt
  obtain ⟨t, ht⟩ : ∃ t : Fin cfg0.N, t.val = 8 * b.val + s.val / 512 :=
    ⟨⟨8 * b.val + s.val / 512, by rw [show cfg0.N = 64 from N_0]; omega⟩, rfl⟩
  obtain ⟨x, hx⟩ : ∃ x : Fin 512, x.val = s.val % 512 := ⟨⟨s.val % 512, by omega⟩, rfl⟩
  have hi : ((grid0.coords t) 1).val = s.val / 512 := by rw [coord_snd]; omega
  have hk : key (512 * (s.val / 512) + x.val) = s := Fin.ext (by show (512 * (s.val / 512) + x.val) % 4096 = s.val; omega)
  rw [arr_at m c t x e a (by omega)]
  unfold outBlock
  rw [out_read _ _ _ _ _ _ h.val h.isLt x e d he, headOut_apply, hi, blk1_at, lamOf_at, hl]
  have g2 : ∀ f, iblk m c 2 t (ix3 0 f x) = ((q b (key (512 * (s.val / 512) + x.val)) f : ℝ) : EReal) := fun f =>
    (blk2_at m c t 0 f x b s (by omega)).trans (by rw [hk]; exact h0 b s f)
  have g3 : ∀ n f, iblk m c 3 t (ix2 n f) = ((k b n f : ℝ) : EReal) := fun n f =>
    (blk3_at m c t n f b (by omega)).trans (h1 b n f)
  have g4 : ∀ j f y, iblk m c 4 t (ix3 j f y) = ((v b (key (512 * j.val + y.val)) f : ℝ) : EReal) := fun j f y =>
    (blk4_at m c t j f y b (key (512 * j.val + y.val)) (by omega)
      (by show (512 * j.val + y.val) % 4096 = _; have := j.isLt; have := y.isLt; omega)).trans (h2 _ _ _)
  have A := fin_means (i := s.val / 512) (x := x) g4 (by omega) h.val 0 (score_even g2 g3 h.val)
  have B := fin_means (i := s.val / 512) (x := x) g4 (by omega) h.val 1 (score_odd g2 g3 h.val)
  rw [hk] at A B
  congr 1
  funext d'
  unfold diffAt
  rw [A.div (tot_pos _ _ _ _ _ _), B.div (tot_pos _ _ _ _ _ _), ← EReal.coe_mul, ← EReal.coe_sub]
  rfl

end Cert.KernelIdeal.Proof
-- ==== Proof.Stages.lean ====
module

public import proofs.«01_k».proof.Proof.Gen.ReferenceIdeal.Run
public import proofs.«01_k».proof.Proof.Mean
public import Idealize.ShloMosaic.Lib.Pointwise

/-! The reference's stages as functions of arrays. -/

@[expose] public section
set_option maxRecDepth 16384
noncomputable section
open Cert.ReferenceIdeal Cert.ReferenceIdeal.Gen Idealize.ShloMosaic Idealize.ShloMosaic.TcCoe Idealize.SL.Sem
namespace Cert.ReferenceIdeal.Proof

/-- The first component of queries or keys, by head. -/
def part0 (x : FVec Ideal S8x4096x512 .f32) : FVec Ideal S8x4x4096x64 .f32 :=
  shapeCast S8x4x4096x64 (extractStridedSlice S8x4x1x4096x64 ![0, 0, 0, 0, 0] (transpose S8x4x2x4096x64 [0, 2, 3, 1, 4]
    (shapeCast S8x4096x4x2x64 x shapeCasts_S8x4096x512_S8x4096x4x2x64) transposes_S8x4096x4x2x64_S8x4x2x4096x64_0_2_3_1_4)
    slices_S8x4x2x4096x64_S8x4x1x4096x64_0_0_0_0_0) shapeCasts_S8x4x1x4096x64_S8x4x4096x64

/-- The second component. -/
def part1 (x : FVec Ideal S8x4096x512 .f32) : FVec Ideal S8x4x4096x64 .f32 :=
  shapeCast S8x4x4096x64 (extractStridedSlice S8x4x1x4096x64 ![0, 0, 1, 0, 0] (transpose S8x4x2x4096x64 [0, 2, 3, 1, 4]
    (shapeCast S8x4096x4x2x64 x shapeCasts_S8x4096x512_S8x4096x4x2x64) transposes_S8x4096x4x2x64_S8x4x2x4096x64_0_2_3_1_4)
    slices_S8x4x2x4096x64_S8x4x1x4096x64_0_0_1_0_0) shapeCasts_S8x4x1x4096x64_S8x4x4096x64

/-- The values by head. -/
def vals (x : FVec Ideal S8x4096x512 .f32) : FVec Ideal S8x4x4096x128 .f32 :=
  transpose S8x4x4096x128 [0, 2, 1, 3] (shapeCast S8x4096x4x128 x shapeCasts_S8x4096x512_S8x4096x4x128) transposes_S8x4096x4x128_S8x4x4096x128_0_2_1_3

/-- Which keys a query sees. -/
def causal : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The masked scores of a component. -/
def scores (q k : FVec Ideal S8x4x4096x64 .f32) : FVec Ideal S8x4x4096x4096 .f32 :=
  select (broadcastInDim S8x4x4096x4096 ![2, 3] bcast_S4096x4096_S8x4x4096x4096_2_3 causal)
    (mulf (Host.dotGeneral dot_S8x4x4096x64_S8x4x4096x64_S8x4x4096x4096_3_3_2_2_01_01 none q k)
      (broadcastInDim S8x4x4096x4096 ![] bcast_S_S8x4x4096x4096 (constant S_ .f32 0x3E000000#32)))
    (broadcastInDim S8x4x4096x4096 ![] bcast_S_S8x4x4096x4096 (id (constant S_ .f32 0xFF800000#32)))

/-- The greatest score of each query. -/
def top (z : FVec Ideal S8x4x4096x4096 .f32) : FVec Ideal S8x4x4096 .f32 :=
  maximumf (broadcastInDim S8x4x4096 ![] bcast_S_S8x4x4096 (constant S_ .f32 0xFF800000#32))
    (Host.reduce FloatOps.maximumf z (constant S_ .f32 0xFF800000#32) reducesTo_S8x4x4096x4096_S8x4x4096_d3 h_S_)

/-- An array with one entry for each query, at every key. -/
def spread (x : FVec Ideal S8x4x4096 .f32) : FVec Ideal S8x4x4096x4096 .f32 :=
  broadcastInDim S8x4x4096x4096 ![0, 1, 2, 3] bcast_S8x4x4096x1_S8x4x4096x4096_0_1_2_3 (broadcastInDim S8x4x4096x1 ![0, 1, 2] bcast_S8x4x4096_S8x4x4096x1_0_1_2 x)

/-- Exponentials of the scores less the greatest. -/
def expo (z : FVec Ideal S8x4x4096x4096 .f32) : FVec Ideal S8x4x4096x4096 .f32 := Host.exp (subf z (spread (top z)))

/-- The softmax over keys. -/
def soft (z : FVec Ideal S8x4x4096x4096 .f32) : FVec Ideal S8x4x4096x4096 .f32 :=
  Host.divf (expo z) (spread (Host.reduceAdd (expo z) (constant S_ .f32 0x00000000#32) reducesTo_S8x4x4096x4096_S8x4x4096_d3 h_S_))

/-- Lambda. -/
def lamb (a b c d : FVec Ideal S1x64 .f32) : FVec Ideal S_ .f32 :=
  addf (subf (Host.exp (Host.reduceAdd (mulf (shapeCast S64 a shapeCasts_S1x64_S64) (shapeCast S64 b shapeCasts_S1x64_S64)) (constant S_ .f32 0x00000000#32) reducesTo_S64_S_d0 h_S_))
    (Host.exp (Host.reduceAdd (mulf (shapeCast S64 c shapeCasts_S1x64_S64) (shapeCast S64 d shapeCasts_S1x64_S64)) (constant S_ .f32 0x00000000#32) reducesTo_S64_S_d0 h_S_)))
    (constant S_ .f32 0x3E4CCCCD#32)

/-- The difference of the two softmaxes, applied to the values. -/
def mix (l : FVec Ideal S_ .f32) (p p' : FVec Ideal S8x4x4096x4096 .f32) (v : FVec Ideal S8x4x4096x128 .f32) : FVec Ideal S8x4x4096x128 .f32 :=
  Host.dotGeneral dot_S8x4x4096x4096_S8x4x4096x128_S8x4x4096x128_3_2_2_3_01_01 none
    (subf p (mulf (broadcastInDim S8x4x4096x4096 ![] bcast_S_S8x4x4096x4096 l) p')) v

/-- Normalised over features, times the gains and the last factor. -/
def normed (o : FVec Ideal S8x4x4096x128 .f32) (g : FVec Ideal S1x128 .f32) : FVec Ideal S8x4x4096x128 .f32 :=
  mulf (mulf (mulf o (broadcastInDim S8x4x4096x128 ![0, 1, 2, 3] bcast_S8x4x4096x1_S8x4x4096x128_0_1_2_3
      (Host.rsqrt (addf (Host.divf (broadcastInDim S8x4x4096x1 ![0, 1, 2] bcast_S8x4x4096_S8x4x4096x1_0_1_2
          (Host.reduceAdd (mulf o o) (constant S_ .f32 0x00000000#32) reducesTo_S8x4x4096x128_S8x4x4096_d3 h_S_))
        (broadcastInDim S8x4x4096x1 ![] bcast_S_S8x4x4096x1 (constant S_ .f32 0x43000000#32)))
        (broadcastInDim S8x4x4096x1 ![] bcast_S_S8x4x4096x1 (constant S_ .f32 0x358637BD#32))))))
    (broadcastInDim S8x4x4096x128 ![0, 1, 2, 3] bcast_S1x1x1x128_S8x4x4096x128_0_1_2_3
      (broadcastInDim S1x1x1x128 ![3] bcast_S128_S1x1x1x128_3 (shapeCast S128 g shapeCasts_S1x128_S128))))
    (broadcastInDim S8x4x4096x128 ![] bcast_S_S8x4x4096x128 (constant S_ .f32 0x3F4CCCCD#32))

/-- Positions by rows, heads side by side. -/
def rows (y : FVec Ideal S8x4x4096x128 .f32) : FVec Ideal S32768x512 .bf16 :=
  truncf .bf16 (shapeCast S32768x512 (transpose S8x4096x4x128 [0, 2, 1, 3] y transposes_S8x4x4096x128_S8x4096x4x128_0_2_1_3) shapeCasts_S8x4096x4x128_S32768x512) bitsLt_bf16_f32

variable (m : (ℓ : Loc nD τ sig) → Buf (Elt Ideal) ℓ)

/-- The reference's result is its stages, one after the other. -/
theorem res_eq (c : Dev nD) : Cert.ReferenceIdeal.Value.res_main_v85 m c
    = rows (normed (mix (lamb (m ((c.tc : Thread nD τ).loc main_arg3)) (m ((c.tc : Thread nD τ).loc main_arg4)) (m ((c.tc : Thread nD τ).loc main_arg5)) (m ((c.tc : Thread nD τ).loc main_arg6)))
        (soft (scores (part0 (m ((c.tc : Thread nD τ).loc main_arg0))) (part0 (m ((c.tc : Thread nD τ).loc main_arg1)))))
        (soft (scores (part1 (m ((c.tc : Thread nD τ).loc main_arg0))) (part1 (m ((c.tc : Thread nD τ).loc main_arg1)))))
        (vals (m ((c.tc : Thread nD τ).loc main_arg2)))) (m ((c.tc : Thread nD τ).loc main_arg7))) := by
  unfold Cert.ReferenceIdeal.Value.res_main_v85
  rfl

end Cert.ReferenceIdeal.Proof
-- ==== Proof.Entries.lean ====
module

public import proofs.«01_k».proof.Proof.Stages
public import proofs.«01_k».proof.Proof.Reads

/-! The reference's stages, read entry by entry. -/

@[expose] public section
set_option maxRecDepth 16384
noncomputable section
open Cert.ReferenceIdeal Cert.ReferenceIdeal.Gen Idealize.ShloMosaic Idealize.ShloMosaic.TcCoe Idealize.SL.Sem
namespace Cert.ReferenceIdeal.Proof
open Cert.Proof (key ft sc sees tot wsum meanDiff)

/-- The float 0.125 is an eighth. -/
theorem eighth : Ideal.ofBits .f32 0x3E000000#32 = ((8⁻¹ : ℝ) : EReal) := by
  simp [Ideal.ofBits, Ideal.ieee]
  rw [← EReal.coe_mul]
  norm_num

/-- The bits of minus infinity. -/
theorem negInf : Ideal.ofBits .f32 0xFF800000#32 = ⊥ := by
  simp [Ideal.ofBits, Ideal.ieee]

/-- The output's row `b * 4096 + s` and column `128 h + d`. -/
theorem rows_apply (y : FVec Ideal S8x4x4096x128 .f32) (b : Fin 8) (s : Fin 4096) (h : Fin 4) (d : Fin 128) (a : Fin 32768) (e : Fin 512)
    (ha : a.val = b.val * 4096 + s.val) (he : e.val = 128 * h.val + d.val) : rows y (ix2 a e) = y (ix4 b h s d) := by
  have := s.isLt
  have := d.isLt
  unfold rows
  pointwise []
  congr 2 <;> exact Fin.ext (by simp only; omega)

/-- The first component's features of a head. -/
theorem part0_apply (x : FVec Ideal S8x4096x512 .f32) (b : Fin 8) (h : Fin 4) (s : Fin 4096) (f : Fin 64) :
    part0 x (ix4 b h s f) = x (ix3 b s (ft h.val (64 * 0 + f.val))) := by
  have := h.isLt
  have := f.isLt
  unfold part0
  pointwise []
  congr 2
  exact Fin.ext (by show _ = (128 * h.val + f.val) % 512; simp only; omega)

/-- The second component's features of a head. -/
theorem part1_apply (x : FVec Ideal S8x4096x512 .f32) (b : Fin 8) (h : Fin 4) (s : Fin 4096) (f : Fin 64) :
    part1 x (ix4 b h s f) = x (ix3 b s (ft h.val (64 * 1 + f.val))) := by
  have := h.isLt
  have := f.isLt
  unfold part1
  pointwise []
  congr 2
  exact Fin.ext (by show _ = (128 * h.val + (64 * 1 + f.val)) % 512; simp only; omega)

/-- The values of a head. -/
theorem vals_apply (x : FVec Ideal S8x4096x512 .f32) (b : Fin 8) (h : Fin 4) (s : Fin 4096) (d : Fin 128) :
    vals x (ix4 b h s d) = x (ix3 b s (ft h.val d.val)) := by
  have := h.isLt
  have := d.isLt
  unfold vals
  pointwise []
  congr 2
  exact Fin.ext (by show _ = (128 * h.val + d.val) % 512; simp only; omega)

/-- A query sees the keys up to its own position. -/
theorem causal_apply (i j : Fin 4096) : causal (ix2 i j) = if j.val ≤ i.val then 1#1 else 0#1 := by
  have := i.isLt
  have := j.isLt
  unfold causal
  pointwise []
  exact Cert.Proof.ofNat_sle _ _ (by omega) (by omega)

/-- A score: the scaled product of query and key, or minus infinity where the query does not see the key. -/
theorem scores_apply (q k : FVec Ideal S8x4x4096x64 .f32) (b : Fin 8) (h : Fin 4) (i j : Fin 4096) :
    scores q k (ix4 b h i j) = if j.val ≤ i.val then (∑ x : Fin 64, q (ix4 b h i x) * k (ix4 b h j x)) * Ideal.ofBits .f32 0x3E000000#32 else ⊥ := by
  unfold scores
  pointwise []
  rw [causal_apply]
  by_cases hh : j.val ≤ i.val
  · rw [if_pos hh, if_pos hh]; rfl
  · rw [if_neg hh, if_neg hh]; exact negInf

/-- The exponential of a score less the greatest score of its query. -/
theorem expo_apply (z : FVec Ideal S8x4x4096x4096 .f32) (b : Fin 8) (h : Fin 4) (i j : Fin 4096) :
    expo z (ix4 b h i j) = Ideal.exp (z (ix4 b h i j) - top z (ix3 b h i)) := by
  unfold expo spread
  pointwise []

/-- The softmax: an exponential over the sum of those of its query. -/
theorem soft_apply (z : FVec Ideal S8x4x4096x4096 .f32) (b : Fin 8) (h : Fin 4) (i j : Fin 4096) :
    soft z (ix4 b h i j) = Ideal.div (expo z (ix4 b h i j)) (∑ x : Fin 4096, expo z (ix4 b h i x)) := by
  unfold soft spread
  pointwise []

/-- The values weighted with the first component's softmax minus lambda times the second's. -/
theorem mix_apply (l : FVec Ideal S_ .f32) (p p' : FVec Ideal S8x4x4096x4096 .f32) (v : FVec Ideal S8x4x4096x128 .f32)
    (b : Fin 8) (h : Fin 4) (i : Fin 4096) (d : Fin 128) :
    mix l p p' v (ix4 b h i d) = ∑ x : Fin 4096, (p (ix4 b h i x) - l ix0 * p' (ix4 b h i x)) * v (ix4 b h x d) := by
  unfold mix
  pointwise []

/-- The root mean square norm over a head's features, weighted and scaled. -/
theorem normed_apply (o : FVec Ideal S8x4x4096x128 .f32) (g : FVec Ideal S1x128 .f32) (b : Fin 8) (h : Fin 4) (i : Fin 4096) (d : Fin 128) :
    normed o g (ix4 b h i d) = o (ix4 b h i d) * Ideal.rsqrt (Ideal.div (∑ e : Fin 128, o (ix4 b h i e) * o (ix4 b h i e))
      (Ideal.ofBits .f32 0x43000000#32) + Ideal.ofBits .f32 0x358637BD#32) * g (ix2 0 d) * Ideal.ofBits .f32 0x3F4CCCCD#32 := by
  unfold normed
  pointwise []

/-- Lambda. -/
theorem lamb_apply (x y u v : FVec Ideal S1x64 .f32) :
    lamb x y u v ix0 = Ideal.exp (∑ f : Fin 64, x (ix2 0 f) * y (ix2 0 f)) - Ideal.exp (∑ f : Fin 64, u (ix2 0 f) * v (ix2 0 f))
      + Ideal.ofBits .f32 0x3E4CCCCD#32 := by
  unfold lamb
  pointwise []

/-- The greatest of numbers of which one is real and the others are real or minus infinity, is real. -/
theorem fold_real {ι : Type} [Fintype ι] [DecidableEq ι] (c : EReal) (hc : c = ⊥) (f : ι → EReal)
    (hf : ∀ k, f k = ⊥ ∨ ∃ r : ℝ, f k = (r : EReal)) (i : ι) (r : ℝ) (hi : f i = (r : EReal)) :
    ∃ M : ℝ, (Finset.univ : Finset ι).fold (FloatOps.maximumf (F := Ideal) (φ := .f32)) c f = (M : EReal) := by
  subst hc
  show ∃ M : ℝ, (Finset.univ : Finset ι).fold (max : EReal → EReal → EReal) ⊥ f = (M : EReal)
  have key : ∀ S : Finset ι, S.fold (max : EReal → EReal → EReal) ⊥ f = ⊥ ∨ ∃ r : ℝ, S.fold (max : EReal → EReal → EReal) ⊥ f = (r : EReal) := by
    intro S
    induction S using Finset.induction_on with
    | empty => exact Or.inl Finset.fold_empty
    | insert a S ha ih =>
      rw [Finset.fold_insert ha]
      rcases max_choice (f a) (S.fold (max : EReal → EReal → EReal) ⊥ f) with h | h <;> rw [h]
      · exact hf a
      · exact ih
  rcases key Finset.univ with h | ⟨M, h⟩
  · exfalso
    have : f i ≤ (Finset.univ : Finset ι).fold (max : EReal → EReal → EReal) ⊥ f := Finset.le_fold_max (f i) |>.mpr (Or.inr ⟨i, Finset.mem_univ i, le_rfl⟩)
    rw [h, hi] at this
    exact absurd (le_bot_iff.mp this) (EReal.coe_ne_bot r)
  · exact ⟨M, h⟩

/-- Dropping the last axis puts nothing between the others. -/
theorem lift_last (hr : S8x4x4096x4096.Reduces [3] S8x4x4096) (b : Fin 8) (h : Fin 4) (i : Fin 4096) (k : Fin (S8x4x4096x4096.size 3)) :
    hr.lift (ix3 b h i) k = (ix4 b h i k : S8x4x4096x4096.Idx) := by
  funext a; apply Fin.ext
  match a with
  | ⟨0, _⟩ => rfl
  | ⟨1, _⟩ => rfl
  | ⟨2, _⟩ => rfl
  | ⟨3, _⟩ => rfl

/-- The greater of minus infinity and a number is the number. -/
theorem max_least (x : FVec Ideal S8x4x4096 .f32) (i : S8x4x4096.Idx) :
    maximumf (broadcastInDim S8x4x4096 ![] bcast_S_S8x4x4096 (constant S_ .f32 0xFF800000#32)) x i = x i := by
  have e : maximumf (broadcastInDim S8x4x4096 ![] bcast_S_S8x4x4096 (constant S_ .f32 0xFF800000#32)) x i = max (Ideal.ofBits .f32 0xFF800000#32) (x i) := rfl
  rw [e, negInf]
  exact max_eq_right bot_le

/-- The greatest score of a query is real. -/
theorem top_real (z : FVec Ideal S8x4x4096x4096 .f32) (b : Fin 8) (h : Fin 4) (i : Fin 4096)
    (hz : ∀ k : Fin 4096, z (ix4 b h i k) = ⊥ ∨ ∃ r : ℝ, z (ix4 b h i k) = (r : EReal)) (r : ℝ) (hi : z (ix4 b h i i) = (r : EReal)) :
    ∃ M : ℝ, top z (ix3 b h i) = (M : EReal) := by
  have hr : S8x4x4096x4096.Reduces [3] S8x4x4096 := ⟨rfl, Nat.zero_lt_succ _, reducesTo_S8x4x4096x4096_S8x4x4096_d3.2⟩
  have hl : ∀ k : Fin (S8x4x4096x4096.size 3), (z ∘ hr.lift (ix3 b h i)) k = z (ix4 b h i k) := fun k => congrArg z (lift_last hr b h i k)
  have hb : ∀ k : Fin (S8x4x4096x4096.size 3), (z ∘ hr.lift (ix3 b h i)) k = ⊥ ∨ ∃ r : ℝ, (z ∘ hr.lift (ix3 b h i)) k = (r : EReal) := fun k => by
    rw [hl]; exact hz k
  obtain ⟨M, hM⟩ := fold_real (constant (F := Ideal) S_ .f32 0xFF800000#32 (Shape.Idx.first h_S_)) negInf (z ∘ hr.lift (ix3 b h i)) hb
    (i : Fin (S8x4x4096x4096.size 3)) r ((hl i).trans hi)
  have e := Host.reduce_eq_fold_single (FloatOps.maximumf (F := Ideal) (φ := .f32)) z (constant (F := Ideal) S_ .f32 0xFF800000#32)
    reducesTo_S8x4x4096x4096_S8x4x4096_d3 hr h_S_ (ix3 b h i)
  have e2 : Host.reduce (FloatOps.maximumf (F := Ideal) (φ := .f32)) z
    (constant (F := Ideal) S_ .f32 0xFF800000#32) reducesTo_S8x4x4096x4096_S8x4x4096_d3 h_S_ (ix3 b h i) = (M : EReal) := e.trans hM
  unfold top
  exact ⟨M, (max_least _ _).trans e2⟩

end Cert.ReferenceIdeal.Proof
-- ==== Proof.Result.lean ====
module

public import proofs.«01_k».proof.Proof.Entries
public import proofs.«01_k».proof.Proof.Means

/-! The reference's result over real inputs, entry by entry. -/

@[expose] public section
set_option maxRecDepth 16384
noncomputable section
open Cert.ReferenceIdeal Cert.ReferenceIdeal.Gen Idealize.ShloMosaic Idealize.ShloMosaic.TcCoe Idealize.SL.Sem
namespace Cert.ReferenceIdeal.Proof
open Cert.Proof (key key_val ft sc sees tot tot_pos wsum meanDiff normAt)

/-- The softmax of real scores with later keys left out is the weights over their sum. -/
theorem soft_real (z : FVec Ideal S8x4x4096x4096 .f32) (q k : Fin 8 → Fin 4096 → Fin 512 → ℝ) (c : ℕ) (b : Fin 8) (h : Fin 4) (i : Fin 4096)
    (hz : ∀ j : Fin 4096, z (ix4 b h i j) = if j.val ≤ i.val then ((sc q k b h.val c i j.val / 8 : ℝ) : EReal) else ⊥) (j : Fin 4096) :
    soft z (ix4 b h i j) = ((sees q k b h.val c i j.val / tot q k b h.val c i : ℝ) : EReal) := by
  obtain ⟨M, hM⟩ := top_real z b h i (fun j => by
    rw [hz]; by_cases hj : j.val ≤ i.val
    · rw [if_pos hj]; exact Or.inr ⟨_, rfl⟩
    · rw [if_neg hj]; exact Or.inl rfl) _ ((hz i).trans (if_pos le_rfl))
  have he : ∀ j : Fin 4096, expo z (ix4 b h i j) = ((sees q k b h.val c i j.val * Real.exp (-M) : ℝ) : EReal) := by
    intro j
    rw [expo_apply, hM, hz]
    unfold sees
    by_cases hj : j.val ≤ i.val
    · rw [if_pos hj, if_pos hj, ← EReal.coe_sub, Ideal.exp_coe, ← Real.exp_add, sub_eq_add_neg]
    · rw [if_neg hj, if_neg hj, EReal.bot_sub, Ideal.exp_bot, zero_mul, EReal.coe_zero]
  rw [soft_apply, he]
  have hs : ∑ x : Fin 4096, expo z (ix4 b h i x) = ((tot q k b h.val c i * Real.exp (-M) : ℝ) : EReal) := by
    rw [Finset.sum_congr rfl fun x _ => he x, Cert.Proof.Online.coe_sum, ← Finset.sum_mul]
    rfl
  have ht := tot_pos q k b h.val c i
  have hE := Real.exp_pos (-M)
  rw [hs, Ideal.div_coe (mul_pos ht hE).ne', ← EReal.coe_mul]
  generalize Real.exp (-M) = E at hE
  generalize tot q k b h.val c i = T at ht
  refine congrArg Real.toEReal ?_
  field_simp

/-- The masked scores of a component over real queries and keys. -/
theorem scores_real (x y : FVec Ideal S8x4x4096x64 .f32) (q k : Fin 8 → Fin 4096 → Fin 512 → ℝ) (c : ℕ) (b : Fin 8) (h : Fin 4) (i : Fin 4096)
    (hx : ∀ s f, x (ix4 b h s f) = ((q b s (ft h.val (64 * c + f.val)) : ℝ) : EReal))
    (hy : ∀ s f, y (ix4 b h s f) = ((k b s (ft h.val (64 * c + f.val)) : ℝ) : EReal)) (j : Fin 4096) :
    scores x y (ix4 b h i j) = if j.val ≤ i.val then ((sc q k b h.val c i j.val / 8 : ℝ) : EReal) else ⊥ := by
  rw [scores_apply, eighth]
  congr 1
  have : ∀ f : Fin 64, x (ix4 b h i f) * y (ix4 b h j f) = ((q b i (ft h.val (64 * c + f.val)) * k b (key j.val) (ft h.val (64 * c + f.val)) : ℝ) : EReal) := by
    intro f
    rw [hx, hy, key_val, EReal.coe_mul]
  rw [Finset.sum_congr rfl fun f _ => this f, Cert.Proof.Online.coe_sum, ← EReal.coe_mul]
  rfl

/-- The difference of the means, over real inputs. -/
theorem mix_real (l : FVec Ideal S_ .f32) (p p' : FVec Ideal S8x4x4096x4096 .f32) (v' : FVec Ideal S8x4x4096x128 .f32)
    (q k v : Fin 8 → Fin 4096 → Fin 512 → ℝ) (lam : ℝ) (b : Fin 8) (h : Fin 4) (i : Fin 4096) (d : Fin 128)
    (hl : l ix0 = ((lam : ℝ) : EReal))
    (hp : ∀ j : Fin 4096, p (ix4 b h i j) = ((sees q k b h.val 0 i j.val / tot q k b h.val 0 i : ℝ) : EReal))
    (hp' : ∀ j : Fin 4096, p' (ix4 b h i j) = ((sees q k b h.val 1 i j.val / tot q k b h.val 1 i : ℝ) : EReal))
    (hv : ∀ s, v' (ix4 b h s d) = ((v b s (ft h.val d.val) : ℝ) : EReal)) :
    mix l p p' v' (ix4 b h i d) = ((meanDiff q k v lam b h.val i d : ℝ) : EReal) := by
  rw [mix_apply]
  have : ∀ j : Fin 4096, (p (ix4 b h i j) - l ix0 * p' (ix4 b h i j)) * v' (ix4 b h j d)
      = ((v b (key j.val) (ft h.val d.val) * sees q k b h.val 0 i j.val / tot q k b h.val 0 i
        - lam * (v b (key j.val) (ft h.val d.val) * sees q k b h.val 1 i j.val / tot q k b h.val 1 i) : ℝ) : EReal) := by
    intro j
    rw [hl, hp, hp', hv, key_val, ← EReal.coe_mul, ← EReal.coe_sub, ← EReal.coe_mul]
    refine congrArg Real.toEReal ?_
    ring
  rw [Finset.sum_congr rfl fun j _ => this j, Cert.Proof.Online.coe_sum]
  refine congrArg Real.toEReal ?_
  unfold meanDiff wsum
  rw [Finset.sum_sub_distrib, ← Finset.mul_sum, Finset.sum_div, Finset.sum_div]

variable (m : (ℓ : Loc nD τ sig) → Buf (Elt Ideal) ℓ)

/-- The reference's result over real queries, keys, values and lambda. -/
theorem res_at (c : Dev nD) (q k v : Fin 8 → Fin 4096 → Fin 512 → ℝ) (lam : ℝ)
    (h0 : ∀ b s f, (m ((c.tc : Thread nD τ).loc main_arg0) : FVec Ideal S8x4096x512 .f32) (ix3 b s f) = ((q b s f : ℝ) : EReal))
    (h1 : ∀ b s f, (m ((c.tc : Thread nD τ).loc main_arg1) : FVec Ideal S8x4096x512 .f32) (ix3 b s f) = ((k b s f : ℝ) : EReal))
    (h2 : ∀ b s f, (m ((c.tc : Thread nD τ).loc main_arg2) : FVec Ideal S8x4096x512 .f32) (ix3 b s f) = ((v b s f : ℝ) : EReal))
    (hl : lamb (m ((c.tc : Thread nD τ).loc main_arg3)) (m ((c.tc : Thread nD τ).loc main_arg4)) (m ((c.tc : Thread nD τ).loc main_arg5))
      (m ((c.tc : Thread nD τ).loc main_arg6)) ix0 = ((lam : ℝ) : EReal))
    (b : Fin 8) (s : Fin 4096) (h : Fin 4) (d : Fin 128) (a : Fin 32768) (e : Fin 512) (ha : a.val = b.val * 4096 + s.val)
    (he : e.val = 128 * h.val + d.val) :
    (Cert.ReferenceIdeal.Value.res_main_v85 m c : FVec Ideal S32768x512 .bf16) (ix2 a e)
      = normAt (fun d' => ((meanDiff q k v lam b h.val s d' : ℝ) : EReal))
          ((m ((c.tc : Thread nD τ).loc main_arg7) : FVec Ideal S1x128 .f32) (ix2 0 d)) d := by
  rw [res_eq, rows_apply _ b s h d a e ha he, normed_apply]
  have hm : ∀ d' : Fin 128, mix (lamb (m ((c.tc : Thread nD τ).loc main_arg3)) (m ((c.tc : Thread nD τ).loc main_arg4)) (m ((c.tc : Thread nD τ).loc main_arg5)) (m ((c.tc : Thread nD τ).loc main_arg6)))
        (soft (scores (part0 (m ((c.tc : Thread nD τ).loc main_arg0))) (part0 (m ((c.tc : Thread nD τ).loc main_arg1)))))
        (soft (scores (part1 (m ((c.tc : Thread nD τ).loc main_arg0))) (part1 (m ((c.tc : Thread nD τ).loc main_arg1)))))
        (vals (m ((c.tc : Thread nD τ).loc main_arg2))) (ix4 b h s d') = ((meanDiff q k v lam b h.val s d' : ℝ) : EReal) := fun d' =>
    mix_real _ _ _ _ q k v lam b h s d' hl
      (soft_real _ q k 0 b h s (scores_real _ _ q k 0 b h s (fun s f => (part0_apply _ b h s f).trans (h0 _ _ _)) (fun s f => (part0_apply _ b h s f).trans (h1 _ _ _))))
      (soft_real _ q k 1 b h s (scores_real _ _ q k 1 b h s (fun s f => (part1_apply _ b h s f).trans (h0 _ _ _)) (fun s f => (part1_apply _ b h s f).trans (h1 _ _ _))))
      (fun s => (vals_apply _ b h s d').trans (h2 _ _ _))
  rw [hm, Finset.sum_congr rfl fun e _ => by rw [hm e]]
  rfl

end Cert.ReferenceIdeal.Proof
-- ==== Proof.Finite.lean ====
module

public import proofs.«01_k».proof.Proof.Gen.Pre_finite
public import Idealize.ShloMosaic.Lib.Pointwise

/-! What the precondition says: every entry of the first seven arguments is a real number. -/

@[expose] public section
set_option maxRecDepth 16384
noncomputable section
open Cert.Pre_finite Cert.Pre_finite.Gen Idealize.ShloMosaic
namespace Cert.Pre_finite.Proof

/-- An absolute value below infinity is that of a real number. -/
theorem real_of_abs (x : EReal) (h : Ideal.cmp .olt (max x (-x)) (Ideal.ofBits .f32 0x7F800000#32) = 1#1) : ∃ r : ℝ, x = (r : EReal) := by
  have hi : Ideal.ofBits .f32 0x7F800000#32 = ⊤ := by simp [Ideal.ofBits, Ideal.ieee]
  rw [hi] at h
  induction x with
  | bot => simp [Ideal.cmp] at h
  | top => simp [Ideal.cmp] at h
  | coe r => exact ⟨r, rfl⟩

/-- A conjunction over a set that holds, holds of each member. -/
theorem fold_and {ι : Type} [DecidableEq ι] (c : BitVec 1) (f : ι → BitVec 1) (S : Finset ι) (h : S.fold IntOp.andi c f = 1#1) :
    ∀ i ∈ S, f i = 1#1 := by
  induction S using Finset.induction_on with
  | empty => intro i hi; exact absurd hi (Finset.notMem_empty i)
  | insert a S ha ih =>
    rw [Finset.fold_insert ha] at h
    have h2 : ∀ u w : BitVec 1, IntOp.andi u w = 1#1 → u = 1#1 ∧ w = 1#1 := by decide
    intro i hi
    rcases Finset.mem_insert.mp hi with rfl | hi
    · exact (h2 _ _ h).1
    · exact ih (h2 _ _ h).2 i hi

/-- A conjunction over a whole array that holds, holds of each entry. -/
theorem all_of {s t u : Shape} {axes : List (Fin s.rank)} (x : IVec s 1) (init : IVec u 1) (h : s.ReducesTo axes t) (hu : 0 < u.numel)
    (j : t.Idx) (hj : Host.reduce IntOp.andi x init h hu j = 1#1) (i : s.Idx) (hi : h.drop i = j) : x i = 1#1 := by
  rw [Host.reduce_eq_fold] at hj
  exact fold_and _ _ _ hj i (Finset.mem_filter.mpr ⟨Finset.mem_univ _, hi⟩)

/-- There is one index of a scalar. -/
theorem ix_eq (i j : S_.Idx) : i = j := funext fun a => a.elim0

/-- An array whose entries are all below infinity in absolute value is real. -/
theorem real_big (x : FVec Ideal S8x4096x512 .f32)
    (h : Host.reduce IntOp.andi (cmpf .olt (Host.absf x) (broadcastInDim S8x4096x512 ![] bcast_S_S8x4096x512 (constant S_ .f32 0x7F800000#32)))
      (constantI S_ 1 1#1) reducesTo_S8x4096x512_S_d0_1_2 h_S_ ix0 = 1#1) (i : S8x4096x512.Idx) : ∃ r : ℝ, x i = (r : EReal) :=
  real_of_abs _ (all_of _ _ _ _ ix0 h i (ix_eq _ _))

/-- The same of a row of 64. -/
theorem real_row (x : FVec Ideal S1x64 .f32)
    (h : Host.reduce IntOp.andi (cmpf .olt (Host.absf x) (broadcastInDim S1x64 ![] bcast_S_S1x64 (constant S_ .f32 0x7F800000#32)))
      (constantI S_ 1 1#1) reducesTo_S1x64_S_d0_1 h_S_ ix0 = 1#1) (i : S1x64.Idx) : ∃ r : ℝ, x i = (r : EReal) :=
  real_of_abs _ (all_of _ _ _ _ ix0 h i (ix_eq _ _))

/-- Two words whose conjunction holds. -/
theorem and_split (x y : IVec S_ 1) (h : andi x y ix0 = 1#1) : x ix0 = 1#1 ∧ y ix0 = 1#1 := by
  have h2 : ∀ u w : BitVec 1, IntOp.andi u w = 1#1 → u = 1#1 ∧ w = 1#1 := by decide
  exact h2 _ _ h

/-- Under the precondition the queries, keys, values and lambda rows are real. -/
theorem finite_real (a0 a1 a2 : FVec Ideal S8x4096x512 .f32) (a3 a4 a5 a6 : FVec Ideal S1x64 .f32) (a7 : FVec Ideal S1x128 .f32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h' := congrFun h ix0
  unfold fn fn_part1 at h'
  obtain ⟨h', g6⟩ := and_split _ _ h'
  obtain ⟨h', g5⟩ := and_split _ _ h'
  obtain ⟨h', g4⟩ := and_split _ _ h'
  obtain ⟨h', g3⟩ := and_split _ _ h'
  obtain ⟨h', g2⟩ := and_split _ _ h'
  obtain ⟨g0, g1⟩ := and_split _ _ h'
  exact ⟨real_big _ g0, real_big _ g1, real_big _ g2, real_row _ g3, real_row _ g4, real_row _ g5, real_row _ g6⟩

end Cert.Pre_finite.Proof
-- ==== Proof.Equal.lean ====
module

public import proofs.«01_k».proof.Defs
public import proofs.«01_k».proof.Proof.Output
public import proofs.«01_k».proof.Proof.Result
public import proofs.«01_k».proof.Proof.Finite

/-! The kernel's result array is the reference's where the precondition holds. -/

@[expose] public section
set_option maxRecDepth 16384
noncomputable section
open Idealize.ShloMosaic Idealize.ShloMosaic.TcCoe Idealize.SL.Sem
namespace Cert.Proof

/-- Lambda of real rows is real. -/
theorem lam_real (x y u v : FVec Ideal Cert.KernelIdeal.S1x64 .f32) (hx : ∀ i, ∃ r : ℝ, x i = (r : EReal)) (hy : ∀ i, ∃ r : ℝ, y i = (r : EReal))
    (hu : ∀ i, ∃ r : ℝ, u i = (r : EReal)) (hv : ∀ i, ∃ r : ℝ, v i = (r : EReal)) :
    ∃ l : ℝ, Cert.KernelIdeal.Proof.lamVal x y u v = (l : EReal) := by
  choose x' hx using hx
  choose y' hy using hy
  choose u' hu using hu
  choose v' hv using hv
  obtain ⟨c, hc⟩ : ∃ c : ℝ, Ideal.ofBits .f32 0x3E4CCCCD#32 = (c : EReal) := by
    simp only [Ideal.ofBits, Ideal.ieee]
    exact ⟨_, rfl⟩
  unfold Cert.KernelIdeal.Proof.lamVal
  simp only [hx, hy, hu, hv, ← EReal.coe_mul, Online.coe_sum, Ideal.exp_coe, hc, ← EReal.coe_sub, ← EReal.coe_add]
  exact ⟨_, rfl⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two result arrays of a core are one, where the arguments are and the precondition holds of them. -/
theorem arrays_eq (c : Dev Cert.KernelIdeal.nD)
    (hp : Cert.Pre_finite.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.ReferenceIdeal.Value.res_main_v85 m' c : FVec Ideal Cert.KernelIdeal.S32768x512 .bf16)
      = (Cert.KernelIdeal.Proof.dats m 0 c).arrAt 5 Cert.KernelIdeal.cfg0.N := by
  obtain ⟨r0, r1, r2, r3, r4, r5, r6⟩ := Cert.Pre_finite.Proof.finite_real _ _ _ _ _ _ _ _ hp
  choose q hq using r0
  choose k hk using r1
  choose v hv using r2
  obtain ⟨l, hl⟩ := lam_real _ _ _ _ r3 r4 r5 r6
  have key : ∀ (a : Fin 32768) (e : Fin 512), (Cert.ReferenceIdeal.Value.res_main_v85 m' c : FVec Ideal Cert.KernelIdeal.S32768x512 .bf16) (ix2 a e)
      = ((Cert.KernelIdeal.Proof.dats m 0 c).arrAt 5 Cert.KernelIdeal.cfg0.N : FVec Ideal Cert.KernelIdeal.S32768x512 .bf16) (ix2 a e) := by
    intro a e
    obtain ⟨b, hb⟩ : ∃ b : Fin 8, b.val = a.val / 4096 := ⟨⟨a.val / 4096, by omega⟩, rfl⟩
    obtain ⟨s, hs⟩ : ∃ s : Fin 4096, s.val = a.val % 4096 := ⟨⟨a.val % 4096, by omega⟩, rfl⟩
    obtain ⟨h, hh⟩ : ∃ h : Fin 4, h.val = e.val / 128 := ⟨⟨e.val / 128, by omega⟩, rfl⟩
    obtain ⟨d, hd⟩ : ∃ d : Fin 128, d.val = e.val % 128 := ⟨⟨e.val % 128, by omega⟩, rfl⟩
    refine (Cert.ReferenceIdeal.Proof.res_at m' c (fun b s f => q (ix3 b s f)) (fun b s f => k (ix3 b s f)) (fun b s f => v (ix3 b s f)) l
      (fun b s f => (congrFun e0 _).trans (hq _)) (fun b s f => (congrFun e1 _).trans (hk _)) (fun b s f => (congrFun e2 _).trans (hv _)) ?_
      b s h d a e (by omega) (by omega)).trans
      (Eq.trans ?_ (Cert.KernelIdeal.Proof.out_at m c (fun b s f => q (ix3 b s f)) (fun b s f => k (ix3 b s f)) (fun b s f => v (ix3 b s f)) l
        (fun b s f => hq _) (fun b s f => hk _) (fun b s f => hv _) hl b s h d a e (by omega) (by omega)).symm)
    · rw [Cert.ReferenceIdeal.Proof.lamb_apply, e3, e4, e5, e6]
      exact hl
    · rw [e7]
  funext y
  have e := key (y 0) (y 1)
  have hy : (ix2 (y 0) (y 1) : Cert.KernelIdeal.S32768x512.Idx) = y := ix2_eta y
  rw [hy] at e
  exact e
end

end Cert.Proof
-- ==== Proof.ProjRows.lean ====
module

public import proofs.«01_k».proof.Proof.Gen.ProjectionIdeal.Value
public import Idealize.ShloMosaic.Lib.Pointwise
public import Idealize.ShloMosaic.Lib.Pipeline.ValueKit
public import Idealize.ShloMosaic.Lib.KernelVsHost

/-! What the in-projection's body computes from the blocks of a grid point, entry by entry: the normalised rows,
    their reordering, and the products with the weights. -/

@[expose] public section
set_option maxRecDepth 16384
noncomputable section
namespace Cert.ProjectionIdeal.Proof
open Cert.ProjectionIdeal Cert.ProjectionIdeal.Gen Idealize.ShloMosaic Idealize.ShloMosaic.TcCoe Idealize.SL.Sem

/-- A row of 1024 features over its root mean square, times the gains. -/
def hn (x g : Fin 1024 → EReal) (d : Fin 1024) : EReal :=
  x d * Ideal.rsqrt (Ideal.div (∑ k, x k * x k) (Ideal.ofBits .f32 0x44800000#32) + Ideal.ofBits .f32 0x358637BD#32) * g d

/-- The normalised rows. -/
theorem pay4_apply (x : Vec Ideal S512x1024 .f32) (g : Vec Ideal S1x1024 .f32) (r : Fin 512) (d : Fin 1024) :
    k0_pay4 x g (ix2 r d) = hn (fun k => x (ix2 r k)) (fun k => g (ix2 0 k)) d := by
  unfold k0_pay4
  pointwise []
  rfl

/-- The row that the reordering puts at row `r` of a block of 256: position `r / 8` of run `r % 8`. -/
def src (r : ℕ) : ℕ := r % 8 * 32 + r / 8

/-- A product with a block of the weights. -/
theorem pay13_apply (h : FVec Ideal S512x1024 .bf16) (w : Vec Ideal S1024x512 .bf16) (r e : Fin 512) :
    k0_pay13 h w (ix2 r e) = ∑ d : Fin 1024, h (ix2 r d) * w (ix2 d e) := by
  unfold k0_pay13
  pointwise []

/-- The same product, before its rounding. -/
theorem pay14_apply (h : FVec Ideal S512x1024 .bf16) (w : Vec Ideal S1024x512 .bf16) (r e : Fin 512) :
    k0_pay14 h w (ix2 r e) = ∑ d : Fin 1024, h (ix2 r d) * w (ix2 d e) := by
  unfold k0_pay14
  pointwise []

/-- The product with a block of the gates' weights. -/
theorem pay21_apply (h : FVec Ideal S512x1024 .bf16) (w : Vec Ideal S1024x512 .bf16) (r e : Fin 512) :
    k0_pay21 h w (ix2 r e) = ∑ d : Fin 1024, h (ix2 r d) * w (ix2 d e) := by
  unfold k0_pay21
  pointwise []

/-- The other way round, features by positions. -/
theorem pay26_apply (h : FVec Ideal S512x1024 .bf16) (w : FVec Ideal S1024x512 .bf16) (e r : Fin 512) :
    k0_pay26 h w (ix2 e r) = ∑ d : Fin 1024, h (ix2 r d) * w (ix2 d e) := by
  unfold k0_pay26
  pointwise []
  exact Finset.sum_congr rfl fun d _ => mul_comm _ _

/-- The values of the differential attention, features by positions. -/
theorem pay38_apply (h : FVec Ideal S512x1024 .bf16) (w : Vec Ideal S1024x512 .bf16) (z : Fin 1) (e r : Fin 512) :
    k0_pay38 h w (ix3 z e r) = ∑ d : Fin 1024, h (ix2 r d) * w (ix2 d e) := by
  unfold k0_pay38
  pointwise []
  exact Finset.sum_congr rfl fun d _ => mul_comm _ _

/-- The queries of the stick-breaking attention, scaled. -/
theorem pay39_apply (h : FVec Ideal S512x1024 .bf16) (w : Vec Ideal S1024x512 .bf16) (e r : Fin 512) :
    k0_pay39 h w (ix2 e r) = (∑ d : Fin 1024, h (ix2 r d) * w (ix2 d e)) * (((Real.log 2)⁻¹ * 8⁻¹ : ℝ) : EReal) := by
  unfold k0_pay39
  pointwise []
  exact congrArg₂ _ (Finset.sum_congr rfl fun d _ => mul_comm _ _) rfl

/-- Its values. -/
theorem pay40_apply (h : FVec Ideal S512x1024 .bf16) (w : Vec Ideal S1024x512 .bf16) (e r : Fin 512) :
    k0_pay40 h w (ix2 e r) = ∑ d : Fin 1024, h (ix2 r d) * w (ix2 d e) := by
  unfold k0_pay40
  pointwise []
  exact Finset.sum_congr rfl fun d _ => mul_comm _ _

/-- The first 256 positions of a block of values. -/
theorem pay1_apply (h : FVec Ideal S512x1024 .bf16) (w : Vec Ideal S1024x512 .bf16) (z : Fin 1) (e : Fin 512) (y : Fin 256)
    (r : Fin 512) (hr : r.val = y.val) : k0_pay1 (k0_pay42 h w) (ix3 z e y) = k0_pay40 h w (ix2 e r) := by
  unfold k0_pay1 k0_pay42
  pointwise []
  congr 2 <;> exact Fin.ext (by simp only; omega)

/-- The last 256 positions of a block of queries. -/
theorem pay2_apply (x : FVec Ideal S512x512 .bf16) (z : Fin 1) (e : Fin 512) (y : Fin 256)
    (r : Fin 512) (hr : r.val = 256 + y.val) : k0_pay2 x (ix3 z e y) = x (ix2 e r) := by
  unfold k0_pay2
  pointwise []
  congr 2 <;> exact Fin.ext (by simp only; omega)

/-- The last 256 positions of a block of values. -/
theorem pay3_apply (x : FVec Ideal S512x512 .bf16) (z : Fin 1) (e : Fin 512) (y : Fin 256)
    (r : Fin 512) (hr : r.val = 256 + y.val) : k0_pay3 x (ix3 z e y) = x (ix2 e r) := by
  unfold k0_pay3
  pointwise []
  congr 2 <;> exact Fin.ext (by simp only; omega)

/-- The first 256 positions of a block of queries. -/
theorem pay41_apply (h : FVec Ideal S512x1024 .bf16) (w : Vec Ideal S1024x512 .bf16) (z : Fin 1) (e : Fin 512) (y : Fin 256)
    (r : Fin 512) (hr : r.val = y.val) : k0_pay41 h w (ix3 z e y) = k0_pay39 h w (ix2 e r) := by
  unfold k0_pay41
  pointwise []
  congr 2 <;> exact Fin.ext (by simp only; omega)

end Cert.ProjectionIdeal.Proof
-- ==== Proof.ProjRope.lean ====
module

public import proofs.«01_k».proof.Proof.ProjRows

/-! The in-projection's reordering of rows within a block, and its rotary embedding, entry by entry. -/

@[expose] public section
set_option maxRecDepth 16384
noncomputable section
namespace Cert.ProjectionIdeal.Proof
open Cert.ProjectionIdeal Cert.ProjectionIdeal.Gen Idealize.ShloMosaic Idealize.ShloMosaic.TcCoe Idealize.SL.Sem

/-- The row that the body computes for row `b` of a block of 256. -/
def rowWord (b : BitVec 32) : BitVec 32 :=
  (IntOp.addi
              (IntOp.muli
                (Scalar.select
                  (IntOp.andi
                    (IntOp.xori
                      (IntOp.cmpi CmpIPredicate.slt
                        (IntOp.remsi ArithUnit.vector b
                          (Scalar.select (Scalar.cmpi CmpIPredicate.eq 8#32 0#32) 1#32 8#32))
                        0#32)
                      (Scalar.cmpi CmpIPredicate.slt (Scalar.select (Scalar.cmpi CmpIPredicate.eq 8#32 0#32) 1#32 8#32)
                        0#32))
                    (IntOp.cmpi CmpIPredicate.ne
                      (IntOp.remsi ArithUnit.vector b
                        (Scalar.select (Scalar.cmpi CmpIPredicate.eq 8#32 0#32) 1#32 8#32))
                      0#32))
                  (IntOp.addi
                    (IntOp.remsi ArithUnit.vector b
                      (Scalar.select (Scalar.cmpi CmpIPredicate.eq 8#32 0#32) 1#32 8#32))
                    (Scalar.select (Scalar.cmpi CmpIPredicate.eq 8#32 0#32) 1#32 8#32))
                  (IntOp.remsi ArithUnit.vector b
                    (Scalar.select (Scalar.cmpi CmpIPredicate.eq 8#32 0#32) 1#32 8#32)))
                32#32)
              (Scalar.select
                (IntOp.andi
                  (IntOp.cmpi CmpIPredicate.ne
                    (IntOp.subi (BitVec.setWidth 32 (IntOp.cmpi CmpIPredicate.sgt b 0#32))
                      (BitVec.setWidth 32 (IntOp.cmpi CmpIPredicate.slt b 0#32)))
                    (Scalar.subi (Scalar.extui (Scalar.cmpi CmpIPredicate.sgt 8#32 0#32))
                      (Scalar.extui (Scalar.cmpi CmpIPredicate.slt 8#32 0#32))))
                  (IntOp.cmpi CmpIPredicate.ne (IntOp.remsi ArithUnit.vector b 8#32) 0#32))
                (IntOp.subi (IntOp.divsi ArithUnit.vector b 8#32) 1#32)
                (IntOp.divsi ArithUnit.vector b 8#32)))

/-- It is the row `src`. -/
theorem rowWord_eq : ∀ r : Fin 256, rowWord (BitVec.ofNat 32 r.val) = BitVec.ofNat 32 (src r.val) := by
  decide +kernel

/-- Equality of small numbers as words. -/
theorem ofNat_eq (a b : ℕ) (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · rw [if_neg h]
    have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have hb : (BitVec.ofNat 32 a == BitVec.ofNat 32 b) = false := beq_false_of_ne this
    simp only [IntOp.cmpi, hb]
    rfl

/-- A sum in which one row alone is selected. -/
theorem sum_select (f : Fin 256 → EReal) (r : Fin 256) (s : Fin 256) (hs : s.val = src r.val) :
    ∑ x : Fin 256, Scalar.select (IntOp.cmpi .eq (BitVec.ofNat 32 x.val) (rowWord (BitVec.ofNat 32 r.val))) (f x) 0 = f s := by
  rw [rowWord_eq, ← hs]
  rw [Finset.sum_eq_single s]
  · rw [ofNat_eq _ _ (by omega) (by omega), if_pos rfl]
    rfl
  · intro b _ hb
    rw [ofNat_eq _ _ (by omega) (by omega), if_neg (fun e => hb (Fin.ext e))]
    rfl
  · intro h
    exact absurd (Finset.mem_univ _) h

/-- The rows reordered: row `r` is row `src` of its 256. -/
theorem pay8_apply (h : FVec Ideal S512x1024 .bf16) (r : Fin 512) (d : Fin 1024) (s : Fin 512) (hs : s.val = r.val / 256 * 256 + src (r.val % 256)) :
    k0_pay8 h (iota .tc S256x256 32 [0] iota_S256x256_d0_w32) (iota .tc S256x256 32 [1] iota_S256x256_d1_w32) k0_pay5 8#32 k0_pay6 k0_pay7 0#32 (ix2 r d)
      = h (ix2 s d) := by
  have hr := r.isLt
  have hl : src (r.val % 256) < 256 := by unfold src; omega
  unfold k0_pay8
  pointwise [k0_pay5, k0_pay6, k0_pay7]
  split
  · refine (sum_select (fun x => h (ix2 ⟨x.val, by omega⟩ d)) ⟨r.val, by assumption⟩ ⟨src (r.val % 256), hl⟩ ?_).trans ?_
    · show src (r.val % 256) = src r.val
      rw [Nat.mod_eq_of_lt (by assumption)]
    · exact congrArg h (congrArg (fun z => ix2 z d) (Fin.ext (by show src (r.val % 256) = s.val; omega)))
  · refine (sum_select (fun x => h (ix2 ⟨256 + x.val, by omega⟩ d)) ⟨r.val - 256, by omega⟩ ⟨src (r.val % 256), hl⟩ ?_).trans ?_
    · show src (r.val % 256) = src (r.val - 256)
      congr 1
      omega
    · exact congrArg h (congrArg (fun z => ix2 z d) (Fin.ext (by show 256 + src (r.val % 256) = s.val; omega)))

/-- The lanes that take their partner from the right. -/
theorem first_half : ∀ c : Fin 128, IntOp.cmpi CmpIPredicate.slt
      (Scalar.select
        (IntOp.andi
          (IntOp.xori
            (IntOp.cmpi CmpIPredicate.slt
              (IntOp.remsi ArithUnit.vector (BitVec.ofNat 32 c.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 c.val)
              (Scalar.select (Scalar.cmpi CmpIPredicate.eq 64#32 0#32) 1#32 64#32))
            0#32))
        (IntOp.addi
          (IntOp.remsi ArithUnit.vector (BitVec.ofNat 32 c.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 c.val)
          (Scalar.select (Scalar.cmpi CmpIPredicate.eq 64#32 0#32) 1#32 64#32)))
      32#32 =
    if c.val % 64 < 32 then 1#1 else 0#1 := by
  decide +kernel

/-- They are the first 32 of each 64. -/
theorem pay11_apply (r : Fin 512) (c : Fin 128) :
    k0_pay11 (Scalar.select (Scalar.cmpi .eq 64#32 0#32) 1#32 64#32) k0_pay9 k0_pay10 (ix2 r c) = if c.val % 64 < 32 then 1#1 else 0#1 := by
  unfold k0_pay11
  pointwise [k0_pay9, k0_pay10]
  exact first_half c

/-- A feature's partner under the rotation: 32 further in its 64, around the end. -/
def partner (e : ℕ) : ℕ := e / 64 * 64 + (e % 64 + 32) % 64

/-- A lane of a group, rotated. -/
theorem lanes (P : FVec Ideal S512x512 .f32) (x5 x6 : Vec Ideal S512x128 .f32) (r e e' : Fin 512) (c : Fin 128)
    (hc : c.val = e.val % 128) (he : e'.val = partner e.val) (a q q' : Fin 512) (c' : Fin 128) (ha : a.val = e.val)
    (hc' : c'.val = e.val % 128) (hq : q.val = e.val / 128 * 128 + (e.val % 128 + 128 - 96) % 128)
    (hq' : q'.val = e.val / 128 * 128 + (e.val % 128 + 128 - 32) % 128) :
    P (ix2 r a) * x5 (ix2 r c') + Scalar.select (k0_pay11 (Scalar.select (Scalar.cmpi .eq 64#32 0#32) 1#32 64#32) k0_pay9 k0_pay10 (ix2 r c'))
      (P (ix2 r q)) (P (ix2 r q')) * x6 (ix2 r c') = P (ix2 r e) * x5 (ix2 r c) + P (ix2 r e') * x6 (ix2 r c) := by
  unfold partner at he
  obtain rfl : a = e := Fin.ext ha
  obtain rfl : c' = c := Fin.ext (by omega)
  rw [pay11_apply]
  by_cases h : c'.val % 64 < 32
  · obtain rfl : q = e' := Fin.ext (by omega)
    rw [if_pos h]
    rfl
  · obtain rfl : q' = e' := Fin.ext (by omega)
    rw [if_neg h]
    rfl

/-- A feature, rotated. -/
theorem feats (P : FVec Ideal S512x512 .f32) (x7 x8 : Vec Ideal S64x512 .f32) (r e e' : Fin 512) (c : Fin 64)
    (a q : Fin 512) (c' : Fin 64) (ha : a.val = e.val) (hc : c'.val = c.val) (hq : q.val = e'.val) :
    P (ix2 a r) * x7 (ix2 c' r) + P (ix2 q r) * x8 (ix2 c' r) = P (ix2 e r) * x7 (ix2 c r) + P (ix2 e' r) * x8 (ix2 c r) := by
  obtain rfl : a = e := Fin.ext ha
  obtain rfl : c' = c := Fin.ext hc
  obtain rfl : q = e' := Fin.ext hq
  rfl

/-- The rotated keys of the differential attention, positions by features. -/
theorem pay20_apply (h : FVec Ideal S512x1024 .bf16) (x5 x6 : Vec Ideal S512x128 .f32) (w : Vec Ideal S1024x512 .bf16)
    (r e e' : Fin 512) (c : Fin 128) (hc : c.val = e.val % 128) (he : e'.val = partner e.val) :
    k0_pay20 (k0_pay11 (Scalar.select (Scalar.cmpi .eq 64#32 0#32) 1#32 64#32) k0_pay9 k0_pay10) x5 (k0_pay12 x6)
      (k0_pay15 h (Scalar.select (Scalar.cmpi .eq 64#32 0#32) 1#32 64#32) k0_pay9 k0_pay10 x5 x6 w)
      (k0_pay16 h (Scalar.select (Scalar.cmpi .eq 64#32 0#32) 1#32 64#32) k0_pay9 k0_pay10 x5 x6 w)
      (k0_pay17 h (Scalar.select (Scalar.cmpi .eq 64#32 0#32) 1#32 64#32) k0_pay9 k0_pay10 x5 x6 w)
      (k0_pay18 h w) (k0_pay19 h w) (ix2 r e)
      = k0_pay14 h w (ix2 r e) * x5 (ix2 r c) + k0_pay14 h w (ix2 r e') * x6 (ix2 r c) := by
  have hlt := e.isLt
  unfold k0_pay20
  pointwise [k0_pay15, k0_pay16, k0_pay17, k0_pay18, k0_pay19, k0_pay12]
  split_ifs <;> exact lanes _ x5 x6 r e e' c hc he _ _ _ _ (by first | omega | (simp only <;> omega)) (by first | omega | (simp only <;> omega)) (by first | omega | (simp only <;> omega)) (by first | omega | (simp only <;> omega))

/-- The first 64 features, rotated. -/
theorem pay29_apply (h : FVec Ideal S512x1024 .bf16) (x7 x8 : Vec Ideal S64x512 .f32) (w : FVec Ideal S1024x512 .bf16)
    (e e' r : Fin 512) (c c' : Fin 64) (hg : e.val / 64 = 0) (hc : c.val = e.val % 64) (he : e'.val = partner e.val) (hc' : c'.val = c.val) :
    k0_pay29 h w x7 x8 (ix2 c' r) = k0_pay26 h w (ix2 e r) * x7 (ix2 c r) + k0_pay26 h w (ix2 e' r) * x8 (ix2 c r) := by
  unfold partner at he
  unfold k0_pay29
  pointwise [k0_pay27, k0_pay28]
  split
  · exact feats (k0_pay26 h w) x7 x8 r e e' c _ _ _ (by first | omega | (simp only <;> omega)) (by first | omega | (simp only <;> omega)) (by first | omega | (simp only <;> omega))
  · exact feats (k0_pay26 h w) x7 x8 r e e' c _ _ _ (by first | omega | (simp only <;> omega)) (by first | omega | (simp only <;> omega)) (by first | omega | (simp only <;> omega))

/-- The second 64 features, rotated. -/
theorem pay30_apply (h : FVec Ideal S512x1024 .bf16) (x7 x8 : Vec Ideal S64x512 .f32) (w : FVec Ideal S1024x512 .bf16)
    (e e' r : Fin 512) (c c' : Fin 64) (hg : e.val / 64 = 1) (hc : c.val = e.val % 64) (he : e'.val = partner e.val) (hc' : c'.val = c.val) :
    k0_pay30 h w x7 x8 (ix2 c' r) = k0_pay26 h w (ix2 e r) * x7 (ix2 c r) + k0_pay26 h w (ix2 e' r) * x8 (ix2 c r) := by
  unfold partner at he
  unfold k0_pay30
  pointwise [k0_pay27, k0_pay28]
  split
  · exact feats (k0_pay26 h w) x7 x8 r e e' c _ _ _ (by first | omega | (simp only <;> omega)) (by first | omega | (simp only <;> omega)) (by first | omega | (simp only <;> omega))
  · exact feats (k0_pay26 h w) x7 x8 r e e' c _ _ _ (by first | omega | (simp only <;> omega)) (by first | omega | (simp only <;> omega)) (by first | omega | (simp only <;> omega))

/-- The third 64 features, rotated. -/
theorem pay31_apply (h : FVec Ideal S512x1024 .bf16) (x7 x8 : Vec Ideal S64x512 .f32) (w : FVec Ideal S1024x512 .bf16)
    (e e' r : Fin 512) (c c' : Fin 64) (hg : e.val / 64 = 2) (hc : c.val = e.val % 64) (he : e'.val = partner e.val) (hc' : c'.val = c.val) :
    k0_pay31 h w x7 x8 (ix2 c' r) = k0_pay26 h w (ix2 e r) * x7 (ix2 c r) + k0_pay26 h w (ix2 e' r) * x8 (ix2 c r) := by
  unfold partner at he
  unfold k0_pay31
  pointwise [k0_pay27, k0_pay28]
  split
  · exact feats (k0_pay26 h w) x7 x8 r e e' c _ _ _ (by first | omega | (simp only <;> omega)) (by first | omega | (simp only <;> omega)) (by first | omega | (simp only <;> omega))
  · exact feats (k0_pay26 h w) x7 x8 r e e' c _ _ _ (by first | omega | (simp only <;> omega)) (by first | omega | (simp only <;> omega)) (by first | omega | (simp only <;> omega))

/-- The fourth 64 features, rotated. -/
theorem pay32_apply (h : FVec Ideal S512x1024 .bf16) (x7 x8 : Vec Ideal S64x512 .f32) (w : FVec Ideal S1024x512 .bf16)
    (e e' r : Fin 512) (c c' : Fin 64) (hg : e.val / 64 = 3) (hc : c.val = e.val % 64) (he : e'.val = partner e.val) (hc' : c'.val = c.val) :
    k0_pay32 h w x7 x8 (ix2 c' r) = k0_pay26 h w (ix2 e r) * x7 (ix2 c r) + k0_pay26 h w (ix2 e' r) * x8 (ix2 c r) := by
  unfold partner at he
  unfold k0_pay32
  pointwise [k0_pay27, k0_pay28]
  split
  · exact feats (k0_pay26 h w) x7 x8 r e e' c _ _ _ (by first | omega | (simp only <;> omega)) (by first | omega | (simp only <;> omega)) (by first | omega | (simp only <;> omega))
  · exact feats (k0_pay26 h w) x7 x8 r e e' c _ _ _ (by first | omega | (simp only <;> omega)) (by first | omega | (simp only <;> omega)) (by first | omega | (simp only <;> omega))

/-- The fifth 64 features, rotated. -/
theorem pay33_apply (h : FVec Ideal S512x1024 .bf16) (x7 x8 : Vec Ideal S64x512 .f32) (w : FVec Ideal S1024x512 .bf16)
    (e e' r : Fin 512) (c c' : Fin 64) (hg : e.val / 64 = 4) (hc : c.val = e.val % 64) (he : e'.val = partner e.val) (hc' : c'.val = c.val) :
    k0_pay33 h w x7 x8 (ix2 c' r) = k0_pay26 h w (ix2 e r) * x7 (ix2 c r) + k0_pay26 h w (ix2 e' r) * x8 (ix2 c r) := by
  unfold partner at he
  unfold k0_pay33
  pointwise [k0_pay27, k0_pay28]
  split
  · exact feats (k0_pay26 h w) x7 x8 r e e' c _ _ _ (by first | omega | (simp only <;> omega)) (by first | omega | (simp only <;> omega)) (by first | omega | (simp only <;> omega))
  · exact feats (k0_pay26 h w) x7 x8 r e e' c _ _ _ (by first | omega | (simp only <;> omega)) (by first | omega | (simp only <;> omega)) (by first | omega | (simp only <;> omega))

/-- The sixth 64 features, rotated. -/
theorem pay34_apply (h : FVec Ideal S512x1024 .bf16) (x7 x8 : Vec Ideal S64x512 .f32) (w : FVec Ideal S1024x512 .bf16)
    (e e' r : Fin 512) (c c' : Fin 64) (hg : e.val / 64 = 5) (hc : c.val = e.val % 64) (he : e'.val = partner e.val) (hc' : c'.val = c.val) :
    k0_pay34 h w x7 x8 (ix2 c' r) = k0_pay26 h w (ix2 e r) * x7 (ix2 c r) + k0_pay26 h w (ix2 e' r) * x8 (ix2 c r) := by
  unfold partner at he
  unfold k0_pay34
  pointwise [k0_pay27, k0_pay28]
  split
  · exact feats (k0_pay26 h w) x7 x8 r e e' c _ _ _ (by first | omega | (simp only <;> omega)) (by first | omega | (simp only <;> omega)) (by first | omega | (simp only <;> omega))
  · exact feats (k0_pay26 h w) x7 x8 r e e' c _ _ _ (by first | omega | (simp only <;> omega)) (by first | omega | (simp only <;> omega)) (by first | omega | (simp only <;> omega))

/-- The seventh 64 features, rotated. -/
theorem pay35_apply (h : FVec Ideal S512x1024 .bf16) (x7 x8 : Vec Ideal S64x512 .f32) (w : FVec Ideal S1024x512 .bf16)
    (e e' r : Fin 512) (c c' : Fin 64) (hg : e.val / 64 = 6) (hc : c.val = e.val % 64) (he : e'.val = partner e.val) (hc' : c'.val = c.val) :
    k0_pay35 h w x7 x8 (ix2 c' r) = k0_pay26 h w (ix2 e r) * x7 (ix2 c r) + k0_pay26 h w (ix2 e' r) * x8 (ix2 c r) := by
  unfold partner at he
  unfold k0_pay35
  pointwise [k0_pay27, k0_pay28]
  split
  · exact feats (k0_pay26 h w) x7 x8 r e e' c _ _ _ (by first | omega | (simp only <;> omega)) (by first | omega | (simp only <;> omega)) (by first | omega | (simp only <;> omega))
  · exact feats (k0_pay26 h w) x7 x8 r e e' c _ _ _ (by first | omega | (simp only <;> omega)) (by first | omega | (simp only <;> omega)) (by first | omega | (simp only <;> omega))

/-- The rotated queries of the differential attention, features by positions. -/
theorem pay37_apply (h : FVec Ideal S512x1024 .bf16) (x7 x8 : Vec Ideal S64x512 .f32) (w : FVec Ideal S1024x512 .bf16)
    (z : Fin 1) (e e' r : Fin 512) (c : Fin 64) (hc : c.val = e.val % 64) (he : e'.val = partner e.val) :
    k0_pay37 (k0_pay27 x7) (k0_pay28 x8) (k0_pay29 h w x7 x8) (k0_pay30 h w x7 x8) (k0_pay31 h w x7 x8) (k0_pay32 h w x7 x8)
      (k0_pay33 h w x7 x8) (k0_pay34 h w x7 x8) (k0_pay35 h w x7 x8) (k0_pay36 h w) (ix3 z e r)
      = k0_pay26 h w (ix2 e r) * x7 (ix2 c r) + k0_pay26 h w (ix2 e' r) * x8 (ix2 c r) := by
  have hlt := e.isLt
  unfold k0_pay37
  pointwise [k0_pay36, k0_pay27, k0_pay28]
  split
  · exact pay29_apply h x7 x8 w e e' r c _ (by omega) hc he (by first | omega | (simp only <;> omega))
  split
  · exact pay30_apply h x7 x8 w e e' r c _ (by omega) hc he (by first | omega | (simp only <;> omega))
  split
  · exact pay31_apply h x7 x8 w e e' r c _ (by omega) hc he (by first | omega | (simp only <;> omega))
  split
  · exact pay32_apply h x7 x8 w e e' r c _ (by omega) hc he (by first | omega | (simp only <;> omega))
  split
  · exact pay33_apply h x7 x8 w e e' r c _ (by omega) hc he (by first | omega | (simp only <;> omega))
  split
  · exact pay34_apply h x7 x8 w e e' r c _ (by omega) hc he (by first | omega | (simp only <;> omega))
  split
  · exact pay35_apply h x7 x8 w e e' r c _ (by omega) hc he (by first | omega | (simp only <;> omega))
  unfold partner at he
  split
  · exact feats (k0_pay26 h w) x7 x8 r e e' c _ _ _ (by first | omega | (simp only <;> omega)) (by first | omega | (simp only <;> omega)) (by first | omega | (simp only <;> omega))
  · exact feats (k0_pay26 h w) x7 x8 r e e' c _ _ _ (by first | omega | (simp only <;> omega)) (by first | omega | (simp only <;> omega)) (by first | omega | (simp only <;> omega))

end Cert.ProjectionIdeal.Proof
-- ==== Proof.ProjOut.lean ====
module

public import proofs.«01_k».proof.Proof.ProjRope

/-! The blocks that a grid point of the in-projection writes, read entry by entry. -/

@[expose] public section
set_option maxRecDepth 16384
noncomputable section
namespace Cert.ProjectionIdeal.Proof
open Cert.ProjectionIdeal Cert.ProjectionIdeal.Gen Idealize.ShloMosaic Idealize.ShloMosaic.TcCoe Idealize.SL.Sem

/-- What stores leave at a place that the last of them holds. -/
theorem canon_hit {s : Shape} {e : EltTy} (r : Rect s) (w : r.shape.Idx → Elt Ideal e)
    (L : List (View.Piece (Elt Ideal) s e)) (x : r.shape.Idx) (y : s.Idx)
    (h : ∀ a, (y a).val = r.off a + r.stride a * (x a).val) : View.canon (⟨r, w⟩ :: L) y = w x := by
  have hx : r.emb x = y := (Rect.emb_eq_of_coords _ _ _ h)
  rw [← hx]
  exact View.canon_cons_emb _ _ _ _

/-- What they leave at a place that it misses along an axis. -/
theorem canon_miss {s : Shape} {e : EltTy} (r : Rect s) (w : r.shape.Idx → Elt Ideal e)
    (L : List (View.Piece (Elt Ideal) s e)) (y : s.Idx) (a : Fin s.rank) (hst : r.stride a = 1)
    (h : (y a).val < r.off a) : View.canon (⟨r, w⟩ :: L) y = View.canon L y :=
  View.canon_cons_of_not_mem _ _ (Rect.not_mem_set_of_axis _ y a (r.off a) _ rfl hst rfl (Or.inl h))

/-- A block of columns of the weights. -/
theorem cols_rows (x2 : Vec Ideal S1024x3072 .bf16) (o : ℕ) (inb) (d : Fin 1024) (e : Fin 512) (E : Fin 3072) (hE : E.val = o + e.val) :
    View.ld x2 (Rect.unit (s := S1024x3072) ![0, o] S1024x512.size inb) (ix2 d e) = x2 (ix2 d E) :=
  View.ld_unit_apply_of x2 _ _ inb _ (ix2 d E) (fun a => match a with
    | ⟨0, _⟩ => (Nat.zero_add d.val).symm
    | ⟨1, _⟩ => hE)

/-- The same of the weights for features by positions. -/
theorem cols_feat (x3 : Vec Ideal S1024x1024 .bf16) (o : ℕ) (inb) (d : Fin 1024) (e : Fin 512) (E : Fin 1024) (hE : E.val = o + e.val) :
    View.ld x3 (Rect.unit (s := S1024x1024) ![0, o] S1024x512.size inb) (ix2 d e) = x3 (ix2 d E) :=
  View.ld_unit_apply_of x3 _ _ inb _ (ix2 d E) (fun a => match a with
    | ⟨0, _⟩ => (Nat.zero_add d.val).symm
    | ⟨1, _⟩ => hE)

section
variable (x0 : Vec Ideal S512x1024 .f32) (x1 : Vec Ideal S1x1024 .f32) (x2 : Vec Ideal S1024x3072 .bf16) (x3 x4 : Vec Ideal S1024x1024 .bf16)
  (x5 x6 : Vec Ideal S512x128 .f32) (x7 x8 : Vec Ideal S64x512 .f32)

/-- The normalised row `r` of the block. -/
def hrow (r : Fin 512) (d : Fin 1024) : EReal := hn (fun k => x0 (ix2 r k)) (fun k => x1 (ix2 0 k)) d

/-- The body's normalised rows. -/
theorem pay43_apply (r : Fin 512) (d : Fin 1024) : k0_pay43 x0 x1 x2 x3 x4 x5 x6 x7 x8 (ix2 r d) = hrow x0 x1 r d := by
  unfold k0_pay43
  rw [View.ld_unit_lit _ x0 (by decide), View.ld_unit_lit _ x1 (by decide)]
  exact pay4_apply x0 x1 r d

/-- The body's reordered rows. -/
theorem pay44_apply (r s : Fin 512) (d : Fin 1024) (hs : s.val = r.val / 256 * 256 + src (r.val % 256)) :
    k0_pay44 x0 x1 x2 x3 x4 x5 x6 x7 x8 (ix2 r d) = hrow x0 x1 s d := by
  unfold k0_pay44
  rw [pay8_apply _ r d s hs, pay43_apply]

/-- The keys of the stick-breaking attention in their order. -/
theorem out9_keys (r s : Fin 512) (E : Fin 3072) (hE : E.val < 512) (hs : s.val = r.val / 256 * 256 + src (r.val % 256)) :
    out0_9 x0 x1 x2 x3 x4 x5 x6 x7 x8 (ix2 r E) = ∑ d : Fin 1024, hrow x0 x1 s d * x2 (ix2 d E) := by
  unfold out0_9
  refine (canon_miss r0_14 _ _ (ix2 r E : S512x3072.Idx) (1 : Fin 2) rfl (by show E.val < 2560; omega)).trans ?_
  refine (canon_miss r0_12 _ _ (ix2 r E : S512x3072.Idx) (1 : Fin 2) rfl (by show E.val < 2048; omega)).trans ?_
  refine (canon_miss r0_10 _ _ (ix2 r E : S512x3072.Idx) (1 : Fin 2) rfl (by show E.val < 1536; omega)).trans ?_
  refine (canon_miss r0_8 _ _ (ix2 r E : S512x3072.Idx) (1 : Fin 2) rfl (by show E.val < 1024; omega)).trans ?_
  refine (canon_miss r0_6 _ _ (ix2 r E : S512x3072.Idx) (1 : Fin 2) rfl (by show E.val < 512; omega)).trans ?_
  refine (canon_hit r0_4 _ _ (ix2 r ⟨E.val, hE⟩ : S512x512.Idx) (ix2 r E : S512x3072.Idx) (fun a => match a with
    | ⟨0, _⟩ => by show r.val = 0 + 1 * r.val; omega
    | ⟨1, _⟩ => by show E.val = 0 + 1 * E.val; omega)).trans ?_
  refine (pay13_apply _ _ r ⟨E.val, hE⟩).trans (Finset.sum_congr rfl fun d _ => ?_)
  rw [pay44_apply x0 x1 x2 x3 x4 x5 x6 x7 x8 r s d hs, cols_rows x2 0 _ d ⟨E.val, hE⟩ E (by simp)]

/-- The keys of the differential attention, rotated. -/
theorem out9_rope (r : Fin 512) (E E' : Fin 3072) (hE : 512 ≤ E.val ∧ E.val < 1024) (hE' : E'.val = partner E.val) (c : Fin 128) (hc : c.val = E.val % 128) :
    out0_9 x0 x1 x2 x3 x4 x5 x6 x7 x8 (ix2 r E) = (∑ d : Fin 1024, hrow x0 x1 r d * x2 (ix2 d E)) * x5 (ix2 r c)
      + (∑ d : Fin 1024, hrow x0 x1 r d * x2 (ix2 d E')) * x6 (ix2 r c) := by
  unfold partner at hE'
  unfold out0_9
  refine (canon_miss r0_14 _ _ (ix2 r E : S512x3072.Idx) (1 : Fin 2) rfl (by show E.val < 2560; omega)).trans ?_
  refine (canon_miss r0_12 _ _ (ix2 r E : S512x3072.Idx) (1 : Fin 2) rfl (by show E.val < 2048; omega)).trans ?_
  refine (canon_miss r0_10 _ _ (ix2 r E : S512x3072.Idx) (1 : Fin 2) rfl (by show E.val < 1536; omega)).trans ?_
  refine (canon_miss r0_8 _ _ (ix2 r E : S512x3072.Idx) (1 : Fin 2) rfl (by show E.val < 1024; omega)).trans ?_
  refine (canon_hit r0_6 _ _ (ix2 r ⟨E.val - 512, by omega⟩ : S512x512.Idx) (ix2 r E : S512x3072.Idx) (fun a => match a with
    | ⟨0, _⟩ => by show r.val = 0 + 1 * r.val; omega
    | ⟨1, _⟩ => by show E.val = 512 + 1 * (E.val - 512); omega)).trans ?_
  unfold k0_pay45 k0_pay46
  refine (pay20_apply _ _ _ _ r ⟨E.val - 512, by omega⟩ ⟨E'.val - 512, by omega⟩ c (by show c.val = (E.val - 512) % 128; omega)
    (by unfold partner; show E'.val - 512 = (E.val - 512) / 64 * 64 + ((E.val - 512) % 64 + 32) % 64; omega)).trans ?_
  rw [View.ld_unit_lit _ x5 (by decide), View.ld_unit_lit _ x6 (by decide), pay14_apply, pay14_apply]
  simp only [pay43_apply]
  have e1 : ∀ d, View.ld x2 r0_5 (ix2 d ⟨E.val - 512, by omega⟩ : S1024x512.Idx) = x2 (ix2 d E) := fun d =>
    cols_rows x2 512 _ d _ E (by show E.val = 512 + (E.val - 512); omega)
  have e2 : ∀ d, View.ld x2 r0_5 (ix2 d ⟨E'.val - 512, by omega⟩ : S1024x512.Idx) = x2 (ix2 d E') := fun d =>
    cols_rows x2 512 _ d _ E' (by show E'.val = 512 + (E'.val - 512); omega)
  simp only [e1, e2]

/-- The gates. -/
theorem out9_gates (r : Fin 512) (E : Fin 3072) (hE : 1024 ≤ E.val) :
    out0_9 x0 x1 x2 x3 x4 x5 x6 x7 x8 (ix2 r E) = ∑ d : Fin 1024, hrow x0 x1 r d * x2 (ix2 d E) := by
  have hlt := E.isLt
  have fin : ∀ (o : ℕ) (inb) (e : Fin 512), E.val = o + e.val →
      k0_pay21 (k0_pay43 x0 x1 x2 x3 x4 x5 x6 x7 x8) (View.ld x2 (Rect.unit (s := S1024x3072) ![0, o] S1024x512.size inb)) (ix2 r e)
        = ∑ d : Fin 1024, hrow x0 x1 r d * x2 (ix2 d E) := by
    intro o inb e he
    refine (pay21_apply _ _ r e).trans (Finset.sum_congr rfl fun d _ => ?_)
    rw [pay43_apply, cols_rows x2 o inb d e E he]
  unfold out0_9
  by_cases h4 : 2560 ≤ E.val
  · refine (canon_hit r0_14 _ _ (ix2 r ⟨E.val - 2560, by omega⟩ : S512x512.Idx) (ix2 r E : S512x3072.Idx) (fun a => match a with
      | ⟨0, _⟩ => by show r.val = 0 + 1 * r.val; omega
      | ⟨1, _⟩ => by show E.val = 2560 + 1 * (E.val - 2560); omega)).trans ?_
    exact fin 2560 _ _ (by show E.val = 2560 + (E.val - 2560); omega)
  refine (canon_miss r0_14 _ _ (ix2 r E : S512x3072.Idx) (1 : Fin 2) rfl (by show E.val < 2560; omega)).trans ?_
  by_cases h3 : 2048 ≤ E.val
  · refine (canon_hit r0_12 _ _ (ix2 r ⟨E.val - 2048, by omega⟩ : S512x512.Idx) (ix2 r E : S512x3072.Idx) (fun a => match a with
      | ⟨0, _⟩ => by show r.val = 0 + 1 * r.val; omega
      | ⟨1, _⟩ => by show E.val = 2048 + 1 * (E.val - 2048); omega)).trans ?_
    exact fin 2048 _ _ (by show E.val = 2048 + (E.val - 2048); omega)
  refine (canon_miss r0_12 _ _ (ix2 r E : S512x3072.Idx) (1 : Fin 2) rfl (by show E.val < 2048; omega)).trans ?_
  by_cases h2 : 1536 ≤ E.val
  · refine (canon_hit r0_10 _ _ (ix2 r ⟨E.val - 1536, by omega⟩ : S512x512.Idx) (ix2 r E : S512x3072.Idx) (fun a => match a with
      | ⟨0, _⟩ => by show r.val = 0 + 1 * r.val; omega
      | ⟨1, _⟩ => by show E.val = 1536 + 1 * (E.val - 1536); omega)).trans ?_
    exact fin 1536 _ _ (by show E.val = 1536 + (E.val - 1536); omega)
  refine (canon_miss r0_10 _ _ (ix2 r E : S512x3072.Idx) (1 : Fin 2) rfl (by show E.val < 1536; omega)).trans ?_
  refine (canon_hit r0_8 _ _ (ix2 r ⟨E.val - 1024, by omega⟩ : S512x512.Idx) (ix2 r E : S512x3072.Idx) (fun a => match a with
    | ⟨0, _⟩ => by show r.val = 0 + 1 * r.val; omega
    | ⟨1, _⟩ => by show E.val = 1024 + 1 * (E.val - 1024); omega)).trans ?_
  exact fin 1024 _ _ (by show E.val = 1024 + (E.val - 1024); omega)

/-- The queries of the differential attention, rotated. -/
theorem out10_rope (z : Fin 1) (r : Fin 512) (E E' : Fin 1024) (hE : E.val < 512) (hE' : E'.val = partner E.val) (c : Fin 64) (hc : c.val = E.val % 64) :
    out0_10 x0 x1 x2 x3 x4 x5 x6 x7 x8 (ix3 z E r) = (∑ d : Fin 1024, hrow x0 x1 r d * x3 (ix2 d E)) * x7 (ix2 c r)
      + (∑ d : Fin 1024, hrow x0 x1 r d * x3 (ix2 d E')) * x8 (ix2 c r) := by
  have hz := z.isLt
  have hp : partner E.val < 512 := by unfold partner; omega
  unfold out0_10
  refine (canon_miss r0_19 _ _ (ix3 z E r : S1x1024x512.Idx) (1 : Fin 3) rfl (by show E.val < 512; omega)).trans ?_
  refine (canon_hit r0_17 _ _ (ix3 z ⟨E.val, hE⟩ r : S1x512x512.Idx) (ix3 z E r : S1x1024x512.Idx) (fun a => match a with
    | ⟨0, _⟩ => by show z.val = 0 + 1 * z.val; omega
    | ⟨1, _⟩ => by show E.val = 0 + 1 * E.val; omega
    | ⟨2, _⟩ => by show r.val = 0 + 1 * r.val; omega)).trans ?_
  refine (pay37_apply _ _ _ _ z ⟨E.val, hE⟩ ⟨E'.val, by omega⟩ r c hc hE').trans ?_
  unfold k0_pay47
  rw [View.ld_unit_lit _ x7 (by decide), View.ld_unit_lit _ x8 (by decide), pay26_apply, pay26_apply]
  simp only [pay43_apply]
  have e1 : ∀ d, k0_pay25 (View.ld x3 r0_15) (ix2 d ⟨E.val, hE⟩ : S1024x512.Idx) = x3 (ix2 d E) := fun d => by
    unfold k0_pay25
    pointwise []
  have e2 : ∀ d, k0_pay25 (View.ld x3 r0_15) (ix2 d ⟨E'.val, by omega⟩ : S1024x512.Idx) = x3 (ix2 d E') := fun d => by
    unfold k0_pay25
    pointwise []
  simp only [e1, e2]

/-- Its values. -/
theorem out10_vals (z : Fin 1) (r : Fin 512) (E : Fin 1024) (hE : 512 ≤ E.val) :
    out0_10 x0 x1 x2 x3 x4 x5 x6 x7 x8 (ix3 z E r) = ∑ d : Fin 1024, hrow x0 x1 r d * x3 (ix2 d E) := by
  have hz := z.isLt
  unfold out0_10
  refine (canon_hit r0_19 _ _ (ix3 z ⟨E.val - 512, by omega⟩ r : S1x512x512.Idx) (ix3 z E r : S1x1024x512.Idx) (fun a => match a with
    | ⟨0, _⟩ => by show z.val = 0 + 1 * z.val; omega
    | ⟨1, _⟩ => by show E.val = 512 + 1 * (E.val - 512); omega
    | ⟨2, _⟩ => by show r.val = 0 + 1 * r.val; omega)).trans ?_
  refine (pay38_apply _ _ z _ r).trans (Finset.sum_congr rfl fun d _ => ?_)
  rw [pay43_apply, cols_feat x3 512 _ d _ E (by show E.val = 512 + (E.val - 512); omega)]

/-- The queries of the stick-breaking attention, scaled. -/
theorem out11_q (z : Fin 2) (y : Fin 256) (r : Fin 512) (hr : r.val = 256 * z.val + y.val) (E : Fin 1024) (hE : E.val < 512) :
    out0_11 x0 x1 x2 x3 x4 x5 x6 x7 x8 (ix3 z E y)
      = (∑ d : Fin 1024, hrow x0 x1 r d * x4 (ix2 d E)) * (((Real.log 2)⁻¹ * 8⁻¹ : ℝ) : EReal) := by
  have hz := z.isLt
  have fin : k0_pay39 (k0_pay43 x0 x1 x2 x3 x4 x5 x6 x7 x8) (View.ld x4 r0_15) (ix2 ⟨E.val, hE⟩ r : S512x512.Idx)
      = (∑ d : Fin 1024, hrow x0 x1 r d * x4 (ix2 d E)) * (((Real.log 2)⁻¹ * 8⁻¹ : ℝ) : EReal) := by
    rw [pay39_apply]
    congr 1
    refine Finset.sum_congr rfl fun d _ => ?_
    rw [pay43_apply, cols_feat x4 0 _ d _ E (by simp)]
  unfold out0_11
  refine (canon_miss r0_23 _ _ (ix3 z E y : S2x1024x256.Idx) (1 : Fin 3) rfl (by show E.val < 512; omega)).trans ?_
  by_cases h : z.val = 1
  · refine (canon_hit r0_22 _ _ (ix3 0 ⟨E.val, hE⟩ y : S1x512x256.Idx) (ix3 z E y : S2x1024x256.Idx) (fun a => match a with
      | ⟨0, _⟩ => by show z.val = 1 + 1 * 0; omega
      | ⟨1, _⟩ => by show E.val = 0 + 1 * E.val; omega
      | ⟨2, _⟩ => by show y.val = 0 + 1 * y.val; omega)).trans ?_
    exact (pay2_apply _ 0 _ y r (by omega)).trans fin
  refine (canon_miss r0_22 _ _ (ix3 z E y : S2x1024x256.Idx) (0 : Fin 3) rfl (by show z.val < 1; omega)).trans ?_
  refine (canon_miss r0_21 _ _ (ix3 z E y : S2x1024x256.Idx) (1 : Fin 3) rfl (by show E.val < 512; omega)).trans ?_
  refine (canon_hit r0_20 _ _ (ix3 0 ⟨E.val, hE⟩ y : S1x512x256.Idx) (ix3 z E y : S2x1024x256.Idx) (fun a => match a with
    | ⟨0, _⟩ => by show z.val = 0 + 1 * 0; omega
    | ⟨1, _⟩ => by show E.val = 0 + 1 * E.val; omega
    | ⟨2, _⟩ => by show y.val = 0 + 1 * y.val; omega)).trans ?_
  exact (pay41_apply _ _ 0 _ y r (by omega)).trans fin

/-- Its values in their order. -/
theorem out11_v (z : Fin 2) (y : Fin 256) (s : Fin 512) (hs : s.val = 256 * z.val + src y.val) (E : Fin 1024) (hE : 512 ≤ E.val) :
    out0_11 x0 x1 x2 x3 x4 x5 x6 x7 x8 (ix3 z E y) = ∑ d : Fin 1024, hrow x0 x1 s d * x4 (ix2 d E) := by
  have hz := z.isLt
  have hy := y.isLt
  have fin : k0_pay40 (k0_pay44 x0 x1 x2 x3 x4 x5 x6 x7 x8) (View.ld x4 r0_18) (ix2 ⟨E.val - 512, by omega⟩ ⟨256 * z.val + y.val, by omega⟩ : S512x512.Idx)
      = ∑ d : Fin 1024, hrow x0 x1 s d * x4 (ix2 d E) := by
    rw [pay40_apply]
    refine Finset.sum_congr rfl fun d _ => ?_
    rw [pay44_apply x0 x1 x2 x3 x4 x5 x6 x7 x8 _ s d (by
        show s.val = (256 * z.val + y.val) / 256 * 256 + src ((256 * z.val + y.val) % 256)
        rw [show (256 * z.val + y.val) % 256 = y.val by omega]; omega),
      cols_feat x4 512 _ d _ E (by show E.val = 512 + (E.val - 512); omega)]
  unfold out0_11
  by_cases h : z.val = 1
  · refine (canon_hit r0_23 _ _ (ix3 0 ⟨E.val - 512, by omega⟩ y : S1x512x256.Idx) (ix3 z E y : S2x1024x256.Idx) (fun a => match a with
      | ⟨0, _⟩ => by show z.val = 1 + 1 * 0; omega
      | ⟨1, _⟩ => by show E.val = 512 + 1 * (E.val - 512); omega
      | ⟨2, _⟩ => by show y.val = 0 + 1 * y.val; omega)).trans ?_
    exact (pay3_apply _ 0 _ y _ (by show 256 * z.val + y.val = _; omega)).trans fin
  refine (canon_miss r0_23 _ _ (ix3 z E y : S2x1024x256.Idx) (0 : Fin 3) rfl (by show z.val < 1; omega)).trans ?_
  refine (canon_miss r0_22 _ _ (ix3 z E y : S2x1024x256.Idx) (0 : Fin 3) rfl (by show z.val < 1; omega)).trans ?_
  refine (canon_hit r0_21 _ _ (ix3 0 ⟨E.val - 512, by omega⟩ y : S1x512x256.Idx) (ix3 z E y : S2x1024x256.Idx) (fun a => match a with
    | ⟨0, _⟩ => by show z.val = 0 + 1 * 0; omega
    | ⟨1, _⟩ => by show E.val = 512 + 1 * (E.val - 512); omega
    | ⟨2, _⟩ => by show y.val = 0 + 1 * y.val; omega)).trans ?_
  exact (pay1_apply _ _ 0 _ y _ (by show 256 * z.val + y.val = _; omega)).trans fin

end

end Cert.ProjectionIdeal.Proof
-- ==== Proof.ProjBlocks.lean ====
module

public import proofs.«01_k».proof.Proof.ProjOut
public import proofs.«01_k».proof.Proof.Gen.ProjectionIdeal.Value
public import Idealize.ShloMosaic.Lib.Pipeline.ValueKit
public import Idealize.ShloMosaic.Lib.Claim

/-! The blocks that a grid point of the in-projection fetches, read as entries of the arguments. -/

@[expose] public section
set_option maxRecDepth 16384
noncomputable section
namespace Cert.ProjectionIdeal.Proof
open Cert.ProjectionIdeal Cert.ProjectionIdeal.Gen Idealize.ShloMosaic Idealize.ShloMosaic.TcCoe Idealize.SL.Sem
variable (m : (ℓ : Loc nD τ sig) → Buf (Elt Ideal) ℓ)

/-- The rows of the layer's input. -/
abbrev argX (c : Dev nD) : FVec Ideal S8x4096x1024 .f32 := m ((c.tc : Thread nD τ).loc main_arg0)
/-- The gains of its norm. -/
abbrev argG (c : Dev nD) : FVec Ideal S1x1024 .f32 := m ((c.tc : Thread nD τ).loc main_arg1)
/-- The weights. -/
abbrev argW (c : Dev nD) : FVec Ideal S1x1024x5120 .f32 := m ((c.tc : Thread nD τ).loc main_arg2)
/-- The cosines. -/
abbrev argC (c : Dev nD) : FVec Ideal S4096x64 .f32 := m ((c.tc : Thread nD τ).loc main_arg3)
/-- The sines. -/
abbrev argS (c : Dev nD) : FVec Ideal S4096x64 .f32 := m ((c.tc : Thread nD τ).loc main_arg4)

/-- The sines with the sign that the rotation gives them. -/
def signed (x : FVec Ideal S4096x64 .f32) : FVec Ideal S4096x64 .f32 :=
  concatenate S4096x64 1 [⟨S4096x32, Host.negf (extractStridedSlice S4096x32 ![0, 0] x slices_S4096x64_S4096x32_0_0)⟩,
    ⟨S4096x32, extractStridedSlice S4096x32 ![0, 32] x slices_S4096x64_S4096x32_0_32⟩] concatenates_S4096x32_S4096x32_S4096x64_d1

/-- A table, twice side by side. -/
def twice (x : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 x shapeCasts_S4096x64_S1x4096x1x64)) shapeCasts_S1x4096x2x64_S4096x128

/-- The weights as a matrix. -/
def mat (x : FVec Ideal S1x1024x5120 .f32) : FVec Ideal S1024x5120 .f32 := shapeCast S1024x5120 x shapeCasts_S1x1024x5120_S1024x5120

set_option maxHeartbeats 1000000 in
/-- The cosines as the kernel is given them. -/
theorem V6 (c : Dev nD) : V m c main_v6 = (twice (argC m c) : FVec Ideal S4096x128 .f32) := by
  unfold V
  after_results_simp
  rfl

set_option maxHeartbeats 1000000 in
/-- The sines as the kernel is given them. -/
theorem V9 (c : Dev nD) : V m c main_v9 = (twice (signed (argS m c)) : FVec Ideal S4096x128 .f32) := by
  unfold V
  after_results_simp
  rfl

set_option maxHeartbeats 1000000 in
/-- The cosines, turned. -/
theorem V10 (c : Dev nD) : V m c main_v10 = (transpose S64x4096 [1, 0] (argC m c) transposes_S4096x64_S64x4096_1_0 : FVec Ideal S64x4096 .f32) := by
  unfold V
  after_results_simp

set_option maxHeartbeats 1000000 in
/-- The sines, turned. -/
theorem V11 (c : Dev nD) : V m c main_v11 = (transpose S64x4096 [1, 0] (signed (argS m c)) transposes_S4096x64_S64x4096_1_0 : FVec Ideal S64x4096 .f32) := by
  unfold V
  after_results_simp
  rfl

set_option maxHeartbeats 1000000 in
/-- The weights of the rows. -/
theorem V24 (c : Dev nD) : V m c main_v24 = (truncf .bf16 (concatenate S1024x3072 1 [⟨S1024x512, extractStridedSlice S1024x512 ![0, 512] (mat (argW m c)) slices_S1024x5120_S1024x512_0_512⟩, ⟨S1024x512, extractStridedSlice S1024x512 ![0, 2048] (mat (argW m c)) slices_S1024x5120_S1024x512_0_2048⟩, ⟨S1024x1024, extractStridedSlice S1024x1024 ![0, 3072] (mat (argW m c)) slices_S1024x5120_S1024x1024_0_3072⟩, ⟨S1024x1024, extractStridedSlice S1024x1024 ![0, 4096] (mat (argW m c)) slices_S1024x5120_S1024x1024_0_4096⟩] concatenates_S1024x512_S1024x512_S1024x1024_S1024x1024_S1024x3072_d1) bitsLt_bf16_f32 : FVec Ideal S1024x3072 .bf16) := by
  unfold V
  after_results_simp
  rfl

set_option maxHeartbeats 1000000 in
/-- The weights of the differential attention's features. -/
theorem V25 (c : Dev nD) : V m c main_v25 = (truncf .bf16 (concatenate S1024x1024 1 [⟨S1024x512, extractStridedSlice S1024x512 ![0, 1536] (mat (argW m c)) slices_S1024x5120_S1024x512_0_1536⟩, ⟨S1024x512, extractStridedSlice S1024x512 ![0, 2560] (mat (argW m c)) slices_S1024x5120_S1024x512_0_2560⟩] concatenates_S1024x512_S1024x512_S1024x1024_d1) bitsLt_bf16_f32 : FVec Ideal S1024x1024 .bf16) := by
  unfold V
  after_results_simp
  rfl

set_option maxHeartbeats 1000000 in
/-- The weights of the stick-breaking attention's features. -/
theorem V26 (c : Dev nD) : V m c main_v26 = (truncf .bf16 (concatenate S1024x1024 1 [⟨S1024x512, extractStridedSlice S1024x512 ![0, 0] (mat (argW m c)) slices_S1024x5120_S1024x512_0_0⟩, ⟨S1024x512, extractStridedSlice S1024x512 ![0, 1024] (mat (argW m c)) slices_S1024x5120_S1024x512_0_1024⟩] concatenates_S1024x512_S1024x512_S1024x1024_d1) bitsLt_bf16_f32 : FVec Ideal S1024x1024 .bf16) := by
  unfold V
  after_results_simp
  rfl

set_option maxHeartbeats 1000000 in
/-- The rows as the kernel is given them. -/
theorem V27 (c : Dev nD) : V m c main_v27 = (shapeCast S32768x1024 (argX m c) shapeCasts_S8x4096x1024_S32768x1024 : FVec Ideal S32768x1024 .f32) := by
  unfold V
  after_results_simp
  rfl

set_option maxHeartbeats 1000000 in
/-- The gains as the kernel is given them. -/
theorem V29 (c : Dev nD) : V m c main_v29 = (broadcastInDim S1x1024 ![1] bcast_S1024_S1x1024_1 (shapeCast S1024 (argG m c) shapeCasts_S1x1024_S1024) : FVec Ideal S1x1024 .f32) := by
  unfold V
  after_results_simp
  rfl

/-- The matrix, read. -/
theorem mat_apply (x : FVec Ideal S1x1024x5120 .f32) (d : Fin 1024) (e : Fin 5120) : mat x (ix2 d e) = x (ix3 0 d e) := by
  unfold mat
  refine shapeCast_apply _ _ _ (ix3 0 d e) ?_
  rw [Shape.rowMajor_val_three, Shape.rowMajor_val_two]
  show ((0 : ℕ) * 1024 + d.val) * 5120 + e.val = d.val * 5120 + e.val
  omega

/-- The doubled table, read. -/
theorem twice_apply (x : FVec Ideal S4096x64 .f32) (s : Fin 4096) (e : Fin 128) (c : Fin 64) (hc : c.val = e.val % 64) :
    twice x (ix2 s e) = x (ix2 s c) := by
  unfold twice
  refine (shapeCast_apply _ _ _ (ix4 0 s ⟨e.val / 64, by omega⟩ c : S1x4096x2x64.Idx) ?_).trans ?_
  · rw [Shape.rowMajor_val_four, Shape.rowMajor_val_two]
    show (((0 : ℕ) * 4096 + s.val) * 2 + e.val / 64) * 64 + c.val = s.val * 128 + e.val
    omega
  · refine Eq.trans (b := shapeCast S1x4096x1x64 x shapeCasts_S4096x64_S1x4096x1x64 (ix4 0 s 0 c)) ?_ ?_
    · refine congrArg (shapeCast S1x4096x1x64 x shapeCasts_S4096x64_S1x4096x1x64) ?_
      funext a
      match a with
      | ⟨0, _⟩ => rfl
      | ⟨1, _⟩ => rfl
      | ⟨2, _⟩ => rfl
      | ⟨3, _⟩ => rfl
    · refine shapeCast_apply _ _ _ (ix2 s c) ?_
      rw [Shape.rowMajor_val_four, Shape.rowMajor_val_two]
      show s.val * 64 + c.val = (((0 : ℕ) * 4096 + s.val) * 1 + 0) * 64 + c.val
      omega

/-- The signed sines, read. -/
theorem signed_apply (x : FVec Ideal S4096x64 .f32) (s : Fin 4096) (c : Fin 64) :
    signed x (ix2 s c) = if c.val < 32 then -x (ix2 s c) else x (ix2 s c) := by
  unfold signed
  pointwise []
  by_cases h : c.val < 32
  · rw [dif_pos h, if_pos h]
  · rw [dif_neg h, if_neg h]
    exact congrArg x (congrArg (ix2 s) (Fin.ext (by simp only <;> omega)))

/-- The weights of the rows, read. -/
theorem V24_at (c : Dev nD) (d : Fin 1024) (E : Fin 3072) (e : Fin 5120)
    (he : e.val = if E.val < 512 then 512 + E.val else if E.val < 1024 then 1536 + E.val else 2048 + E.val) :
    (V m c main_v24 : FVec Ideal S1024x3072 .bf16) (ix2 d E) = argW m c (ix3 0 d e) := by
  rw [V24, ← mat_apply (argW m c) d e]
  generalize mat (argW m c) = w
  pointwise []
  by_cases h : E.val < 512
  · rw [if_pos h] at he
    rw [dif_pos h]
    exact congrArg w (congrArg (ix2 d) (Fin.ext (by first | omega | (simp only <;> omega))))
  rw [if_neg h] at he
  rw [dif_neg h]
  by_cases h' : E.val < 1024
  · rw [if_pos h'] at he
    rw [dif_pos (by omega)]
    exact congrArg w (congrArg (ix2 d) (Fin.ext (by first | omega | (simp only <;> omega))))
  rw [if_neg h'] at he
  rw [dif_neg (by omega)]
  by_cases h'' : E.val - 512 - 512 < 1024
  · rw [dif_pos h'']
    exact congrArg w (congrArg (ix2 d) (Fin.ext (by first | omega | (simp only <;> omega))))
  · rw [dif_neg h'']
    exact congrArg w (congrArg (ix2 d) (Fin.ext (by first | omega | (simp only <;> omega))))

/-- The weights of the differential attention's features, read. -/
theorem V25_at (c : Dev nD) (d : Fin 1024) (E : Fin 1024) (e : Fin 5120)
    (he : e.val = if E.val < 512 then 1536 + E.val else 2048 + E.val) :
    (V m c main_v25 : FVec Ideal S1024x1024 .bf16) (ix2 d E) = argW m c (ix3 0 d e) := by
  rw [V25, ← mat_apply (argW m c) d e]
  generalize mat (argW m c) = w
  pointwise []
  by_cases h : E.val < 512
  · rw [if_pos h] at he
    rw [dif_pos h]
    exact congrArg w (congrArg (ix2 d) (Fin.ext (by first | omega | (simp only <;> omega))))
  · rw [if_neg h] at he
    rw [dif_neg h]
    exact congrArg w (congrArg (ix2 d) (Fin.ext (by first | omega | (simp only <;> omega))))

/-- The weights of the stick-breaking attention's features, read. -/
theorem V26_at (c : Dev nD) (d : Fin 1024) (E : Fin 1024) (e : Fin 5120)
    (he : e.val = if E.val < 512 then E.val else 512 + E.val) :
    (V m c main_v26 : FVec Ideal S1024x1024 .bf16) (ix2 d E) = argW m c (ix3 0 d e) := by
  rw [V26, ← mat_apply (argW m c) d e]
  generalize mat (argW m c) = w
  pointwise []
  by_cases h : E.val < 512
  · rw [if_pos h] at he
    rw [dif_pos h]
    exact congrArg w (congrArg (ix2 d) (Fin.ext (by first | omega | (simp only <;> omega))))
  · rw [if_neg h] at he
    rw [dif_neg h]
    exact congrArg w (congrArg (ix2 d) (Fin.ext (by first | omega | (simp only <;> omega))))

/-- The rows, read. -/
theorem V27_at (c : Dev nD) (a : Fin 32768) (d : Fin 1024) (b : Fin 8) (s : Fin 4096) (ha : a.val = b.val * 4096 + s.val) :
    (V m c main_v27 : FVec Ideal S32768x1024 .f32) (ix2 a d) = argX m c (ix3 b s d) := by
  rw [V27]
  refine shapeCast_apply _ _ _ (ix3 b s d) ?_
  rw [Shape.rowMajor_val_three, Shape.rowMajor_val_two]
  show (b.val * 4096 + s.val) * 1024 + d.val = a.val * 1024 + d.val
  omega

/-- The gains, read. -/
theorem V29_at (c : Dev nD) (z : Fin 1) (d : Fin 1024) :
    (V m c main_v29 : FVec Ideal S1x1024 .f32) (ix2 z d) = argG m c (ix2 0 d) := by
  rw [V29]
  pointwise []

/-- Where the blocks of the windows lie. -/
theorem idx : ∀ t : Fin cfg0.N, win0_0.index t = ![t.val, 0] ∧ win0_1.index t = ![0, 0] ∧ win0_2.index t = ![0, 0] ∧ win0_3.index t = ![0, 0]
   ∧ win0_4.index t = ![0, 0] ∧ win0_5.index t = ![t.val % 8, 0] ∧ win0_6.index t = ![t.val % 8, 0] ∧ win0_7.index t = ![0, t.val % 8]
   ∧ win0_8.index t = ![0, t.val % 8] ∧ win0_9.index t = ![t.val, 0] ∧ win0_10.index t = ![t.val, 0, 0] ∧ win0_11.index t = ![t.val, 0, 0] :=
  (by decide +kernel : ∀ t : Fin grid0.N, _)

/-- Where block 0 lies in its array. -/
theorem emb0 (t : Fin cfg0.N) (r : Fin 512) (d : Fin 1024) (a : Fin 32768) (ha : a.val = t.val * 512 + r.val) :
    ((cfg0.win 0).blk t).view.emb (ix2 r d) = (ix2 a d : S32768x1024.Idx) := by
  blk_ext [idx t]

/-- Where block 1 lies in its array. -/
theorem emb1 (t : Fin cfg0.N) (z : Fin 1) (d : Fin 1024) : ((cfg0.win 1).blk t).view.emb (ix2 z d) = (ix2 z d : S1x1024.Idx) := by
  blk_ext [idx t]

/-- Where block 2 lies in its array. -/
theorem emb2 (t : Fin cfg0.N) (d : Fin 1024) (E : Fin 3072) : ((cfg0.win 2).blk t).view.emb (ix2 d E) = (ix2 d E : S1024x3072.Idx) := by
  blk_ext [idx t]

/-- Where block 3 lies in its array. -/
theorem emb3 (t : Fin cfg0.N) (d E : Fin 1024) : ((cfg0.win 3).blk t).view.emb (ix2 d E) = (ix2 d E : S1024x1024.Idx) := by
  blk_ext [idx t]

/-- Where block 4 lies in its array. -/
theorem emb4 (t : Fin cfg0.N) (d E : Fin 1024) : ((cfg0.win 4).blk t).view.emb (ix2 d E) = (ix2 d E : S1024x1024.Idx) := by
  blk_ext [idx t]

/-- Where block 5 lies in its array. -/
theorem emb5 (t : Fin cfg0.N) (r : Fin 512) (e : Fin 128) (s : Fin 4096) (hs : s.val = t.val % 8 * 512 + r.val) :
    ((cfg0.win 5).blk t).view.emb (ix2 r e) = (ix2 s e : S4096x128.Idx) := by
  blk_ext [idx t]

/-- Where block 6 lies in its array. -/
theorem emb6 (t : Fin cfg0.N) (r : Fin 512) (e : Fin 128) (s : Fin 4096) (hs : s.val = t.val % 8 * 512 + r.val) :
    ((cfg0.win 6).blk t).view.emb (ix2 r e) = (ix2 s e : S4096x128.Idx) := by
  blk_ext [idx t]

/-- Where block 7 lies in its array. -/
theorem emb7 (t : Fin cfg0.N) (e : Fin 64) (r : Fin 512) (s : Fin 4096) (hs : s.val = t.val % 8 * 512 + r.val) :
    ((cfg0.win 7).blk t).view.emb (ix2 e r) = (ix2 e s : S64x4096.Idx) := by
  blk_ext [idx t]

/-- Where block 8 lies in its array. -/
theorem emb8 (t : Fin cfg0.N) (e : Fin 64) (r : Fin 512) (s : Fin 4096) (hs : s.val = t.val % 8 * 512 + r.val) :
    ((cfg0.win 8).blk t).view.emb (ix2 e r) = (ix2 e s : S64x4096.Idx) := by
  blk_ext [idx t]

/-- Where the written block of rows lies. -/
theorem emb9 (t : Fin cfg0.N) (r : Fin 512) (E : Fin 3072) (a : Fin 32768) (ha : a.val = t.val * 512 + r.val) :
    ((cfg0.win 9).blk t).view.emb (ix2 r E) = (ix2 a E : S32768x3072.Idx) := by
  blk_ext [idx t]

/-- Where the written block of the differential attention lies. -/
theorem emb10 (t : Fin cfg0.N) (z : Fin 1) (E : Fin 1024) (r : Fin 512) (a : Fin 64) (ha : a.val = t.val) :
    ((cfg0.win 10).blk t).view.emb (ix3 z E r) = (ix3 a E r : S64x1024x512.Idx) := by
  blk_ext [idx t]

/-- Where the written block of the stick-breaking attention lies. -/
theorem emb11 (t : Fin cfg0.N) (z : Fin 2) (E : Fin 1024) (r : Fin 256) (a : Fin 128) (ha : a.val = t.val * 2 + z.val) :
    ((cfg0.win 11).blk t).view.emb (ix3 z E r) = (ix3 a E r : S128x1024x256.Idx) := by
  blk_ext [idx t]

/-- The block of the rows at a grid point. -/
theorem blk0_at (c : Dev nD) (t : Fin cfg0.N) (r : Fin 512) (d : Fin 1024) (b : Fin 8) (s : Fin 4096) (h : b.val * 4096 + s.val = t.val * 512 + r.val) :
   (iblk m c 0 t : FVec Ideal S512x1024 .f32) (ix2 r d) = argX m c (ix3 b s d) := by
  blk_simp [iblk]
  exact (congrArg (V m c main_v27) (emb0 t r d ⟨b.val * 4096 + s.val, by omega⟩ h)).trans (V27_at m c _ d b s rfl)

/-- The block of the gains. -/
theorem blk1_at (c : Dev nD) (t : Fin cfg0.N) (z : Fin 1) (d : Fin 1024) :
   (iblk m c 1 t : FVec Ideal S1x1024 .f32) (ix2 z d) = argG m c (ix2 0 d) := by
  blk_simp [iblk]
  exact (congrArg (V m c main_v29) (emb1 t z d)).trans (V29_at m c z d)

/-- The block of the weights of the rows. -/
theorem blk2_at (c : Dev nD) (t : Fin cfg0.N) (d : Fin 1024) (E : Fin 3072) (e : Fin 5120)
    (he : e.val = if E.val < 512 then 512 + E.val else if E.val < 1024 then 1536 + E.val else 2048 + E.val) :
   (iblk m c 2 t : FVec Ideal S1024x3072 .bf16) (ix2 d E) = argW m c (ix3 0 d e) := by
  blk_simp [iblk]
  exact (congrArg (V m c main_v24) (emb2 t d E)).trans (V24_at m c d E e he)

/-- The block of the weights of the differential attention's features. -/
theorem blk3_at (c : Dev nD) (t : Fin cfg0.N) (d E : Fin 1024) (e : Fin 5120) (he : e.val = if E.val < 512 then 1536 + E.val else 2048 + E.val) :
   (iblk m c 3 t : FVec Ideal S1024x1024 .bf16) (ix2 d E) = argW m c (ix3 0 d e) := by
  blk_simp [iblk]
  exact (congrArg (V m c main_v25) (emb3 t d E)).trans (V25_at m c d E e he)

/-- The block of the weights of the stick-breaking attention's features. -/
theorem blk4_at (c : Dev nD) (t : Fin cfg0.N) (d E : Fin 1024) (e : Fin 5120) (he : e.val = if E.val < 512 then E.val else 512 + E.val) :
   (iblk m c 4 t : FVec Ideal S1024x1024 .bf16) (ix2 d E) = argW m c (ix3 0 d e) := by
  blk_simp [iblk]
  exact (congrArg (V m c main_v26) (emb4 t d E)).trans (V26_at m c d E e he)

/-- The block of the cosines. -/
theorem blk5_at (c : Dev nD) (t : Fin cfg0.N) (r : Fin 512) (e : Fin 128) (k : Fin 64) (s : Fin 4096) (hs : s.val = t.val % 8 * 512 + r.val) (hk : k.val = e.val % 64) :
   (iblk m c 5 t : FVec Ideal S512x128 .f32) (ix2 r e) = argC m c (ix2 s k) := by
  blk_simp [iblk]
  exact ((congrArg (V m c main_v6) (emb5 t r e s hs)).trans (congrFun (V6 m c) _)).trans (twice_apply _ s e k hk)

/-- The block of the sines. -/
theorem blk6_at (c : Dev nD) (t : Fin cfg0.N) (r : Fin 512) (e : Fin 128) (k : Fin 64) (s : Fin 4096) (hs : s.val = t.val % 8 * 512 + r.val) (hk : k.val = e.val % 64) :
   (iblk m c 6 t : FVec Ideal S512x128 .f32) (ix2 r e) = if k.val < 32 then -argS m c (ix2 s k) else argS m c (ix2 s k) := by
  blk_simp [iblk]
  exact ((congrArg (V m c main_v9) (emb6 t r e s hs)).trans (congrFun (V9 m c) _)).trans ((twice_apply _ s e k hk).trans (signed_apply _ s k))

/-- The block of the cosines, turned. -/
theorem blk7_at (c : Dev nD) (t : Fin cfg0.N) (k : Fin 64) (r : Fin 512) (s : Fin 4096) (hs : s.val = t.val % 8 * 512 + r.val) :
   (iblk m c 7 t : FVec Ideal S64x512 .f32) (ix2 k r) = argC m c (ix2 s k) := by
  blk_simp [iblk]
  exact ((congrArg (V m c main_v10) (emb7 t k r s hs)).trans (congrFun (V10 m c) _)).trans
    (transpose_apply _ _ _ _ (ix2 s k) (fun b' => match b' with | ⟨0, _⟩ => rfl | ⟨1, _⟩ => rfl))

/-- The block of the sines, turned. -/
theorem blk8_at (c : Dev nD) (t : Fin cfg0.N) (k : Fin 64) (r : Fin 512) (s : Fin 4096) (hs : s.val = t.val % 8 * 512 + r.val) :
   (iblk m c 8 t : FVec Ideal S64x512 .f32) (ix2 k r) = if k.val < 32 then -argS m c (ix2 s k) else argS m c (ix2 s k) := by
  blk_simp [iblk]
  exact ((congrArg (V m c main_v11) (emb8 t k r s hs)).trans (congrFun (V11 m c) _)).trans
    ((transpose_apply _ _ _ _ (ix2 s k) (fun b' => match b' with | ⟨0, _⟩ => rfl | ⟨1, _⟩ => rfl)).trans (signed_apply _ s k))

end Cert.ProjectionIdeal.Proof
-- ==== Proof.ProjEntries.lean ====
module

public import proofs.«01_k».proof.Proof.ProjBlocks

/-! The three results of the in-projection, entry by entry, from the arguments. -/

@[expose] public section
set_option maxRecDepth 16384
noncomputable section
namespace Cert.ProjectionIdeal.Proof
open Cert.ProjectionIdeal Cert.ProjectionIdeal.Gen Cert.ProjectionIdeal.Value Idealize.ShloMosaic Idealize.ShloMosaic.TcCoe Idealize.SL.Sem

/-- A projection of the normalised row of position `s` of batch entry `b`: column `e` of the weights. -/
def pj (x : Fin 8 → Fin 4096 → Fin 1024 → EReal) (g : Fin 1024 → EReal) (w : Fin 1024 → Fin 5120 → EReal)
    (b : Fin 8) (s : Fin 4096) (e : Fin 5120) : EReal := ∑ d : Fin 1024, hn (x b s) g d * w d e

/-- The rotation of an entry `p` with its partner `q` by an angle: lane `k` of a head. -/
def turned (p q cosine sine : EReal) (k : Fin 64) : EReal := p * cosine + q * if k.val < 32 then -sine else sine

variable (m : (ℓ : Loc nD τ sig) → Buf (Elt Ideal) ℓ)

/-- The projections of the arguments. -/
def pjm (c : Dev nD) (b : Fin 8) (s : Fin 4096) (e : Fin 5120) : EReal :=
  pj (fun b s k => argX m c (ix3 b s k)) (fun k => argG m c (ix2 0 k)) (fun d e => argW m c (ix3 0 d e)) b s e

/-- The rotated entries of the arguments. -/
def turnedm (c : Dev nD) (b : Fin 8) (s : Fin 4096) (e e' : Fin 5120) (k : Fin 64) : EReal :=
  turned (pjm m c b s e) (pjm m c b s e') (argC m c (ix2 s k)) (argS m c (ix2 s k)) k

/-- The normalised rows of a grid point. -/
theorem hrow_at (c : Dev nD) (t : Fin cfg0.N) (r : Fin 512) (d : Fin 1024) (b : Fin 8) (s : Fin 4096) (h : b.val * 4096 + s.val = t.val * 512 + r.val) :
    hrow (iblk m c 0 t) (iblk m c 1 t) r d = hn (fun k => argX m c (ix3 b s k)) (fun k => argG m c (ix2 0 k)) d := by
  unfold hrow
  rw [show (fun k => iblk m c 0 t (ix2 r k)) = fun k => argX m c (ix3 b s k) from funext fun k => blk0_at m c t r k b s h,
    show (fun k => iblk m c 1 t (ix2 0 k)) = fun k => argG m c (ix2 0 k) from funext fun k => blk1_at m c t 0 k]

/-- An entry of the rows is one of a block. -/
theorem arr9_at (c : Dev nD) (t : Fin cfg0.N) (r : Fin 512) (E : Fin 3072) (a : Fin 32768) (ha : a.val = t.val * 512 + r.val) :
    ((dats m 0 c).arrAt 9 cfg0.N : FVec Ideal S32768x3072 .bf16) (ix2 a E)
      = out0_9 (iblk m c 0 t) (iblk m c 1 t) (iblk m c 2 t) (iblk m c 3 t) (iblk m c 4 t) (iblk m c 5 t) (iblk m c 6 t) (iblk m c 7 t) (iblk m c 8 t) (ix2 r E) :=
  ((congrArg ((dats m 0 c).arrAt 9 cfg0.N : FVec Ideal S32768x3072 .bf16) (emb9 t r E a ha)).symm.trans
    (congrFun (blocks9 m c t (flush0_9 t)) (ix2 r E))).trans (congrFun (flushed9 m c t) (ix2 r E))

/-- An entry of the differential attention's features is one of a block. -/
theorem arr10_at (c : Dev nD) (t : Fin cfg0.N) (r : Fin 512) (E : Fin 1024) (a : Fin 64) (ha : a.val = t.val) :
    ((dats m 0 c).arrAt 10 cfg0.N : FVec Ideal S64x1024x512 .bf16) (ix3 a E r)
      = out0_10 (iblk m c 0 t) (iblk m c 1 t) (iblk m c 2 t) (iblk m c 3 t) (iblk m c 4 t) (iblk m c 5 t) (iblk m c 6 t) (iblk m c 7 t) (iblk m c 8 t) (ix3 0 E r) :=
  ((congrArg ((dats m 0 c).arrAt 10 cfg0.N : FVec Ideal S64x1024x512 .bf16) (emb10 t 0 E r a ha)).symm.trans
    (congrFun (blocks10 m c t (flush0_10 t)) (ix3 0 E r))).trans (congrFun (flushed10 m c t) (ix3 0 E r))

/-- An entry of the stick-breaking attention's features is one of a block. -/
theorem arr11_at (c : Dev nD) (t : Fin cfg0.N) (z : Fin 2) (y : Fin 256) (E : Fin 1024) (a : Fin 128) (ha : a.val = t.val * 2 + z.val) :
    ((dats m 0 c).arrAt 11 cfg0.N : FVec Ideal S128x1024x256 .bf16) (ix3 a E y)
      = out0_11 (iblk m c 0 t) (iblk m c 1 t) (iblk m c 2 t) (iblk m c 3 t) (iblk m c 4 t) (iblk m c 5 t) (iblk m c 6 t) (iblk m c 7 t) (iblk m c 8 t) (ix3 z E y) :=
  ((congrArg ((dats m 0 c).arrAt 11 cfg0.N : FVec Ideal S128x1024x256 .bf16) (emb11 t z E y a ha)).symm.trans
    (congrFun (blocks11 m c t (flush0_11 t)) (ix3 z E y))).trans (congrFun (flushed11 m c t) (ix3 z E y))

/-- A sum of the products of a projection. -/
theorem sum_pj (c : Dev nD) (b : Fin 8) (s : Fin 4096) (e : Fin 5120) (f w : Fin 1024 → EReal)
    (hf : ∀ d, f d = hn (fun k => argX m c (ix3 b s k)) (fun k => argG m c (ix2 0 k)) d) (hw : ∀ d, w d = argW m c (ix3 0 d e)) :
    ∑ d : Fin 1024, f d * w d = pjm m c b s e := by
  unfold pjm pj
  exact Finset.sum_congr rfl fun d _ => congrArg₂ (· * ·) (hf d) (hw d)

/-- A grid point by its number. -/
theorem point (n : ℕ) (h : n < 64) : ∃ t : Fin cfg0.N, t.val = n :=
  ⟨⟨n, by rw [show cfg0.N = 64 from N_0]; exact h⟩, rfl⟩

/-- The order of 256 rows stays within them. -/
theorem src_lt (n : ℕ) : src (n % 256) < 256 := by
  unfold src
  omega

/-- The keys of the stick-breaking attention, in their order. -/
theorem rows_keys (c : Dev nD) (b : Fin 8) (s s' : Fin 4096) (a : Fin 32768) (ha : a.val = b.val * 4096 + s.val) (E : Fin 3072) (hE : E.val < 512)
    (e : Fin 5120) (he : e.val = 512 + E.val) (hs : s'.val = s.val / 256 * 256 + src (s.val % 256)) :
    ((dats m 0 c).arrAt 9 cfg0.N : FVec Ideal S32768x3072 .bf16) (ix2 a E) = pjm m c b s' e := by
  have hb := b.isLt
  have h1 := s.isLt
  have h2 := src_lt s.val
  obtain ⟨t, ht⟩ := point (8 * b.val + s.val / 512) (by omega)
  obtain ⟨r, hr⟩ : ∃ r : Fin 512, r.val = s.val % 512 := ⟨⟨s.val % 512, by omega⟩, rfl⟩
  obtain ⟨q, hq⟩ : ∃ q : Fin 512, q.val = r.val / 256 * 256 + src (r.val % 256) :=
    ⟨⟨r.val / 256 * 256 + src (r.val % 256), by rw [show r.val % 256 = s.val % 256 by omega]; omega⟩, rfl⟩
  have hq' := hq
  rw [show r.val % 256 = s.val % 256 by omega] at hq'
  rw [arr9_at m c t r E a (by omega), out9_keys _ _ _ _ _ _ _ _ _ r q E hE hq]
  exact sum_pj m c _ _ _ _ _ (fun d => hrow_at m c t q d b s' (by omega)) (fun d => blk2_at m c t d E e (by rw [if_pos hE]; exact he))

/-- The keys of the differential attention, rotated. -/
theorem rows_rope (c : Dev nD) (b : Fin 8) (s : Fin 4096) (a : Fin 32768) (ha : a.val = b.val * 4096 + s.val) (E : Fin 3072) (hE : 512 ≤ E.val ∧ E.val < 1024)
    (e e' : Fin 5120) (k : Fin 64) (he : e.val = 1536 + E.val) (he' : e'.val = 1536 + partner E.val) (hk : k.val = E.val % 64) :
    ((dats m 0 c).arrAt 9 cfg0.N : FVec Ideal S32768x3072 .bf16) (ix2 a E) = turnedm m c b s e e' k := by
  have hb := b.isLt
  have h1 := s.isLt
  obtain ⟨E', hE'⟩ : ∃ E' : Fin 3072, E'.val = partner E.val := ⟨⟨partner E.val, by unfold partner; omega⟩, rfl⟩
  have hp : 512 ≤ E'.val ∧ E'.val < 1024 := by rw [hE']; unfold partner; omega
  obtain ⟨t, ht⟩ := point (8 * b.val + s.val / 512) (by omega)
  obtain ⟨r, hr⟩ : ∃ r : Fin 512, r.val = s.val % 512 := ⟨⟨s.val % 512, by omega⟩, rfl⟩
  obtain ⟨l, hl⟩ : ∃ l : Fin 128, l.val = E.val % 128 := ⟨⟨E.val % 128, by omega⟩, rfl⟩
  rw [arr9_at m c t r E a (by omega), out9_rope _ _ _ _ _ _ _ _ _ r E E' hE hE' l hl]
  refine congrArg₂ (· + ·) (congrArg₂ (· * ·) ?_ (blk5_at m c t r l k s (by omega) (by omega)))
    (congrArg₂ (· * ·) ?_ (blk6_at m c t r l k s (by omega) (by omega)))
  · exact sum_pj m c _ _ _ _ _ (fun d => hrow_at m c t r d b s (by omega)) (fun d => blk2_at m c t d E e (by rw [if_neg (by omega), if_pos (by omega)]; exact he))
  · exact sum_pj m c _ _ _ _ _ (fun d => hrow_at m c t r d b s (by omega)) (fun d => blk2_at m c t d E' e' (by rw [if_neg (by omega), if_pos (by omega)]; omega))

/-- The gates. -/
theorem rows_gates (c : Dev nD) (b : Fin 8) (s : Fin 4096) (a : Fin 32768) (ha : a.val = b.val * 4096 + s.val) (E : Fin 3072) (hE : 1024 ≤ E.val)
    (e : Fin 5120) (he : e.val = 2048 + E.val) :
    ((dats m 0 c).arrAt 9 cfg0.N : FVec Ideal S32768x3072 .bf16) (ix2 a E) = pjm m c b s e := by
  have hb := b.isLt
  have h1 := s.isLt
  obtain ⟨t, ht⟩ := point (8 * b.val + s.val / 512) (by omega)
  obtain ⟨r, hr⟩ : ∃ r : Fin 512, r.val = s.val % 512 := ⟨⟨s.val % 512, by omega⟩, rfl⟩
  rw [arr9_at m c t r E a (by omega), out9_gates _ _ _ _ _ _ _ _ _ r E hE]
  exact sum_pj m c _ _ _ _ _ (fun d => hrow_at m c t r d b s (by omega)) (fun d => blk2_at m c t d E e (by rw [if_neg (by omega), if_neg (by omega)]; exact he))

/-- The queries of the differential attention, rotated. -/
theorem diff_rope (c : Dev nD) (b : Fin 8) (s : Fin 4096) (a : Fin 64) (r : Fin 512) (ha : b.val * 4096 + s.val = a.val * 512 + r.val) (E : Fin 1024) (hE : E.val < 512)
    (e e' : Fin 5120) (k : Fin 64) (he : e.val = 1536 + E.val) (he' : e'.val = 1536 + partner E.val) (hk : k.val = E.val % 64) :
    ((dats m 0 c).arrAt 10 cfg0.N : FVec Ideal S64x1024x512 .bf16) (ix3 a E r) = turnedm m c b s e e' k := by
  have hb := b.isLt
  have h1 := s.isLt
  obtain ⟨E', hE'⟩ : ∃ E' : Fin 1024, E'.val = partner E.val := ⟨⟨partner E.val, by unfold partner; omega⟩, rfl⟩
  have hp : E'.val < 512 := by rw [hE']; unfold partner; omega
  obtain ⟨t, ht⟩ := point a.val a.isLt
  rw [arr10_at m c t r E a (by omega), out10_rope _ _ _ _ _ _ _ _ _ 0 r E E' hE hE' k hk]
  refine congrArg₂ (· + ·) (congrArg₂ (· * ·) ?_ (blk7_at m c t k r s (by omega)))
    (congrArg₂ (· * ·) ?_ (blk8_at m c t k r s (by omega)))
  · exact sum_pj m c _ _ _ _ _ (fun d => hrow_at m c t r d b s (by omega)) (fun d => blk3_at m c t d E e (by rw [if_pos hE]; exact he))
  · exact sum_pj m c _ _ _ _ _ (fun d => hrow_at m c t r d b s (by omega)) (fun d => blk3_at m c t d E' e' (by rw [if_pos hp]; omega))

/-- Its values. -/
theorem diff_vals (c : Dev nD) (b : Fin 8) (s : Fin 4096) (a : Fin 64) (r : Fin 512) (ha : b.val * 4096 + s.val = a.val * 512 + r.val) (E : Fin 1024) (hE : 512 ≤ E.val)
    (e : Fin 5120) (he : e.val = 2048 + E.val) :
    ((dats m 0 c).arrAt 10 cfg0.N : FVec Ideal S64x1024x512 .bf16) (ix3 a E r) = pjm m c b s e := by
  obtain ⟨t, ht⟩ := point a.val a.isLt
  rw [arr10_at m c t r E a (by omega), out10_vals _ _ _ _ _ _ _ _ _ 0 r E hE]
  exact sum_pj m c _ _ _ _ _ (fun d => hrow_at m c t r d b s (by omega)) (fun d => blk3_at m c t d E e (by rw [if_neg (by omega)]; exact he))

/-- The queries of the stick-breaking attention, scaled. -/
theorem stick_q (c : Dev nD) (b : Fin 8) (s : Fin 4096) (a : Fin 128) (y : Fin 256) (ha : b.val * 4096 + s.val = a.val * 256 + y.val) (E : Fin 1024) (hE : E.val < 512)
    (e : Fin 5120) (he : e.val = E.val) :
    ((dats m 0 c).arrAt 11 cfg0.N : FVec Ideal S128x1024x256 .bf16) (ix3 a E y) = pjm m c b s e * (((Real.log 2)⁻¹ * 8⁻¹ : ℝ) : EReal) := by
  have h0 := a.isLt
  obtain ⟨t, ht⟩ := point (a.val / 2) (by omega)
  obtain ⟨z, hz⟩ : ∃ z : Fin 2, z.val = a.val % 2 := ⟨⟨a.val % 2, by omega⟩, rfl⟩
  obtain ⟨r, hr⟩ : ∃ r : Fin 512, r.val = 256 * z.val + y.val := ⟨⟨256 * z.val + y.val, by omega⟩, rfl⟩
  rw [arr11_at m c t z y E a (by omega), out11_q _ _ _ _ _ _ _ _ _ z y r hr E hE]
  refine congrArg (· * (((Real.log 2)⁻¹ * 8⁻¹ : ℝ) : EReal)) ?_
  exact sum_pj m c _ _ _ _ _ (fun d => hrow_at m c t r d b s (by omega)) (fun d => blk4_at m c t d E e (by rw [if_pos hE]; exact he))

/-- Its values, in their order. -/
theorem stick_v (c : Dev nD) (b : Fin 8) (s' : Fin 4096) (a : Fin 128) (y : Fin 256) (ha : b.val * 4096 + s'.val = a.val * 256 + src y.val) (E : Fin 1024) (hE : 512 ≤ E.val)
    (e : Fin 5120) (he : e.val = 512 + E.val) :
    ((dats m 0 c).arrAt 11 cfg0.N : FVec Ideal S128x1024x256 .bf16) (ix3 a E y) = pjm m c b s' e := by
  have h0 := a.isLt
  have h2 := src_lt y.val
  rw [show y.val % 256 = y.val by omega] at h2
  obtain ⟨t, ht⟩ := point (a.val / 2) (by omega)
  obtain ⟨z, hz⟩ : ∃ z : Fin 2, z.val = a.val % 2 := ⟨⟨a.val % 2, by omega⟩, rfl⟩
  obtain ⟨r, hr⟩ : ∃ r : Fin 512, r.val = 256 * z.val + src y.val := ⟨⟨256 * z.val + src y.val, by omega⟩, rfl⟩
  rw [arr11_at m c t z y E a (by omega), out11_v _ _ _ _ _ _ _ _ _ z y r hr E hE]
  exact sum_pj m c _ _ _ _ _ (fun d => hrow_at m c t r d b s' (by omega)) (fun d => blk4_at m c t d E e (by rw [if_neg (by omega)]; exact he))

end Cert.ProjectionIdeal.Proof
-- ==== Proof.ProjStages.lean ====
module

public import proofs.«01_k».proof.Proof.Gen.ProjReferenceIdeal.Run
public import proofs.«01_k».proof.Proof.ProjEntries
public import Idealize.ShloMosaic.Lib.Pointwise

/-! The reference of the in-projection in stages, each a function of arrays. -/

@[expose] public section
set_option maxRecDepth 16384
noncomputable section
open Cert.ProjReferenceIdeal Cert.ProjReferenceIdeal.Gen Idealize.ShloMosaic Idealize.ShloMosaic.TcCoe Idealize.SL.Sem
namespace Cert.ProjReferenceIdeal.Proof
open Cert.ProjectionIdeal.Proof (hn pj turned src partner)

/-- The normalised rows. -/
def hid (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 (shapeCast S1024 g shapeCasts_S1x1024_S1024)))

/-- All projections. -/
def proj (h : FVec Ideal S8x4096x1024 .f32) (w : FVec Ideal S1x1024x5120 .f32) : FVec Ideal S8x4096x5120 .f32 :=
  Host.dotGeneral dot_S8x4096x1024_S1024x5120_S8x4096x5120_2_0_01_1_n_n none h (shapeCast S1024x5120 w shapeCasts_S1x1024x5120_S1024x5120)

/-- Heads before positions. -/
def byHead (p : FVec Ideal S8x4096x512 .f32) : FVec Ideal S8x8x4096x64 .f32 :=
  transpose S8x8x4096x64 [0, 2, 1, 3] (shapeCast S8x4096x8x64 p shapeCasts_S8x4096x512_S8x4096x8x64) transposes_S8x4096x8x64_S8x8x4096x64_0_2_1_3

/-- A table of angles, for every batch entry and head. -/
def table (c : FVec Ideal S4096x64 .f32) : FVec Ideal S8x8x4096x64 .f32 :=
  broadcastInDim S8x8x4096x64 ![0, 1, 2, 3] bcast_S1x1x4096x64_S8x8x4096x64_0_1_2_3 (broadcastInDim S1x1x4096x64 ![2, 3] bcast_S4096x64_S1x1x4096x64_2_3 c)

/-- The second half of the lanes, negated, then the first. -/
def halves (t : FVec Ideal S8x8x4096x64 .f32) : FVec Ideal S8x8x4096x64 .f32 :=
  concatenate S8x8x4096x64 3 [⟨S8x8x4096x32, Host.negf (extractStridedSlice S8x8x4096x32 ![0, 0, 0, 32] t slices_S8x8x4096x64_S8x8x4096x32_0_0_0_32)⟩,
    ⟨S8x8x4096x32, extractStridedSlice S8x8x4096x32 ![0, 0, 0, 0] t slices_S8x8x4096x64_S8x8x4096x32_0_0_0_0⟩] concatenates_S8x8x4096x32_S8x8x4096x32_S8x8x4096x64_d3

/-- The rotation of one array's heads. -/
def rope (p : FVec Ideal S8x4096x512 .f32) (c s : FVec Ideal S4096x64 .f32) : FVec Ideal S8x4096x512 .f32 :=
  shapeCast S8x4096x512 (transpose S8x4096x8x64 [0, 2, 1, 3] (addf (mulf (byHead p) (table c)) (mulf (halves (byHead p)) (table s)))
    transposes_S8x8x4096x64_S8x4096x8x64_0_2_1_3) shapeCasts_S8x4096x8x64_S8x4096x512

/-- The order of the stick-breaking attention's keys and values. -/
def order (p : FVec Ideal S8x4096x512 .f32) : FVec Ideal S8x4096x512 .f32 :=
  shapeCast S8x4096x512 (transpose S128x32x8x512 [0, 2, 1, 3] (shapeCast S128x8x32x512 p shapeCasts_S8x4096x512_S128x8x32x512)
    transposes_S128x8x32x512_S128x32x8x512_0_2_1_3) shapeCasts_S128x32x8x512_S8x4096x512

/-- The scaled queries of the stick-breaking attention. -/
def scaled (p : FVec Ideal S8x4096x512 .f32) : FVec Ideal S8x4096x512 .f32 :=
  Host.divf (mulf p (broadcastInDim S8x4096x512 ![] bcast_S_S8x4096x512 (constant S_ .f32 0x3E000000#32)))
    (broadcastInDim S8x4096x512 ![] bcast_S_S8x4096x512 (Host.log (constant S_ .f32 0x40000000#32)))

/-- The first result from its three parts. -/
def asRows (a b : FVec Ideal S8x4096x512 .f32) (g : FVec Ideal S8x4096x2048 .f32) : FVec Ideal S32768x3072 .bf16 :=
  truncf .bf16 (shapeCast S32768x3072 (concatenate S8x4096x3072 2 [⟨S8x4096x512, a⟩, ⟨S8x4096x512, b⟩, ⟨S8x4096x2048, g⟩]
    concatenates_S8x4096x512_S8x4096x512_S8x4096x2048_S8x4096x3072_d2) shapeCasts_S8x4096x3072_S32768x3072) bitsLt_bf16_f32

/-- The second from its two. -/
def asDiff (a b : FVec Ideal S8x4096x512 .f32) : FVec Ideal S64x1024x512 .bf16 :=
  truncf .bf16 (transpose S64x1024x512 [0, 2, 1] (shapeCast S64x512x1024 (concatenate S8x4096x1024 2 [⟨S8x4096x512, a⟩, ⟨S8x4096x512, b⟩]
    concatenates_S8x4096x512_S8x4096x512_S8x4096x1024_d2) shapeCasts_S8x4096x1024_S64x512x1024) transposes_S64x512x1024_S64x1024x512_0_2_1) bitsLt_bf16_f32

/-- The third from its two. -/
def asStick (a b : FVec Ideal S8x4096x512 .f32) : FVec Ideal S128x1024x256 .bf16 :=
  truncf .bf16 (transpose S128x1024x256 [0, 2, 1] (shapeCast S128x256x1024 (concatenate S8x4096x1024 2 [⟨S8x4096x512, a⟩, ⟨S8x4096x512, b⟩]
    concatenates_S8x4096x512_S8x4096x512_S8x4096x1024_d2) shapeCasts_S8x4096x1024_S128x256x1024) transposes_S128x256x1024_S128x1024x256_0_2_1) bitsLt_bf16_f32

section
variable (x : FVec Ideal S8x4096x1024 .f32) (g : FVec Ideal S1x1024 .f32) (w : FVec Ideal S1x1024x5120 .f32) (c s : FVec Ideal S4096x64 .f32)

/-- The first result of the arguments. -/
def resRows : FVec Ideal S32768x3072 .bf16 :=
  asRows (order (extractStridedSlice S8x4096x512 ![0, 0, 512] (proj (hid x g) w) slices_S8x4096x5120_S8x4096x512_0_0_512))
    (rope (extractStridedSlice S8x4096x512 ![0, 0, 2048] (proj (hid x g) w) slices_S8x4096x5120_S8x4096x512_0_0_2048) c s)
    (extractStridedSlice S8x4096x2048 ![0, 0, 3072] (proj (hid x g) w) slices_S8x4096x5120_S8x4096x2048_0_0_3072)

/-- The second. -/
def resDiff : FVec Ideal S64x1024x512 .bf16 :=
  asDiff (rope (extractStridedSlice S8x4096x512 ![0, 0, 1536] (proj (hid x g) w) slices_S8x4096x5120_S8x4096x512_0_0_1536) c s)
    (extractStridedSlice S8x4096x512 ![0, 0, 2560] (proj (hid x g) w) slices_S8x4096x5120_S8x4096x512_0_0_2560)

/-- The third. -/
def resStick : FVec Ideal S128x1024x256 .bf16 :=
  asStick (scaled (extractStridedSlice S8x4096x512 ![0, 0, 0] (proj (hid x g) w) slices_S8x4096x5120_S8x4096x512_0_0_0))
    (order (extractStridedSlice S8x4096x512 ![0, 0, 1024] (proj (hid x g) w) slices_S8x4096x5120_S8x4096x512_0_0_1024))
end

section
variable (m : (ℓ : Loc nD τ sig) → Buf (Elt Ideal) ℓ)

/-- The first result in stages. -/
theorem rows_eq (c : Dev nD) : Value.res_main_v72 m c = resRows (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v72
  rfl

/-- The second in stages. -/
theorem diff_eq (c : Dev nD) : Value.res_main_v73 m c = resDiff (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v73
  rfl

end

/-- The float 0.125 is an eighth. -/
theorem eighth : Ideal.ofBits .f32 0x3E000000#32 = ((8⁻¹ : ℝ) : EReal) := by
  simp [Ideal.ofBits, Ideal.ieee]
  rw [← EReal.coe_mul]
  norm_num

/-- The float 2 is two. -/
theorem two : Ideal.ofBits .f32 0x40000000#32 = ((2 : ℝ) : EReal) := by
  simp [Ideal.ofBits, Ideal.ieee]
  rw [← EReal.coe_mul]
  norm_num

/-- The scale of the stick-breaking attention over the logarithm of two. -/
theorem scale (p : EReal) : Ideal.div (p * Ideal.ofBits .f32 0x3E000000#32) (Ideal.log (Ideal.ofBits .f32 0x40000000#32))
    = p * (((Real.log 2)⁻¹ * 8⁻¹ : ℝ) : EReal) := by
  have h : Real.log 2 ≠ 0 := (Real.log_pos (by norm_num)).ne'
  have hl : Ideal.log ((2 : ℝ) : EReal) = ((Real.log 2 : ℝ) : EReal) := by
    show (if (2 : ℝ) ≤ 0 then ⊥ else ((Real.log 2 : ℝ) : EReal)) = _
    rw [if_neg (by norm_num)]
  rw [eighth, two, hl]
  unfold Ideal.div
  rw [if_neg (by exact_mod_cast h), mul_assoc, ← EReal.coe_inv, ← EReal.coe_mul, mul_comm (8⁻¹ : ℝ)]

/-- A normalised row, read. -/
theorem hid_apply (x : FVec Ideal S8x4096x1024 .f32) (g : FVec Ideal S1x1024 .f32) (b : Fin 8) (s : Fin 4096) (d : Fin 1024) :
    hid x g (ix3 b s d) = hn (fun k => x (ix3 b s k)) (fun k => g (ix2 0 k)) d := by
  unfold hid
  pointwise []
  rfl

/-- A projection, read. -/
theorem proj_apply (x : FVec Ideal S8x4096x1024 .f32) (g : FVec Ideal S1x1024 .f32) (w : FVec Ideal S1x1024x5120 .f32) (b : Fin 8) (s : Fin 4096) (e : Fin 5120) :
    proj (hid x g) w (ix3 b s e) = pj (fun b s k => x (ix3 b s k)) (fun k => g (ix2 0 k)) (fun d e => w (ix3 0 d e)) b s e := by
  have h : ∀ d, hid x g (ix3 b s d) = hn (fun k => x (ix3 b s k)) (fun k => g (ix2 0 k)) d := hid_apply x g b s
  generalize hid x g = y at h ⊢
  unfold proj pj
  simp only [← h]
  pointwise []

/-- Heads before positions, read. -/
theorem byHead_apply (p : FVec Ideal S8x4096x512 .f32) (b h : Fin 8) (s : Fin 4096) (k : Fin 64) (e : Fin 512) (he : e.val = h.val * 64 + k.val) :
    byHead p (ix4 b h s k) = p (ix3 b s e) := by
  unfold byHead
  refine (transpose_apply _ _ _ _ (ix4 b s h k) (fun b' => match b' with | ⟨0, _⟩ => rfl | ⟨1, _⟩ => rfl | ⟨2, _⟩ => rfl | ⟨3, _⟩ => rfl)).trans ?_
  refine shapeCast_apply _ _ _ (ix3 b s e) ?_
  rw [Shape.rowMajor_val_three, Shape.rowMajor_val_four]
  show (b.val * 4096 + s.val) * 512 + e.val = ((b.val * 4096 + s.val) * 8 + h.val) * 64 + k.val
  omega

/-- The order, read. -/
theorem order_apply (p : FVec Ideal S8x4096x512 .f32) (b : Fin 8) (s s' : Fin 4096) (e : Fin 512) (hs : s'.val = s.val / 256 * 256 + src (s.val % 256)) :
    order p (ix3 b s e) = p (ix3 b s' e) := by
  have hb := b.isLt
  have h1 := s.isLt
  unfold src at hs
  obtain ⟨i, hi⟩ : ∃ i : Fin 128, i.val = b.val * 16 + s.val / 256 := ⟨⟨b.val * 16 + s.val / 256, by omega⟩, rfl⟩
  obtain ⟨u, hu⟩ : ∃ u : Fin 8, u.val = s.val % 8 := ⟨⟨s.val % 8, by omega⟩, rfl⟩
  obtain ⟨v, hv⟩ : ∃ v : Fin 32, v.val = s.val % 256 / 8 := ⟨⟨s.val % 256 / 8, by omega⟩, rfl⟩
  unfold order
  refine (shapeCast_apply _ _ _ (ix4 i v u e) ?_).trans ((transpose_apply _ _ _ _ (ix4 i u v e)
    (fun b' => match b' with | ⟨0, _⟩ => rfl | ⟨1, _⟩ => rfl | ⟨2, _⟩ => rfl | ⟨3, _⟩ => rfl)).trans (shapeCast_apply _ _ _ (ix3 b s' e) ?_))
  · rw [Shape.rowMajor_val_three, Shape.rowMajor_val_four]
    show ((i.val * 32 + v.val) * 8 + u.val) * 512 + e.val = (b.val * 4096 + s.val) * 512 + e.val
    omega
  · rw [Shape.rowMajor_val_three, Shape.rowMajor_val_four]
    show (b.val * 4096 + s'.val) * 512 + e.val = ((i.val * 8 + u.val) * 32 + v.val) * 512 + e.val
    omega

/-- The scaled queries, read. -/
theorem scaled_apply (p : FVec Ideal S8x4096x512 .f32) (i : S8x4096x512.Idx) : scaled p i = p i * (((Real.log 2)⁻¹ * 8⁻¹ : ℝ) : EReal) :=
  scale (p i)

/-- The halves, read. -/
theorem halves_apply (t : FVec Ideal S8x8x4096x64 .f32) (b h : Fin 8) (s : Fin 4096) (k k' : Fin 64) (hk : k'.val = (k.val + 32) % 64) :
    halves t (ix4 b h s k) = if k.val < 32 then -t (ix4 b h s k') else t (ix4 b h s k') := by
  unfold halves
  pointwise []
  by_cases q : k.val < 32
  · rw [dif_pos q, if_pos q]
    exact congrArg (fun z => -t z) (congrArg (ix4 b h s) (Fin.ext (by first | omega | (simp only <;> omega))))
  · rw [dif_neg q, if_neg q]
    exact congrArg t (congrArg (ix4 b h s) (Fin.ext (by first | omega | (simp only <;> omega))))

/-- The rotation, read. -/
theorem rope_apply (p : FVec Ideal S8x4096x512 .f32) (c v : FVec Ideal S4096x64 .f32) (b : Fin 8) (s : Fin 4096) (e e' : Fin 512) (k : Fin 64)
    (he' : e'.val = partner e.val) (hk : k.val = e.val % 64) :
    rope p c v (ix3 b s e) = turned (p (ix3 b s e)) (p (ix3 b s e')) (c (ix2 s k)) (v (ix2 s k)) k := by
  unfold partner at he'
  obtain ⟨h, hh⟩ : ∃ h : Fin 8, h.val = e.val / 64 := ⟨⟨e.val / 64, by omega⟩, rfl⟩
  obtain ⟨k', hk'⟩ : ∃ k' : Fin 64, k'.val = (k.val + 32) % 64 := ⟨⟨(k.val + 32) % 64, by omega⟩, rfl⟩
  unfold rope
  refine (shapeCast_apply _ _ _ (ix4 b s h k) ?_).trans ((transpose_apply _ _ _ _ (ix4 b h s k)
    (fun b' => match b' with | ⟨0, _⟩ => rfl | ⟨1, _⟩ => rfl | ⟨2, _⟩ => rfl | ⟨3, _⟩ => rfl)).trans ?_)
  · rw [Shape.rowMajor_val_three, Shape.rowMajor_val_four]
    show ((b.val * 4096 + s.val) * 8 + h.val) * 64 + k.val = (b.val * 4096 + s.val) * 512 + e.val
    omega
  · have q : ∀ y : FVec Ideal S4096x64 .f32, table y (ix4 b h s k) = y (ix2 s k) := fun y => by
      unfold table
      pointwise []
    show byHead p (ix4 b h s k) * table c (ix4 b h s k) + halves (byHead p) (ix4 b h s k) * table v (ix4 b h s k) = _
    rw [q, q, halves_apply _ b h s k k' hk', byHead_apply p b h s k e (by omega), byHead_apply p b h s k' e' (by omega)]
    unfold turned
    split
    · rw [neg_mul, mul_neg]
    · rfl

end Cert.ProjReferenceIdeal.Proof
-- ==== Proof.ProjEqual.lean ====
module

public import proofs.«01_k».proof.Proof.ProjStages

/-! The three results of the in-projection are those of its reference. -/

@[expose] public section
set_option maxRecDepth 16384
noncomputable section
open Idealize.ShloMosaic Idealize.ShloMosaic.TcCoe Idealize.SL.Sem

namespace Cert.ProjReferenceIdeal.Proof
open Cert.ProjReferenceIdeal Cert.ProjReferenceIdeal.Gen
open Cert.ProjectionIdeal.Proof (hn pj turned src partner)

/-- A cast changes no entry. -/
theorem cast_apply {t : Shape} (x : FVec Ideal t .f32) (h) (i : t.Idx) : (truncf .bf16 x h : FVec Ideal t .bf16) i = x i := rfl

/-- An entry of the first result, in the three parts side by side. -/
theorem asRows_apply (p q : FVec Ideal S8x4096x512 .f32) (g : FVec Ideal S8x4096x2048 .f32) (b : Fin 8) (s : Fin 4096) (a : Fin 32768) (E : Fin 3072)
    (ha : a.val = b.val * 4096 + s.val) : asRows p q g (ix2 a E)
      = if h : E.val < 512 then p (ix3 b s ⟨E.val, h⟩) else if h' : E.val - 512 < 512 then q (ix3 b s ⟨E.val - 512, h'⟩)
        else g (ix3 b s ⟨E.val - 512 - 512, by omega⟩) := by
  unfold asRows
  rw [cast_apply]
  refine Eq.trans (shapeCast_apply _ _ _ (ix3 b s E) ?_) ?_
  · rw [Shape.rowMajor_val_three, Shape.rowMajor_val_two]
    show (b.val * 4096 + s.val) * 3072 + E.val = a.val * 3072 + E.val
    omega
  · pointwise []

/-- An entry of the second result, in its two parts. -/
theorem asDiff_apply (p q : FVec Ideal S8x4096x512 .f32) (b : Fin 8) (s : Fin 4096) (a : Fin 64) (E : Fin 1024) (r : Fin 512)
    (ha : b.val * 4096 + s.val = a.val * 512 + r.val) : asDiff p q (ix3 a E r)
      = if h : E.val < 512 then p (ix3 b s ⟨E.val, h⟩) else q (ix3 b s ⟨E.val - 512, by omega⟩) := by
  unfold asDiff
  rw [cast_apply]
  refine Eq.trans (transpose_apply _ _ _ _ (ix3 a r E) (fun b' => match b' with | ⟨0, _⟩ => rfl | ⟨1, _⟩ => rfl | ⟨2, _⟩ => rfl)) ?_
  refine Eq.trans (shapeCast_apply _ _ _ (ix3 b s E) ?_) ?_
  · rw [Shape.rowMajor_val_three, Shape.rowMajor_val_three]
    show (b.val * 4096 + s.val) * 1024 + E.val = (a.val * 512 + r.val) * 1024 + E.val
    omega
  · pointwise []

/-- An entry of the third result, in its two parts. -/
theorem asStick_apply (p q : FVec Ideal S8x4096x512 .f32) (b : Fin 8) (s : Fin 4096) (a : Fin 128) (E : Fin 1024) (y : Fin 256)
    (ha : b.val * 4096 + s.val = a.val * 256 + y.val) : asStick p q (ix3 a E y)
      = if h : E.val < 512 then p (ix3 b s ⟨E.val, h⟩) else q (ix3 b s ⟨E.val - 512, by omega⟩) := by
  unfold asStick
  rw [cast_apply]
  refine Eq.trans (transpose_apply _ _ _ _ (ix3 a y E) (fun b' => match b' with | ⟨0, _⟩ => rfl | ⟨1, _⟩ => rfl | ⟨2, _⟩ => rfl)) ?_
  refine Eq.trans (shapeCast_apply _ _ _ (ix3 b s E) ?_) ?_
  · rw [Shape.rowMajor_val_three, Shape.rowMajor_val_three]
    show (b.val * 4096 + s.val) * 1024 + E.val = (a.val * 256 + y.val) * 1024 + E.val
    omega
  · pointwise []

/-- Columns of the projections. -/
theorem cols_apply (p : FVec Ideal S8x4096x5120 .f32) (o : ℕ) (h) (b : Fin 8) (s : Fin 4096) (e : Fin 512) (E : Fin 5120) (hE : E.val = o + e.val) :
    extractStridedSlice S8x4096x512 ![0, 0, o] p h (ix3 b s e) = p (ix3 b s E) := by
  pointwise []
  exact congrArg p (congrArg (ix3 b s) (Fin.ext (by first | omega | (simp only <;> omega))))

/-- The columns of the gates. -/
theorem gates_apply (p : FVec Ideal S8x4096x5120 .f32) (b : Fin 8) (s : Fin 4096) (e : Fin 2048) (E : Fin 5120) (hE : E.val = 3072 + e.val) :
    extractStridedSlice S8x4096x2048 ![0, 0, 3072] p slices_S8x4096x5120_S8x4096x2048_0_0_3072 (ix3 b s e) = p (ix3 b s E) := by
  pointwise []
  exact congrArg p (congrArg (ix3 b s) (Fin.ext (by first | omega | (simp only <;> omega))))

end Cert.ProjReferenceIdeal.Proof

namespace Cert.Proof
open Cert.ProjReferenceIdeal.Proof
open Cert.ProjectionIdeal.Proof (hn pj turned src partner pjm turnedm argX argG argW argC argS src_lt)

section
variable (m : (ℓ : Loc Cert.ProjectionIdeal.nD Cert.ProjectionIdeal.τ Cert.ProjectionIdeal.sig) → Buf (Elt Ideal) ℓ)

/-- The reference's projections are the kernel's. -/
theorem proj_eq (c : Dev Cert.ProjectionIdeal.nD) (b : Fin 8) (s : Fin 4096) (e : Fin 5120) :
    proj (hid (argX m c) (argG m c)) (argW m c) (ix3 b s e) = pjm m c b s e := proj_apply _ _ _ b s e

/-- A column of the reference's projections. -/
theorem col_eq (c : Dev Cert.ProjectionIdeal.nD) (o : ℕ) (h) (b : Fin 8) (s : Fin 4096) (e : Fin 512) (E : Fin 5120) (hE : E.val = o + e.val) :
    extractStridedSlice Cert.ProjReferenceIdeal.S8x4096x512 ![0, 0, o] (proj (hid (argX m c) (argG m c)) (argW m c)) h (ix3 b s e) = pjm m c b s E :=
  (cols_apply _ o h b s e E hE).trans (proj_eq m c b s E)

/-- A rotated column of the reference's projections. -/
theorem rope_eq (c : Dev Cert.ProjectionIdeal.nD) (o : ℕ) (h) (b : Fin 8) (s : Fin 4096) (e e' : Fin 512) (E E' : Fin 5120) (k : Fin 64)
    (he' : e'.val = partner e.val) (hk : k.val = e.val % 64) (hE : E.val = o + e.val) (hE' : E'.val = o + e'.val) :
    rope (extractStridedSlice Cert.ProjReferenceIdeal.S8x4096x512 ![0, 0, o] (proj (hid (argX m c) (argG m c)) (argW m c)) h) (argC m c) (argS m c) (ix3 b s e)
      = turnedm m c b s E E' k := by
  refine (rope_apply _ _ _ b s e e' k he' hk).trans ?_
  unfold turnedm
  exact congrArg₂ (fun p q => turned p q (argC m c (ix2 s k)) (argS m c (ix2 s k)) k) (col_eq m c o h b s e E hE) (col_eq m c o h b s e' E' hE')

/-- The first results agree. -/
theorem rows_same (c : Dev Cert.ProjectionIdeal.nD) : resRows (argX m c) (argG m c) (argW m c) (argC m c) (argS m c)
    = (Cert.ProjectionIdeal.Gen.dats m 0 c).arrAt 9 Cert.ProjectionIdeal.cfg0.N := by
  have key : ∀ (a : Fin 32768) (E : Fin 3072), resRows (argX m c) (argG m c) (argW m c) (argC m c) (argS m c) (ix2 a E)
      = ((Cert.ProjectionIdeal.Gen.dats m 0 c).arrAt 9 Cert.ProjectionIdeal.cfg0.N : FVec Ideal Cert.ProjectionIdeal.S32768x3072 .bf16) (ix2 a E) := by
    intro a E
    obtain ⟨b, hb⟩ : ∃ b : Fin 8, b.val = a.val / 4096 := ⟨⟨a.val / 4096, by omega⟩, rfl⟩
    obtain ⟨s, hs⟩ : ∃ s : Fin 4096, s.val = a.val % 4096 := ⟨⟨a.val % 4096, by omega⟩, rfl⟩
    unfold resRows
    rw [asRows_apply _ _ _ b s a E (by omega)]
    by_cases h : E.val < 512
    · rw [dif_pos h]
      have h2 := src_lt s.val
      obtain ⟨s', hs'⟩ : ∃ s' : Fin 4096, s'.val = s.val / 256 * 256 + src (s.val % 256) := ⟨⟨s.val / 256 * 256 + src (s.val % 256), by omega⟩, rfl⟩
      obtain ⟨e, he⟩ : ∃ e : Fin 5120, e.val = 512 + E.val := ⟨⟨512 + E.val, by omega⟩, rfl⟩
      exact ((order_apply _ b s s' ⟨E.val, h⟩ hs').trans (col_eq m c 512 _ b s' ⟨E.val, h⟩ e he)).trans (Cert.ProjectionIdeal.Proof.rows_keys m c b s s' a (by omega) E h e he hs').symm
    rw [dif_neg h]
    by_cases h' : E.val - 512 < 512
    · rw [dif_pos h']
      obtain ⟨f', hf'⟩ : ∃ f' : Fin 512, f'.val = partner (E.val - 512) := ⟨⟨partner (E.val - 512), by unfold partner; omega⟩, rfl⟩
      obtain ⟨k, hk⟩ : ∃ k : Fin 64, k.val = (E.val - 512) % 64 := ⟨⟨(E.val - 512) % 64, by omega⟩, rfl⟩
      obtain ⟨e, he⟩ : ∃ e : Fin 5120, e.val = 2048 + (E.val - 512) := ⟨⟨2048 + (E.val - 512), by omega⟩, rfl⟩
      obtain ⟨e', he'⟩ : ∃ e' : Fin 5120, e'.val = 2048 + f'.val := ⟨⟨2048 + f'.val, by omega⟩, rfl⟩
      have hp : partner E.val = 512 + f'.val := by rw [hf']; unfold partner; omega
      exact (rope_eq m c 2048 _ b s ⟨E.val - 512, h'⟩ f' e e' k hf' hk he he').trans (Cert.ProjectionIdeal.Proof.rows_rope m c b s a (by omega) E (by omega) e e' k (by omega) (by omega) (by omega)).symm
    · rw [dif_neg h']
      obtain ⟨e, he⟩ : ∃ e : Fin 5120, e.val = 3072 + (E.val - 512 - 512) := ⟨⟨3072 + (E.val - 512 - 512), by omega⟩, rfl⟩
      exact ((gates_apply _ b s ⟨E.val - 512 - 512, by omega⟩ e he).trans (proj_eq m c b s e)).trans (Cert.ProjectionIdeal.Proof.rows_gates m c b s a (by omega) E (by omega) e (by omega)).symm
  funext y
  have e := key (y 0) (y 1)
  have hy : (ix2 (y 0) (y 1) : Cert.ProjectionIdeal.S32768x3072.Idx) = y := ix2_eta y
  rw [hy] at e
  exact e

/-- The second results agree. -/
theorem diff_same (c : Dev Cert.ProjectionIdeal.nD) : resDiff (argX m c) (argG m c) (argW m c) (argC m c) (argS m c)
    = (Cert.ProjectionIdeal.Gen.dats m 0 c).arrAt 10 Cert.ProjectionIdeal.cfg0.N := by
  have key : ∀ (a : Fin 64) (E : Fin 1024) (r : Fin 512), resDiff (argX m c) (argG m c) (argW m c) (argC m c) (argS m c) (ix3 a E r)
      = ((Cert.ProjectionIdeal.Gen.dats m 0 c).arrAt 10 Cert.ProjectionIdeal.cfg0.N : FVec Ideal Cert.ProjectionIdeal.S64x1024x512 .bf16) (ix3 a E r) := by
    intro a E r
    obtain ⟨b, hb⟩ : ∃ b : Fin 8, b.val = a.val / 8 := ⟨⟨a.val / 8, by omega⟩, rfl⟩
    obtain ⟨s, hs⟩ : ∃ s : Fin 4096, s.val = a.val % 8 * 512 + r.val := ⟨⟨a.val % 8 * 512 + r.val, by omega⟩, rfl⟩
    unfold resDiff
    rw [asDiff_apply _ _ b s a E r (by omega)]
    by_cases h : E.val < 512
    · rw [dif_pos h]
      obtain ⟨f', hf'⟩ : ∃ f' : Fin 512, f'.val = partner E.val := ⟨⟨partner E.val, by unfold partner; omega⟩, rfl⟩
      obtain ⟨k, hk⟩ : ∃ k : Fin 64, k.val = E.val % 64 := ⟨⟨E.val % 64, by omega⟩, rfl⟩
      obtain ⟨e, he⟩ : ∃ e : Fin 5120, e.val = 1536 + E.val := ⟨⟨1536 + E.val, by omega⟩, rfl⟩
      obtain ⟨e', he'⟩ : ∃ e' : Fin 5120, e'.val = 1536 + f'.val := ⟨⟨1536 + f'.val, by omega⟩, rfl⟩
      exact (rope_eq m c 1536 _ b s ⟨E.val, h⟩ f' e e' k hf' hk he he').trans (Cert.ProjectionIdeal.Proof.diff_rope m c b s a r (by omega) E h e e' k he (by omega) hk).symm
    · rw [dif_neg h]
      obtain ⟨e, he⟩ : ∃ e : Fin 5120, e.val = 2560 + (E.val - 512) := ⟨⟨2560 + (E.val - 512), by omega⟩, rfl⟩
      exact (col_eq m c 2560 _ b s ⟨E.val - 512, by omega⟩ e he).trans (Cert.ProjectionIdeal.Proof.diff_vals m c b s a r (by omega) E (by omega) e (by omega)).symm
  funext y
  have e := key (y 0) (y 1) (y 2)
  have hy : (ix3 (y 0) (y 1) (y 2) : Cert.ProjectionIdeal.S64x1024x512.Idx) = y := ix3_eta y
  rw [hy] at e
  exact e

/-- The third results agree. -/
theorem stick_same (c : Dev Cert.ProjectionIdeal.nD) : resStick (argX m c) (argG m c) (argW m c)
    = (Cert.ProjectionIdeal.Gen.dats m 0 c).arrAt 11 Cert.ProjectionIdeal.cfg0.N := by
  have key : ∀ (a : Fin 128) (E : Fin 1024) (r : Fin 256), resStick (argX m c) (argG m c) (argW m c) (ix3 a E r)
      = ((Cert.ProjectionIdeal.Gen.dats m 0 c).arrAt 11 Cert.ProjectionIdeal.cfg0.N : FVec Ideal Cert.ProjectionIdeal.S128x1024x256 .bf16) (ix3 a E r) := by
    intro a E r
    obtain ⟨b, hb⟩ : ∃ b : Fin 8, b.val = a.val / 16 := ⟨⟨a.val / 16, by omega⟩, rfl⟩
    obtain ⟨s, hs⟩ : ∃ s : Fin 4096, s.val = a.val % 16 * 256 + r.val := ⟨⟨a.val % 16 * 256 + r.val, by omega⟩, rfl⟩
    unfold resStick
    rw [asStick_apply _ _ b s a E r (by omega)]
    by_cases h : E.val < 512
    · rw [dif_pos h]
      obtain ⟨e, he⟩ : ∃ e : Fin 5120, e.val = 0 + E.val := ⟨⟨0 + E.val, by omega⟩, rfl⟩
      exact ((scaled_apply _ _).trans (congrArg (· * (((Real.log 2)⁻¹ * 8⁻¹ : ℝ) : EReal)) (col_eq m c 0 _ b s ⟨E.val, h⟩ e he))).trans (Cert.ProjectionIdeal.Proof.stick_q m c b s a r (by omega) E h e (by omega)).symm
    · rw [dif_neg h]
      have h2 := src_lt s.val
      have h3 : s.val % 256 = r.val := by omega
      rw [h3] at h2
      obtain ⟨s', hs'⟩ : ∃ s' : Fin 4096, s'.val = s.val / 256 * 256 + src (s.val % 256) := ⟨⟨s.val / 256 * 256 + src (s.val % 256), by rw [h3]; omega⟩, rfl⟩
      have hs'' := hs'
      rw [h3] at hs''
      obtain ⟨e, he⟩ : ∃ e : Fin 5120, e.val = 1024 + (E.val - 512) := ⟨⟨1024 + (E.val - 512), by omega⟩, rfl⟩
      exact ((order_apply _ b s s' ⟨E.val - 512, by omega⟩ hs').trans (col_eq m c 1024 _ b s' ⟨E.val - 512, by omega⟩ e he)).trans (Cert.ProjectionIdeal.Proof.stick_v m c b s' a r (by omega) E (by omega) e (by omega)).symm
  funext y
  have e := key (y 0) (y 1) (y 2)
  have hy : (ix3 (y 0) (y 1) (y 2) : Cert.ProjectionIdeal.S128x1024x256.Idx) = y := ix3_eta y
  rw [hy] at e
  exact e

variable (m' : (ℓ : Loc Cert.ProjReferenceIdeal.nD Cert.ProjReferenceIdeal.τ Cert.ProjReferenceIdeal.sig) → Buf (Elt Ideal) ℓ)

/-- The stages of the first and second result, and of the third, take equal arguments to equal results. -/
theorem res_congr {x x' : FVec Ideal Cert.ProjReferenceIdeal.S8x4096x1024 .f32} {g g' : FVec Ideal Cert.ProjReferenceIdeal.S1x1024 .f32} {w w' : FVec Ideal Cert.ProjReferenceIdeal.S1x1024x5120 .f32}
    {u u' v v' : FVec Ideal Cert.ProjReferenceIdeal.S4096x64 .f32} (e0 : x' = x) (e1 : g' = g) (e2 : w' = w) (e3 : u' = u) (e4 : v' = v) :
    resRows x' g' w' u' v' = resRows x g w u v ∧ resDiff x' g' w' u' v' = resDiff x g w u v ∧ resStick x' g' w' = resStick x g w := by
  subst e0 e1 e2 e3 e4
  exact ⟨rfl, rfl, rfl⟩

/-- The reference's first result is the kernel's, where the arguments are. -/
theorem rows_arrays (c : Dev Cert.ProjectionIdeal.nD)
    (e0 : m' ((c.tc : Thread Cert.ProjReferenceIdeal.nD Cert.ProjReferenceIdeal.τ).loc Cert.ProjReferenceIdeal.main_arg0) = m ((c.tc : Thread Cert.ProjectionIdeal.nD Cert.ProjectionIdeal.τ).loc Cert.ProjectionIdeal.main_arg0))
     (e1 : m' ((c.tc : Thread Cert.ProjReferenceIdeal.nD Cert.ProjReferenceIdeal.τ).loc Cert.ProjReferenceIdeal.main_arg1) = m ((c.tc : Thread Cert.ProjectionIdeal.nD Cert.ProjectionIdeal.τ).loc Cert.ProjectionIdeal.main_arg1))
     (e2 : m' ((c.tc : Thread Cert.ProjReferenceIdeal.nD Cert.ProjReferenceIdeal.τ).loc Cert.ProjReferenceIdeal.main_arg2) = m ((c.tc : Thread Cert.ProjectionIdeal.nD Cert.ProjectionIdeal.τ).loc Cert.ProjectionIdeal.main_arg2))
     (e3 : m' ((c.tc : Thread Cert.ProjReferenceIdeal.nD Cert.ProjReferenceIdeal.τ).loc Cert.ProjReferenceIdeal.main_arg3) = m ((c.tc : Thread Cert.ProjectionIdeal.nD Cert.ProjectionIdeal.τ).loc Cert.ProjectionIdeal.main_arg3))
     (e4 : m' ((c.tc : Thread Cert.ProjReferenceIdeal.nD Cert.ProjReferenceIdeal.τ).loc Cert.ProjReferenceIdeal.main_arg4) = m ((c.tc : Thread Cert.ProjectionIdeal.nD Cert.ProjectionIdeal.τ).loc Cert.ProjectionIdeal.main_arg4))
    : Cert.ProjReferenceIdeal.Value.res_main_v72 m' c = (Cert.ProjectionIdeal.Gen.dats m 0 c).arrAt 9 Cert.ProjectionIdeal.cfg0.N :=
  (rows_eq m' c).trans ((res_congr e0 e1 e2 e3 e4).1.trans (rows_same m c))

/-- The second likewise. -/
theorem diff_arrays (c : Dev Cert.ProjectionIdeal.nD)
    (e0 : m' ((c.tc : Thread Cert.ProjReferenceIdeal.nD Cert.ProjReferenceIdeal.τ).loc Cert.ProjReferenceIdeal.main_arg0) = m ((c.tc : Thread Cert.ProjectionIdeal.nD Cert.ProjectionIdeal.τ).loc Cert.ProjectionIdeal.main_arg0))
     (e1 : m' ((c.tc : Thread Cert.ProjReferenceIdeal.nD Cert.ProjReferenceIdeal.τ).loc Cert.ProjReferenceIdeal.main_arg1) = m ((c.tc : Thread Cert.ProjectionIdeal.nD Cert.ProjectionIdeal.τ).loc Cert.ProjectionIdeal.main_arg1))
     (e2 : m' ((c.tc : Thread Cert.ProjReferenceIdeal.nD Cert.ProjReferenceIdeal.τ).loc Cert.ProjReferenceIdeal.main_arg2) = m ((c.tc : Thread Cert.ProjectionIdeal.nD Cert.ProjectionIdeal.τ).loc Cert.ProjectionIdeal.main_arg2))
     (e3 : m' ((c.tc : Thread Cert.ProjReferenceIdeal.nD Cert.ProjReferenceIdeal.τ).loc Cert.ProjReferenceIdeal.main_arg3) = m ((c.tc : Thread Cert.ProjectionIdeal.nD Cert.ProjectionIdeal.τ).loc Cert.ProjectionIdeal.main_arg3))
     (e4 : m' ((c.tc : Thread Cert.ProjReferenceIdeal.nD Cert.ProjReferenceIdeal.τ).loc Cert.ProjReferenceIdeal.main_arg4) = m ((c.tc : Thread Cert.ProjectionIdeal.nD Cert.ProjectionIdeal.τ).loc Cert.ProjectionIdeal.main_arg4))
    : Cert.ProjReferenceIdeal.Value.res_main_v73 m' c = (Cert.ProjectionIdeal.Gen.dats m 0 c).arrAt 10 Cert.ProjectionIdeal.cfg0.N :=
  (diff_eq m' c).trans ((res_congr e0 e1 e2 e3 e4).2.1.trans (diff_same m c))

/-- The third likewise. -/
theorem stick_arrays (c : Dev Cert.ProjectionIdeal.nD)
    (e0 : m' ((c.tc : Thread Cert.ProjReferenceIdeal.nD Cert.ProjReferenceIdeal.τ).loc Cert.ProjReferenceIdeal.main_arg0) = m ((c.tc : Thread Cert.ProjectionIdeal.nD Cert.ProjectionIdeal.τ).loc Cert.ProjectionIdeal.main_arg0))
     (e1 : m' ((c.tc : Thread Cert.ProjReferenceIdeal.nD Cert.ProjReferenceIdeal.τ).loc Cert.ProjReferenceIdeal.main_arg1) = m ((c.tc : Thread Cert.ProjectionIdeal.nD Cert.ProjectionIdeal.τ).loc Cert.ProjectionIdeal.main_arg1))
     (e2 : m' ((c.tc : Thread Cert.ProjReferenceIdeal.nD Cert.ProjReferenceIdeal.τ).loc Cert.ProjReferenceIdeal.main_arg2) = m ((c.tc : Thread Cert.ProjectionIdeal.nD Cert.ProjectionIdeal.τ).loc Cert.ProjectionIdeal.main_arg2))
     (e3 : m' ((c.tc : Thread Cert.ProjReferenceIdeal.nD Cert.ProjReferenceIdeal.τ).loc Cert.ProjReferenceIdeal.main_arg3) = m ((c.tc : Thread Cert.ProjectionIdeal.nD Cert.ProjectionIdeal.τ).loc Cert.ProjectionIdeal.main_arg3))
     (e4 : m' ((c.tc : Thread Cert.ProjReferenceIdeal.nD Cert.ProjReferenceIdeal.τ).loc Cert.ProjReferenceIdeal.main_arg4) = m ((c.tc : Thread Cert.ProjectionIdeal.nD Cert.ProjectionIdeal.τ).loc Cert.ProjectionIdeal.main_arg4))
    : resStick (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) = (Cert.ProjectionIdeal.Gen.dats m 0 c).arrAt 11 Cert.ProjectionIdeal.cfg0.N :=
  (res_congr e0 e1 e2 e3 e4).2.2.trans (stick_same m c)
end

end Cert.Proof
-- ==== Proof.MergeFrame.lean ====
module

public import proofs.«01_k».proof.Proof.Gen.MergeIdeal.Frame
public import proofs.«01_k».proof.Proof.Gen.MergeIdeal.Skeleton
public import Idealize.ShloMosaic.Lib.Claim

/-! The run of the merge call over real numbers. The stored hidden rows are followed (`x1Block`); what the call writes
    into its three other results and into its counter is not described, only that those stores stay in place. -/

@[expose] public section

set_option maxRecDepth 16384

noncomputable section

namespace Cert.MergeIdeal.Proof

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a block, as the loads and the store address it. -/
abbrev rA : Rect S512x512 := Rect.unit (s := S512x512) ![0, 0] S512x512.size inb_S512x512_S512x512_0_0
abbrev rD : Rect S512x1024 := Rect.unit (s := S512x1024) ![0, 0] S512x1024.size inb_S512x1024_S512x1024_0_0
abbrev rO : Rect S1024x1024 := Rect.unit (s := S1024x1024) ![0, 0] S1024x1024.size inb_S1024x1024_S1024x1024_0_0

/-- What the body stores as hidden rows, from the blocks it loads. -/
def x1Block (x0 x1 : Vec F S512x512 .bf16) (x2 x3 : Vec F S512x1024 .bf16) (x4 : Vec F S512x1024 .f32)
    (x5 x6 : Vec F S512x1024 .bf16) (x7 : Vec F S1024x1024 .bf16) : Vec F S512x1024 .f32 :=
  View.canon [⟨rD, k0_pay3 (View.ld x0 rA) (View.ld x5 rD) (View.ld x1 rA) (View.ld x6 rD)
    (View.ld x2 rD) (View.ld x3 rD) (View.ld x4 rD) (View.ld x7 rO)⟩]

/-- The one store fills the block. -/
theorem x1_cover (p : Vec F S512x1024 .f32) (y : S512x1024.Idx) :
    ∃ pc ∈ ([⟨rD, p⟩] : List (View.Piece (Elt F) S512x1024 .f32)), y ∈ pc.1.set :=
  View.cover_of_tiled [⟨rD, p⟩] S512x1024.size (by rfl) y

/-- The condition under which the body clears its counter. -/
abbrev fresh (i : grid0.Coords) : Prop :=
  Scalar.cmpi .ne (Scalar.extui (Scalar.cmpi .eq (BitVec.ofNat 32 (i 0).val) 0#32)) (0#32 : BitVec 32) = 1#1

set_option maxHeartbeats 8000000 in
/-- The body's run, at the point that clears the counter and at the others. -/
theorem sound (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S512x1024 .f32) (harg12 : arg12.IsWhole) (arg13 : Memref sig .tc .vmem S4096x128 .f32) (harg13 : arg13.IsWhole) (arg14 : Memref sig .tc .vmem S512x128 .f32) (harg14 : arg14.IsWhole) (arg15 : Memref sig .tc .vmem S8x128 .f32) (harg15 : arg15.IsWhole) (arg16 : Memref sig .tc .vmem S8x128 .f32) (harg16 : arg16.IsWhole)
    (x0 : Vec F S512x512 .bf16) (x1 : Vec F S512x512 .bf16) (x2 : Vec F S512x1024 .bf16) (x3 : Vec F S512x1024 .bf16) (x4 : Vec F S512x1024 .f32) (x5 : Vec F S512x1024 .bf16) (x6 : Vec F S512x1024 .bf16) (x7 : Vec F S1024x1024 .bf16) (x8 : Vec F S1x1024 .f32) (x9 : Vec F S1024x256 .bf16) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (x1Block x0 x1 x2 x3 x4 x5 x6 x7) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ (cc0_merge_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_merge_route_eq_skeleton]; unfold cc0_merge_route_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9 hf10
  by_cases hc0 : fresh i
  all_goals
    sl_exec (disch := sl_exact hc0)
    sl_step
    iapply Hk
    isplitl [H0]; · (iexists f0; isplitr; · ipureintro; rfl); iexact H0
    isplitl [H1]; · (iexists f1; isplitr; · ipureintro; rfl); iexact H1
    isplitl [H2]; · (iexists f2; isplitr; · ipureintro; rfl); iexact H2
    isplitl [H3]; · (iexists f3; isplitr; · ipureintro; rfl); iexact H3
    isplitl [H4]; · (iexists f4; isplitr; · ipureintro; rfl); iexact H4
    isplitl [H5]; · (iexists f5; isplitr; · ipureintro; rfl); iexact H5
    isplitl [H6]; · (iexists f6; isplitr; · ipureintro; rfl); iexact H6
    isplitl [H7]; · (iexists f7; isplitr; · ipureintro; rfl); iexact H7
    isplitl [H8]; · (iexists f8; isplitr; · ipureintro; rfl); iexact H8
    isplitl [H9]; · (iexists f9; isplitr; · ipureintro; rfl); iexact H9
    isplitl [H10]; · (iexists f10; isplitr; · ipureintro; rfl); iexact H10
    isplitl [H11]
    · iexists _; isplitr; swap; · iexact H11
      ipureintro; exact (View.read_writes_eq_canon _ _ _ (x1_cover _)).trans rfl
    isplitl [H12]; · (iexists _, _; isplitr; swap; · iexact H12); ipureintro; rfl
    isplitl [H13]; · (iexists _, _; isplitr; swap; · iexact H13); ipureintro; rfl
    isplitl [H14]; · (iexists _, _; isplitr; swap; · iexact H14); ipureintro; rfl
    iexists _, _; isplitr; swap; · iexact H15
    ipureintro; rfl

variable (m : (ℓ : Loc nD τ sig) → Buf (Elt F) ℓ) (ρ : Dev nD → PrngReg)

/-- The hidden rows stored at grid point `t`. -/
def x1At (c : Dev nD) (t : Fin cfg0.N) : Vec F S512x1024 .f32 :=
  x1Block (iblk m c 0 t) (iblk m c 1 t) (iblk m c 2 t) (iblk m c 3 t) (iblk m c 4 t) (iblk m c 5 t) (iblk m c 6 t) (iblk m c 7 t)

/-- The results whose contents are not followed. -/
def forgot (w : Fin cfg0.W) : Bool := decide (12 ≤ w.val)

/-- The data of the pipeline on a core: arrays as the region finds them, input blocks left as fetched, the
    hidden rows at `x1At`; the entries of the results not followed are never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => x1At m c t
    | ⟨12, _⟩ => iblk m c 12 t
    | ⟨13, _⟩ => iblk m c 13 t
    | ⟨14, _⟩ => iblk m c 14 t
  Φ _ := Pipeline.ΦA spec0 c
  q w := Pipeline.shareOf spec0 w
  owed _ := 0

/-- The arrays of the data are those the region finds. -/
theorem A_eq (c : Dev nD) (w : Fin cfg0.W) : (dats m 0 c).A w = V m c (Pipeline.arrRef spec0 w) := by
  dsimp only [dats]

/-- The hidden rows after a point. -/
theorem after0_11 (c : Dev nD) (t : Fin cfg0.N) : (dats m 0 c).after 11 t = x1At m c t := by dsimp only [dats]

/-- Each input block holds its part of the array before and after a point. -/
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d

/-- The counter's memory. -/
abbrev scM : Memref sig .tc .vmem S8x128 .f32 := Memref.whole cc0_scratch0

/-- The pipeline's own invariant: the counter at some contents, beside the register the core keeps. -/
theorem PhiA_eq (c : Dev nD) : (Pipeline.ΦA spec0 c : sProp 𝕄)
    = iprop((∃ d, owns (c : Thread nD τ) scM fullShare d) ∗ (∃ r, prngReg c r)) := by
  unfold Pipeline.ΦA; rw [scopedRest0_eq]; simp only [scM, owns_whole]; try rfl

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X)
    ∗ (∃ X, owns (c : Thread nD τ) (st0_13 t) fullShare X)
    ∗ (∃ X, owns (c : Thread nD τ) (st0_14 t) fullShare X))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X)
    ∗ (∃ X, owns (c : Thread nD τ) (st0_13 t) fullShare X)
    ∗ (∃ X, owns (c : Thread nD τ) (st0_14 t) fullShare X))

set_option maxHeartbeats 4000000 in
/-- The body at any point, by the run of the point's kind. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA_eq]
  unfold x1At
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14⟩
  iapply (sound c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [HS]; · iexact HS
  iintro ⟨H0, H1, H2, H3, H4, H5, H6, H7, H8, H9, H10, H11, H12, H13, H14, HS⟩
  isplitl [HS Hg]; · (isplitl [HS]; · iexact HS); iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- What the pipeline asks of its body, nothing asked of the results not followed. -/
theorem body_obligation (c : Dev nD) :
    BodyObligation (dats (F := F) m 0 c) (defs₀ (F := F)) Variants.none () Set.univ forgot := fun t => by
  rw [bigSep_W0, bigSep_W0, defs₀_row]
  exact triple_restated (sound_body m c t) rfl .rfl fun _ => .rfl

/-- What every run ends with: arrays as the data say where they are followed, other memory untouched. -/
abbrev Ends := Pipeline.RDat.FramePost cfg0 (fun c => (dats m 0 c).toRForget forgot) (V m)

set_option backward.isDefEq.respectTransparency.types false in
/-- Every run ends so, with every semaphore at zero. -/
theorem run_quiescent : θ_run defs (onTc (τ := τ) (main (F := F))) (s₀ m ρ) (fun r => Ends m r ∧ r.2.sem = fun _ => 0) :=
  Pipeline.θ_run_frame_forget_shared (Q' := _) cfgs (dats m) (0 : Fin 1) launch₀0 defs₀ Variants.none forgot m ρ main
    (hbody := fun c => (body_obligation m c).loose) (hq := fun _ _ _ => rfl)
    (howed := fun _ _ => rfl) (V := V m) (hmain := hmain m Variants.none) (hA := A_eq m) (hΦ := fun _ _ => rfl)

/-- The argument arrays are as they were. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)

/-- Such an end leaves the argument arrays as they were. -/
theorem kept {r : PUnit × MemSt nD τ sig (Elt F)} (h : Ends m r) (c : Dev nD) : Kept m r c :=
  have K := fun b hs ha => (h c).2 b (Pipeline.mem_restRefs_of b hs ha)
  ⟨(K main_arg0 (by decide) (by decide)).trans (V_main_arg0 m c),
    (K main_arg1 (by decide) (by decide)).trans (V_main_arg1 m c),
    (K main_arg2 (by decide) (by decide)).trans (V_main_arg2 m c),
    (K main_arg3 (by decide) (by decide)).trans (V_main_arg3 m c),
    (K main_arg4 (by decide) (by decide)).trans (V_main_arg4 m c),
    (K main_arg5 (by decide) (by decide)).trans (V_main_arg5 m c),
    (K main_arg6 (by decide) (by decide)).trans (V_main_arg6 m c),
    (K main_arg7 (by decide) (by decide)).trans (V_main_arg7 m c),
    (K main_arg8 (by decide) (by decide)).trans (V_main_arg8 m c),
    (K main_arg9 (by decide) (by decide)).trans (V_main_arg9 m c),
    (K main_arg10 (by decide) (by decide)).trans (V_main_arg10 m c),
    (K main_arg11 (by decide) (by decide)).trans (V_main_arg11 m c),
    (K main_arg12 (by decide) (by decide)).trans (V_main_arg12 m c)⟩

/-- The frame of the call: every run ends, the arguments as they were and every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun _ h => ⟨fun c => kept m h.1 c, h.2⟩) (run_quiescent m ρ)

end Cert.MergeIdeal.Proof

end
-- ==== Proof.MergeValue.lean ====
module

public import proofs.«01_k».proof.Proof.MergeFrame
public import proofs.«01_k».proof.Proof.ProjOut
public import Idealize.ShloMosaic.Lib.Pipeline.Value
public import Idealize.ShloMosaic.Lib.Pipeline.ValueKit
public import Idealize.ShloMosaic.Lib.Pointwise

/-! The hidden rows that the merge call leaves, entry by entry, from its arguments. -/

@[expose] public section
set_option maxRecDepth 16384
noncomputable section
namespace Cert.MergeIdeal.Proof
open Cert.MergeIdeal Cert.MergeIdeal.Gen Idealize.ShloMosaic Idealize.ShloMosaic.TcCoe Idealize.SL.Sem
open Cert.ProjectionIdeal.Proof (canon_hit)

/-- One hidden entry: the old one, and the product of a column `wo` with the gated sum of the two attentions' up-projections. -/
def hiddenEntry (a b : Fin 512 → EReal) (ga gb : Fin 1024 → EReal) (x : EReal) (wa wb : Fin 512 → Fin 1024 → EReal) (wo : Fin 1024 → EReal) : EReal :=
  x + ∑ d : Fin 1024, (Ideal.logistic (ga d) * (∑ k : Fin 512, a k * wa k d) + Ideal.logistic (gb d) * (∑ k : Fin 512, b k * wb k d)) * wo d

/-- Equal ingredients give equal entries. -/
theorem hiddenEntry_congr {a a' b b' : Fin 512 → EReal} {ga ga' gb gb' : Fin 1024 → EReal} {x x' : EReal} {wa wa' wb wb' : Fin 512 → Fin 1024 → EReal}
    {wo wo' : Fin 1024 → EReal} (ha : ∀ k, a k = a' k) (hb : ∀ k, b k = b' k) (hga : ∀ d, ga d = ga' d) (hgb : ∀ d, gb d = gb' d) (hx : x = x')
    (hwa : ∀ k d, wa k d = wa' k d) (hwb : ∀ k d, wb k d = wb' k d) (hwo : ∀ d, wo d = wo' d) :
    hiddenEntry a b ga gb x wa wb wo = hiddenEntry a' b' ga' gb' x' wa' wb' wo' := by
  rw [funext ha, funext hb, funext hga, funext hgb, hx, funext fun k => funext (hwa k), funext fun k => funext (hwb k), funext hwo]

/-- The stored value, entry by entry. -/
theorem pay3_apply (a b : Vec Ideal S512x512 .bf16) (ga gb : Vec Ideal S512x1024 .bf16) (x : Vec Ideal S512x1024 .f32)
    (wa wb : Vec Ideal S512x1024 .bf16) (wo : Vec Ideal S1024x1024 .bf16) (r : Fin 512) (e : Fin 1024) :
    k0_pay3 a wa b wb ga gb x wo (ix2 r e)
      = hiddenEntry (fun k => a (ix2 r k)) (fun k => b (ix2 r k)) (fun d => ga (ix2 r d)) (fun d => gb (ix2 r d)) (x (ix2 r e))
        (fun k d => wa (ix2 k d)) (fun k d => wb (ix2 k d)) (fun d => wo (ix2 d e)) := by
  unfold k0_pay3 hiddenEntry
  pointwise []

/-- The stored block, entry by entry. -/
theorem x1Block_apply (a b : Vec Ideal S512x512 .bf16) (ga gb : Vec Ideal S512x1024 .bf16) (x : Vec Ideal S512x1024 .f32)
    (wa wb : Vec Ideal S512x1024 .bf16) (wo : Vec Ideal S1024x1024 .bf16) (r : Fin 512) (e : Fin 1024) :
    x1Block a b ga gb x wa wb wo (ix2 r e)
      = hiddenEntry (fun k => a (ix2 r k)) (fun k => b (ix2 r k)) (fun d => ga (ix2 r d)) (fun d => gb (ix2 r d)) (x (ix2 r e))
        (fun k d => wa (ix2 k d)) (fun k d => wb (ix2 k d)) (fun d => wo (ix2 d e)) := by
  unfold x1Block
  refine (canon_hit rD _ [] (ix2 r e : S512x1024.Idx) (ix2 r e) (fun z => by
    match z with
    | ⟨0, _⟩ => exact ((Nat.zero_add _).trans (Nat.one_mul _)).symm
    | ⟨1, _⟩ => exact ((Nat.zero_add _).trans (Nat.one_mul _)).symm)).trans ?_
  refine Eq.trans ?_ (pay3_apply a b ga gb x wa wb wo r e)
  rw [View.ld_unit_lit _ a (by decide), View.ld_unit_lit _ b (by decide), View.ld_unit_lit _ ga (by decide), View.ld_unit_lit _ gb (by decide),
    View.ld_unit_lit _ x (by decide), View.ld_unit_lit _ wa (by decide), View.ld_unit_lit _ wb (by decide), View.ld_unit_lit _ wo (by decide)]

variable (m : (ℓ : Loc nD τ sig) → Buf (Elt Ideal) ℓ)

/-- The first attention's rows. -/
abbrev argA (c : Dev nD) : FVec Ideal S8x4096x512 .f32 := m ((c.tc : Thread nD τ).loc main_arg0)
/-- The second attention's rows. -/
abbrev argB (c : Dev nD) : FVec Ideal S8x4096x512 .f32 := m ((c.tc : Thread nD τ).loc main_arg1)
/-- The gates of the first. -/
abbrev argGA (c : Dev nD) : FVec Ideal S8x4096x1024 .f32 := m ((c.tc : Thread nD τ).loc main_arg2)
/-- The gates of the second. -/
abbrev argGB (c : Dev nD) : FVec Ideal S8x4096x1024 .f32 := m ((c.tc : Thread nD τ).loc main_arg3)
/-- The old hidden rows. -/
abbrev argX (c : Dev nD) : FVec Ideal S8x4096x1024 .f32 := m ((c.tc : Thread nD τ).loc main_arg4)
/-- The first up-projection. -/
abbrev argWA (c : Dev nD) : FVec Ideal S1x512x1024 .f32 := m ((c.tc : Thread nD τ).loc main_arg5)
/-- The second up-projection. -/
abbrev argWB (c : Dev nD) : FVec Ideal S1x512x1024 .f32 := m ((c.tc : Thread nD τ).loc main_arg6)
/-- The output projection. -/
abbrev argWO (c : Dev nD) : FVec Ideal S1x1024x1024 .f32 := m ((c.tc : Thread nD τ).loc main_arg7)

set_option maxHeartbeats 2000000 in
/-- The first rows as the kernel is given them. -/
theorem V29 (c : Dev nD) : V m c main_v29 = (truncf .bf16 (shapeCast S32768x512 (argA m c) shapeCasts_S8x4096x512_S32768x512) bitsLt_bf16_f32 : FVec Ideal S32768x512 .bf16) := by
  unfold V
  after_results_simp
  rfl

set_option maxHeartbeats 2000000 in
/-- The second rows as the kernel is given them. -/
theorem V31 (c : Dev nD) : V m c main_v31 = (truncf .bf16 (shapeCast S32768x512 (argB m c) shapeCasts_S8x4096x512_S32768x512) bitsLt_bf16_f32 : FVec Ideal S32768x512 .bf16) := by
  unfold V
  after_results_simp
  rfl

set_option maxHeartbeats 2000000 in
/-- The gates as the kernel is given them. -/
theorem V4 (c : Dev nD) : V m c main_v4 = (truncf .bf16 (concatenate S32768x3072 1 [⟨S32768x1024, broadcastInDim S32768x1024 ![] bcast_S_S32768x1024 (constant S_ .f32 0x00000000#32)⟩, ⟨S32768x1024, shapeCast S32768x1024 (argGA m c) shapeCasts_S8x4096x1024_S32768x1024⟩, ⟨S32768x1024, shapeCast S32768x1024 (argGB m c) shapeCasts_S8x4096x1024_S32768x1024⟩] concatenates_S32768x1024_S32768x1024_S32768x1024_S32768x3072_d1) bitsLt_bf16_f32 : FVec Ideal S32768x3072 .bf16) := by
  unfold V
  after_results_simp
  rfl

set_option maxHeartbeats 2000000 in
/-- The old rows as the kernel is given them. -/
theorem V32 (c : Dev nD) : V m c main_v32 = (shapeCast S32768x1024 (argX m c) shapeCasts_S8x4096x1024_S32768x1024 : FVec Ideal S32768x1024 .f32) := by
  unfold V
  after_results_simp
  rfl

set_option maxHeartbeats 2000000 in
/-- The weights as the kernel is given them. -/
theorem V34 (c : Dev nD) : V m c main_v34 = (truncf .bf16 (shapeCast S512x1024 (argWA m c) shapeCasts_S1x512x1024_S512x1024) bitsLt_bf16_f32 : FVec Ideal S512x1024 .bf16) := by
  unfold V
  after_results_simp
  rfl

set_option maxHeartbeats 2000000 in
/-- The weights as the kernel is given them. -/
theorem V36 (c : Dev nD) : V m c main_v36 = (truncf .bf16 (shapeCast S512x1024 (argWB m c) shapeCasts_S1x512x1024_S512x1024) bitsLt_bf16_f32 : FVec Ideal S512x1024 .bf16) := by
  unfold V
  after_results_simp
  rfl

set_option maxHeartbeats 2000000 in
/-- The weights as the kernel is given them. -/
theorem V38 (c : Dev nD) : V m c main_v38 = (truncf .bf16 (shapeCast S1024x1024 (argWO m c) shapeCasts_S1x1024x1024_S1024x1024) bitsLt_bf16_f32 : FVec Ideal S1024x1024 .bf16) := by
  unfold V
  after_results_simp
  rfl

/-- Rows laid out below each other, read. -/
theorem flat_apply {D : ℕ} (x : FVec Ideal ⟨3, ![8, 4096, D]⟩ .f32) (h : Shape.ShapeCasts ⟨3, ![8, 4096, D]⟩ ⟨2, ![32768, D]⟩) (b : Fin 8) (s : Fin 4096) (a : Fin 32768)
    (d : Fin D) (ha : a.val = b.val * 4096 + s.val) : shapeCast ⟨2, ![32768, D]⟩ x h (ix2 a d) = x (ix3 b s d) := by
  refine shapeCast_apply _ _ _ (ix3 b s d) ?_
  rw [Shape.rowMajor_val_three, Shape.rowMajor_val_two]
  show (b.val * 4096 + s.val) * D + d.val = a.val * D + d.val
  rw [ha]

/-- A matrix with a leading axis of one, read without it. -/
theorem sheet_apply {K D : ℕ} (x : FVec Ideal ⟨3, ![1, K, D]⟩ .f32) (h : Shape.ShapeCasts ⟨3, ![1, K, D]⟩ ⟨2, ![K, D]⟩) (k : Fin K) (d : Fin D) :
    shapeCast ⟨2, ![K, D]⟩ x h (ix2 k d) = x (ix3 0 k d) := by
  refine shapeCast_apply _ _ _ (ix3 0 k d) ?_
  rw [Shape.rowMajor_val_three, Shape.rowMajor_val_two]
  show (0 * K + k.val) * D + d.val = k.val * D + d.val
  rw [Nat.zero_mul, Nat.zero_add]

/-- The gates, read. -/
theorem V4_at (c : Dev nD) (a : Fin 32768) (d : Fin 1024) (b : Fin 8) (s : Fin 4096) (ha : a.val = b.val * 4096 + s.val) :
    (∀ E : Fin 3072, E.val = 1024 + d.val → (V m c main_v4 : FVec Ideal S32768x3072 .bf16) (ix2 a E) = argGA m c (ix3 b s d))
    ∧ ∀ E : Fin 3072, E.val = 2048 + d.val → (V m c main_v4 : FVec Ideal S32768x3072 .bf16) (ix2 a E) = argGB m c (ix3 b s d) := by
  have hd := d.isLt
  rw [V4, ← flat_apply (argGA m c) shapeCasts_S8x4096x1024_S32768x1024 b s a d ha, ← flat_apply (argGB m c) shapeCasts_S8x4096x1024_S32768x1024 b s a d ha]
  generalize (shapeCast S32768x1024 (argGA m c) shapeCasts_S8x4096x1024_S32768x1024 : FVec Ideal S32768x1024 .f32) = p
  generalize (shapeCast S32768x1024 (argGB m c) shapeCasts_S8x4096x1024_S32768x1024 : FVec Ideal S32768x1024 .f32) = q
  refine ⟨fun E hE => ?_, fun E hE => ?_⟩
  · pointwise []
    rw [dif_neg (by omega), dif_pos (by omega)]
    exact congrArg p (congrArg (ix2 a) (Fin.ext (by first | omega | (simp only <;> omega))))
  · pointwise []
    rw [dif_neg (by omega), dif_neg (by omega)]
    exact congrArg q (congrArg (ix2 a) (Fin.ext (by first | omega | (simp only <;> omega))))

/-- Where the blocks of the windows lie. -/
theorem idx : ∀ t : Fin cfg0.N, win0_0.index t = ![t.val, 0] ∧ win0_1.index t = ![t.val, 0] ∧ win0_2.index t = ![t.val, 1] ∧ win0_3.index t = ![t.val, 2]
   ∧ win0_4.index t = ![t.val, 0] ∧ win0_5.index t = ![0, 0] ∧ win0_6.index t = ![0, 0] ∧ win0_7.index t = ![0, 0] ∧ win0_11.index t = ![t.val, 0] :=
  (by decide +kernel : ∀ t : Fin grid0.N, _)

/-- Where block 0 lies in its array. -/
theorem emb0 (t : Fin cfg0.N) (r : Fin 512) (d : Fin 512) (a : Fin 32768) (ha : a.val = t.val * 512 + r.val) :
    ((cfg0.win 0).blk t).view.emb (ix2 r d) = (ix2 a d : S32768x512.Idx) := by
  blk_ext [idx t]

/-- Where block 1 lies in its array. -/
theorem emb1 (t : Fin cfg0.N) (r : Fin 512) (d : Fin 512) (a : Fin 32768) (ha : a.val = t.val * 512 + r.val) :
    ((cfg0.win 1).blk t).view.emb (ix2 r d) = (ix2 a d : S32768x512.Idx) := by
  blk_ext [idx t]

/-- Where block 2 lies in its array. -/
theorem emb2 (t : Fin cfg0.N) (r : Fin 512) (d : Fin 1024) (a : Fin 32768) (ha : a.val = t.val * 512 + r.val) (E : Fin 3072) (hE : E.val = 1024 + d.val) :
    ((cfg0.win 2).blk t).view.emb (ix2 r d) = (ix2 a E : S32768x3072.Idx) := by
  blk_ext [idx t]

/-- Where block 3 lies in its array. -/
theorem emb3 (t : Fin cfg0.N) (r : Fin 512) (d : Fin 1024) (a : Fin 32768) (ha : a.val = t.val * 512 + r.val) (E : Fin 3072) (hE : E.val = 2048 + d.val) :
    ((cfg0.win 3).blk t).view.emb (ix2 r d) = (ix2 a E : S32768x3072.Idx) := by
  blk_ext [idx t]

/-- Where block 4 lies in its array. -/
theorem emb4 (t : Fin cfg0.N) (r : Fin 512) (d : Fin 1024) (a : Fin 32768) (ha : a.val = t.val * 512 + r.val) :
    ((cfg0.win 4).blk t).view.emb (ix2 r d) = (ix2 a d : S32768x1024.Idx) := by
  blk_ext [idx t]

/-- Where block 11 lies in its array. -/
theorem emb11 (t : Fin cfg0.N) (r : Fin 512) (d : Fin 1024) (a : Fin 32768) (ha : a.val = t.val * 512 + r.val) :
    ((cfg0.win 11).blk t).view.emb (ix2 r d) = (ix2 a d : S32768x1024.Idx) := by
  blk_ext [idx t]

/-- Where block 5 lies in its array. -/
theorem emb5 (t : Fin cfg0.N) (k : Fin 512) (d : Fin 1024) : ((cfg0.win 5).blk t).view.emb (ix2 k d) = (ix2 k d : S512x1024.Idx) := by
  blk_ext [idx t]

/-- Where block 6 lies in its array. -/
theorem emb6 (t : Fin cfg0.N) (k : Fin 512) (d : Fin 1024) : ((cfg0.win 6).blk t).view.emb (ix2 k d) = (ix2 k d : S512x1024.Idx) := by
  blk_ext [idx t]

/-- Where block 7 lies in its array. -/
theorem emb7 (t : Fin cfg0.N) (k : Fin 1024) (d : Fin 1024) : ((cfg0.win 7).blk t).view.emb (ix2 k d) = (ix2 k d : S1024x1024.Idx) := by
  blk_ext [idx t]

section
variable (c : Dev nD) (t : Fin cfg0.N) (r : Fin 512) (b : Fin 8) (s : Fin 4096) (h : b.val * 4096 + s.val = t.val * 512 + r.val)
include h

/-- Block 0, read. -/
theorem blk0_at (d : Fin 512) : (iblk m c 0 t : FVec Ideal S512x512 .bf16) (ix2 r d) = argA m c (ix3 b s d) := by
  blk_simp [iblk]
  refine (congrArg (V m c main_v29) (emb0 t r d ⟨b.val * 4096 + s.val, by omega⟩ h)).trans ?_
  rw [V29]
  exact flat_apply (argA m c) _ b s _ d rfl

/-- Block 1, read. -/
theorem blk1_at (d : Fin 512) : (iblk m c 1 t : FVec Ideal S512x512 .bf16) (ix2 r d) = argB m c (ix3 b s d) := by
  blk_simp [iblk]
  refine (congrArg (V m c main_v31) (emb1 t r d ⟨b.val * 4096 + s.val, by omega⟩ h)).trans ?_
  rw [V31]
  exact flat_apply (argB m c) _ b s _ d rfl

/-- Block 4, read. -/
theorem blk4_at (d : Fin 1024) : (iblk m c 4 t : FVec Ideal S512x1024 .f32) (ix2 r d) = argX m c (ix3 b s d) := by
  blk_simp [iblk]
  refine (congrArg (V m c main_v32) (emb4 t r d ⟨b.val * 4096 + s.val, by omega⟩ h)).trans ?_
  rw [V32]
  exact flat_apply (argX m c) _ b s _ d rfl

/-- Block 2, read. -/
theorem blk2_at (d : Fin 1024) : (iblk m c 2 t : FVec Ideal S512x1024 .bf16) (ix2 r d) = argGA m c (ix3 b s d) := by
  blk_simp [iblk]
  exact (congrArg (V m c main_v4) (emb2 t r d ⟨b.val * 4096 + s.val, by omega⟩ h ⟨1024 + d.val, by omega⟩ rfl)).trans ((V4_at m c _ d b s rfl).1 _ rfl)

/-- Block 3, read. -/
theorem blk3_at (d : Fin 1024) : (iblk m c 3 t : FVec Ideal S512x1024 .bf16) (ix2 r d) = argGB m c (ix3 b s d) := by
  blk_simp [iblk]
  exact (congrArg (V m c main_v4) (emb3 t r d ⟨b.val * 4096 + s.val, by omega⟩ h ⟨2048 + d.val, by omega⟩ rfl)).trans ((V4_at m c _ d b s rfl).2 _ rfl)

end

/-- Block 5, read. -/
theorem blk5_at (c : Dev nD) (t : Fin cfg0.N) (k : Fin 512) (d : Fin 1024) : (iblk m c 5 t : FVec Ideal S512x1024 .bf16) (ix2 k d) = argWA m c (ix3 0 k d) := by
  blk_simp [iblk]
  refine (congrArg (V m c main_v34) (emb5 t k d)).trans ?_
  rw [V34]
  exact sheet_apply (argWA m c) _ k d

/-- Block 6, read. -/
theorem blk6_at (c : Dev nD) (t : Fin cfg0.N) (k : Fin 512) (d : Fin 1024) : (iblk m c 6 t : FVec Ideal S512x1024 .bf16) (ix2 k d) = argWB m c (ix3 0 k d) := by
  blk_simp [iblk]
  refine (congrArg (V m c main_v36) (emb6 t k d)).trans ?_
  rw [V36]
  exact sheet_apply (argWB m c) _ k d

/-- Block 7, read. -/
theorem blk7_at (c : Dev nD) (t : Fin cfg0.N) (k : Fin 1024) (d : Fin 1024) : (iblk m c 7 t : FVec Ideal S1024x1024 .bf16) (ix2 k d) = argWO m c (ix3 0 k d) := by
  blk_simp [iblk]
  refine (congrArg (V m c main_v38) (emb7 t k d)).trans ?_
  rw [V38]
  exact sheet_apply (argWO m c) _ k d

/-- The blocks of hidden rows lie apart. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne
    ((by decide +kernel : ∀ t t' : Fin grid0.N, win0_11.index t = win0_11.index t' → t = t') t t' h)

/-- What a grid point writes back of them. -/
theorem flushed11 (c : Dev nD) (t : Fin cfg0.N) : (dats m 0 c).flushed 11 t = (cfg0.win 11).cut (grid0.coords t) (x1At m c t) := by
  show (cfg0.win 11).cut (grid0.coords t) ((dats m 0 c).after 11 t) = _
  rw [after0_11]

/-- The hidden rows after the run, entry by entry. -/
theorem arr11_at (c : Dev nD) (a : Fin 32768) (b : Fin 8) (s : Fin 4096) (e : Fin 1024) (ha : a.val = b.val * 4096 + s.val) :
    ((dats m 0 c).arrAt 11 cfg0.N : FVec Ideal S32768x1024 .f32) (ix2 a e)
      = hiddenEntry (fun k => argA m c (ix3 b s k)) (fun k => argB m c (ix3 b s k)) (fun d => argGA m c (ix3 b s d)) (fun d => argGB m c (ix3 b s d))
        (argX m c (ix3 b s e)) (fun k d => argWA m c (ix3 0 k d)) (fun k d => argWB m c (ix3 0 k d)) (fun d => argWO m c (ix3 0 d e)) := by
  have h0 := a.isLt
  obtain ⟨t, ht⟩ : ∃ t : Fin cfg0.N, t.val = a.val / 512 := ⟨⟨a.val / 512, by rw [show cfg0.N = 64 from N_0]; omega⟩, rfl⟩
  obtain ⟨r, hr⟩ : ∃ r : Fin 512, r.val = a.val % 512 := ⟨⟨a.val % 512, by omega⟩, rfl⟩
  have h : b.val * 4096 + s.val = t.val * 512 + r.val := by omega
  refine ((congrArg ((dats m 0 c).arrAt 11 cfg0.N : FVec Ideal S32768x1024 .f32) (emb11 t r e a (by omega))).symm.trans
    (congrFun ((dats m 0 c).read_blk_arrAt_eq_flushed 11 disjoint11 cfg0.N t t.isLt (flush0_11 t)) (ix2 r e))).trans
    ((congrFun (flushed11 m c t) (ix2 r e)).trans ?_)
  refine Eq.trans (b := x1At m c t (ix2 r e)) rfl ?_
  unfold x1At
  refine (x1Block_apply _ _ _ _ _ _ _ _ r e).trans ?_
  exact hiddenEntry_congr (blk0_at m c t r b s h) (blk1_at m c t r b s h) (blk2_at m c t r b s h) (blk3_at m c t r b s h) (blk4_at m c t r b s h e)
    (blk5_at m c t) (blk6_at m c t) (fun d => blk7_at m c t d e)

/-- The run with the hidden rows named, the arguments kept. -/
theorem run_blocks (ρ : Dev nD → PrngReg) : θ_run defs (onTc (τ := τ) (main (F := Ideal))) ⟨m, fun _ => 0, ρ⟩
    (fun r => ∀ c : Dev nD, r.2.mem ((c.tc : Thread nD τ).loc main_v41_0) = (dats m 0 c).arrAt 11 cfg0.N ∧ Kept m r c) :=
  (θ_run defs _ _).mono (fun _ h c => ⟨((dats m 0 c).toRForget_arrAt_iff (fgt := forgot) (w := 11) rfl _ _).mp ((h.1 c).1 11), kept m h.1 c⟩)
    (run_quiescent m ρ)

end Cert.MergeIdeal.Proof

end
-- ==== Proof.MergeEqual.lean ====
module

public import proofs.«01_k».proof.Proof.MergeValue
public import proofs.«01_k».proof.Proof.Gen.MergeReferenceIdeal
public import proofs.«01_k».proof.Proof.Gen.MergeReferenceIdeal.Run

/-! The reference of the merge call, entry by entry, and its agreement with the call. -/

@[expose] public section
set_option maxRecDepth 16384
noncomputable section
open Cert.MergeReferenceIdeal Cert.MergeReferenceIdeal.Gen Idealize.ShloMosaic Idealize.ShloMosaic.TcCoe Idealize.SL.Sem
namespace Cert.MergeReferenceIdeal.Proof
open Cert.MergeIdeal.Proof (hiddenEntry flat_apply sheet_apply arr11_at)

/-- The float 1.0 is one. -/
theorem one_float : Ideal.ofBits .f32 0x3F800000#32 = 1 := by
  simp [Ideal.ofBits, Ideal.ieee]
  rw [← EReal.coe_mul]
  norm_num

/-- The reference's gates. -/
def gate (g : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf g)))

/-- A gate is the logistic function of its argument. -/
theorem gate_apply (g : FVec Ideal S8x4096x1024 .f32) (y : S8x4096x1024.Idx) : gate g y = Ideal.logistic (g y) := by
  have key : gate g y = Ideal.div (Ideal.ofBits .f32 0x3F800000#32) (Ideal.ofBits .f32 0x3F800000#32 + Ideal.exp (-(g y))) := rfl
  rw [key, one_float]
  rfl

/-- An up-projection. -/
def up (x : FVec Ideal S8x4096x512 .f32) (w : FVec Ideal S1x512x1024 .f32) : FVec Ideal S8x4096x1024 .f32 :=
  Host.dotGeneral dot_S8x4096x512_S512x1024_S8x4096x1024_2_0_01_1_n_n none x (shapeCast S512x1024 w shapeCasts_S1x512x1024_S512x1024)

/-- Its entries. -/
theorem up_apply (x : FVec Ideal S8x4096x512 .f32) (w : FVec Ideal S1x512x1024 .f32) (b : Fin 8) (s : Fin 4096) (d : Fin 1024) :
    up x w (ix3 b s d) = ∑ k : Fin 512, x (ix3 b s k) * w (ix3 0 k d) := by
  unfold up
  pointwise []

/-- The output projection. -/
def out (y : FVec Ideal S8x4096x1024 .f32) (w : FVec Ideal S1x1024x1024 .f32) : FVec Ideal S8x4096x1024 .f32 :=
  Host.dotGeneral dot_S8x4096x1024_S1024x1024_S8x4096x1024_2_0_01_1_n_n none y (shapeCast S1024x1024 w shapeCasts_S1x1024x1024_S1024x1024)

/-- Its entries. -/
theorem out_apply (y : FVec Ideal S8x4096x1024 .f32) (w : FVec Ideal S1x1024x1024 .f32) (b : Fin 8) (s : Fin 4096) (e : Fin 1024) :
    out y w (ix3 b s e) = ∑ d : Fin 1024, y (ix3 b s d) * w (ix3 0 d e) := by
  unfold out
  pointwise []

/-- The hidden rows of the reference. -/
def hiddenRows (a b : FVec Ideal S8x4096x512 .f32) (ga gb x : FVec Ideal S8x4096x1024 .f32) (wa wb : FVec Ideal S1x512x1024 .f32)
    (wo : FVec Ideal S1x1024x1024 .f32) : FVec Ideal S32768x1024 .f32 :=
  shapeCast S32768x1024 (addf x (out (addf (mulf (gate ga) (up a wa)) (mulf (gate gb) (up b wb))) wo)) shapeCasts_S8x4096x1024_S32768x1024

/-- Their entries. -/
theorem hiddenRows_apply (a b : FVec Ideal S8x4096x512 .f32) (ga gb x : FVec Ideal S8x4096x1024 .f32) (wa wb : FVec Ideal S1x512x1024 .f32)
    (wo : FVec Ideal S1x1024x1024 .f32) (i : Fin 8) (s : Fin 4096) (n : Fin 32768) (e : Fin 1024) (hn : n.val = i.val * 4096 + s.val) :
    hiddenRows a b ga gb x wa wb wo (ix2 n e)
      = hiddenEntry (fun k => a (ix3 i s k)) (fun k => b (ix3 i s k)) (fun d => ga (ix3 i s d)) (fun d => gb (ix3 i s d)) (x (ix3 i s e))
        (fun k d => wa (ix3 0 k d)) (fun k d => wb (ix3 0 k d)) (fun d => wo (ix3 0 d e)) := by
  unfold hiddenRows hiddenEntry
  refine (flat_apply _ _ i s n e hn).trans ?_
  refine congrArg (x (ix3 i s e) + ·) ((out_apply _ wo i s e).trans (Finset.sum_congr rfl fun d _ => congrArg (· * wo (ix3 0 d e)) ?_))
  exact congrArg₂ (· + ·) (congrArg₂ (· * ·) (gate_apply ga _) (up_apply a wa i s d)) (congrArg₂ (· * ·) (gate_apply gb _) (up_apply b wb i s d))

/-- Of the same arguments the reference's hidden rows are the call's. -/
theorem rows_same (m : (ℓ : Loc Cert.MergeIdeal.nD Cert.MergeIdeal.τ Cert.MergeIdeal.sig) → Buf (Elt Ideal) ℓ) (c : Dev Cert.MergeIdeal.nD) :
    hiddenRows (Cert.MergeIdeal.Proof.argA m c) (Cert.MergeIdeal.Proof.argB m c) (Cert.MergeIdeal.Proof.argGA m c) (Cert.MergeIdeal.Proof.argGB m c)
      (Cert.MergeIdeal.Proof.argX m c) (Cert.MergeIdeal.Proof.argWA m c) (Cert.MergeIdeal.Proof.argWB m c) (Cert.MergeIdeal.Proof.argWO m c)
    = (Cert.MergeIdeal.Proof.dats m 0 c).arrAt 11 Cert.MergeIdeal.cfg0.N := by
  have key : ∀ (n : Fin 32768) (e : Fin 1024), hiddenRows (Cert.MergeIdeal.Proof.argA m c) (Cert.MergeIdeal.Proof.argB m c) (Cert.MergeIdeal.Proof.argGA m c)
      (Cert.MergeIdeal.Proof.argGB m c) (Cert.MergeIdeal.Proof.argX m c) (Cert.MergeIdeal.Proof.argWA m c) (Cert.MergeIdeal.Proof.argWB m c)
      (Cert.MergeIdeal.Proof.argWO m c) (ix2 n e)
      = ((Cert.MergeIdeal.Proof.dats m 0 c).arrAt 11 Cert.MergeIdeal.cfg0.N : FVec Ideal Cert.MergeIdeal.S32768x1024 .f32) (ix2 n e) := by
    intro n e
    have hn : n.val = n.val / 4096 * 4096 + n.val % 4096 := by omega
    exact (hiddenRows_apply _ _ _ _ _ _ _ _ ⟨n.val / 4096, by omega⟩ ⟨n.val % 4096, by omega⟩ n e hn).trans
      (arr11_at m c n ⟨n.val / 4096, by omega⟩ ⟨n.val % 4096, by omega⟩ e hn).symm
  funext y
  have hy : (ix2 (y 0) (y 1) : Cert.MergeIdeal.S32768x1024.Idx) = y := ix2_eta y
  rw [← hy]
  exact key (y 0) (y 1)

/-- Equal arguments have equal hidden rows. -/
theorem hiddenRows_congr {a a' b b' : FVec Ideal S8x4096x512 .f32} {ga ga' gb gb' x x' : FVec Ideal S8x4096x1024 .f32} {wa wa' wb wb' : FVec Ideal S1x512x1024 .f32}
    {wo wo' : FVec Ideal S1x1024x1024 .f32} (e0 : a = a') (e1 : b = b') (e2 : ga = ga') (e3 : gb = gb') (e4 : x = x') (e5 : wa = wa') (e6 : wb = wb') (e7 : wo = wo') :
    hiddenRows a b ga gb x wa wb wo = hiddenRows a' b' ga' gb' x' wa' wb' wo' := by
  rw [e0, e1, e2, e3, e4, e5, e6, e7]

end Cert.MergeReferenceIdeal.Proof

end
-- ==== Proof.lean ====
module

public import proofs.«01_k».proof.Defs
public import proofs.«01_k».proof.Proof.Gen.Kernel
public import proofs.«01_k».proof.Proof.PlainFrame
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Value
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.ProjReferenceIdeal
public import proofs.«01_k».proof.Proof.Gen.ProjReferenceIdeal.Run
public import proofs.«01_k».proof.Proof.Gen.Merge
public import proofs.«01_k».proof.Proof.Gen.MergeIdeal
public import proofs.«01_k».proof.Proof.Gen.MergeReferenceIdeal
public import proofs.«01_k».proof.Proof.Gen.MergeReferenceIdeal.Run
public import proofs.«01_k».proof.Proof.Gen.Merge.Frame
public import proofs.«01_k».proof.Proof.Gen.Merge.Skeleton
public import proofs.«01_k».proof.Proof.Gen.MergeIdeal.Frame
public import proofs.«01_k».proof.Proof.Gen.MergeIdeal.Skeleton
public import proofs.«01_k».proof.Proof.Equal
public import proofs.«01_k».proof.Proof.ProjEqual
public import proofs.«01_k».proof.Proof.MergeEqual
public import Idealize.ShloMosaic.Adequacy
public import Idealize.ShloMosaic.Init

/-! The claims about the differential attention, the in-projection and the merge, put together. -/

@[expose] public section

noncomputable section

namespace Cert.Proof

open Idealize.ShloMosaic Idealize.SL.Sem

/-- The kernel over bits ends from every memory, its arguments as they were and every semaphore at zero. -/
theorem frame_kernel : Cert.quiescent_Kernel := fun m ρ _ => Cert.Kernel.Proof.frame m ρ

/-- The same of the kernel over the extended reals. -/
theorem frame_ideal : Cert.quiescent_KernelIdeal := fun m ρ _ => Cert.KernelIdeal.Proof.frame m ρ

/-- The same of the reference. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's frame under the precondition, which it does not need. -/
theorem frame_ideal_pre : Cert.quiescent_KernelIdeal_pre_finite := fun m ρ _ => Cert.KernelIdeal.Proof.frame m ρ

/-- The reference's likewise. -/
theorem frame_reference_pre : Cert.quiescent_ReferenceIdeal_pre_finite := fun m ρ _ => frame_reference m ρ trivial

/-- Of real arguments kernel and reference leave the same array, the kernel's blocks put together. -/
theorem algebraic : Cert.algebraic_KernelIdeal_ReferenceIdeal_pre_finite := fun m g m' g' hp hm =>
  ⟨fun c => (Cert.KernelIdeal.Proof.dats m 0 c).arrAt 5 Cert.KernelIdeal.cfg0.N, Cert.KernelIdeal.Proof.run_blocks m g,
    (θ_run Cert.ReferenceIdeal.defs _ _).mono (fun r h c => ⟨(h c).1.trans (by
        obtain ⟨e0, e1, e2, e3, e4, e5, e6, e7⟩ := hm c
        exact arrays_eq m m' c (hp c) e0 e1 e2 e3 e4 e5 e6 e7), (h c).2⟩)
      (Cert.ReferenceIdeal.Value.run (F := Ideal) m' g')⟩

/-- The named constant stands for the scale that the bits round. -/
theorem preserves : Cert.preserves_Kernel_KernelIdeal :=
  IdealRules.named_const.statement Cert.KernelIdeal.κ "qk_scale_log2e" .f32 0x3E38AA3B#32 (((Real.log 2)⁻¹ * 8⁻¹ : ℝ) : EReal) rfl

/-- The in-projection over bits ends from every memory, its arguments as they were and every semaphore at zero. -/
theorem frame_projection : Cert.quiescent_Projection := fun m ρ _ => Cert.Projection.Gen.frame m ρ

/-- The same of it over the extended reals. -/
theorem frame_projection_ideal : Cert.quiescent_ProjectionIdeal := fun m ρ _ => Cert.ProjectionIdeal.Gen.frame m ρ

/-- The same of its reference. -/
theorem frame_projection_reference : Cert.quiescent_ProjReferenceIdeal := fun m ρ _ =>
  (θ_run Cert.ProjReferenceIdeal.defs _ _).mono (fun r h => ⟨fun c => (h c).2.2.2,
      Idealize.ShloMosaic.sem_eq_zero_of_no_sems (by decide) r.2⟩)
    (Cert.ProjReferenceIdeal.Value.run (F := Ideal) m ρ)

/-- In the in-projection the named constant stands for the same scale. -/
theorem preserves_projection : Cert.preserves_Projection_ProjectionIdeal :=
  IdealRules.named_const.statement Cert.ProjectionIdeal.κ "qk_scale_log2e" .f32 0x3E38AA3B#32 (((Real.log 2)⁻¹ * 8⁻¹ : ℝ) : EReal) rfl

/-- Of any arguments the in-projection and its reference leave the same three arrays. -/
theorem algebraic_projection : Cert.algebraic_ProjectionIdeal_ProjReferenceIdeal := fun m g m' g' _ hm =>
  ⟨fun c => (Cert.ProjectionIdeal.Gen.dats m 0 c).arrAt 9 Cert.ProjectionIdeal.cfg0.N,
    fun c => (Cert.ProjectionIdeal.Gen.dats m 0 c).arrAt 10 Cert.ProjectionIdeal.cfg0.N,
    fun c => (Cert.ProjectionIdeal.Gen.dats m 0 c).arrAt 11 Cert.ProjectionIdeal.cfg0.N,
    Cert.ProjectionIdeal.Value.run_blocks m g,
    (θ_run Cert.ProjReferenceIdeal.defs _ _).mono (fun r h c => by
        obtain ⟨e0, e1, e2, e3, e4⟩ := hm c
        exact ⟨(h c).1.trans (rows_arrays m m' c e0 e1 e2 e3 e4), (h c).2.1.trans (diff_arrays m m' c e0 e1 e2 e3 e4),
          (h c).2.2.1.trans (stick_arrays m m' c e0 e1 e2 e3 e4), (h c).2.2.2⟩)
      (Cert.ProjReferenceIdeal.Value.run (F := Ideal) m' g')⟩

/-- The merge call over the extended reals ends from every memory, its arguments as they were and every semaphore at zero. -/
theorem frame_merge_ideal : Cert.quiescent_MergeIdeal := fun m ρ _ => Cert.MergeIdeal.Proof.frame m ρ

/-- Nothing in the merge call is replaced, so that over bits its program is that of `MergeIdeal`, read there. -/
theorem merge_same : Cert.quiescent_Merge = ∀ (m : (ℓ : Loc Cert.MergeIdeal.nD Cert.MergeIdeal.τ Cert.MergeIdeal.sig) → Buf (Elt Bits) ℓ)
    (ρ : Dev Cert.MergeIdeal.nD → PrngReg), True →
    θ_run (Cert.MergeIdeal.defs (F := Bits)) (onTc (τ := Cert.MergeIdeal.τ) (Cert.MergeIdeal.main (F := Bits))) ⟨m, fun _ => 0, ρ⟩
      (fun r => (∀ c : Dev Cert.MergeIdeal.nD, Cert.MergeIdeal.Proof.Kept m r c) ∧ r.2.sem = fun _ => 0) := by
  sl_kernel_rfl

/-- So it has the same frame. -/
theorem frame_merge : Cert.quiescent_Merge := merge_same.mpr fun m ρ _ => Cert.MergeIdeal.Proof.frame m ρ

/-- The same of its reference. -/
theorem frame_merge_reference : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

/-- Of any arguments the merge call and its reference leave the same hidden rows. -/
theorem algebraic_merge : Cert.algebraic_MergeIdeal_MergeReferenceIdeal := fun m g m' g' _ hm =>
  ⟨fun c => (Cert.MergeIdeal.Proof.dats m 0 c).arrAt 11 Cert.MergeIdeal.cfg0.N, Cert.MergeIdeal.Proof.run_blocks m g,
    (θ_run Cert.MergeReferenceIdeal.defs _ _).mono (fun r h c => ⟨(h c).1.trans (by
        obtain ⟨e0, e1, e2, e3, e4, e5, e6, e7, _⟩ := hm c
        exact (Cert.MergeReferenceIdeal.Proof.hiddenRows_congr e0 e1 e2 e3 e4 e5 e6 e7).trans (Cert.MergeReferenceIdeal.Proof.rows_same m c)), (h c).2⟩)
      (Cert.MergeReferenceIdeal.Value.run (F := Ideal) m' g')⟩

/-- Every claim. -/
theorem claim : Cert.Claim :=
  ⟨Cert.Kernel.Gen.facts, Cert.KernelIdeal.Gen.facts, Cert.ReferenceIdeal.Gen.facts, Cert.Projection.Gen.facts, Cert.ProjectionIdeal.Gen.facts,
    Cert.ProjReferenceIdeal.Gen.facts, Cert.Merge.Gen.facts, Cert.MergeIdeal.Gen.facts, Cert.MergeReferenceIdeal.Gen.facts, Cert.Pre_finite.Gen.facts,
    frame_kernel, frame_ideal, frame_ideal_pre, frame_reference, frame_reference_pre, frame_projection, frame_projection_ideal, frame_projection_reference,
    frame_merge, frame_merge_ideal, frame_merge_reference,
    preserves, algebraic, preserves_projection, algebraic_projection, trivial, algebraic_merge⟩

end Cert.Proof

end
